-- ==== Defs.lean ====
def Pre_Kernel [hPre_experts_named : Cert.Pre_experts_named.Facts] (m : (ℓ : Loc Cert.Kernel.nD Cert.Kernel.τ Cert.Kernel.sig) → Buf (Elt Bits) ℓ) : Prop :=
  ∀ c : Dev Cert.Kernel.nD,
    (Cert.Pre_experts_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_Kernel_histograms_given [hPre_histograms_given : Cert.Pre_histograms_given.Facts] (m : (ℓ : Loc Cert.Kernel.nD Cert.Kernel.τ Cert.Kernel.sig) → Buf (Elt Bits) ℓ) : Prop :=
  ∀ c : Dev Cert.Kernel.nD,
    (Cert.Pre_histograms_given.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_histograms_given.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
    ∧ (Cert.Pre_histograms_given.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2 = (fun _ => 1#1)

def Pre_KernelIdeal [hPre_experts_named : Cert.Pre_experts_named.Facts] (m : (ℓ : Loc Cert.KernelIdeal.nD Cert.KernelIdeal.τ Cert.KernelIdeal.sig) → Buf (Elt Ideal) ℓ) : Prop :=
  ∀ c : Dev Cert.KernelIdeal.nD,
    (Cert.Pre_experts_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_histograms_given [hPre_histograms_given : Cert.Pre_histograms_given.Facts] (m : (ℓ : Loc Cert.KernelIdeal.nD Cert.KernelIdeal.τ Cert.KernelIdeal.sig) → Buf (Elt Ideal) ℓ) : Prop :=
  ∀ c : Dev Cert.KernelIdeal.nD,
    (Cert.Pre_histograms_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_histograms_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_histograms_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_histograms_given [hPre_histograms_given : Cert.Pre_histograms_given.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_histograms_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_histograms_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_histograms_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Reference [hPre_histograms_given : Cert.Pre_histograms_given.Facts] (m : (ℓ : Loc Cert.Reference.nD Cert.Reference.τ Cert.Reference.sig) → Buf (Elt Bits) ℓ) : Prop :=
  ∀ c : Dev Cert.Reference.nD,
    (Cert.Pre_histograms_given.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).1 = (fun _ => 1#1)
    ∧ (Cert.Pre_histograms_given.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.1 = (fun _ => 1#1)
    ∧ (Cert.Pre_histograms_given.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_inputs [hPre_finite_inputs : Cert.Pre_finite_inputs.Facts] (m : (ℓ : Loc Cert.GateIdeal.nD Cert.GateIdeal.τ Cert.GateIdeal.sig) → Buf (Elt Ideal) ℓ) : Prop :=
  ∀ c : Dev Cert.GateIdeal.nD,
    (Cert.Pre_finite_inputs.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1))).1 = (fun _ => 1#1)
    ∧ (Cert.Pre_finite_inputs.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1))).2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_inputs [hPre_finite_inputs : Cert.Pre_finite_inputs.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_inputs.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1))).1 = (fun _ => 1#1)
    ∧ (Cert.Pre_finite_inputs.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1))).2 = (fun _ => 1#1)

def quiescent_Kernel [hKernel : Cert.Kernel.Facts] [hPre_experts_named : Cert.Pre_experts_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_histograms_given [hKernel : Cert.Kernel.Facts] [hPre_histograms_given : Cert.Pre_histograms_given.Facts] : Prop :=
  ∀ (m : (ℓ : Loc Cert.Kernel.nD Cert.Kernel.τ Cert.Kernel.sig) → Buf (Elt Bits) ℓ) (g : Dev Cert.Kernel.nD → PrngReg), Pre_Kernel_histograms_given m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_experts_named : Cert.Pre_experts_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_histograms_given [hKernelIdeal : Cert.KernelIdeal.Facts] [hPre_histograms_given : Cert.Pre_histograms_given.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_histograms_given m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_histograms_given [hReferenceIdeal : Cert.ReferenceIdeal.Facts] [hPre_histograms_given : Cert.Pre_histograms_given.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_histograms_given m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_histograms_given : Cert.Pre_histograms_given.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateIdeal_pre_finite_inputs [hGateIdeal : Cert.GateIdeal.Facts] [hPre_finite_inputs : Cert.Pre_finite_inputs.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_inputs m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_GateReferenceIdeal_pre_finite_inputs [hGateReferenceIdeal : Cert.GateReferenceIdeal.Facts] [hPre_finite_inputs : Cert.Pre_finite_inputs.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_inputs m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def preserves_Kernel_KernelIdeal : Prop :=
  True

def bitexact_Kernel_Reference_pre_histograms_given [hKernel : Cert.Kernel.Facts] [hReference : Cert.Reference.Facts] [hPre_histograms_given : Cert.Pre_histograms_given.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_histograms_given m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v1_0)) (v1 : (c : Dev Cert.Kernel.nD) → Buf (Elt Bits) ((c.tc : Thread Cert.Kernel.nD Cert.Kernel.τ).loc Cert.Kernel.main_v1_1)) (v2 : (c : Dev Cert.Kernel.nD) → Buf (Elt Bits) ((c.tc : Thread Cert.Kernel.nD Cert.Kernel.τ).loc Cert.Kernel.main_v0_1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1_0) = v0 c
          ∧ r.2.mem ((c.tc : Thread Cert.Kernel.nD Cert.Kernel.τ).loc Cert.Kernel.main_v1_1) = v1 c
          ∧ r.2.mem ((c.tc : Thread Cert.Kernel.nD Cert.Kernel.τ).loc Cert.Kernel.main_v0_1) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_v1) = v1 c
          ∧ r.2.mem ((c.tc : Thread Cert.Reference.nD Cert.Reference.τ).loc Cert.Reference.main_v13) = v2 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal_pre_histograms_given [hKernelIdeal : Cert.KernelIdeal.Facts] [hReferenceIdeal : Cert.ReferenceIdeal.Facts] [hPre_histograms_given : Cert.Pre_histograms_given.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_histograms_given m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gate_GateIdeal : Prop :=
  True

def algebraic_GateIdeal_GateReferenceIdeal_pre_finite_inputs [hGateIdeal : Cert.GateIdeal.Facts] [hGateReferenceIdeal : Cert.GateReferenceIdeal.Facts] [hPre_finite_inputs : Cert.Pre_finite_inputs.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_finite_inputs m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0_4)) (v1 : (c : Dev Cert.GateIdeal.nD) → Buf (Elt Ideal) ((c.tc : Thread Cert.GateIdeal.nD Cert.GateIdeal.τ).loc Cert.GateIdeal.main_v0_0)) (v2 : (c : Dev Cert.GateIdeal.nD) → Buf (Elt Ideal) ((c.tc : Thread Cert.GateIdeal.nD Cert.GateIdeal.τ).loc Cert.GateIdeal.main_v0_3)) (v3 : (c : Dev Cert.GateIdeal.nD) → Buf (Elt Ideal) ((c.tc : Thread Cert.GateIdeal.nD Cert.GateIdeal.τ).loc Cert.GateIdeal.main_v0_1)) (v4 : (c : Dev Cert.GateIdeal.nD) → Buf (Elt Ideal) ((c.tc : Thread Cert.GateIdeal.nD Cert.GateIdeal.τ).loc Cert.GateIdeal.main_v0_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_4) = v0 c
          ∧ r.2.mem ((c.tc : Thread Cert.GateIdeal.nD Cert.GateIdeal.τ).loc Cert.GateIdeal.main_v0_0) = v1 c
          ∧ r.2.mem ((c.tc : Thread Cert.GateIdeal.nD Cert.GateIdeal.τ).loc Cert.GateIdeal.main_v0_3) = v2 c
          ∧ r.2.mem ((c.tc : Thread Cert.GateIdeal.nD Cert.GateIdeal.τ).loc Cert.GateIdeal.main_v0_1) = v3 c
          ∧ r.2.mem ((c.tc : Thread Cert.GateIdeal.nD Cert.GateIdeal.τ).loc Cert.GateIdeal.main_v0_2) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v66) = v0 c
          ∧ r.2.mem ((c.tc : Thread Cert.GateReferenceIdeal.nD Cert.GateReferenceIdeal.τ).loc Cert.GateReferenceIdeal.main_values) = v1 c
          ∧ r.2.mem ((c.tc : Thread Cert.GateReferenceIdeal.nD Cert.GateReferenceIdeal.τ).loc Cert.GateReferenceIdeal.main_v67) = v2 c
          ∧ r.2.mem ((c.tc : Thread Cert.GateReferenceIdeal.nD Cert.GateReferenceIdeal.τ).loc Cert.GateReferenceIdeal.main_indices) = v3 c
          ∧ r.2.mem ((c.tc : Thread Cert.GateReferenceIdeal.nD Cert.GateReferenceIdeal.τ).loc Cert.GateReferenceIdeal.main_v68) = v4 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hGate : Cert.Gate.Facts) (hGateIdeal : Cert.GateIdeal.Facts) (hGateReferenceIdeal : Cert.GateReferenceIdeal.Facts) (hPre_experts_named : Cert.Pre_experts_named.Facts) (hPre_histograms_given : Cert.Pre_histograms_given.Facts) (hPre_finite_inputs : Cert.Pre_finite_inputs.Facts),
    quiescent_Kernel (hKernel := hKernel) (hPre_experts_named := hPre_experts_named)
    ∧ quiescent_Kernel_pre_histograms_given (hKernel := hKernel) (hPre_histograms_given := hPre_histograms_given)
    ∧ quiescent_KernelIdeal (hKernelIdeal := hKernelIdeal) (hPre_experts_named := hPre_experts_named)
    ∧ quiescent_KernelIdeal_pre_histograms_given (hKernelIdeal := hKernelIdeal) (hPre_histograms_given := hPre_histograms_given)
    ∧ quiescent_ReferenceIdeal (hReferenceIdeal := hReferenceIdeal)
    ∧ quiescent_ReferenceIdeal_pre_histograms_given (hReferenceIdeal := hReferenceIdeal) (hPre_histograms_given := hPre_histograms_given)
    ∧ quiescent_Reference (hReference := hReference) (hPre_histograms_given := hPre_histograms_given)
    ∧ quiescent_Gate (hGate := hGate)
    ∧ quiescent_GateIdeal (hGateIdeal := hGateIdeal)
    ∧ quiescent_GateIdeal_pre_finite_inputs (hGateIdeal := hGateIdeal) (hPre_finite_inputs := hPre_finite_inputs)
    ∧ quiescent_GateReferenceIdeal (hGateReferenceIdeal := hGateReferenceIdeal)
    ∧ quiescent_GateReferenceIdeal_pre_finite_inputs (hGateReferenceIdeal := hGateReferenceIdeal) (hPre_finite_inputs := hPre_finite_inputs)
    ∧ preserves_Kernel_KernelIdeal
    ∧ bitexact_Kernel_Reference_pre_histograms_given (hKernel := hKernel) (hReference := hReference) (hPre_histograms_given := hPre_histograms_given)
    ∧ algebraic_KernelIdeal_ReferenceIdeal_pre_histograms_given (hKernelIdeal := hKernelIdeal) (hReferenceIdeal := hReferenceIdeal) (hPre_histograms_given := hPre_histograms_given)
    ∧ preserves_Gate_GateIdeal
    ∧ algebraic_GateIdeal_GateReferenceIdeal_pre_finite_inputs (hGateIdeal := hGateIdeal) (hGateReferenceIdeal := hGateReferenceIdeal) (hPre_finite_inputs := hPre_finite_inputs)
-- ==== Pre_experts_named.lean ====
abbrev S512x128 : Shape := ⟨2, ![512, 128]⟩
abbrev S1x64 : Shape := ⟨2, ![1, 64]⟩
abbrev S32x1x64 : Shape := ⟨3, ![32, 1, 64]⟩
abbrev S_ : Shape := ⟨0, ![]⟩

class Facts : Prop where
  bcast_S_S512x128 : S_.BroadcastsInDim S512x128 (![] : Fin 0 → Fin S512x128.rank)

variable [Facts]

def fn {F : FTy → Type} [FloatOps F] (main_arg0 : IVec S512x128 32) (main_arg1 : IVec S1x64 32) (main_arg2 : IVec S32x1x64 32) : IVec S512x128 1 :=
  let main_c : IVec S_ 32 := constantI S_ 32 0#32
  let main_v0 : IVec S512x128 32 := broadcastInDim S512x128 ![] bcast_S_S512x128 main_c
  let main_v1 : IVec S512x128 1 := cmpi .sge main_arg0 main_v0
  let main_c_0 : IVec S_ 32 := constantI S_ 32 64#32
  let main_v2 : IVec S512x128 32 := broadcastInDim S512x128 ![] bcast_S_S512x128 main_c_0
  let main_v3 : IVec S512x128 1 := cmpi .slt main_arg0 main_v2
  let main_v4 : IVec S512x128 1 := andi main_v1 main_v3
  main_v4
-- ==== Pre_finite_inputs.lean ====
abbrev S8192x4096 : Shape := ⟨2, ![8192, 4096]⟩
abbrev S64x4096 : Shape := ⟨2, ![64, 4096]⟩
abbrev S_ : Shape := ⟨0, ![]⟩

class Facts : Prop where
  bcast_S_S8192x4096 : S_.BroadcastsInDim S8192x4096 (![] : Fin 0 → Fin S8192x4096.rank)
  bcast_S_S64x4096 : S_.BroadcastsInDim S64x4096 (![] : Fin 0 → Fin S64x4096.rank)

variable [Facts]

def fn {F : FTy → Type} [FloatOps F] (main_arg0 : FVec F S8192x4096 .f32) (main_arg1 : FVec F S64x4096 .f32) : IVec S8192x4096 1 × IVec S64x4096 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S64x4096 .f32 := Host.absf main_arg1
  let main_cst_0 : FVec F S_ .f32 := constant S_ .f32 0x7F800000#32
  let main_v4 : FVec F S64x4096 .f32 := broadcastInDim S64x4096 ![] bcast_S_S64x4096 main_cst_0
  let main_v5 : IVec S64x4096 1 := cmpf .olt main_v3 main_v4
  (main_v2, main_v5)
-- ==== Pre_histograms_given.lean ====
abbrev S512x128 : Shape := ⟨2, ![512, 128]⟩
abbrev S1x64 : Shape := ⟨2, ![1, 64]⟩
abbrev S32x1x64 : Shape := ⟨3, ![32, 1, 64]⟩
abbrev S32x2048x1 : Shape := ⟨3, ![32, 2048, 1]⟩
abbrev S64 : Shape := ⟨1, ![64]⟩
abbrev S1x1x64 : Shape := ⟨3, ![1, 1, 64]⟩
abbrev S32x2048x64 : Shape := ⟨3, ![32, 2048, 64]⟩
abbrev S_ : Shape := ⟨0, ![]⟩
abbrev S32x64 : Shape := ⟨2, ![32, 64]⟩
abbrev S31x64 : Shape := ⟨2, ![31, 64]⟩

class Facts : Prop where
  shapeCasts_S512x128_S32x2048x1 : S512x128.ShapeCasts S32x2048x1
  bcast_S64_S1x1x64_2 : S64.BroadcastsInDim S1x1x64 (![2] : Fin 1 → Fin S1x1x64.rank)
  bcast_S32x2048x1_S32x2048x64_0_1_2 : S32x2048x1.BroadcastsInDim S32x2048x64 (![0, 1, 2] : Fin 3 → Fin S32x2048x64.rank)
  bcast_S1x1x64_S32x2048x64_0_1_2 : S1x1x64.BroadcastsInDim S32x2048x64 (![0, 1, 2] : Fin 3 → Fin S32x2048x64.rank)
  natLt_1_32 : 1 < 32
  reducesTo_S32x2048x64_S32x64_d1 : S32x2048x64.ReducesTo [1] S32x64
  h_S_ : 0 < S_.numel
  shapeCasts_S32x1x64_S32x64 : S32x1x64.ShapeCasts S32x64
  bcast_S_S512x128 : S_.BroadcastsInDim S512x128 (![] : Fin 0 → Fin S512x128.rank)
  slices_S32x64_S1x64_0_0 : S32x64.Slices ![0, 0] S1x64
  bcast_S_S1x64 : S_.BroadcastsInDim S1x64 (![] : Fin 0 → Fin S1x64.rank)
  slices_S32x64_S31x64_1_0 : S32x64.Slices ![1, 0] S31x64
  concatenates_S31x64_S1x64_S32x64_d0 : Shape.Concatenates [S31x64, S1x64] S32x64 0

variable [Facts]

def fn_part1 {F : FTy → Type} [FloatOps F] (main_v13 : IVec S512x128 1) (main_v16 : IVec S1x64 1) (main_v18 : IVec S32x64 32) (main_v19 : IVec S32x64 32) : IVec S512x128 1 × IVec S1x64 1 × IVec S32x64 1 :=
  let main_v20 : IVec S32x64 1 := cmpi .eq main_v18 main_v19
  (main_v13, main_v16, main_v20)

def fn {F : FTy → Type} [FloatOps F] (main_arg0 : IVec S512x128 32) (main_arg1 : IVec S1x64 32) (main_arg2 : IVec S32x1x64 32) : IVec S512x128 1 × IVec S1x64 1 × IVec S32x64 1 :=
  let main_v0 : IVec S32x2048x1 32 := shapeCast S32x2048x1 main_arg0 shapeCasts_S512x128_S32x2048x1
  let main_v1 : IVec S64 32 := iotaInDim S64 32 0
  let main_v2 : IVec S1x1x64 32 := broadcastInDim S1x1x64 ![2] bcast_S64_S1x1x64_2 main_v1
  let main_v3 : IVec S32x2048x64 32 := broadcastInDim S32x2048x64 ![0, 1, 2] bcast_S32x2048x1_S32x2048x64_0_1_2 main_v0
  let main_v4 : IVec S32x2048x64 32 := broadcastInDim S32x2048x64 ![0, 1, 2] bcast_S1x1x64_S32x2048x64_0_1_2 main_v2
  let main_v5 : IVec S32x2048x64 1 := cmpi .eq main_v3 main_v4
  let main_v6 : IVec S32x2048x64 32 := (extui 32 · natLt_1_32) main_v5
  let main_c : IVec S_ 32 := constantI S_ 32 0#32
  let main_v7 : IVec S32x64 32 := (fun x v => Host.reduce IntOp.addi x v reducesTo_S32x2048x64_S32x64_d1 h_S_) main_v6 main_c
  let main_v8 : IVec S32x64 32 := shapeCast S32x64 main_arg2 shapeCasts_S32x1x64_S32x64
  let main_c_0 : IVec S_ 32 := constantI S_ 32 0#32
  let main_v9 : IVec S512x128 32 := broadcastInDim S512x128 ![] bcast_S_S512x128 main_c_0
  let main_v10 : IVec S512x128 1 := cmpi .sge main_arg0 main_v9
  let main_c_1 : IVec S_ 32 := constantI S_ 32 64#32
  let main_v11 : IVec S512x128 32 := broadcastInDim S512x128 ![] bcast_S_S512x128 main_c_1
  let main_v12 : IVec S512x128 1 := cmpi .slt main_arg0 main_v11
  let main_v13 : IVec S512x128 1 := andi main_v10 main_v12
  let main_v14 : IVec S1x64 32 := (extractStridedSlice S1x64 ![0, 0] · slices_S32x64_S1x64_0_0) main_v8
  let main_c_2 : IVec S_ 32 := constantI S_ 32 0#32
  let main_v15 : IVec S1x64 32 := broadcastInDim S1x64 ![] bcast_S_S1x64 main_c_2
  let main_v16 : IVec S1x64 1 := cmpi .eq main_v14 main_v15
  let main_v17 : IVec S31x64 32 := (extractStridedSlice S31x64 ![1, 0] · slices_S32x64_S31x64_1_0) main_v8
  let main_v18 : IVec S32x64 32 := (fun a b => concatenate S32x64 0 [⟨S31x64, a⟩, ⟨S1x64, b⟩] concatenates_S31x64_S1x64_S32x64_d0) main_v17 main_arg1
  let main_v19 : IVec S32x64 32 := addi main_v8 main_v7
  fn_part1 (F := F) main_v13 main_v16 main_v18 main_v19
-- ==== Kernel.lean ====
abbrev S512x128 : Shape := ⟨2, ![512, 128]⟩
abbrev S1x64 : Shape := ⟨2, ![1, 64]⟩
abbrev S32x1x64 : Shape := ⟨3, ![32, 1, 64]⟩
abbrev S64 : Shape := ⟨1, ![64]⟩
abbrev S16x128 : Shape := ⟨2, ![16, 128]⟩
abbrev S_ : Shape := ⟨0, ![]⟩
abbrev S1x1x64 : Shape := ⟨3, ![1, 1, 64]⟩
abbrev S16 : Shape := ⟨1, ![16]⟩
abbrev S1x16 : Shape := ⟨2, ![1, 16]⟩
abbrev S65536 : Shape := ⟨1, ![65536]⟩
abbrev S32x128 : Shape := ⟨2, ![32, 128]⟩
abbrev S2048 : Shape := ⟨1, ![2048]⟩

abbrev nBuf : Table → Nat
  | .hbm => 7
  | .local .scVector .vmem => 11
  | _ => 0

abbrev bufTy : (tb : Table) → Fin (nBuf tb) → BufTy
  | .hbm, ⟨0, _⟩ => ⟨S512x128, .i32⟩
  | .hbm, ⟨1, _⟩ => ⟨S1x64, .i32⟩
  | .hbm, ⟨2, _⟩ => ⟨S32x1x64, .i32⟩
  | .hbm, ⟨3, _⟩ => ⟨S512x128, .i32⟩
  | .hbm, ⟨4, _⟩ => ⟨S64, .i32⟩
  | .hbm, ⟨5, _⟩ => ⟨S65536, .i32⟩
  | .hbm, ⟨6, _⟩ => ⟨S65536, .i32⟩
  | .local .scVector .vmem, ⟨0, _⟩ => ⟨S16x128, .i32⟩
  | .local .scVector .vmem, ⟨1, _⟩ => ⟨S16x128, .i32⟩
  | .local .scVector .vmem, ⟨2, _⟩ => ⟨S64, .i32⟩
  | .local .scVector .vmem, ⟨3, _⟩ => ⟨S64, .i32⟩
  | .local .scVector .vmem, ⟨4, _⟩ => ⟨S64, .i32⟩
  | .local .scVector .vmem, ⟨5, _⟩ => ⟨S32x128, .i32⟩
  | .local .scVector .vmem, ⟨6, _⟩ => ⟨S32x128, .i32⟩
  | .local .scVector .vmem, ⟨7, _⟩ => ⟨S32x128, .i32⟩
  | .local .scVector .vmem, ⟨8, _⟩ => ⟨S64, .i32⟩
  | .local .scVector .vmem, ⟨9, _⟩ => ⟨S2048, .i32⟩
  | .local .scVector .vmem, ⟨10, _⟩ => ⟨S2048, .i32⟩
  | _, _ => ⟨S512x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev main_v1_0_scv : Ref sig .scVector := ⟨.hbm, 5, rfl⟩
abbrev main_v1_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_scratch0 : Ref sig .scVector := ⟨.vmem, 5, rfl⟩
abbrev cc1_scratch1 : Ref sig .scVector := ⟨.vmem, 6, rfl⟩
abbrev cc1_scratch2 : Ref sig .scVector := ⟨.vmem, 7, rfl⟩
abbrev cc1_scratch3 : Ref sig .scVector := ⟨.vmem, 8, rfl⟩
abbrev cc1_scratch4 : Ref sig .scVector := ⟨.vmem, 9, rfl⟩
abbrev cc1_scratch5 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_1030_r0 : BitVec 32 := 0#32
  ![v2.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c0_i32_1030_r2 : BitVec 32 := 0#32
  ![v1.toNat, 0, 0]

def k0_chk1 (v71 : IVec S16 32) : Prop :=
  (∀ a x, ((![v71] : Fin 1 → IVec S16 32) a x).toNat < S64.size a) ∧
  (∀ a x, ((![v71] : Fin 1 → IVec S16 32) a x).toNat < S64.size a)
theorem k0_idx1_inb : ∀ (v71 : IVec S16 32) (k0_hw1 : k0_chk1 v71), ∀ a x, ((![v71] : Fin 1 → IVec S16 32) a x).toNat < S64.size a := fun v71 k0_hw1 => k0_hw1.1
theorem k0_idx2_inb : ∀ (v71 : IVec S16 32) (k0_hw1 : k0_chk1 v71), ∀ a x, ((![v71] : Fin 1 → IVec S16 32) a x).toNat < S64.size a := fun v71 k0_hw1 => k0_hw1.2

def k0_chk2 (v81 : IVec S16 32) : Prop :=
  (∀ a x, ((![v81] : Fin 1 → IVec S16 32) a x).toNat < S64.size a) ∧
  (∀ a x, ((![v81] : Fin 1 → IVec S16 32) a x).toNat < S64.size a)
theorem k0_idx3_inb : ∀ (v81 : IVec S16 32) (k0_hw2 : k0_chk2 v81), ∀ a x, ((![v81] : Fin 1 → IVec S16 32) a x).toNat < S64.size a := fun v81 k0_hw2 => k0_hw2.1
theorem k0_idx4_inb : ∀ (v81 : IVec S16 32) (k0_hw2 : k0_chk2 v81), ∀ a x, ((![v81] : Fin 1 → IVec S16 32) a x).toNat < S64.size a := fun v81 k0_hw2 => k0_hw2.2

def k0_chk3 (v91 : IVec S16 32) : Prop :=
  (∀ a x, ((![v91] : Fin 1 → IVec S16 32) a x).toNat < S64.size a) ∧
  (∀ a x, ((![v91] : Fin 1 → IVec S16 32) a x).toNat < S64.size a)
theorem k0_idx5_inb : ∀ (v91 : IVec S16 32) (k0_hw3 : k0_chk3 v91), ∀ a x, ((![v91] : Fin 1 → IVec S16 32) a x).toNat < S64.size a := fun v91 k0_hw3 => k0_hw3.1
theorem k0_idx6_inb : ∀ (v91 : IVec S16 32) (k0_hw3 : k0_chk3 v91), ∀ a x, ((![v91] : Fin 1 → IVec S16 32) a x).toNat < S64.size a := fun v91 k0_hw3 => k0_hw3.2

def k0_chk4 (v101 : IVec S16 32) : Prop :=
  (∀ a x, ((![v101] : Fin 1 → IVec S16 32) a x).toNat < S64.size a) ∧
  (∀ a x, ((![v101] : Fin 1 → IVec S16 32) a x).toNat < S64.size a)
theorem k0_idx7_inb : ∀ (v101 : IVec S16 32) (k0_hw4 : k0_chk4 v101), ∀ a x, ((![v101] : Fin 1 → IVec S16 32) a x).toNat < S64.size a := fun v101 k0_hw4 => k0_hw4.1
theorem k0_idx8_inb : ∀ (v101 : IVec S16 32) (k0_hw4 : k0_chk4 v101), ∀ a x, ((![v101] : Fin 1 → IVec S16 32) a x).toNat < S64.size a := fun v101 k0_hw4 => k0_hw4.2

def k0_chk5 (v111 : IVec S16 32) : Prop :=
  (∀ a x, ((![v111] : Fin 1 → IVec S16 32) a x).toNat < S64.size a) ∧
  (∀ a x, ((![v111] : Fin 1 → IVec S16 32) a x).toNat < S64.size a)
theorem k0_idx9_inb : ∀ (v111 : IVec S16 32) (k0_hw5 : k0_chk5 v111), ∀ a x, ((![v111] : Fin 1 → IVec S16 32) a x).toNat < S64.size a := fun v111 k0_hw5 => k0_hw5.1
theorem k0_idx10_inb : ∀ (v111 : IVec S16 32) (k0_hw5 : k0_chk5 v111), ∀ a x, ((![v111] : Fin 1 → IVec S16 32) a x).toNat < S64.size a := fun v111 k0_hw5 => k0_hw5.2

def k0_chk6 (v121 : IVec S16 32) : Prop :=
  (∀ a x, ((![v121] : Fin 1 → IVec S16 32) a x).toNat < S64.size a) ∧
  (∀ a x, ((![v121] : Fin 1 → IVec S16 32) a x).toNat < S64.size a)
theorem k0_idx11_inb : ∀ (v121 : IVec S16 32) (k0_hw6 : k0_chk6 v121), ∀ a x, ((![v121] : Fin 1 → IVec S16 32) a x).toNat < S64.size a := fun v121 k0_hw6 => k0_hw6.1
theorem k0_idx12_inb : ∀ (v121 : IVec S16 32) (k0_hw6 : k0_chk6 v121), ∀ a x, ((![v121] : Fin 1 → IVec S16 32) a x).toNat < S64.size a := fun v121 k0_hw6 => k0_hw6.2

def k0_chk7 (v131 : IVec S16 32) : Prop :=
  (∀ a x, ((![v131] : Fin 1 → IVec S16 32) a x).toNat < S64.size a) ∧
  (∀ a x, ((![v131] : Fin 1 → IVec S16 32) a x).toNat < S64.size a)
theorem k0_idx13_inb : ∀ (v131 : IVec S16 32) (k0_hw7 : k0_chk7 v131), ∀ a x, ((![v131] : Fin 1 → IVec S16 32) a x).toNat < S64.size a := fun v131 k0_hw7 => k0_hw7.1
theorem k0_idx14_inb : ∀ (v131 : IVec S16 32) (k0_hw7 : k0_chk7 v131), ∀ a x, ((![v131] : Fin 1 → IVec S16 32) a x).toNat < S64.size a := fun v131 k0_hw7 => k0_hw7.2

def k0_chk8 (v141 : IVec S16 32) : Prop :=
  (∀ a x, ((![v141] : Fin 1 → IVec S16 32) a x).toNat < S64.size a) ∧
  (∀ a x, ((![v141] : Fin 1 → IVec S16 32) a x).toNat < S64.size a)
theorem k0_idx15_inb : ∀ (v141 : IVec S16 32) (k0_hw8 : k0_chk8 v141), ∀ a x, ((![v141] : Fin 1 → IVec S16 32) a x).toNat < S64.size a := fun v141 k0_hw8 => k0_hw8.1
theorem k0_idx16_inb : ∀ (v141 : IVec S16 32) (k0_hw8 : k0_chk8 v141), ∀ a x, ((![v141] : Fin 1 → IVec S16 32) a x).toNat < S64.size a := fun v141 k0_hw8 => k0_hw8.2

def k0_chk9 (v151 : IVec S16 32) : Prop :=
  (∀ a x, ((![v151] : Fin 1 → IVec S16 32) a x).toNat < S64.size a) ∧
  (∀ a x, ((![v151] : Fin 1 → IVec S16 32) a x).toNat < S64.size a)
theorem k0_idx17_inb : ∀ (v151 : IVec S16 32) (k0_hw9 : k0_chk9 v151), ∀ a x, ((![v151] : Fin 1 → IVec S16 32) a x).toNat < S64.size a := fun v151 k0_hw9 => k0_hw9.1
theorem k0_idx18_inb : ∀ (v151 : IVec S16 32) (k0_hw9 : k0_chk9 v151), ∀ a x, ((![v151] : Fin 1 → IVec S16 32) a x).toNat < S64.size a := fun v151 k0_hw9 => k0_hw9.2

def k0_chk10 (v161 : IVec S16 32) : Prop :=
  (∀ a x, ((![v161] : Fin 1 → IVec S16 32) a x).toNat < S64.size a) ∧
  (∀ a x, ((![v161] : Fin 1 → IVec S16 32) a x).toNat < S64.size a)
theorem k0_idx19_inb : ∀ (v161 : IVec S16 32) (k0_hw10 : k0_chk10 v161), ∀ a x, ((![v161] : Fin 1 → IVec S16 32) a x).toNat < S64.size a := fun v161 k0_hw10 => k0_hw10.1
theorem k0_idx20_inb : ∀ (v161 : IVec S16 32) (k0_hw10 : k0_chk10 v161), ∀ a x, ((![v161] : Fin 1 → IVec S16 32) a x).toNat < S64.size a := fun v161 k0_hw10 => k0_hw10.2

def k0_chk11 (v171 : IVec S16 32) : Prop :=
  (∀ a x, ((![v171] : Fin 1 → IVec S16 32) a x).toNat < S64.size a) ∧
  (∀ a x, ((![v171] : Fin 1 → IVec S16 32) a x).toNat < S64.size a)
theorem k0_idx21_inb : ∀ (v171 : IVec S16 32) (k0_hw11 : k0_chk11 v171), ∀ a x, ((![v171] : Fin 1 → IVec S16 32) a x).toNat < S64.size a := fun v171 k0_hw11 => k0_hw11.1
theorem k0_idx22_inb : ∀ (v171 : IVec S16 32) (k0_hw11 : k0_chk11 v171), ∀ a x, ((![v171] : Fin 1 → IVec S16 32) a x).toNat < S64.size a := fun v171 k0_hw11 => k0_hw11.2

def k0_chk12 (v181 : IVec S16 32) : Prop :=
  (∀ a x, ((![v181] : Fin 1 → IVec S16 32) a x).toNat < S64.size a) ∧
  (∀ a x, ((![v181] : Fin 1 → IVec S16 32) a x).toNat < S64.size a)
theorem k0_idx23_inb : ∀ (v181 : IVec S16 32) (k0_hw12 : k0_chk12 v181), ∀ a x, ((![v181] : Fin 1 → IVec S16 32) a x).toNat < S64.size a := fun v181 k0_hw12 => k0_hw12.1
theorem k0_idx24_inb : ∀ (v181 : IVec S16 32) (k0_hw12 : k0_chk12 v181), ∀ a x, ((![v181] : Fin 1 → IVec S16 32) a x).toNat < S64.size a := fun v181 k0_hw12 => k0_hw12.2

def k0_chk13 (v191 : IVec S16 32) : Prop :=
  (∀ a x, ((![v191] : Fin 1 → IVec S16 32) a x).toNat < S64.size a) ∧
  (∀ a x, ((![v191] : Fin 1 → IVec S16 32) a x).toNat < S64.size a)
theorem k0_idx25_inb : ∀ (v191 : IVec S16 32) (k0_hw13 : k0_chk13 v191), ∀ a x, ((![v191] : Fin 1 → IVec S16 32) a x).toNat < S64.size a := fun v191 k0_hw13 => k0_hw13.1
theorem k0_idx26_inb : ∀ (v191 : IVec S16 32) (k0_hw13 : k0_chk13 v191), ∀ a x, ((![v191] : Fin 1 → IVec S16 32) a x).toNat < S64.size a := fun v191 k0_hw13 => k0_hw13.2

def k0_chk14 (v201 : IVec S16 32) : Prop :=
  (∀ a x, ((![v201] : Fin 1 → IVec S16 32) a x).toNat < S64.size a) ∧
  (∀ a x, ((![v201] : Fin 1 → IVec S16 32) a x).toNat < S64.size a)
theorem k0_idx27_inb : ∀ (v201 : IVec S16 32) (k0_hw14 : k0_chk14 v201), ∀ a x, ((![v201] : Fin 1 → IVec S16 32) a x).toNat < S64.size a := fun v201 k0_hw14 => k0_hw14.1
theorem k0_idx28_inb : ∀ (v201 : IVec S16 32) (k0_hw14 : k0_chk14 v201), ∀ a x, ((![v201] : Fin 1 → IVec S16 32) a x).toNat < S64.size a := fun v201 k0_hw14 => k0_hw14.2

def k0_chk15 (v211 : IVec S16 32) : Prop :=
  (∀ a x, ((![v211] : Fin 1 → IVec S16 32) a x).toNat < S64.size a) ∧
  (∀ a x, ((![v211] : Fin 1 → IVec S16 32) a x).toNat < S64.size a)
theorem k0_idx29_inb : ∀ (v211 : IVec S16 32) (k0_hw15 : k0_chk15 v211), ∀ a x, ((![v211] : Fin 1 → IVec S16 32) a x).toNat < S64.size a := fun v211 k0_hw15 => k0_hw15.1
theorem k0_idx30_inb : ∀ (v211 : IVec S16 32) (k0_hw15 : k0_chk15 v211), ∀ a x, ((![v211] : Fin 1 → IVec S16 32) a x).toNat < S64.size a := fun v211 k0_hw15 => k0_hw15.2

def k0_chk16 (v221 : IVec S16 32) : Prop :=
  (∀ a x, ((![v221] : Fin 1 → IVec S16 32) a x).toNat < S64.size a) ∧
  (∀ a x, ((![v221] : Fin 1 → IVec S16 32) a x).toNat < S64.size a)
theorem k0_idx31_inb : ∀ (v221 : IVec S16 32) (k0_hw16 : k0_chk16 v221), ∀ a x, ((![v221] : Fin 1 → IVec S16 32) a x).toNat < S64.size a := fun v221 k0_hw16 => k0_hw16.1
theorem k0_idx32_inb : ∀ (v221 : IVec S16 32) (k0_hw16 : k0_chk16 v221), ∀ a x, ((![v221] : Fin 1 → IVec S16 32) a x).toNat < S64.size a := fun v221 k0_hw16 => k0_hw16.2

def k0_chk17 (v231 : IVec S16 32) : Prop :=
  (∀ a x, ((![v231] : Fin 1 → IVec S16 32) a x).toNat < S64.size a) ∧
  (∀ a x, ((![v231] : Fin 1 → IVec S16 32) a x).toNat < S64.size a)
theorem k0_idx33_inb : ∀ (v231 : IVec S16 32) (k0_hw17 : k0_chk17 v231), ∀ a x, ((![v231] : Fin 1 → IVec S16 32) a x).toNat < S64.size a := fun v231 k0_hw17 => k0_hw17.1
theorem k0_idx34_inb : ∀ (v231 : IVec S16 32) (k0_hw17 : k0_chk17 v231), ∀ a x, ((![v231] : Fin 1 → IVec S16 32) a x).toNat < S64.size a := fun v231 k0_hw17 => k0_hw17.2

def k0_chk18 (v241 : IVec S16 32) : Prop :=
  (∀ a x, ((![v241] : Fin 1 → IVec S16 32) a x).toNat < S64.size a) ∧
  (∀ a x, ((![v241] : Fin 1 → IVec S16 32) a x).toNat < S64.size a)
theorem k0_idx35_inb : ∀ (v241 : IVec S16 32) (k0_hw18 : k0_chk18 v241), ∀ a x, ((![v241] : Fin 1 → IVec S16 32) a x).toNat < S64.size a := fun v241 k0_hw18 => k0_hw18.1
theorem k0_idx36_inb : ∀ (v241 : IVec S16 32) (k0_hw18 : k0_chk18 v241), ∀ a x, ((![v241] : Fin 1 → IVec S16 32) a x).toNat < S64.size a := fun v241 k0_hw18 => k0_hw18.2

def k0_chk19 (v251 : IVec S16 32) : Prop :=
  (∀ a x, ((![v251] : Fin 1 → IVec S16 32) a x).toNat < S64.size a) ∧
  (∀ a x, ((![v251] : Fin 1 → IVec S16 32) a x).toNat < S64.size a)
theorem k0_idx37_inb : ∀ (v251 : IVec S16 32) (k0_hw19 : k0_chk19 v251), ∀ a x, ((![v251] : Fin 1 → IVec S16 32) a x).toNat < S64.size a := fun v251 k0_hw19 => k0_hw19.1
theorem k0_idx38_inb : ∀ (v251 : IVec S16 32) (k0_hw19 : k0_chk19 v251), ∀ a x, ((![v251] : Fin 1 → IVec S16 32) a x).toNat < S64.size a := fun v251 k0_hw19 => k0_hw19.2

def k0_chk20 (v261 : IVec S16 32) : Prop :=
  (∀ a x, ((![v261] : Fin 1 → IVec S16 32) a x).toNat < S64.size a) ∧
  (∀ a x, ((![v261] : Fin 1 → IVec S16 32) a x).toNat < S64.size a)
theorem k0_idx39_inb : ∀ (v261 : IVec S16 32) (k0_hw20 : k0_chk20 v261), ∀ a x, ((![v261] : Fin 1 → IVec S16 32) a x).toNat < S64.size a := fun v261 k0_hw20 => k0_hw20.1
theorem k0_idx40_inb : ∀ (v261 : IVec S16 32) (k0_hw20 : k0_chk20 v261), ∀ a x, ((![v261] : Fin 1 → IVec S16 32) a x).toNat < S64.size a := fun v261 k0_hw20 => k0_hw20.2

def k0_chk21 (v271 : IVec S16 32) : Prop :=
  (∀ a x, ((![v271] : Fin 1 → IVec S16 32) a x).toNat < S64.size a) ∧
  (∀ a x, ((![v271] : Fin 1 → IVec S16 32) a x).toNat < S64.size a)
theorem k0_idx41_inb : ∀ (v271 : IVec S16 32) (k0_hw21 : k0_chk21 v271), ∀ a x, ((![v271] : Fin 1 → IVec S16 32) a x).toNat < S64.size a := fun v271 k0_hw21 => k0_hw21.1
theorem k0_idx42_inb : ∀ (v271 : IVec S16 32) (k0_hw21 : k0_chk21 v271), ∀ a x, ((![v271] : Fin 1 → IVec S16 32) a x).toNat < S64.size a := fun v271 k0_hw21 => k0_hw21.2

def k0_chk22 (v281 : IVec S16 32) : Prop :=
  (∀ a x, ((![v281] : Fin 1 → IVec S16 32) a x).toNat < S64.size a) ∧
  (∀ a x, ((![v281] : Fin 1 → IVec S16 32) a x).toNat < S64.size a)
theorem k0_idx43_inb : ∀ (v281 : IVec S16 32) (k0_hw22 : k0_chk22 v281), ∀ a x, ((![v281] : Fin 1 → IVec S16 32) a x).toNat < S64.size a := fun v281 k0_hw22 => k0_hw22.1
theorem k0_idx44_inb : ∀ (v281 : IVec S16 32) (k0_hw22 : k0_chk22 v281), ∀ a x, ((![v281] : Fin 1 → IVec S16 32) a x).toNat < S64.size a := fun v281 k0_hw22 => k0_hw22.2

def k0_chk23 (v291 : IVec S16 32) : Prop :=
  (∀ a x, ((![v291] : Fin 1 → IVec S16 32) a x).toNat < S64.size a) ∧
  (∀ a x, ((![v291] : Fin 1 → IVec S16 32) a x).toNat < S64.size a)
theorem k0_idx45_inb : ∀ (v291 : IVec S16 32) (k0_hw23 : k0_chk23 v291), ∀ a x, ((![v291] : Fin 1 → IVec S16 32) a x).toNat < S64.size a := fun v291 k0_hw23 => k0_hw23.1
theorem k0_idx46_inb : ∀ (v291 : IVec S16 32) (k0_hw23 : k0_chk23 v291), ∀ a x, ((![v291] : Fin 1 → IVec S16 32) a x).toNat < S64.size a := fun v291 k0_hw23 => k0_hw23.2

def k0_chk24 (v301 : IVec S16 32) : Prop :=
  (∀ a x, ((![v301] : Fin 1 → IVec S16 32) a x).toNat < S64.size a) ∧
  (∀ a x, ((![v301] : Fin 1 → IVec S16 32) a x).toNat < S64.size a)
theorem k0_idx47_inb : ∀ (v301 : IVec S16 32) (k0_hw24 : k0_chk24 v301), ∀ a x, ((![v301] : Fin 1 → IVec S16 32) a x).toNat < S64.size a := fun v301 k0_hw24 => k0_hw24.1
theorem k0_idx48_inb : ∀ (v301 : IVec S16 32) (k0_hw24 : k0_chk24 v301), ∀ a x, ((![v301] : Fin 1 → IVec S16 32) a x).toNat < S64.size a := fun v301 k0_hw24 => k0_hw24.2

def k0_chk25 (v311 : IVec S16 32) : Prop :=
  (∀ a x, ((![v311] : Fin 1 → IVec S16 32) a x).toNat < S64.size a) ∧
  (∀ a x, ((![v311] : Fin 1 → IVec S16 32) a x).toNat < S64.size a)
theorem k0_idx49_inb : ∀ (v311 : IVec S16 32) (k0_hw25 : k0_chk25 v311), ∀ a x, ((![v311] : Fin 1 → IVec S16 32) a x).toNat < S64.size a := fun v311 k0_hw25 => k0_hw25.1
theorem k0_idx50_inb : ∀ (v311 : IVec S16 32) (k0_hw25 : k0_chk25 v311), ∀ a x, ((![v311] : Fin 1 → IVec S16 32) a x).toNat < S64.size a := fun v311 k0_hw25 => k0_hw25.2

def k0_chk26 (v321 : IVec S16 32) : Prop :=
  (∀ a x, ((![v321] : Fin 1 → IVec S16 32) a x).toNat < S64.size a) ∧
  (∀ a x, ((![v321] : Fin 1 → IVec S16 32) a x).toNat < S64.size a)
theorem k0_idx51_inb : ∀ (v321 : IVec S16 32) (k0_hw26 : k0_chk26 v321), ∀ a x, ((![v321] : Fin 1 → IVec S16 32) a x).toNat < S64.size a := fun v321 k0_hw26 => k0_hw26.1
theorem k0_idx52_inb : ∀ (v321 : IVec S16 32) (k0_hw26 : k0_chk26 v321), ∀ a x, ((![v321] : Fin 1 → IVec S16 32) a x).toNat < S64.size a := fun v321 k0_hw26 => k0_hw26.2

def k0_chk27 (v331 : IVec S16 32) : Prop :=
  (∀ a x, ((![v331] : Fin 1 → IVec S16 32) a x).toNat < S64.size a) ∧
  (∀ a x, ((![v331] : Fin 1 → IVec S16 32) a x).toNat < S64.size a)
theorem k0_idx53_inb : ∀ (v331 : IVec S16 32) (k0_hw27 : k0_chk27 v331), ∀ a x, ((![v331] : Fin 1 → IVec S16 32) a x).toNat < S64.size a := fun v331 k0_hw27 => k0_hw27.1
theorem k0_idx54_inb : ∀ (v331 : IVec S16 32) (k0_hw27 : k0_chk27 v331), ∀ a x, ((![v331] : Fin 1 → IVec S16 32) a x).toNat < S64.size a := fun v331 k0_hw27 => k0_hw27.2

def k0_chk28 (v341 : IVec S16 32) : Prop :=
  (∀ a x, ((![v341] : Fin 1 → IVec S16 32) a x).toNat < S64.size a) ∧
  (∀ a x, ((![v341] : Fin 1 → IVec S16 32) a x).toNat < S64.size a)
theorem k0_idx55_inb : ∀ (v341 : IVec S16 32) (k0_hw28 : k0_chk28 v341), ∀ a x, ((![v341] : Fin 1 → IVec S16 32) a x).toNat < S64.size a := fun v341 k0_hw28 => k0_hw28.1
theorem k0_idx56_inb : ∀ (v341 : IVec S16 32) (k0_hw28 : k0_chk28 v341), ∀ a x, ((![v341] : Fin 1 → IVec S16 32) a x).toNat < S64.size a := fun v341 k0_hw28 => k0_hw28.2

def k0_chk29 (v351 : IVec S16 32) : Prop :=
  (∀ a x, ((![v351] : Fin 1 → IVec S16 32) a x).toNat < S64.size a) ∧
  (∀ a x, ((![v351] : Fin 1 → IVec S16 32) a x).toNat < S64.size a)
theorem k0_idx57_inb : ∀ (v351 : IVec S16 32) (k0_hw29 : k0_chk29 v351), ∀ a x, ((![v351] : Fin 1 → IVec S16 32) a x).toNat < S64.size a := fun v351 k0_hw29 => k0_hw29.1
theorem k0_idx58_inb : ∀ (v351 : IVec S16 32) (k0_hw29 : k0_chk29 v351), ∀ a x, ((![v351] : Fin 1 → IVec S16 32) a x).toNat < S64.size a := fun v351 k0_hw29 => k0_hw29.2

def k0_chk30 (v361 : IVec S16 32) : Prop :=
  (∀ a x, ((![v361] : Fin 1 → IVec S16 32) a x).toNat < S64.size a) ∧
  (∀ a x, ((![v361] : Fin 1 → IVec S16 32) a x).toNat < S64.size a)
theorem k0_idx59_inb : ∀ (v361 : IVec S16 32) (k0_hw30 : k0_chk30 v361), ∀ a x, ((![v361] : Fin 1 → IVec S16 32) a x).toNat < S64.size a := fun v361 k0_hw30 => k0_hw30.1
theorem k0_idx60_inb : ∀ (v361 : IVec S16 32) (k0_hw30 : k0_chk30 v361), ∀ a x, ((![v361] : Fin 1 → IVec S16 32) a x).toNat < S64.size a := fun v361 k0_hw30 => k0_hw30.2

def k0_chk31 (v371 : IVec S16 32) : Prop :=
  (∀ a x, ((![v371] : Fin 1 → IVec S16 32) a x).toNat < S64.size a) ∧
  (∀ a x, ((![v371] : Fin 1 → IVec S16 32) a x).toNat < S64.size a)
theorem k0_idx61_inb : ∀ (v371 : IVec S16 32) (k0_hw31 : k0_chk31 v371), ∀ a x, ((![v371] : Fin 1 → IVec S16 32) a x).toNat < S64.size a := fun v371 k0_hw31 => k0_hw31.1
theorem k0_idx62_inb : ∀ (v371 : IVec S16 32) (k0_hw31 : k0_chk31 v371), ∀ a x, ((![v371] : Fin 1 → IVec S16 32) a x).toNat < S64.size a := fun v371 k0_hw31 => k0_hw31.2

def k0_chk32 (v381 : IVec S16 32) : Prop :=
  (∀ a x, ((![v381] : Fin 1 → IVec S16 32) a x).toNat < S64.size a) ∧
  (∀ a x, ((![v381] : Fin 1 → IVec S16 32) a x).toNat < S64.size a)
theorem k0_idx63_inb : ∀ (v381 : IVec S16 32) (k0_hw32 : k0_chk32 v381), ∀ a x, ((![v381] : Fin 1 → IVec S16 32) a x).toNat < S64.size a := fun v381 k0_hw32 => k0_hw32.1
theorem k0_idx64_inb : ∀ (v381 : IVec S16 32) (k0_hw32 : k0_chk32 v381), ∀ a x, ((![v381] : Fin 1 → IVec S16 32) a x).toNat < S64.size a := fun v381 k0_hw32 => k0_hw32.2

def k0_chk33 (v391 : IVec S16 32) : Prop :=
  (∀ a x, ((![v391] : Fin 1 → IVec S16 32) a x).toNat < S64.size a) ∧
  (∀ a x, ((![v391] : Fin 1 → IVec S16 32) a x).toNat < S64.size a)
theorem k0_idx65_inb : ∀ (v391 : IVec S16 32) (k0_hw33 : k0_chk33 v391), ∀ a x, ((![v391] : Fin 1 → IVec S16 32) a x).toNat < S64.size a := fun v391 k0_hw33 => k0_hw33.1
theorem k0_idx66_inb : ∀ (v391 : IVec S16 32) (k0_hw33 : k0_chk33 v391), ∀ a x, ((![v391] : Fin 1 → IVec S16 32) a x).toNat < S64.size a := fun v391 k0_hw33 => k0_hw33.2

def k0_chk34 (v401 : IVec S16 32) : Prop :=
  (∀ a x, ((![v401] : Fin 1 → IVec S16 32) a x).toNat < S64.size a) ∧
  (∀ a x, ((![v401] : Fin 1 → IVec S16 32) a x).toNat < S64.size a)
theorem k0_idx67_inb : ∀ (v401 : IVec S16 32) (k0_hw34 : k0_chk34 v401), ∀ a x, ((![v401] : Fin 1 → IVec S16 32) a x).toNat < S64.size a := fun v401 k0_hw34 => k0_hw34.1
theorem k0_idx68_inb : ∀ (v401 : IVec S16 32) (k0_hw34 : k0_chk34 v401), ∀ a x, ((![v401] : Fin 1 → IVec S16 32) a x).toNat < S64.size a := fun v401 k0_hw34 => k0_hw34.2

def k0_chk35 (v411 : IVec S16 32) : Prop :=
  (∀ a x, ((![v411] : Fin 1 → IVec S16 32) a x).toNat < S64.size a) ∧
  (∀ a x, ((![v411] : Fin 1 → IVec S16 32) a x).toNat < S64.size a)
theorem k0_idx69_inb : ∀ (v411 : IVec S16 32) (k0_hw35 : k0_chk35 v411), ∀ a x, ((![v411] : Fin 1 → IVec S16 32) a x).toNat < S64.size a := fun v411 k0_hw35 => k0_hw35.1
theorem k0_idx70_inb : ∀ (v411 : IVec S16 32) (k0_hw35 : k0_chk35 v411), ∀ a x, ((![v411] : Fin 1 → IVec S16 32) a x).toNat < S64.size a := fun v411 k0_hw35 => k0_hw35.2

def k0_chk36 (v421 : IVec S16 32) : Prop :=
  (∀ a x, ((![v421] : Fin 1 → IVec S16 32) a x).toNat < S64.size a) ∧
  (∀ a x, ((![v421] : Fin 1 → IVec S16 32) a x).toNat < S64.size a)
theorem k0_idx71_inb : ∀ (v421 : IVec S16 32) (k0_hw36 : k0_chk36 v421), ∀ a x, ((![v421] : Fin 1 → IVec S16 32) a x).toNat < S64.size a := fun v421 k0_hw36 => k0_hw36.1
theorem k0_idx72_inb : ∀ (v421 : IVec S16 32) (k0_hw36 : k0_chk36 v421), ∀ a x, ((![v421] : Fin 1 → IVec S16 32) a x).toNat < S64.size a := fun v421 k0_hw36 => k0_hw36.2

def k0_chk37 (v431 : IVec S16 32) : Prop :=
  (∀ a x, ((![v431] : Fin 1 → IVec S16 32) a x).toNat < S64.size a) ∧
  (∀ a x, ((![v431] : Fin 1 → IVec S16 32) a x).toNat < S64.size a)
theorem k0_idx73_inb : ∀ (v431 : IVec S16 32) (k0_hw37 : k0_chk37 v431), ∀ a x, ((![v431] : Fin 1 → IVec S16 32) a x).toNat < S64.size a := fun v431 k0_hw37 => k0_hw37.1
theorem k0_idx74_inb : ∀ (v431 : IVec S16 32) (k0_hw37 : k0_chk37 v431), ∀ a x, ((![v431] : Fin 1 → IVec S16 32) a x).toNat < S64.size a := fun v431 k0_hw37 => k0_hw37.2

def k0_chk38 (v441 : IVec S16 32) : Prop :=
  (∀ a x, ((![v441] : Fin 1 → IVec S16 32) a x).toNat < S64.size a) ∧
  (∀ a x, ((![v441] : Fin 1 → IVec S16 32) a x).toNat < S64.size a)
theorem k0_idx75_inb : ∀ (v441 : IVec S16 32) (k0_hw38 : k0_chk38 v441), ∀ a x, ((![v441] : Fin 1 → IVec S16 32) a x).toNat < S64.size a := fun v441 k0_hw38 => k0_hw38.1
theorem k0_idx76_inb : ∀ (v441 : IVec S16 32) (k0_hw38 : k0_chk38 v441), ∀ a x, ((![v441] : Fin 1 → IVec S16 32) a x).toNat < S64.size a := fun v441 k0_hw38 => k0_hw38.2

def k0_chk39 (v451 : IVec S16 32) : Prop :=
  (∀ a x, ((![v451] : Fin 1 → IVec S16 32) a x).toNat < S64.size a) ∧
  (∀ a x, ((![v451] : Fin 1 → IVec S16 32) a x).toNat < S64.size a)
theorem k0_idx77_inb : ∀ (v451 : IVec S16 32) (k0_hw39 : k0_chk39 v451), ∀ a x, ((![v451] : Fin 1 → IVec S16 32) a x).toNat < S64.size a := fun v451 k0_hw39 => k0_hw39.1
theorem k0_idx78_inb : ∀ (v451 : IVec S16 32) (k0_hw39 : k0_chk39 v451), ∀ a x, ((![v451] : Fin 1 → IVec S16 32) a x).toNat < S64.size a := fun v451 k0_hw39 => k0_hw39.2

def k0_chk40 (v461 : IVec S16 32) : Prop :=
  (∀ a x, ((![v461] : Fin 1 → IVec S16 32) a x).toNat < S64.size a) ∧
  (∀ a x, ((![v461] : Fin 1 → IVec S16 32) a x).toNat < S64.size a)
theorem k0_idx79_inb : ∀ (v461 : IVec S16 32) (k0_hw40 : k0_chk40 v461), ∀ a x, ((![v461] : Fin 1 → IVec S16 32) a x).toNat < S64.size a := fun v461 k0_hw40 => k0_hw40.1
theorem k0_idx80_inb : ∀ (v461 : IVec S16 32) (k0_hw40 : k0_chk40 v461), ∀ a x, ((![v461] : Fin 1 → IVec S16 32) a x).toNat < S64.size a := fun v461 k0_hw40 => k0_hw40.2

def k0_chk41 (v471 : IVec S16 32) : Prop :=
  (∀ a x, ((![v471] : Fin 1 → IVec S16 32) a x).toNat < S64.size a) ∧
  (∀ a x, ((![v471] : Fin 1 → IVec S16 32) a x).toNat < S64.size a)
theorem k0_idx81_inb : ∀ (v471 : IVec S16 32) (k0_hw41 : k0_chk41 v471), ∀ a x, ((![v471] : Fin 1 → IVec S16 32) a x).toNat < S64.size a := fun v471 k0_hw41 => k0_hw41.1
theorem k0_idx82_inb : ∀ (v471 : IVec S16 32) (k0_hw41 : k0_chk41 v471), ∀ a x, ((![v471] : Fin 1 → IVec S16 32) a x).toNat < S64.size a := fun v471 k0_hw41 => k0_hw41.2

def k0_chk42 (v481 : IVec S16 32) : Prop :=
  (∀ a x, ((![v481] : Fin 1 → IVec S16 32) a x).toNat < S64.size a) ∧
  (∀ a x, ((![v481] : Fin 1 → IVec S16 32) a x).toNat < S64.size a)
theorem k0_idx83_inb : ∀ (v481 : IVec S16 32) (k0_hw42 : k0_chk42 v481), ∀ a x, ((![v481] : Fin 1 → IVec S16 32) a x).toNat < S64.size a := fun v481 k0_hw42 => k0_hw42.1
theorem k0_idx84_inb : ∀ (v481 : IVec S16 32) (k0_hw42 : k0_chk42 v481), ∀ a x, ((![v481] : Fin 1 → IVec S16 32) a x).toNat < S64.size a := fun v481 k0_hw42 => k0_hw42.2

def k0_chk43 (v491 : IVec S16 32) : Prop :=
  (∀ a x, ((![v491] : Fin 1 → IVec S16 32) a x).toNat < S64.size a) ∧
  (∀ a x, ((![v491] : Fin 1 → IVec S16 32) a x).toNat < S64.size a)
theorem k0_idx85_inb : ∀ (v491 : IVec S16 32) (k0_hw43 : k0_chk43 v491), ∀ a x, ((![v491] : Fin 1 → IVec S16 32) a x).toNat < S64.size a := fun v491 k0_hw43 => k0_hw43.1
theorem k0_idx86_inb : ∀ (v491 : IVec S16 32) (k0_hw43 : k0_chk43 v491), ∀ a x, ((![v491] : Fin 1 → IVec S16 32) a x).toNat < S64.size a := fun v491 k0_hw43 => k0_hw43.2

def k0_chk44 (v501 : IVec S16 32) : Prop :=
  (∀ a x, ((![v501] : Fin 1 → IVec S16 32) a x).toNat < S64.size a) ∧
  (∀ a x, ((![v501] : Fin 1 → IVec S16 32) a x).toNat < S64.size a)
theorem k0_idx87_inb : ∀ (v501 : IVec S16 32) (k0_hw44 : k0_chk44 v501), ∀ a x, ((![v501] : Fin 1 → IVec S16 32) a x).toNat < S64.size a := fun v501 k0_hw44 => k0_hw44.1
theorem k0_idx88_inb : ∀ (v501 : IVec S16 32) (k0_hw44 : k0_chk44 v501), ∀ a x, ((![v501] : Fin 1 → IVec S16 32) a x).toNat < S64.size a := fun v501 k0_hw44 => k0_hw44.2

def k0_chk45 (v511 : IVec S16 32) : Prop :=
  (∀ a x, ((![v511] : Fin 1 → IVec S16 32) a x).toNat < S64.size a) ∧
  (∀ a x, ((![v511] : Fin 1 → IVec S16 32) a x).toNat < S64.size a)
theorem k0_idx89_inb : ∀ (v511 : IVec S16 32) (k0_hw45 : k0_chk45 v511), ∀ a x, ((![v511] : Fin 1 → IVec S16 32) a x).toNat < S64.size a := fun v511 k0_hw45 => k0_hw45.1
theorem k0_idx90_inb : ∀ (v511 : IVec S16 32) (k0_hw45 : k0_chk45 v511), ∀ a x, ((![v511] : Fin 1 → IVec S16 32) a x).toNat < S64.size a := fun v511 k0_hw45 => k0_hw45.2

def k0_chk46 (v521 : IVec S16 32) : Prop :=
  (∀ a x, ((![v521] : Fin 1 → IVec S16 32) a x).toNat < S64.size a) ∧
  (∀ a x, ((![v521] : Fin 1 → IVec S16 32) a x).toNat < S64.size a)
theorem k0_idx91_inb : ∀ (v521 : IVec S16 32) (k0_hw46 : k0_chk46 v521), ∀ a x, ((![v521] : Fin 1 → IVec S16 32) a x).toNat < S64.size a := fun v521 k0_hw46 => k0_hw46.1
theorem k0_idx92_inb : ∀ (v521 : IVec S16 32) (k0_hw46 : k0_chk46 v521), ∀ a x, ((![v521] : Fin 1 → IVec S16 32) a x).toNat < S64.size a := fun v521 k0_hw46 => k0_hw46.2

def k0_chk47 (v531 : IVec S16 32) : Prop :=
  (∀ a x, ((![v531] : Fin 1 → IVec S16 32) a x).toNat < S64.size a) ∧
  (∀ a x, ((![v531] : Fin 1 → IVec S16 32) a x).toNat < S64.size a)
theorem k0_idx93_inb : ∀ (v531 : IVec S16 32) (k0_hw47 : k0_chk47 v531), ∀ a x, ((![v531] : Fin 1 → IVec S16 32) a x).toNat < S64.size a := fun v531 k0_hw47 => k0_hw47.1
theorem k0_idx94_inb : ∀ (v531 : IVec S16 32) (k0_hw47 : k0_chk47 v531), ∀ a x, ((![v531] : Fin 1 → IVec S16 32) a x).toNat < S64.size a := fun v531 k0_hw47 => k0_hw47.2

def k0_chk48 (v541 : IVec S16 32) : Prop :=
  (∀ a x, ((![v541] : Fin 1 → IVec S16 32) a x).toNat < S64.size a) ∧
  (∀ a x, ((![v541] : Fin 1 → IVec S16 32) a x).toNat < S64.size a)
theorem k0_idx95_inb : ∀ (v541 : IVec S16 32) (k0_hw48 : k0_chk48 v541), ∀ a x, ((![v541] : Fin 1 → IVec S16 32) a x).toNat < S64.size a := fun v541 k0_hw48 => k0_hw48.1
theorem k0_idx96_inb : ∀ (v541 : IVec S16 32) (k0_hw48 : k0_chk48 v541), ∀ a x, ((![v541] : Fin 1 → IVec S16 32) a x).toNat < S64.size a := fun v541 k0_hw48 => k0_hw48.2

def k0_chk49 (v551 : IVec S16 32) : Prop :=
  (∀ a x, ((![v551] : Fin 1 → IVec S16 32) a x).toNat < S64.size a) ∧
  (∀ a x, ((![v551] : Fin 1 → IVec S16 32) a x).toNat < S64.size a)
theorem k0_idx97_inb : ∀ (v551 : IVec S16 32) (k0_hw49 : k0_chk49 v551), ∀ a x, ((![v551] : Fin 1 → IVec S16 32) a x).toNat < S64.size a := fun v551 k0_hw49 => k0_hw49.1
theorem k0_idx98_inb : ∀ (v551 : IVec S16 32) (k0_hw49 : k0_chk49 v551), ∀ a x, ((![v551] : Fin 1 → IVec S16 32) a x).toNat < S64.size a := fun v551 k0_hw49 => k0_hw49.2

def k0_chk50 (v561 : IVec S16 32) : Prop :=
  (∀ a x, ((![v561] : Fin 1 → IVec S16 32) a x).toNat < S64.size a) ∧
  (∀ a x, ((![v561] : Fin 1 → IVec S16 32) a x).toNat < S64.size a)
theorem k0_idx99_inb : ∀ (v561 : IVec S16 32) (k0_hw50 : k0_chk50 v561), ∀ a x, ((![v561] : Fin 1 → IVec S16 32) a x).toNat < S64.size a := fun v561 k0_hw50 => k0_hw50.1
theorem k0_idx100_inb : ∀ (v561 : IVec S16 32) (k0_hw50 : k0_chk50 v561), ∀ a x, ((![v561] : Fin 1 → IVec S16 32) a x).toNat < S64.size a := fun v561 k0_hw50 => k0_hw50.2

def k0_chk51 (v571 : IVec S16 32) : Prop :=
  (∀ a x, ((![v571] : Fin 1 → IVec S16 32) a x).toNat < S64.size a) ∧
  (∀ a x, ((![v571] : Fin 1 → IVec S16 32) a x).toNat < S64.size a)
theorem k0_idx101_inb : ∀ (v571 : IVec S16 32) (k0_hw51 : k0_chk51 v571), ∀ a x, ((![v571] : Fin 1 → IVec S16 32) a x).toNat < S64.size a := fun v571 k0_hw51 => k0_hw51.1
theorem k0_idx102_inb : ∀ (v571 : IVec S16 32) (k0_hw51 : k0_chk51 v571), ∀ a x, ((![v571] : Fin 1 → IVec S16 32) a x).toNat < S64.size a := fun v571 k0_hw51 => k0_hw51.2

def k0_chk52 (v581 : IVec S16 32) : Prop :=
  (∀ a x, ((![v581] : Fin 1 → IVec S16 32) a x).toNat < S64.size a) ∧
  (∀ a x, ((![v581] : Fin 1 → IVec S16 32) a x).toNat < S64.size a)
theorem k0_idx103_inb : ∀ (v581 : IVec S16 32) (k0_hw52 : k0_chk52 v581), ∀ a x, ((![v581] : Fin 1 → IVec S16 32) a x).toNat < S64.size a := fun v581 k0_hw52 => k0_hw52.1
theorem k0_idx104_inb : ∀ (v581 : IVec S16 32) (k0_hw52 : k0_chk52 v581), ∀ a x, ((![v581] : Fin 1 → IVec S16 32) a x).toNat < S64.size a := fun v581 k0_hw52 => k0_hw52.2

def k0_chk53 (v591 : IVec S16 32) : Prop :=
  (∀ a x, ((![v591] : Fin 1 → IVec S16 32) a x).toNat < S64.size a) ∧
  (∀ a x, ((![v591] : Fin 1 → IVec S16 32) a x).toNat < S64.size a)
theorem k0_idx105_inb : ∀ (v591 : IVec S16 32) (k0_hw53 : k0_chk53 v591), ∀ a x, ((![v591] : Fin 1 → IVec S16 32) a x).toNat < S64.size a := fun v591 k0_hw53 => k0_hw53.1
theorem k0_idx106_inb : ∀ (v591 : IVec S16 32) (k0_hw53 : k0_chk53 v591), ∀ a x, ((![v591] : Fin 1 → IVec S16 32) a x).toNat < S64.size a := fun v591 k0_hw53 => k0_hw53.2

def k0_chk54 (v601 : IVec S16 32) : Prop :=
  (∀ a x, ((![v601] : Fin 1 → IVec S16 32) a x).toNat < S64.size a) ∧
  (∀ a x, ((![v601] : Fin 1 → IVec S16 32) a x).toNat < S64.size a)
theorem k0_idx107_inb : ∀ (v601 : IVec S16 32) (k0_hw54 : k0_chk54 v601), ∀ a x, ((![v601] : Fin 1 → IVec S16 32) a x).toNat < S64.size a := fun v601 k0_hw54 => k0_hw54.1
theorem k0_idx108_inb : ∀ (v601 : IVec S16 32) (k0_hw54 : k0_chk54 v601), ∀ a x, ((![v601] : Fin 1 → IVec S16 32) a x).toNat < S64.size a := fun v601 k0_hw54 => k0_hw54.2

def k0_chk55 (v611 : IVec S16 32) : Prop :=
  (∀ a x, ((![v611] : Fin 1 → IVec S16 32) a x).toNat < S64.size a) ∧
  (∀ a x, ((![v611] : Fin 1 → IVec S16 32) a x).toNat < S64.size a)
theorem k0_idx109_inb : ∀ (v611 : IVec S16 32) (k0_hw55 : k0_chk55 v611), ∀ a x, ((![v611] : Fin 1 → IVec S16 32) a x).toNat < S64.size a := fun v611 k0_hw55 => k0_hw55.1
theorem k0_idx110_inb : ∀ (v611 : IVec S16 32) (k0_hw55 : k0_chk55 v611), ∀ a x, ((![v611] : Fin 1 → IVec S16 32) a x).toNat < S64.size a := fun v611 k0_hw55 => k0_hw55.2

def k0_chk56 (v621 : IVec S16 32) : Prop :=
  (∀ a x, ((![v621] : Fin 1 → IVec S16 32) a x).toNat < S64.size a) ∧
  (∀ a x, ((![v621] : Fin 1 → IVec S16 32) a x).toNat < S64.size a)
theorem k0_idx111_inb : ∀ (v621 : IVec S16 32) (k0_hw56 : k0_chk56 v621), ∀ a x, ((![v621] : Fin 1 → IVec S16 32) a x).toNat < S64.size a := fun v621 k0_hw56 => k0_hw56.1
theorem k0_idx112_inb : ∀ (v621 : IVec S16 32) (k0_hw56 : k0_chk56 v621), ∀ a x, ((![v621] : Fin 1 → IVec S16 32) a x).toNat < S64.size a := fun v621 k0_hw56 => k0_hw56.2

def k0_chk57 (v631 : IVec S16 32) : Prop :=
  (∀ a x, ((![v631] : Fin 1 → IVec S16 32) a x).toNat < S64.size a) ∧
  (∀ a x, ((![v631] : Fin 1 → IVec S16 32) a x).toNat < S64.size a)
theorem k0_idx113_inb : ∀ (v631 : IVec S16 32) (k0_hw57 : k0_chk57 v631), ∀ a x, ((![v631] : Fin 1 → IVec S16 32) a x).toNat < S64.size a := fun v631 k0_hw57 => k0_hw57.1
theorem k0_idx114_inb : ∀ (v631 : IVec S16 32) (k0_hw57 : k0_chk57 v631), ∀ a x, ((![v631] : Fin 1 → IVec S16 32) a x).toNat < S64.size a := fun v631 k0_hw57 => k0_hw57.2

def k0_chk58 (v641 : IVec S16 32) : Prop :=
  (∀ a x, ((![v641] : Fin 1 → IVec S16 32) a x).toNat < S64.size a) ∧
  (∀ a x, ((![v641] : Fin 1 → IVec S16 32) a x).toNat < S64.size a)
theorem k0_idx115_inb : ∀ (v641 : IVec S16 32) (k0_hw58 : k0_chk58 v641), ∀ a x, ((![v641] : Fin 1 → IVec S16 32) a x).toNat < S64.size a := fun v641 k0_hw58 => k0_hw58.1
theorem k0_idx116_inb : ∀ (v641 : IVec S16 32) (k0_hw58 : k0_chk58 v641), ∀ a x, ((![v641] : Fin 1 → IVec S16 32) a x).toNat < S64.size a := fun v641 k0_hw58 => k0_hw58.2

def k0_chk59 (v651 : IVec S16 32) : Prop :=
  (∀ a x, ((![v651] : Fin 1 → IVec S16 32) a x).toNat < S64.size a) ∧
  (∀ a x, ((![v651] : Fin 1 → IVec S16 32) a x).toNat < S64.size a)
theorem k0_idx117_inb : ∀ (v651 : IVec S16 32) (k0_hw59 : k0_chk59 v651), ∀ a x, ((![v651] : Fin 1 → IVec S16 32) a x).toNat < S64.size a := fun v651 k0_hw59 => k0_hw59.1
theorem k0_idx118_inb : ∀ (v651 : IVec S16 32) (k0_hw59 : k0_chk59 v651), ∀ a x, ((![v651] : Fin 1 → IVec S16 32) a x).toNat < S64.size a := fun v651 k0_hw59 => k0_hw59.2

def k0_chk60 (v661 : IVec S16 32) : Prop :=
  (∀ a x, ((![v661] : Fin 1 → IVec S16 32) a x).toNat < S64.size a) ∧
  (∀ a x, ((![v661] : Fin 1 → IVec S16 32) a x).toNat < S64.size a)
theorem k0_idx119_inb : ∀ (v661 : IVec S16 32) (k0_hw60 : k0_chk60 v661), ∀ a x, ((![v661] : Fin 1 → IVec S16 32) a x).toNat < S64.size a := fun v661 k0_hw60 => k0_hw60.1
theorem k0_idx120_inb : ∀ (v661 : IVec S16 32) (k0_hw60 : k0_chk60 v661), ∀ a x, ((![v661] : Fin 1 → IVec S16 32) a x).toNat < S64.size a := fun v661 k0_hw60 => k0_hw60.2

def k0_chk61 (v671 : IVec S16 32) : Prop :=
  (∀ a x, ((![v671] : Fin 1 → IVec S16 32) a x).toNat < S64.size a) ∧
  (∀ a x, ((![v671] : Fin 1 → IVec S16 32) a x).toNat < S64.size a)
theorem k0_idx121_inb : ∀ (v671 : IVec S16 32) (k0_hw61 : k0_chk61 v671), ∀ a x, ((![v671] : Fin 1 → IVec S16 32) a x).toNat < S64.size a := fun v671 k0_hw61 => k0_hw61.1
theorem k0_idx122_inb : ∀ (v671 : IVec S16 32) (k0_hw61 : k0_chk61 v671), ∀ a x, ((![v671] : Fin 1 → IVec S16 32) a x).toNat < S64.size a := fun v671 k0_hw61 => k0_hw61.2

def k0_chk62 (v681 : IVec S16 32) : Prop :=
  (∀ a x, ((![v681] : Fin 1 → IVec S16 32) a x).toNat < S64.size a) ∧
  (∀ a x, ((![v681] : Fin 1 → IVec S16 32) a x).toNat < S64.size a)
theorem k0_idx123_inb : ∀ (v681 : IVec S16 32) (k0_hw62 : k0_chk62 v681), ∀ a x, ((![v681] : Fin 1 → IVec S16 32) a x).toNat < S64.size a := fun v681 k0_hw62 => k0_hw62.1
theorem k0_idx124_inb : ∀ (v681 : IVec S16 32) (k0_hw62 : k0_chk62 v681), ∀ a x, ((![v681] : Fin 1 → IVec S16 32) a x).toNat < S64.size a := fun v681 k0_hw62 => k0_hw62.2

def k0_chk63 (v691 : IVec S16 32) : Prop :=
  (∀ a x, ((![v691] : Fin 1 → IVec S16 32) a x).toNat < S64.size a) ∧
  (∀ a x, ((![v691] : Fin 1 → IVec S16 32) a x).toNat < S64.size a)
theorem k0_idx125_inb : ∀ (v691 : IVec S16 32) (k0_hw63 : k0_chk63 v691), ∀ a x, ((![v691] : Fin 1 → IVec S16 32) a x).toNat < S64.size a := fun v691 k0_hw63 => k0_hw63.1
theorem k0_idx126_inb : ∀ (v691 : IVec S16 32) (k0_hw63 : k0_chk63 v691), ∀ a x, ((![v691] : Fin 1 → IVec S16 32) a x).toNat < S64.size a := fun v691 k0_hw63 => k0_hw63.2

def k0_chk64 (v701 : IVec S16 32) : Prop :=
  (∀ a x, ((![v701] : Fin 1 → IVec S16 32) a x).toNat < S64.size a) ∧
  (∀ a x, ((![v701] : Fin 1 → IVec S16 32) a x).toNat < S64.size a)
theorem k0_idx127_inb : ∀ (v701 : IVec S16 32) (k0_hw64 : k0_chk64 v701), ∀ a x, ((![v701] : Fin 1 → IVec S16 32) a x).toNat < S64.size a := fun v701 k0_hw64 => k0_hw64.1
theorem k0_idx128_inb : ∀ (v701 : IVec S16 32) (k0_hw64 : k0_chk64 v701), ∀ a x, ((![v701] : Fin 1 → IVec S16 32) a x).toNat < S64.size a := fun v701 k0_hw64 => k0_hw64.2

def k0_chk65 (v711 : IVec S16 32) : Prop :=
  (∀ a x, ((![v711] : Fin 1 → IVec S16 32) a x).toNat < S64.size a) ∧
  (∀ a x, ((![v711] : Fin 1 → IVec S16 32) a x).toNat < S64.size a)
theorem k0_idx129_inb : ∀ (v711 : IVec S16 32) (k0_hw65 : k0_chk65 v711), ∀ a x, ((![v711] : Fin 1 → IVec S16 32) a x).toNat < S64.size a := fun v711 k0_hw65 => k0_hw65.1
theorem k0_idx130_inb : ∀ (v711 : IVec S16 32) (k0_hw65 : k0_chk65 v711), ∀ a x, ((![v711] : Fin 1 → IVec S16 32) a x).toNat < S64.size a := fun v711 k0_hw65 => k0_hw65.2

def k0_chk66 (v721 : IVec S16 32) : Prop :=
  (∀ a x, ((![v721] : Fin 1 → IVec S16 32) a x).toNat < S64.size a) ∧
  (∀ a x, ((![v721] : Fin 1 → IVec S16 32) a x).toNat < S64.size a)
theorem k0_idx131_inb : ∀ (v721 : IVec S16 32) (k0_hw66 : k0_chk66 v721), ∀ a x, ((![v721] : Fin 1 → IVec S16 32) a x).toNat < S64.size a := fun v721 k0_hw66 => k0_hw66.1
theorem k0_idx132_inb : ∀ (v721 : IVec S16 32) (k0_hw66 : k0_chk66 v721), ∀ a x, ((![v721] : Fin 1 → IVec S16 32) a x).toNat < S64.size a := fun v721 k0_hw66 => k0_hw66.2

def k0_chk67 (v731 : IVec S16 32) : Prop :=
  (∀ a x, ((![v731] : Fin 1 → IVec S16 32) a x).toNat < S64.size a) ∧
  (∀ a x, ((![v731] : Fin 1 → IVec S16 32) a x).toNat < S64.size a)
theorem k0_idx133_inb : ∀ (v731 : IVec S16 32) (k0_hw67 : k0_chk67 v731), ∀ a x, ((![v731] : Fin 1 → IVec S16 32) a x).toNat < S64.size a := fun v731 k0_hw67 => k0_hw67.1
theorem k0_idx134_inb : ∀ (v731 : IVec S16 32) (k0_hw67 : k0_chk67 v731), ∀ a x, ((![v731] : Fin 1 → IVec S16 32) a x).toNat < S64.size a := fun v731 k0_hw67 => k0_hw67.2

def k0_chk68 (v741 : IVec S16 32) : Prop :=
  (∀ a x, ((![v741] : Fin 1 → IVec S16 32) a x).toNat < S64.size a) ∧
  (∀ a x, ((![v741] : Fin 1 → IVec S16 32) a x).toNat < S64.size a)
theorem k0_idx135_inb : ∀ (v741 : IVec S16 32) (k0_hw68 : k0_chk68 v741), ∀ a x, ((![v741] : Fin 1 → IVec S16 32) a x).toNat < S64.size a := fun v741 k0_hw68 => k0_hw68.1
theorem k0_idx136_inb : ∀ (v741 : IVec S16 32) (k0_hw68 : k0_chk68 v741), ∀ a x, ((![v741] : Fin 1 → IVec S16 32) a x).toNat < S64.size a := fun v741 k0_hw68 => k0_hw68.2

def k0_chk69 (v751 : IVec S16 32) : Prop :=
  (∀ a x, ((![v751] : Fin 1 → IVec S16 32) a x).toNat < S64.size a) ∧
  (∀ a x, ((![v751] : Fin 1 → IVec S16 32) a x).toNat < S64.size a)
theorem k0_idx137_inb : ∀ (v751 : IVec S16 32) (k0_hw69 : k0_chk69 v751), ∀ a x, ((![v751] : Fin 1 → IVec S16 32) a x).toNat < S64.size a := fun v751 k0_hw69 => k0_hw69.1
theorem k0_idx138_inb : ∀ (v751 : IVec S16 32) (k0_hw69 : k0_chk69 v751), ∀ a x, ((![v751] : Fin 1 → IVec S16 32) a x).toNat < S64.size a := fun v751 k0_hw69 => k0_hw69.2

def k0_chk70 (v761 : IVec S16 32) : Prop :=
  (∀ a x, ((![v761] : Fin 1 → IVec S16 32) a x).toNat < S64.size a) ∧
  (∀ a x, ((![v761] : Fin 1 → IVec S16 32) a x).toNat < S64.size a)
theorem k0_idx139_inb : ∀ (v761 : IVec S16 32) (k0_hw70 : k0_chk70 v761), ∀ a x, ((![v761] : Fin 1 → IVec S16 32) a x).toNat < S64.size a := fun v761 k0_hw70 => k0_hw70.1
theorem k0_idx140_inb : ∀ (v761 : IVec S16 32) (k0_hw70 : k0_chk70 v761), ∀ a x, ((![v761] : Fin 1 → IVec S16 32) a x).toNat < S64.size a := fun v761 k0_hw70 => k0_hw70.2

def k0_chk71 (v771 : IVec S16 32) : Prop :=
  (∀ a x, ((![v771] : Fin 1 → IVec S16 32) a x).toNat < S64.size a) ∧
  (∀ a x, ((![v771] : Fin 1 → IVec S16 32) a x).toNat < S64.size a)
theorem k0_idx141_inb : ∀ (v771 : IVec S16 32) (k0_hw71 : k0_chk71 v771), ∀ a x, ((![v771] : Fin 1 → IVec S16 32) a x).toNat < S64.size a := fun v771 k0_hw71 => k0_hw71.1
theorem k0_idx142_inb : ∀ (v771 : IVec S16 32) (k0_hw71 : k0_chk71 v771), ∀ a x, ((![v771] : Fin 1 → IVec S16 32) a x).toNat < S64.size a := fun v771 k0_hw71 => k0_hw71.2

def k0_chk72 (v781 : IVec S16 32) : Prop :=
  (∀ a x, ((![v781] : Fin 1 → IVec S16 32) a x).toNat < S64.size a) ∧
  (∀ a x, ((![v781] : Fin 1 → IVec S16 32) a x).toNat < S64.size a)
theorem k0_idx143_inb : ∀ (v781 : IVec S16 32) (k0_hw72 : k0_chk72 v781), ∀ a x, ((![v781] : Fin 1 → IVec S16 32) a x).toNat < S64.size a := fun v781 k0_hw72 => k0_hw72.1
theorem k0_idx144_inb : ∀ (v781 : IVec S16 32) (k0_hw72 : k0_chk72 v781), ∀ a x, ((![v781] : Fin 1 → IVec S16 32) a x).toNat < S64.size a := fun v781 k0_hw72 => k0_hw72.2

def k0_chk73 (v791 : IVec S16 32) : Prop :=
  (∀ a x, ((![v791] : Fin 1 → IVec S16 32) a x).toNat < S64.size a) ∧
  (∀ a x, ((![v791] : Fin 1 → IVec S16 32) a x).toNat < S64.size a)
theorem k0_idx145_inb : ∀ (v791 : IVec S16 32) (k0_hw73 : k0_chk73 v791), ∀ a x, ((![v791] : Fin 1 → IVec S16 32) a x).toNat < S64.size a := fun v791 k0_hw73 => k0_hw73.1
theorem k0_idx146_inb : ∀ (v791 : IVec S16 32) (k0_hw73 : k0_chk73 v791), ∀ a x, ((![v791] : Fin 1 → IVec S16 32) a x).toNat < S64.size a := fun v791 k0_hw73 => k0_hw73.2

def k0_chk74 (v801 : IVec S16 32) : Prop :=
  (∀ a x, ((![v801] : Fin 1 → IVec S16 32) a x).toNat < S64.size a) ∧
  (∀ a x, ((![v801] : Fin 1 → IVec S16 32) a x).toNat < S64.size a)
theorem k0_idx147_inb : ∀ (v801 : IVec S16 32) (k0_hw74 : k0_chk74 v801), ∀ a x, ((![v801] : Fin 1 → IVec S16 32) a x).toNat < S64.size a := fun v801 k0_hw74 => k0_hw74.1
theorem k0_idx148_inb : ∀ (v801 : IVec S16 32) (k0_hw74 : k0_chk74 v801), ∀ a x, ((![v801] : Fin 1 → IVec S16 32) a x).toNat < S64.size a := fun v801 k0_hw74 => k0_hw74.2

def k0_chk75 (v811 : IVec S16 32) : Prop :=
  (∀ a x, ((![v811] : Fin 1 → IVec S16 32) a x).toNat < S64.size a) ∧
  (∀ a x, ((![v811] : Fin 1 → IVec S16 32) a x).toNat < S64.size a)
theorem k0_idx149_inb : ∀ (v811 : IVec S16 32) (k0_hw75 : k0_chk75 v811), ∀ a x, ((![v811] : Fin 1 → IVec S16 32) a x).toNat < S64.size a := fun v811 k0_hw75 => k0_hw75.1
theorem k0_idx150_inb : ∀ (v811 : IVec S16 32) (k0_hw75 : k0_chk75 v811), ∀ a x, ((![v811] : Fin 1 → IVec S16 32) a x).toNat < S64.size a := fun v811 k0_hw75 => k0_hw75.2

def k0_chk76 (v821 : IVec S16 32) : Prop :=
  (∀ a x, ((![v821] : Fin 1 → IVec S16 32) a x).toNat < S64.size a) ∧
  (∀ a x, ((![v821] : Fin 1 → IVec S16 32) a x).toNat < S64.size a)
theorem k0_idx151_inb : ∀ (v821 : IVec S16 32) (k0_hw76 : k0_chk76 v821), ∀ a x, ((![v821] : Fin 1 → IVec S16 32) a x).toNat < S64.size a := fun v821 k0_hw76 => k0_hw76.1
theorem k0_idx152_inb : ∀ (v821 : IVec S16 32) (k0_hw76 : k0_chk76 v821), ∀ a x, ((![v821] : Fin 1 → IVec S16 32) a x).toNat < S64.size a := fun v821 k0_hw76 => k0_hw76.2

def k0_chk77 (v831 : IVec S16 32) : Prop :=
  (∀ a x, ((![v831] : Fin 1 → IVec S16 32) a x).toNat < S64.size a) ∧
  (∀ a x, ((![v831] : Fin 1 → IVec S16 32) a x).toNat < S64.size a)
theorem k0_idx153_inb : ∀ (v831 : IVec S16 32) (k0_hw77 : k0_chk77 v831), ∀ a x, ((![v831] : Fin 1 → IVec S16 32) a x).toNat < S64.size a := fun v831 k0_hw77 => k0_hw77.1
theorem k0_idx154_inb : ∀ (v831 : IVec S16 32) (k0_hw77 : k0_chk77 v831), ∀ a x, ((![v831] : Fin 1 → IVec S16 32) a x).toNat < S64.size a := fun v831 k0_hw77 => k0_hw77.2

def k0_chk78 (v841 : IVec S16 32) : Prop :=
  (∀ a x, ((![v841] : Fin 1 → IVec S16 32) a x).toNat < S64.size a) ∧
  (∀ a x, ((![v841] : Fin 1 → IVec S16 32) a x).toNat < S64.size a)
theorem k0_idx155_inb : ∀ (v841 : IVec S16 32) (k0_hw78 : k0_chk78 v841), ∀ a x, ((![v841] : Fin 1 → IVec S16 32) a x).toNat < S64.size a := fun v841 k0_hw78 => k0_hw78.1
theorem k0_idx156_inb : ∀ (v841 : IVec S16 32) (k0_hw78 : k0_chk78 v841), ∀ a x, ((![v841] : Fin 1 → IVec S16 32) a x).toNat < S64.size a := fun v841 k0_hw78 => k0_hw78.2

def k0_chk79 (v851 : IVec S16 32) : Prop :=
  (∀ a x, ((![v851] : Fin 1 → IVec S16 32) a x).toNat < S64.size a) ∧
  (∀ a x, ((![v851] : Fin 1 → IVec S16 32) a x).toNat < S64.size a)
theorem k0_idx157_inb : ∀ (v851 : IVec S16 32) (k0_hw79 : k0_chk79 v851), ∀ a x, ((![v851] : Fin 1 → IVec S16 32) a x).toNat < S64.size a := fun v851 k0_hw79 => k0_hw79.1
theorem k0_idx158_inb : ∀ (v851 : IVec S16 32) (k0_hw79 : k0_chk79 v851), ∀ a x, ((![v851] : Fin 1 → IVec S16 32) a x).toNat < S64.size a := fun v851 k0_hw79 => k0_hw79.2

def k0_chk80 (v861 : IVec S16 32) : Prop :=
  (∀ a x, ((![v861] : Fin 1 → IVec S16 32) a x).toNat < S64.size a) ∧
  (∀ a x, ((![v861] : Fin 1 → IVec S16 32) a x).toNat < S64.size a)
theorem k0_idx159_inb : ∀ (v861 : IVec S16 32) (k0_hw80 : k0_chk80 v861), ∀ a x, ((![v861] : Fin 1 → IVec S16 32) a x).toNat < S64.size a := fun v861 k0_hw80 => k0_hw80.1
theorem k0_idx160_inb : ∀ (v861 : IVec S16 32) (k0_hw80 : k0_chk80 v861), ∀ a x, ((![v861] : Fin 1 → IVec S16 32) a x).toNat < S64.size a := fun v861 k0_hw80 => k0_hw80.2

def k0_chk81 (v871 : IVec S16 32) : Prop :=
  (∀ a x, ((![v871] : Fin 1 → IVec S16 32) a x).toNat < S64.size a) ∧
  (∀ a x, ((![v871] : Fin 1 → IVec S16 32) a x).toNat < S64.size a)
theorem k0_idx161_inb : ∀ (v871 : IVec S16 32) (k0_hw81 : k0_chk81 v871), ∀ a x, ((![v871] : Fin 1 → IVec S16 32) a x).toNat < S64.size a := fun v871 k0_hw81 => k0_hw81.1
theorem k0_idx162_inb : ∀ (v871 : IVec S16 32) (k0_hw81 : k0_chk81 v871), ∀ a x, ((![v871] : Fin 1 → IVec S16 32) a x).toNat < S64.size a := fun v871 k0_hw81 => k0_hw81.2

def k0_chk82 (v881 : IVec S16 32) : Prop :=
  (∀ a x, ((![v881] : Fin 1 → IVec S16 32) a x).toNat < S64.size a) ∧
  (∀ a x, ((![v881] : Fin 1 → IVec S16 32) a x).toNat < S64.size a)
theorem k0_idx163_inb : ∀ (v881 : IVec S16 32) (k0_hw82 : k0_chk82 v881), ∀ a x, ((![v881] : Fin 1 → IVec S16 32) a x).toNat < S64.size a := fun v881 k0_hw82 => k0_hw82.1
theorem k0_idx164_inb : ∀ (v881 : IVec S16 32) (k0_hw82 : k0_chk82 v881), ∀ a x, ((![v881] : Fin 1 → IVec S16 32) a x).toNat < S64.size a := fun v881 k0_hw82 => k0_hw82.2

def k0_chk83 (v891 : IVec S16 32) : Prop :=
  (∀ a x, ((![v891] : Fin 1 → IVec S16 32) a x).toNat < S64.size a) ∧
  (∀ a x, ((![v891] : Fin 1 → IVec S16 32) a x).toNat < S64.size a)
theorem k0_idx165_inb : ∀ (v891 : IVec S16 32) (k0_hw83 : k0_chk83 v891), ∀ a x, ((![v891] : Fin 1 → IVec S16 32) a x).toNat < S64.size a := fun v891 k0_hw83 => k0_hw83.1
theorem k0_idx166_inb : ∀ (v891 : IVec S16 32) (k0_hw83 : k0_chk83 v891), ∀ a x, ((![v891] : Fin 1 → IVec S16 32) a x).toNat < S64.size a := fun v891 k0_hw83 => k0_hw83.2

def k0_chk84 (v901 : IVec S16 32) : Prop :=
  (∀ a x, ((![v901] : Fin 1 → IVec S16 32) a x).toNat < S64.size a) ∧
  (∀ a x, ((![v901] : Fin 1 → IVec S16 32) a x).toNat < S64.size a)
theorem k0_idx167_inb : ∀ (v901 : IVec S16 32) (k0_hw84 : k0_chk84 v901), ∀ a x, ((![v901] : Fin 1 → IVec S16 32) a x).toNat < S64.size a := fun v901 k0_hw84 => k0_hw84.1
theorem k0_idx168_inb : ∀ (v901 : IVec S16 32) (k0_hw84 : k0_chk84 v901), ∀ a x, ((![v901] : Fin 1 → IVec S16 32) a x).toNat < S64.size a := fun v901 k0_hw84 => k0_hw84.2

def k0_chk85 (v911 : IVec S16 32) : Prop :=
  (∀ a x, ((![v911] : Fin 1 → IVec S16 32) a x).toNat < S64.size a) ∧
  (∀ a x, ((![v911] : Fin 1 → IVec S16 32) a x).toNat < S64.size a)
theorem k0_idx169_inb : ∀ (v911 : IVec S16 32) (k0_hw85 : k0_chk85 v911), ∀ a x, ((![v911] : Fin 1 → IVec S16 32) a x).toNat < S64.size a := fun v911 k0_hw85 => k0_hw85.1
theorem k0_idx170_inb : ∀ (v911 : IVec S16 32) (k0_hw85 : k0_chk85 v911), ∀ a x, ((![v911] : Fin 1 → IVec S16 32) a x).toNat < S64.size a := fun v911 k0_hw85 => k0_hw85.2

def k0_chk86 (v921 : IVec S16 32) : Prop :=
  (∀ a x, ((![v921] : Fin 1 → IVec S16 32) a x).toNat < S64.size a) ∧
  (∀ a x, ((![v921] : Fin 1 → IVec S16 32) a x).toNat < S64.size a)
theorem k0_idx171_inb : ∀ (v921 : IVec S16 32) (k0_hw86 : k0_chk86 v921), ∀ a x, ((![v921] : Fin 1 → IVec S16 32) a x).toNat < S64.size a := fun v921 k0_hw86 => k0_hw86.1
theorem k0_idx172_inb : ∀ (v921 : IVec S16 32) (k0_hw86 : k0_chk86 v921), ∀ a x, ((![v921] : Fin 1 → IVec S16 32) a x).toNat < S64.size a := fun v921 k0_hw86 => k0_hw86.2

def k0_chk87 (v931 : IVec S16 32) : Prop :=
  (∀ a x, ((![v931] : Fin 1 → IVec S16 32) a x).toNat < S64.size a) ∧
  (∀ a x, ((![v931] : Fin 1 → IVec S16 32) a x).toNat < S64.size a)
theorem k0_idx173_inb : ∀ (v931 : IVec S16 32) (k0_hw87 : k0_chk87 v931), ∀ a x, ((![v931] : Fin 1 → IVec S16 32) a x).toNat < S64.size a := fun v931 k0_hw87 => k0_hw87.1
theorem k0_idx174_inb : ∀ (v931 : IVec S16 32) (k0_hw87 : k0_chk87 v931), ∀ a x, ((![v931] : Fin 1 → IVec S16 32) a x).toNat < S64.size a := fun v931 k0_hw87 => k0_hw87.2

def k0_chk88 (v941 : IVec S16 32) : Prop :=
  (∀ a x, ((![v941] : Fin 1 → IVec S16 32) a x).toNat < S64.size a) ∧
  (∀ a x, ((![v941] : Fin 1 → IVec S16 32) a x).toNat < S64.size a)
theorem k0_idx175_inb : ∀ (v941 : IVec S16 32) (k0_hw88 : k0_chk88 v941), ∀ a x, ((![v941] : Fin 1 → IVec S16 32) a x).toNat < S64.size a := fun v941 k0_hw88 => k0_hw88.1
theorem k0_idx176_inb : ∀ (v941 : IVec S16 32) (k0_hw88 : k0_chk88 v941), ∀ a x, ((![v941] : Fin 1 → IVec S16 32) a x).toNat < S64.size a := fun v941 k0_hw88 => k0_hw88.2

def k0_chk89 (v951 : IVec S16 32) : Prop :=
  (∀ a x, ((![v951] : Fin 1 → IVec S16 32) a x).toNat < S64.size a) ∧
  (∀ a x, ((![v951] : Fin 1 → IVec S16 32) a x).toNat < S64.size a)
theorem k0_idx177_inb : ∀ (v951 : IVec S16 32) (k0_hw89 : k0_chk89 v951), ∀ a x, ((![v951] : Fin 1 → IVec S16 32) a x).toNat < S64.size a := fun v951 k0_hw89 => k0_hw89.1
theorem k0_idx178_inb : ∀ (v951 : IVec S16 32) (k0_hw89 : k0_chk89 v951), ∀ a x, ((![v951] : Fin 1 → IVec S16 32) a x).toNat < S64.size a := fun v951 k0_hw89 => k0_hw89.2

def k0_chk90 (v961 : IVec S16 32) : Prop :=
  (∀ a x, ((![v961] : Fin 1 → IVec S16 32) a x).toNat < S64.size a) ∧
  (∀ a x, ((![v961] : Fin 1 → IVec S16 32) a x).toNat < S64.size a)
theorem k0_idx179_inb : ∀ (v961 : IVec S16 32) (k0_hw90 : k0_chk90 v961), ∀ a x, ((![v961] : Fin 1 → IVec S16 32) a x).toNat < S64.size a := fun v961 k0_hw90 => k0_hw90.1
theorem k0_idx180_inb : ∀ (v961 : IVec S16 32) (k0_hw90 : k0_chk90 v961), ∀ a x, ((![v961] : Fin 1 → IVec S16 32) a x).toNat < S64.size a := fun v961 k0_hw90 => k0_hw90.2

def k0_chk91 (v971 : IVec S16 32) : Prop :=
  (∀ a x, ((![v971] : Fin 1 → IVec S16 32) a x).toNat < S64.size a) ∧
  (∀ a x, ((![v971] : Fin 1 → IVec S16 32) a x).toNat < S64.size a)
theorem k0_idx181_inb : ∀ (v971 : IVec S16 32) (k0_hw91 : k0_chk91 v971), ∀ a x, ((![v971] : Fin 1 → IVec S16 32) a x).toNat < S64.size a := fun v971 k0_hw91 => k0_hw91.1
theorem k0_idx182_inb : ∀ (v971 : IVec S16 32) (k0_hw91 : k0_chk91 v971), ∀ a x, ((![v971] : Fin 1 → IVec S16 32) a x).toNat < S64.size a := fun v971 k0_hw91 => k0_hw91.2

def k0_chk92 (v981 : IVec S16 32) : Prop :=
  (∀ a x, ((![v981] : Fin 1 → IVec S16 32) a x).toNat < S64.size a) ∧
  (∀ a x, ((![v981] : Fin 1 → IVec S16 32) a x).toNat < S64.size a)
theorem k0_idx183_inb : ∀ (v981 : IVec S16 32) (k0_hw92 : k0_chk92 v981), ∀ a x, ((![v981] : Fin 1 → IVec S16 32) a x).toNat < S64.size a := fun v981 k0_hw92 => k0_hw92.1
theorem k0_idx184_inb : ∀ (v981 : IVec S16 32) (k0_hw92 : k0_chk92 v981), ∀ a x, ((![v981] : Fin 1 → IVec S16 32) a x).toNat < S64.size a := fun v981 k0_hw92 => k0_hw92.2

def k0_chk93 (v991 : IVec S16 32) : Prop :=
  (∀ a x, ((![v991] : Fin 1 → IVec S16 32) a x).toNat < S64.size a) ∧
  (∀ a x, ((![v991] : Fin 1 → IVec S16 32) a x).toNat < S64.size a)
theorem k0_idx185_inb : ∀ (v991 : IVec S16 32) (k0_hw93 : k0_chk93 v991), ∀ a x, ((![v991] : Fin 1 → IVec S16 32) a x).toNat < S64.size a := fun v991 k0_hw93 => k0_hw93.1
theorem k0_idx186_inb : ∀ (v991 : IVec S16 32) (k0_hw93 : k0_chk93 v991), ∀ a x, ((![v991] : Fin 1 → IVec S16 32) a x).toNat < S64.size a := fun v991 k0_hw93 => k0_hw93.2

def k0_chk94 (v1001 : IVec S16 32) : Prop :=
  (∀ a x, ((![v1001] : Fin 1 → IVec S16 32) a x).toNat < S64.size a) ∧
  (∀ a x, ((![v1001] : Fin 1 → IVec S16 32) a x).toNat < S64.size a)
theorem k0_idx187_inb : ∀ (v1001 : IVec S16 32) (k0_hw94 : k0_chk94 v1001), ∀ a x, ((![v1001] : Fin 1 → IVec S16 32) a x).toNat < S64.size a := fun v1001 k0_hw94 => k0_hw94.1
theorem k0_idx188_inb : ∀ (v1001 : IVec S16 32) (k0_hw94 : k0_chk94 v1001), ∀ a x, ((![v1001] : Fin 1 → IVec S16 32) a x).toNat < S64.size a := fun v1001 k0_hw94 => k0_hw94.2

def k0_chk95 (v1011 : IVec S16 32) : Prop :=
  (∀ a x, ((![v1011] : Fin 1 → IVec S16 32) a x).toNat < S64.size a) ∧
  (∀ a x, ((![v1011] : Fin 1 → IVec S16 32) a x).toNat < S64.size a)
theorem k0_idx189_inb : ∀ (v1011 : IVec S16 32) (k0_hw95 : k0_chk95 v1011), ∀ a x, ((![v1011] : Fin 1 → IVec S16 32) a x).toNat < S64.size a := fun v1011 k0_hw95 => k0_hw95.1
theorem k0_idx190_inb : ∀ (v1011 : IVec S16 32) (k0_hw95 : k0_chk95 v1011), ∀ a x, ((![v1011] : Fin 1 → IVec S16 32) a x).toNat < S64.size a := fun v1011 k0_hw95 => k0_hw95.2

def k0_chk96 (v1021 : IVec S16 32) : Prop :=
  (∀ a x, ((![v1021] : Fin 1 → IVec S16 32) a x).toNat < S64.size a) ∧
  (∀ a x, ((![v1021] : Fin 1 → IVec S16 32) a x).toNat < S64.size a)
theorem k0_idx191_inb : ∀ (v1021 : IVec S16 32) (k0_hw96 : k0_chk96 v1021), ∀ a x, ((![v1021] : Fin 1 → IVec S16 32) a x).toNat < S64.size a := fun v1021 k0_hw96 => k0_hw96.1
theorem k0_idx192_inb : ∀ (v1021 : IVec S16 32) (k0_hw96 : k0_chk96 v1021), ∀ a x, ((![v1021] : Fin 1 → IVec S16 32) a x).toNat < S64.size a := fun v1021 k0_hw96 => k0_hw96.2

def k0_chk97 (v1031 : IVec S16 32) : Prop :=
  (∀ a x, ((![v1031] : Fin 1 → IVec S16 32) a x).toNat < S64.size a) ∧
  (∀ a x, ((![v1031] : Fin 1 → IVec S16 32) a x).toNat < S64.size a)
theorem k0_idx193_inb : ∀ (v1031 : IVec S16 32) (k0_hw97 : k0_chk97 v1031), ∀ a x, ((![v1031] : Fin 1 → IVec S16 32) a x).toNat < S64.size a := fun v1031 k0_hw97 => k0_hw97.1
theorem k0_idx194_inb : ∀ (v1031 : IVec S16 32) (k0_hw97 : k0_chk97 v1031), ∀ a x, ((![v1031] : Fin 1 → IVec S16 32) a x).toNat < S64.size a := fun v1031 k0_hw97 => k0_hw97.2

def k0_chk98 (v1041 : IVec S16 32) : Prop :=
  (∀ a x, ((![v1041] : Fin 1 → IVec S16 32) a x).toNat < S64.size a) ∧
  (∀ a x, ((![v1041] : Fin 1 → IVec S16 32) a x).toNat < S64.size a)
theorem k0_idx195_inb : ∀ (v1041 : IVec S16 32) (k0_hw98 : k0_chk98 v1041), ∀ a x, ((![v1041] : Fin 1 → IVec S16 32) a x).toNat < S64.size a := fun v1041 k0_hw98 => k0_hw98.1
theorem k0_idx196_inb : ∀ (v1041 : IVec S16 32) (k0_hw98 : k0_chk98 v1041), ∀ a x, ((![v1041] : Fin 1 → IVec S16 32) a x).toNat < S64.size a := fun v1041 k0_hw98 => k0_hw98.2

def k0_chk99 (v1051 : IVec S16 32) : Prop :=
  (∀ a x, ((![v1051] : Fin 1 → IVec S16 32) a x).toNat < S64.size a) ∧
  (∀ a x, ((![v1051] : Fin 1 → IVec S16 32) a x).toNat < S64.size a)
theorem k0_idx197_inb : ∀ (v1051 : IVec S16 32) (k0_hw99 : k0_chk99 v1051), ∀ a x, ((![v1051] : Fin 1 → IVec S16 32) a x).toNat < S64.size a := fun v1051 k0_hw99 => k0_hw99.1
theorem k0_idx198_inb : ∀ (v1051 : IVec S16 32) (k0_hw99 : k0_chk99 v1051), ∀ a x, ((![v1051] : Fin 1 → IVec S16 32) a x).toNat < S64.size a := fun v1051 k0_hw99 => k0_hw99.2

def k0_chk100 (v1061 : IVec S16 32) : Prop :=
  (∀ a x, ((![v1061] : Fin 1 → IVec S16 32) a x).toNat < S64.size a) ∧
  (∀ a x, ((![v1061] : Fin 1 → IVec S16 32) a x).toNat < S64.size a)
theorem k0_idx199_inb : ∀ (v1061 : IVec S16 32) (k0_hw100 : k0_chk100 v1061), ∀ a x, ((![v1061] : Fin 1 → IVec S16 32) a x).toNat < S64.size a := fun v1061 k0_hw100 => k0_hw100.1
theorem k0_idx200_inb : ∀ (v1061 : IVec S16 32) (k0_hw100 : k0_chk100 v1061), ∀ a x, ((![v1061] : Fin 1 → IVec S16 32) a x).toNat < S64.size a := fun v1061 k0_hw100 => k0_hw100.2

def k0_chk101 (v1071 : IVec S16 32) : Prop :=
  (∀ a x, ((![v1071] : Fin 1 → IVec S16 32) a x).toNat < S64.size a) ∧
  (∀ a x, ((![v1071] : Fin 1 → IVec S16 32) a x).toNat < S64.size a)
theorem k0_idx201_inb : ∀ (v1071 : IVec S16 32) (k0_hw101 : k0_chk101 v1071), ∀ a x, ((![v1071] : Fin 1 → IVec S16 32) a x).toNat < S64.size a := fun v1071 k0_hw101 => k0_hw101.1
theorem k0_idx202_inb : ∀ (v1071 : IVec S16 32) (k0_hw101 : k0_chk101 v1071), ∀ a x, ((![v1071] : Fin 1 → IVec S16 32) a x).toNat < S64.size a := fun v1071 k0_hw101 => k0_hw101.2

def k0_chk102 (v1081 : IVec S16 32) : Prop :=
  (∀ a x, ((![v1081] : Fin 1 → IVec S16 32) a x).toNat < S64.size a) ∧
  (∀ a x, ((![v1081] : Fin 1 → IVec S16 32) a x).toNat < S64.size a)
theorem k0_idx203_inb : ∀ (v1081 : IVec S16 32) (k0_hw102 : k0_chk102 v1081), ∀ a x, ((![v1081] : Fin 1 → IVec S16 32) a x).toNat < S64.size a := fun v1081 k0_hw102 => k0_hw102.1
theorem k0_idx204_inb : ∀ (v1081 : IVec S16 32) (k0_hw102 : k0_chk102 v1081), ∀ a x, ((![v1081] : Fin 1 → IVec S16 32) a x).toNat < S64.size a := fun v1081 k0_hw102 => k0_hw102.2

def k0_chk103 (v1091 : IVec S16 32) : Prop :=
  (∀ a x, ((![v1091] : Fin 1 → IVec S16 32) a x).toNat < S64.size a) ∧
  (∀ a x, ((![v1091] : Fin 1 → IVec S16 32) a x).toNat < S64.size a)
theorem k0_idx205_inb : ∀ (v1091 : IVec S16 32) (k0_hw103 : k0_chk103 v1091), ∀ a x, ((![v1091] : Fin 1 → IVec S16 32) a x).toNat < S64.size a := fun v1091 k0_hw103 => k0_hw103.1
theorem k0_idx206_inb : ∀ (v1091 : IVec S16 32) (k0_hw103 : k0_chk103 v1091), ∀ a x, ((![v1091] : Fin 1 → IVec S16 32) a x).toNat < S64.size a := fun v1091 k0_hw103 => k0_hw103.2

def k0_chk104 (v1101 : IVec S16 32) : Prop :=
  (∀ a x, ((![v1101] : Fin 1 → IVec S16 32) a x).toNat < S64.size a) ∧
  (∀ a x, ((![v1101] : Fin 1 → IVec S16 32) a x).toNat < S64.size a)
theorem k0_idx207_inb : ∀ (v1101 : IVec S16 32) (k0_hw104 : k0_chk104 v1101), ∀ a x, ((![v1101] : Fin 1 → IVec S16 32) a x).toNat < S64.size a := fun v1101 k0_hw104 => k0_hw104.1
theorem k0_idx208_inb : ∀ (v1101 : IVec S16 32) (k0_hw104 : k0_chk104 v1101), ∀ a x, ((![v1101] : Fin 1 → IVec S16 32) a x).toNat < S64.size a := fun v1101 k0_hw104 => k0_hw104.2

def k0_chk105 (v1111 : IVec S16 32) : Prop :=
  (∀ a x, ((![v1111] : Fin 1 → IVec S16 32) a x).toNat < S64.size a) ∧
  (∀ a x, ((![v1111] : Fin 1 → IVec S16 32) a x).toNat < S64.size a)
theorem k0_idx209_inb : ∀ (v1111 : IVec S16 32) (k0_hw105 : k0_chk105 v1111), ∀ a x, ((![v1111] : Fin 1 → IVec S16 32) a x).toNat < S64.size a := fun v1111 k0_hw105 => k0_hw105.1
theorem k0_idx210_inb : ∀ (v1111 : IVec S16 32) (k0_hw105 : k0_chk105 v1111), ∀ a x, ((![v1111] : Fin 1 → IVec S16 32) a x).toNat < S64.size a := fun v1111 k0_hw105 => k0_hw105.2

def k0_chk106 (v1121 : IVec S16 32) : Prop :=
  (∀ a x, ((![v1121] : Fin 1 → IVec S16 32) a x).toNat < S64.size a) ∧
  (∀ a x, ((![v1121] : Fin 1 → IVec S16 32) a x).toNat < S64.size a)
theorem k0_idx211_inb : ∀ (v1121 : IVec S16 32) (k0_hw106 : k0_chk106 v1121), ∀ a x, ((![v1121] : Fin 1 → IVec S16 32) a x).toNat < S64.size a := fun v1121 k0_hw106 => k0_hw106.1
theorem k0_idx212_inb : ∀ (v1121 : IVec S16 32) (k0_hw106 : k0_chk106 v1121), ∀ a x, ((![v1121] : Fin 1 → IVec S16 32) a x).toNat < S64.size a := fun v1121 k0_hw106 => k0_hw106.2

def k0_chk107 (v1131 : IVec S16 32) : Prop :=
  (∀ a x, ((![v1131] : Fin 1 → IVec S16 32) a x).toNat < S64.size a) ∧
  (∀ a x, ((![v1131] : Fin 1 → IVec S16 32) a x).toNat < S64.size a)
theorem k0_idx213_inb : ∀ (v1131 : IVec S16 32) (k0_hw107 : k0_chk107 v1131), ∀ a x, ((![v1131] : Fin 1 → IVec S16 32) a x).toNat < S64.size a := fun v1131 k0_hw107 => k0_hw107.1
theorem k0_idx214_inb : ∀ (v1131 : IVec S16 32) (k0_hw107 : k0_chk107 v1131), ∀ a x, ((![v1131] : Fin 1 → IVec S16 32) a x).toNat < S64.size a := fun v1131 k0_hw107 => k0_hw107.2

def k0_chk108 (v1141 : IVec S16 32) : Prop :=
  (∀ a x, ((![v1141] : Fin 1 → IVec S16 32) a x).toNat < S64.size a) ∧
  (∀ a x, ((![v1141] : Fin 1 → IVec S16 32) a x).toNat < S64.size a)
theorem k0_idx215_inb : ∀ (v1141 : IVec S16 32) (k0_hw108 : k0_chk108 v1141), ∀ a x, ((![v1141] : Fin 1 → IVec S16 32) a x).toNat < S64.size a := fun v1141 k0_hw108 => k0_hw108.1
theorem k0_idx216_inb : ∀ (v1141 : IVec S16 32) (k0_hw108 : k0_chk108 v1141), ∀ a x, ((![v1141] : Fin 1 → IVec S16 32) a x).toNat < S64.size a := fun v1141 k0_hw108 => k0_hw108.2

def k0_chk109 (v1151 : IVec S16 32) : Prop :=
  (∀ a x, ((![v1151] : Fin 1 → IVec S16 32) a x).toNat < S64.size a) ∧
  (∀ a x, ((![v1151] : Fin 1 → IVec S16 32) a x).toNat < S64.size a)
theorem k0_idx217_inb : ∀ (v1151 : IVec S16 32) (k0_hw109 : k0_chk109 v1151), ∀ a x, ((![v1151] : Fin 1 → IVec S16 32) a x).toNat < S64.size a := fun v1151 k0_hw109 => k0_hw109.1
theorem k0_idx218_inb : ∀ (v1151 : IVec S16 32) (k0_hw109 : k0_chk109 v1151), ∀ a x, ((![v1151] : Fin 1 → IVec S16 32) a x).toNat < S64.size a := fun v1151 k0_hw109 => k0_hw109.2

def k0_chk110 (v1161 : IVec S16 32) : Prop :=
  (∀ a x, ((![v1161] : Fin 1 → IVec S16 32) a x).toNat < S64.size a) ∧
  (∀ a x, ((![v1161] : Fin 1 → IVec S16 32) a x).toNat < S64.size a)
theorem k0_idx219_inb : ∀ (v1161 : IVec S16 32) (k0_hw110 : k0_chk110 v1161), ∀ a x, ((![v1161] : Fin 1 → IVec S16 32) a x).toNat < S64.size a := fun v1161 k0_hw110 => k0_hw110.1
theorem k0_idx220_inb : ∀ (v1161 : IVec S16 32) (k0_hw110 : k0_chk110 v1161), ∀ a x, ((![v1161] : Fin 1 → IVec S16 32) a x).toNat < S64.size a := fun v1161 k0_hw110 => k0_hw110.2

def k0_chk111 (v1171 : IVec S16 32) : Prop :=
  (∀ a x, ((![v1171] : Fin 1 → IVec S16 32) a x).toNat < S64.size a) ∧
  (∀ a x, ((![v1171] : Fin 1 → IVec S16 32) a x).toNat < S64.size a)
theorem k0_idx221_inb : ∀ (v1171 : IVec S16 32) (k0_hw111 : k0_chk111 v1171), ∀ a x, ((![v1171] : Fin 1 → IVec S16 32) a x).toNat < S64.size a := fun v1171 k0_hw111 => k0_hw111.1
theorem k0_idx222_inb : ∀ (v1171 : IVec S16 32) (k0_hw111 : k0_chk111 v1171), ∀ a x, ((![v1171] : Fin 1 → IVec S16 32) a x).toNat < S64.size a := fun v1171 k0_hw111 => k0_hw111.2

def k0_chk112 (v1181 : IVec S16 32) : Prop :=
  (∀ a x, ((![v1181] : Fin 1 → IVec S16 32) a x).toNat < S64.size a) ∧
  (∀ a x, ((![v1181] : Fin 1 → IVec S16 32) a x).toNat < S64.size a)
theorem k0_idx223_inb : ∀ (v1181 : IVec S16 32) (k0_hw112 : k0_chk112 v1181), ∀ a x, ((![v1181] : Fin 1 → IVec S16 32) a x).toNat < S64.size a := fun v1181 k0_hw112 => k0_hw112.1
theorem k0_idx224_inb : ∀ (v1181 : IVec S16 32) (k0_hw112 : k0_chk112 v1181), ∀ a x, ((![v1181] : Fin 1 → IVec S16 32) a x).toNat < S64.size a := fun v1181 k0_hw112 => k0_hw112.2

def k0_chk113 (v1191 : IVec S16 32) : Prop :=
  (∀ a x, ((![v1191] : Fin 1 → IVec S16 32) a x).toNat < S64.size a) ∧
  (∀ a x, ((![v1191] : Fin 1 → IVec S16 32) a x).toNat < S64.size a)
theorem k0_idx225_inb : ∀ (v1191 : IVec S16 32) (k0_hw113 : k0_chk113 v1191), ∀ a x, ((![v1191] : Fin 1 → IVec S16 32) a x).toNat < S64.size a := fun v1191 k0_hw113 => k0_hw113.1
theorem k0_idx226_inb : ∀ (v1191 : IVec S16 32) (k0_hw113 : k0_chk113 v1191), ∀ a x, ((![v1191] : Fin 1 → IVec S16 32) a x).toNat < S64.size a := fun v1191 k0_hw113 => k0_hw113.2

def k0_chk114 (v1201 : IVec S16 32) : Prop :=
  (∀ a x, ((![v1201] : Fin 1 → IVec S16 32) a x).toNat < S64.size a) ∧
  (∀ a x, ((![v1201] : Fin 1 → IVec S16 32) a x).toNat < S64.size a)
theorem k0_idx227_inb : ∀ (v1201 : IVec S16 32) (k0_hw114 : k0_chk114 v1201), ∀ a x, ((![v1201] : Fin 1 → IVec S16 32) a x).toNat < S64.size a := fun v1201 k0_hw114 => k0_hw114.1
theorem k0_idx228_inb : ∀ (v1201 : IVec S16 32) (k0_hw114 : k0_chk114 v1201), ∀ a x, ((![v1201] : Fin 1 → IVec S16 32) a x).toNat < S64.size a := fun v1201 k0_hw114 => k0_hw114.2

def k0_chk115 (v1211 : IVec S16 32) : Prop :=
  (∀ a x, ((![v1211] : Fin 1 → IVec S16 32) a x).toNat < S64.size a) ∧
  (∀ a x, ((![v1211] : Fin 1 → IVec S16 32) a x).toNat < S64.size a)
theorem k0_idx229_inb : ∀ (v1211 : IVec S16 32) (k0_hw115 : k0_chk115 v1211), ∀ a x, ((![v1211] : Fin 1 → IVec S16 32) a x).toNat < S64.size a := fun v1211 k0_hw115 => k0_hw115.1
theorem k0_idx230_inb : ∀ (v1211 : IVec S16 32) (k0_hw115 : k0_chk115 v1211), ∀ a x, ((![v1211] : Fin 1 → IVec S16 32) a x).toNat < S64.size a := fun v1211 k0_hw115 => k0_hw115.2

def k0_chk116 (v1221 : IVec S16 32) : Prop :=
  (∀ a x, ((![v1221] : Fin 1 → IVec S16 32) a x).toNat < S64.size a) ∧
  (∀ a x, ((![v1221] : Fin 1 → IVec S16 32) a x).toNat < S64.size a)
theorem k0_idx231_inb : ∀ (v1221 : IVec S16 32) (k0_hw116 : k0_chk116 v1221), ∀ a x, ((![v1221] : Fin 1 → IVec S16 32) a x).toNat < S64.size a := fun v1221 k0_hw116 => k0_hw116.1
theorem k0_idx232_inb : ∀ (v1221 : IVec S16 32) (k0_hw116 : k0_chk116 v1221), ∀ a x, ((![v1221] : Fin 1 → IVec S16 32) a x).toNat < S64.size a := fun v1221 k0_hw116 => k0_hw116.2

def k0_chk117 (v1231 : IVec S16 32) : Prop :=
  (∀ a x, ((![v1231] : Fin 1 → IVec S16 32) a x).toNat < S64.size a) ∧
  (∀ a x, ((![v1231] : Fin 1 → IVec S16 32) a x).toNat < S64.size a)
theorem k0_idx233_inb : ∀ (v1231 : IVec S16 32) (k0_hw117 : k0_chk117 v1231), ∀ a x, ((![v1231] : Fin 1 → IVec S16 32) a x).toNat < S64.size a := fun v1231 k0_hw117 => k0_hw117.1
theorem k0_idx234_inb : ∀ (v1231 : IVec S16 32) (k0_hw117 : k0_chk117 v1231), ∀ a x, ((![v1231] : Fin 1 → IVec S16 32) a x).toNat < S64.size a := fun v1231 k0_hw117 => k0_hw117.2

def k0_chk118 (v1241 : IVec S16 32) : Prop :=
  (∀ a x, ((![v1241] : Fin 1 → IVec S16 32) a x).toNat < S64.size a) ∧
  (∀ a x, ((![v1241] : Fin 1 → IVec S16 32) a x).toNat < S64.size a)
theorem k0_idx235_inb : ∀ (v1241 : IVec S16 32) (k0_hw118 : k0_chk118 v1241), ∀ a x, ((![v1241] : Fin 1 → IVec S16 32) a x).toNat < S64.size a := fun v1241 k0_hw118 => k0_hw118.1
theorem k0_idx236_inb : ∀ (v1241 : IVec S16 32) (k0_hw118 : k0_chk118 v1241), ∀ a x, ((![v1241] : Fin 1 → IVec S16 32) a x).toNat < S64.size a := fun v1241 k0_hw118 => k0_hw118.2

def k0_chk119 (v1251 : IVec S16 32) : Prop :=
  (∀ a x, ((![v1251] : Fin 1 → IVec S16 32) a x).toNat < S64.size a) ∧
  (∀ a x, ((![v1251] : Fin 1 → IVec S16 32) a x).toNat < S64.size a)
theorem k0_idx237_inb : ∀ (v1251 : IVec S16 32) (k0_hw119 : k0_chk119 v1251), ∀ a x, ((![v1251] : Fin 1 → IVec S16 32) a x).toNat < S64.size a := fun v1251 k0_hw119 => k0_hw119.1
theorem k0_idx238_inb : ∀ (v1251 : IVec S16 32) (k0_hw119 : k0_chk119 v1251), ∀ a x, ((![v1251] : Fin 1 → IVec S16 32) a x).toNat < S64.size a := fun v1251 k0_hw119 => k0_hw119.2

def k0_chk120 (v1261 : IVec S16 32) : Prop :=
  (∀ a x, ((![v1261] : Fin 1 → IVec S16 32) a x).toNat < S64.size a) ∧
  (∀ a x, ((![v1261] : Fin 1 → IVec S16 32) a x).toNat < S64.size a)
theorem k0_idx239_inb : ∀ (v1261 : IVec S16 32) (k0_hw120 : k0_chk120 v1261), ∀ a x, ((![v1261] : Fin 1 → IVec S16 32) a x).toNat < S64.size a := fun v1261 k0_hw120 => k0_hw120.1
theorem k0_idx240_inb : ∀ (v1261 : IVec S16 32) (k0_hw120 : k0_chk120 v1261), ∀ a x, ((![v1261] : Fin 1 → IVec S16 32) a x).toNat < S64.size a := fun v1261 k0_hw120 => k0_hw120.2

def k0_chk121 (v1271 : IVec S16 32) : Prop :=
  (∀ a x, ((![v1271] : Fin 1 → IVec S16 32) a x).toNat < S64.size a) ∧
  (∀ a x, ((![v1271] : Fin 1 → IVec S16 32) a x).toNat < S64.size a)
theorem k0_idx241_inb : ∀ (v1271 : IVec S16 32) (k0_hw121 : k0_chk121 v1271), ∀ a x, ((![v1271] : Fin 1 → IVec S16 32) a x).toNat < S64.size a := fun v1271 k0_hw121 => k0_hw121.1
theorem k0_idx242_inb : ∀ (v1271 : IVec S16 32) (k0_hw121 : k0_chk121 v1271), ∀ a x, ((![v1271] : Fin 1 → IVec S16 32) a x).toNat < S64.size a := fun v1271 k0_hw121 => k0_hw121.2

def k0_chk122 (v1281 : IVec S16 32) : Prop :=
  (∀ a x, ((![v1281] : Fin 1 → IVec S16 32) a x).toNat < S64.size a) ∧
  (∀ a x, ((![v1281] : Fin 1 → IVec S16 32) a x).toNat < S64.size a)
theorem k0_idx243_inb : ∀ (v1281 : IVec S16 32) (k0_hw122 : k0_chk122 v1281), ∀ a x, ((![v1281] : Fin 1 → IVec S16 32) a x).toNat < S64.size a := fun v1281 k0_hw122 => k0_hw122.1
theorem k0_idx244_inb : ∀ (v1281 : IVec S16 32) (k0_hw122 : k0_chk122 v1281), ∀ a x, ((![v1281] : Fin 1 → IVec S16 32) a x).toNat < S64.size a := fun v1281 k0_hw122 => k0_hw122.2

def k0_chk123 (v1291 : IVec S16 32) : Prop :=
  (∀ a x, ((![v1291] : Fin 1 → IVec S16 32) a x).toNat < S64.size a) ∧
  (∀ a x, ((![v1291] : Fin 1 → IVec S16 32) a x).toNat < S64.size a)
theorem k0_idx245_inb : ∀ (v1291 : IVec S16 32) (k0_hw123 : k0_chk123 v1291), ∀ a x, ((![v1291] : Fin 1 → IVec S16 32) a x).toNat < S64.size a := fun v1291 k0_hw123 => k0_hw123.1
theorem k0_idx246_inb : ∀ (v1291 : IVec S16 32) (k0_hw123 : k0_chk123 v1291), ∀ a x, ((![v1291] : Fin 1 → IVec S16 32) a x).toNat < S64.size a := fun v1291 k0_hw123 => k0_hw123.2

def k0_chk124 (v1301 : IVec S16 32) : Prop :=
  (∀ a x, ((![v1301] : Fin 1 → IVec S16 32) a x).toNat < S64.size a) ∧
  (∀ a x, ((![v1301] : Fin 1 → IVec S16 32) a x).toNat < S64.size a)
theorem k0_idx247_inb : ∀ (v1301 : IVec S16 32) (k0_hw124 : k0_chk124 v1301), ∀ a x, ((![v1301] : Fin 1 → IVec S16 32) a x).toNat < S64.size a := fun v1301 k0_hw124 => k0_hw124.1
theorem k0_idx248_inb : ∀ (v1301 : IVec S16 32) (k0_hw124 : k0_chk124 v1301), ∀ a x, ((![v1301] : Fin 1 → IVec S16 32) a x).toNat < S64.size a := fun v1301 k0_hw124 => k0_hw124.2

def k0_chk125 (v1311 : IVec S16 32) : Prop :=
  (∀ a x, ((![v1311] : Fin 1 → IVec S16 32) a x).toNat < S64.size a) ∧
  (∀ a x, ((![v1311] : Fin 1 → IVec S16 32) a x).toNat < S64.size a)
theorem k0_idx249_inb : ∀ (v1311 : IVec S16 32) (k0_hw125 : k0_chk125 v1311), ∀ a x, ((![v1311] : Fin 1 → IVec S16 32) a x).toNat < S64.size a := fun v1311 k0_hw125 => k0_hw125.1
theorem k0_idx250_inb : ∀ (v1311 : IVec S16 32) (k0_hw125 : k0_chk125 v1311), ∀ a x, ((![v1311] : Fin 1 → IVec S16 32) a x).toNat < S64.size a := fun v1311 k0_hw125 => k0_hw125.2

def k0_chk126 (v1321 : IVec S16 32) : Prop :=
  (∀ a x, ((![v1321] : Fin 1 → IVec S16 32) a x).toNat < S64.size a) ∧
  (∀ a x, ((![v1321] : Fin 1 → IVec S16 32) a x).toNat < S64.size a)
theorem k0_idx251_inb : ∀ (v1321 : IVec S16 32) (k0_hw126 : k0_chk126 v1321), ∀ a x, ((![v1321] : Fin 1 → IVec S16 32) a x).toNat < S64.size a := fun v1321 k0_hw126 => k0_hw126.1
theorem k0_idx252_inb : ∀ (v1321 : IVec S16 32) (k0_hw126 : k0_chk126 v1321), ∀ a x, ((![v1321] : Fin 1 → IVec S16 32) a x).toNat < S64.size a := fun v1321 k0_hw126 => k0_hw126.2

def k0_chk127 (v1331 : IVec S16 32) : Prop :=
  (∀ a x, ((![v1331] : Fin 1 → IVec S16 32) a x).toNat < S64.size a) ∧
  (∀ a x, ((![v1331] : Fin 1 → IVec S16 32) a x).toNat < S64.size a)
theorem k0_idx253_inb : ∀ (v1331 : IVec S16 32) (k0_hw127 : k0_chk127 v1331), ∀ a x, ((![v1331] : Fin 1 → IVec S16 32) a x).toNat < S64.size a := fun v1331 k0_hw127 => k0_hw127.1
theorem k0_idx254_inb : ∀ (v1331 : IVec S16 32) (k0_hw127 : k0_chk127 v1331), ∀ a x, ((![v1331] : Fin 1 → IVec S16 32) a x).toNat < S64.size a := fun v1331 k0_hw127 => k0_hw127.2

def k0_chk128 (v1341 : IVec S16 32) : Prop :=
  (∀ a x, ((![v1341] : Fin 1 → IVec S16 32) a x).toNat < S64.size a) ∧
  (∀ a x, ((![v1341] : Fin 1 → IVec S16 32) a x).toNat < S64.size a)
theorem k0_idx255_inb : ∀ (v1341 : IVec S16 32) (k0_hw128 : k0_chk128 v1341), ∀ a x, ((![v1341] : Fin 1 → IVec S16 32) a x).toNat < S64.size a := fun v1341 k0_hw128 => k0_hw128.1
theorem k0_idx256_inb : ∀ (v1341 : IVec S16 32) (k0_hw128 : k0_chk128 v1341), ∀ a x, ((![v1341] : Fin 1 → IVec S16 32) a x).toNat < S64.size a := fun v1341 k0_hw128 => k0_hw128.2
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_1029 : BitVec 32 := 16#32
  let v1350 : BitVec 32 := Scalar.muli v1 c16_i32_1029
  let c0_i32_1030_r4 : BitVec 32 := 0#32
  ![v1350.toNat, 0]
abbrev grid1 : Pipeline.Grid := ⟨2, ![2, 16], ![false, false]⟩

@[reducible] def k1_t1_loop : Scf.Loop 32 :=
  let c0_i32_481 : BitVec 32 := 0#32
  let c8_i32_482 : BitVec 32 := 8#32
  let v1030 : BitVec 32 := Scalar.addi c0_i32_481 c8_i32_482
  let c1_i32_483 : BitVec 32 := 1#32
  ⟨c0_i32_481, v1030, c1_i32_483⟩
def k1_off1 (k1_t1 : Fin k1_t1_loop.trips) : Fin 2 → Nat :=
  let c0_i32_481 : BitVec 32 := 0#32
  let c1_i32_483 : BitVec 32 := 1#32
  let arg14 : BitVec 32 := Scf.iv c0_i32_481 c1_i32_483 k1_t1
  let c2_i32_494 : BitVec 32 := 2#32
  let v1036 : BitVec 32 := Scalar.muli arg14 c2_i32_494
  let c1_i32_495 : BitVec 32 := 1#32
  let v1037 : BitVec 32 := Scalar.addi v1036 c1_i32_495
  let c32_i32_496 : BitVec 32 := 32#32
  let v1038 : BitVec 32 := Scalar.muli v1037 c32_i32_496
  let c0_i32_497 : BitVec 32 := 0#32
  ![v1038.toNat, 0]

def k1_chk1 (v1053 : IVec S16 32) : Prop :=
  (∀ a x, ((![v1053] : Fin 1 → IVec S16 32) a x).toNat < S2048.size a)
theorem k1_idx1_inb : ∀ (v1053 : IVec S16 32) (k1_hw1 : k1_chk1 v1053), ∀ a x, ((![v1053] : Fin 1 → IVec S16 32) a x).toNat < S2048.size a := fun v1053 k1_hw1 => k1_hw1

def k1_chk2 (v1068 : IVec S16 32) : Prop :=
  (∀ a x, ((![v1068] : Fin 1 → IVec S16 32) a x).toNat < S2048.size a)
theorem k1_idx2_inb : ∀ (v1068 : IVec S16 32) (k1_hw2 : k1_chk2 v1068), ∀ a x, ((![v1068] : Fin 1 → IVec S16 32) a x).toNat < S2048.size a := fun v1068 k1_hw2 => k1_hw2

def k1_chk3 (v1083 : IVec S16 32) : Prop :=
  (∀ a x, ((![v1083] : Fin 1 → IVec S16 32) a x).toNat < S2048.size a)
theorem k1_idx3_inb : ∀ (v1083 : IVec S16 32) (k1_hw3 : k1_chk3 v1083), ∀ a x, ((![v1083] : Fin 1 → IVec S16 32) a x).toNat < S2048.size a := fun v1083 k1_hw3 => k1_hw3

def k1_chk4 (v1098 : IVec S16 32) : Prop :=
  (∀ a x, ((![v1098] : Fin 1 → IVec S16 32) a x).toNat < S2048.size a)
theorem k1_idx4_inb : ∀ (v1098 : IVec S16 32) (k1_hw4 : k1_chk4 v1098), ∀ a x, ((![v1098] : Fin 1 → IVec S16 32) a x).toNat < S2048.size a := fun v1098 k1_hw4 => k1_hw4

def k1_chk5 (v1113 : IVec S16 32) : Prop :=
  (∀ a x, ((![v1113] : Fin 1 → IVec S16 32) a x).toNat < S2048.size a)
theorem k1_idx5_inb : ∀ (v1113 : IVec S16 32) (k1_hw5 : k1_chk5 v1113), ∀ a x, ((![v1113] : Fin 1 → IVec S16 32) a x).toNat < S2048.size a := fun v1113 k1_hw5 => k1_hw5

def k1_chk6 (v1128 : IVec S16 32) : Prop :=
  (∀ a x, ((![v1128] : Fin 1 → IVec S16 32) a x).toNat < S2048.size a)
theorem k1_idx6_inb : ∀ (v1128 : IVec S16 32) (k1_hw6 : k1_chk6 v1128), ∀ a x, ((![v1128] : Fin 1 → IVec S16 32) a x).toNat < S2048.size a := fun v1128 k1_hw6 => k1_hw6

def k1_chk7 (v1143 : IVec S16 32) : Prop :=
  (∀ a x, ((![v1143] : Fin 1 → IVec S16 32) a x).toNat < S2048.size a)
theorem k1_idx7_inb : ∀ (v1143 : IVec S16 32) (k1_hw7 : k1_chk7 v1143), ∀ a x, ((![v1143] : Fin 1 → IVec S16 32) a x).toNat < S2048.size a := fun v1143 k1_hw7 => k1_hw7

def k1_chk8 (v1158 : IVec S16 32) : Prop :=
  (∀ a x, ((![v1158] : Fin 1 → IVec S16 32) a x).toNat < S2048.size a)
theorem k1_idx8_inb : ∀ (v1158 : IVec S16 32) (k1_hw8 : k1_chk8 v1158), ∀ a x, ((![v1158] : Fin 1 → IVec S16 32) a x).toNat < S2048.size a := fun v1158 k1_hw8 => k1_hw8

def k1_chk9 (v1173 : IVec S16 32) : Prop :=
  (∀ a x, ((![v1173] : Fin 1 → IVec S16 32) a x).toNat < S2048.size a)
theorem k1_idx9_inb : ∀ (v1173 : IVec S16 32) (k1_hw9 : k1_chk9 v1173), ∀ a x, ((![v1173] : Fin 1 → IVec S16 32) a x).toNat < S2048.size a := fun v1173 k1_hw9 => k1_hw9

def k1_chk10 (v1188 : IVec S16 32) : Prop :=
  (∀ a x, ((![v1188] : Fin 1 → IVec S16 32) a x).toNat < S2048.size a)
theorem k1_idx10_inb : ∀ (v1188 : IVec S16 32) (k1_hw10 : k1_chk10 v1188), ∀ a x, ((![v1188] : Fin 1 → IVec S16 32) a x).toNat < S2048.size a := fun v1188 k1_hw10 => k1_hw10

def k1_chk11 (v1203 : IVec S16 32) : Prop :=
  (∀ a x, ((![v1203] : Fin 1 → IVec S16 32) a x).toNat < S2048.size a)
theorem k1_idx11_inb : ∀ (v1203 : IVec S16 32) (k1_hw11 : k1_chk11 v1203), ∀ a x, ((![v1203] : Fin 1 → IVec S16 32) a x).toNat < S2048.size a := fun v1203 k1_hw11 => k1_hw11

def k1_chk12 (v1218 : IVec S16 32) : Prop :=
  (∀ a x, ((![v1218] : Fin 1 → IVec S16 32) a x).toNat < S2048.size a)
theorem k1_idx12_inb : ∀ (v1218 : IVec S16 32) (k1_hw12 : k1_chk12 v1218), ∀ a x, ((![v1218] : Fin 1 → IVec S16 32) a x).toNat < S2048.size a := fun v1218 k1_hw12 => k1_hw12

def k1_chk13 (v1233 : IVec S16 32) : Prop :=
  (∀ a x, ((![v1233] : Fin 1 → IVec S16 32) a x).toNat < S2048.size a)
theorem k1_idx13_inb : ∀ (v1233 : IVec S16 32) (k1_hw13 : k1_chk13 v1233), ∀ a x, ((![v1233] : Fin 1 → IVec S16 32) a x).toNat < S2048.size a := fun v1233 k1_hw13 => k1_hw13

def k1_chk14 (v1248 : IVec S16 32) : Prop :=
  (∀ a x, ((![v1248] : Fin 1 → IVec S16 32) a x).toNat < S2048.size a)
theorem k1_idx14_inb : ∀ (v1248 : IVec S16 32) (k1_hw14 : k1_chk14 v1248), ∀ a x, ((![v1248] : Fin 1 → IVec S16 32) a x).toNat < S2048.size a := fun v1248 k1_hw14 => k1_hw14

def k1_chk15 (v1263 : IVec S16 32) : Prop :=
  (∀ a x, ((![v1263] : Fin 1 → IVec S16 32) a x).toNat < S2048.size a)
theorem k1_idx15_inb : ∀ (v1263 : IVec S16 32) (k1_hw15 : k1_chk15 v1263), ∀ a x, ((![v1263] : Fin 1 → IVec S16 32) a x).toNat < S2048.size a := fun v1263 k1_hw15 => k1_hw15

def k1_chk16 (v1278 : IVec S16 32) : Prop :=
  (∀ a x, ((![v1278] : Fin 1 → IVec S16 32) a x).toNat < S2048.size a)
theorem k1_idx16_inb : ∀ (v1278 : IVec S16 32) (k1_hw16 : k1_chk16 v1278), ∀ a x, ((![v1278] : Fin 1 → IVec S16 32) a x).toNat < S2048.size a := fun v1278 k1_hw16 => k1_hw16

def k1_chk17 (v1293 : IVec S16 32) : Prop :=
  (∀ a x, ((![v1293] : Fin 1 → IVec S16 32) a x).toNat < S2048.size a)
theorem k1_idx17_inb : ∀ (v1293 : IVec S16 32) (k1_hw17 : k1_chk17 v1293), ∀ a x, ((![v1293] : Fin 1 → IVec S16 32) a x).toNat < S2048.size a := fun v1293 k1_hw17 => k1_hw17

def k1_chk18 (v1308 : IVec S16 32) : Prop :=
  (∀ a x, ((![v1308] : Fin 1 → IVec S16 32) a x).toNat < S2048.size a)
theorem k1_idx18_inb : ∀ (v1308 : IVec S16 32) (k1_hw18 : k1_chk18 v1308), ∀ a x, ((![v1308] : Fin 1 → IVec S16 32) a x).toNat < S2048.size a := fun v1308 k1_hw18 => k1_hw18

def k1_chk19 (v1323 : IVec S16 32) : Prop :=
  (∀ a x, ((![v1323] : Fin 1 → IVec S16 32) a x).toNat < S2048.size a)
theorem k1_idx19_inb : ∀ (v1323 : IVec S16 32) (k1_hw19 : k1_chk19 v1323), ∀ a x, ((![v1323] : Fin 1 → IVec S16 32) a x).toNat < S2048.size a := fun v1323 k1_hw19 => k1_hw19

def k1_chk20 (v1338 : IVec S16 32) : Prop :=
  (∀ a x, ((![v1338] : Fin 1 → IVec S16 32) a x).toNat < S2048.size a)
theorem k1_idx20_inb : ∀ (v1338 : IVec S16 32) (k1_hw20 : k1_chk20 v1338), ∀ a x, ((![v1338] : Fin 1 → IVec S16 32) a x).toNat < S2048.size a := fun v1338 k1_hw20 => k1_hw20

def k1_chk21 (v1353 : IVec S16 32) : Prop :=
  (∀ a x, ((![v1353] : Fin 1 → IVec S16 32) a x).toNat < S2048.size a)
theorem k1_idx21_inb : ∀ (v1353 : IVec S16 32) (k1_hw21 : k1_chk21 v1353), ∀ a x, ((![v1353] : Fin 1 → IVec S16 32) a x).toNat < S2048.size a := fun v1353 k1_hw21 => k1_hw21

def k1_chk22 (v1368 : IVec S16 32) : Prop :=
  (∀ a x, ((![v1368] : Fin 1 → IVec S16 32) a x).toNat < S2048.size a)
theorem k1_idx22_inb : ∀ (v1368 : IVec S16 32) (k1_hw22 : k1_chk22 v1368), ∀ a x, ((![v1368] : Fin 1 → IVec S16 32) a x).toNat < S2048.size a := fun v1368 k1_hw22 => k1_hw22

def k1_chk23 (v1383 : IVec S16 32) : Prop :=
  (∀ a x, ((![v1383] : Fin 1 → IVec S16 32) a x).toNat < S2048.size a)
theorem k1_idx23_inb : ∀ (v1383 : IVec S16 32) (k1_hw23 : k1_chk23 v1383), ∀ a x, ((![v1383] : Fin 1 → IVec S16 32) a x).toNat < S2048.size a := fun v1383 k1_hw23 => k1_hw23

def k1_chk24 (v1398 : IVec S16 32) : Prop :=
  (∀ a x, ((![v1398] : Fin 1 → IVec S16 32) a x).toNat < S2048.size a)
theorem k1_idx24_inb : ∀ (v1398 : IVec S16 32) (k1_hw24 : k1_chk24 v1398), ∀ a x, ((![v1398] : Fin 1 → IVec S16 32) a x).toNat < S2048.size a := fun v1398 k1_hw24 => k1_hw24

def k1_chk25 (v1413 : IVec S16 32) : Prop :=
  (∀ a x, ((![v1413] : Fin 1 → IVec S16 32) a x).toNat < S2048.size a)
theorem k1_idx25_inb : ∀ (v1413 : IVec S16 32) (k1_hw25 : k1_chk25 v1413), ∀ a x, ((![v1413] : Fin 1 → IVec S16 32) a x).toNat < S2048.size a := fun v1413 k1_hw25 => k1_hw25

def k1_chk26 (v1428 : IVec S16 32) : Prop :=
  (∀ a x, ((![v1428] : Fin 1 → IVec S16 32) a x).toNat < S2048.size a)
theorem k1_idx26_inb : ∀ (v1428 : IVec S16 32) (k1_hw26 : k1_chk26 v1428), ∀ a x, ((![v1428] : Fin 1 → IVec S16 32) a x).toNat < S2048.size a := fun v1428 k1_hw26 => k1_hw26

def k1_chk27 (v1443 : IVec S16 32) : Prop :=
  (∀ a x, ((![v1443] : Fin 1 → IVec S16 32) a x).toNat < S2048.size a)
theorem k1_idx27_inb : ∀ (v1443 : IVec S16 32) (k1_hw27 : k1_chk27 v1443), ∀ a x, ((![v1443] : Fin 1 → IVec S16 32) a x).toNat < S2048.size a := fun v1443 k1_hw27 => k1_hw27

def k1_chk28 (v1458 : IVec S16 32) : Prop :=
  (∀ a x, ((![v1458] : Fin 1 → IVec S16 32) a x).toNat < S2048.size a)
theorem k1_idx28_inb : ∀ (v1458 : IVec S16 32) (k1_hw28 : k1_chk28 v1458), ∀ a x, ((![v1458] : Fin 1 → IVec S16 32) a x).toNat < S2048.size a := fun v1458 k1_hw28 => k1_hw28

def k1_chk29 (v1473 : IVec S16 32) : Prop :=
  (∀ a x, ((![v1473] : Fin 1 → IVec S16 32) a x).toNat < S2048.size a)
theorem k1_idx29_inb : ∀ (v1473 : IVec S16 32) (k1_hw29 : k1_chk29 v1473), ∀ a x, ((![v1473] : Fin 1 → IVec S16 32) a x).toNat < S2048.size a := fun v1473 k1_hw29 => k1_hw29

def k1_chk30 (v1488 : IVec S16 32) : Prop :=
  (∀ a x, ((![v1488] : Fin 1 → IVec S16 32) a x).toNat < S2048.size a)
theorem k1_idx30_inb : ∀ (v1488 : IVec S16 32) (k1_hw30 : k1_chk30 v1488), ∀ a x, ((![v1488] : Fin 1 → IVec S16 32) a x).toNat < S2048.size a := fun v1488 k1_hw30 => k1_hw30

def k1_chk31 (v1503 : IVec S16 32) : Prop :=
  (∀ a x, ((![v1503] : Fin 1 → IVec S16 32) a x).toNat < S2048.size a)
theorem k1_idx31_inb : ∀ (v1503 : IVec S16 32) (k1_hw31 : k1_chk31 v1503), ∀ a x, ((![v1503] : Fin 1 → IVec S16 32) a x).toNat < S2048.size a := fun v1503 k1_hw31 => k1_hw31

def k1_chk32 (v1518 : IVec S16 32) : Prop :=
  (∀ a x, ((![v1518] : Fin 1 → IVec S16 32) a x).toNat < S2048.size a)
theorem k1_idx32_inb : ∀ (v1518 : IVec S16 32) (k1_hw32 : k1_chk32 v1518), ∀ a x, ((![v1518] : Fin 1 → IVec S16 32) a x).toNat < S2048.size a := fun v1518 k1_hw32 => k1_hw32

def k1_chk33 (v1533 : IVec S16 32) : Prop :=
  (∀ a x, ((![v1533] : Fin 1 → IVec S16 32) a x).toNat < S2048.size a)
theorem k1_idx33_inb : ∀ (v1533 : IVec S16 32) (k1_hw33 : k1_chk33 v1533), ∀ a x, ((![v1533] : Fin 1 → IVec S16 32) a x).toNat < S2048.size a := fun v1533 k1_hw33 => k1_hw33

def k1_chk34 (v1548 : IVec S16 32) : Prop :=
  (∀ a x, ((![v1548] : Fin 1 → IVec S16 32) a x).toNat < S2048.size a)
theorem k1_idx34_inb : ∀ (v1548 : IVec S16 32) (k1_hw34 : k1_chk34 v1548), ∀ a x, ((![v1548] : Fin 1 → IVec S16 32) a x).toNat < S2048.size a := fun v1548 k1_hw34 => k1_hw34

def k1_chk35 (v1563 : IVec S16 32) : Prop :=
  (∀ a x, ((![v1563] : Fin 1 → IVec S16 32) a x).toNat < S2048.size a)
theorem k1_idx35_inb : ∀ (v1563 : IVec S16 32) (k1_hw35 : k1_chk35 v1563), ∀ a x, ((![v1563] : Fin 1 → IVec S16 32) a x).toNat < S2048.size a := fun v1563 k1_hw35 => k1_hw35

def k1_chk36 (v1578 : IVec S16 32) : Prop :=
  (∀ a x, ((![v1578] : Fin 1 → IVec S16 32) a x).toNat < S2048.size a)
theorem k1_idx36_inb : ∀ (v1578 : IVec S16 32) (k1_hw36 : k1_chk36 v1578), ∀ a x, ((![v1578] : Fin 1 → IVec S16 32) a x).toNat < S2048.size a := fun v1578 k1_hw36 => k1_hw36

def k1_chk37 (v1593 : IVec S16 32) : Prop :=
  (∀ a x, ((![v1593] : Fin 1 → IVec S16 32) a x).toNat < S2048.size a)
theorem k1_idx37_inb : ∀ (v1593 : IVec S16 32) (k1_hw37 : k1_chk37 v1593), ∀ a x, ((![v1593] : Fin 1 → IVec S16 32) a x).toNat < S2048.size a := fun v1593 k1_hw37 => k1_hw37

def k1_chk38 (v1608 : IVec S16 32) : Prop :=
  (∀ a x, ((![v1608] : Fin 1 → IVec S16 32) a x).toNat < S2048.size a)
theorem k1_idx38_inb : ∀ (v1608 : IVec S16 32) (k1_hw38 : k1_chk38 v1608), ∀ a x, ((![v1608] : Fin 1 → IVec S16 32) a x).toNat < S2048.size a := fun v1608 k1_hw38 => k1_hw38

def k1_chk39 (v1623 : IVec S16 32) : Prop :=
  (∀ a x, ((![v1623] : Fin 1 → IVec S16 32) a x).toNat < S2048.size a)
theorem k1_idx39_inb : ∀ (v1623 : IVec S16 32) (k1_hw39 : k1_chk39 v1623), ∀ a x, ((![v1623] : Fin 1 → IVec S16 32) a x).toNat < S2048.size a := fun v1623 k1_hw39 => k1_hw39

def k1_chk40 (v1638 : IVec S16 32) : Prop :=
  (∀ a x, ((![v1638] : Fin 1 → IVec S16 32) a x).toNat < S2048.size a)
theorem k1_idx40_inb : ∀ (v1638 : IVec S16 32) (k1_hw40 : k1_chk40 v1638), ∀ a x, ((![v1638] : Fin 1 → IVec S16 32) a x).toNat < S2048.size a := fun v1638 k1_hw40 => k1_hw40

def k1_chk41 (v1653 : IVec S16 32) : Prop :=
  (∀ a x, ((![v1653] : Fin 1 → IVec S16 32) a x).toNat < S2048.size a)
theorem k1_idx41_inb : ∀ (v1653 : IVec S16 32) (k1_hw41 : k1_chk41 v1653), ∀ a x, ((![v1653] : Fin 1 → IVec S16 32) a x).toNat < S2048.size a := fun v1653 k1_hw41 => k1_hw41

def k1_chk42 (v1668 : IVec S16 32) : Prop :=
  (∀ a x, ((![v1668] : Fin 1 → IVec S16 32) a x).toNat < S2048.size a)
theorem k1_idx42_inb : ∀ (v1668 : IVec S16 32) (k1_hw42 : k1_chk42 v1668), ∀ a x, ((![v1668] : Fin 1 → IVec S16 32) a x).toNat < S2048.size a := fun v1668 k1_hw42 => k1_hw42

def k1_chk43 (v1683 : IVec S16 32) : Prop :=
  (∀ a x, ((![v1683] : Fin 1 → IVec S16 32) a x).toNat < S2048.size a)
theorem k1_idx43_inb : ∀ (v1683 : IVec S16 32) (k1_hw43 : k1_chk43 v1683), ∀ a x, ((![v1683] : Fin 1 → IVec S16 32) a x).toNat < S2048.size a := fun v1683 k1_hw43 => k1_hw43

def k1_chk44 (v1698 : IVec S16 32) : Prop :=
  (∀ a x, ((![v1698] : Fin 1 → IVec S16 32) a x).toNat < S2048.size a)
theorem k1_idx44_inb : ∀ (v1698 : IVec S16 32) (k1_hw44 : k1_chk44 v1698), ∀ a x, ((![v1698] : Fin 1 → IVec S16 32) a x).toNat < S2048.size a := fun v1698 k1_hw44 => k1_hw44

def k1_chk45 (v1713 : IVec S16 32) : Prop :=
  (∀ a x, ((![v1713] : Fin 1 → IVec S16 32) a x).toNat < S2048.size a)
theorem k1_idx45_inb : ∀ (v1713 : IVec S16 32) (k1_hw45 : k1_chk45 v1713), ∀ a x, ((![v1713] : Fin 1 → IVec S16 32) a x).toNat < S2048.size a := fun v1713 k1_hw45 => k1_hw45

def k1_chk46 (v1728 : IVec S16 32) : Prop :=
  (∀ a x, ((![v1728] : Fin 1 → IVec S16 32) a x).toNat < S2048.size a)
theorem k1_idx46_inb : ∀ (v1728 : IVec S16 32) (k1_hw46 : k1_chk46 v1728), ∀ a x, ((![v1728] : Fin 1 → IVec S16 32) a x).toNat < S2048.size a := fun v1728 k1_hw46 => k1_hw46

def k1_chk47 (v1743 : IVec S16 32) : Prop :=
  (∀ a x, ((![v1743] : Fin 1 → IVec S16 32) a x).toNat < S2048.size a)
theorem k1_idx47_inb : ∀ (v1743 : IVec S16 32) (k1_hw47 : k1_chk47 v1743), ∀ a x, ((![v1743] : Fin 1 → IVec S16 32) a x).toNat < S2048.size a := fun v1743 k1_hw47 => k1_hw47

def k1_chk48 (v1758 : IVec S16 32) : Prop :=
  (∀ a x, ((![v1758] : Fin 1 → IVec S16 32) a x).toNat < S2048.size a)
theorem k1_idx48_inb : ∀ (v1758 : IVec S16 32) (k1_hw48 : k1_chk48 v1758), ∀ a x, ((![v1758] : Fin 1 → IVec S16 32) a x).toNat < S2048.size a := fun v1758 k1_hw48 => k1_hw48

def k1_chk49 (v1773 : IVec S16 32) : Prop :=
  (∀ a x, ((![v1773] : Fin 1 → IVec S16 32) a x).toNat < S2048.size a)
theorem k1_idx49_inb : ∀ (v1773 : IVec S16 32) (k1_hw49 : k1_chk49 v1773), ∀ a x, ((![v1773] : Fin 1 → IVec S16 32) a x).toNat < S2048.size a := fun v1773 k1_hw49 => k1_hw49

def k1_chk50 (v1788 : IVec S16 32) : Prop :=
  (∀ a x, ((![v1788] : Fin 1 → IVec S16 32) a x).toNat < S2048.size a)
theorem k1_idx50_inb : ∀ (v1788 : IVec S16 32) (k1_hw50 : k1_chk50 v1788), ∀ a x, ((![v1788] : Fin 1 → IVec S16 32) a x).toNat < S2048.size a := fun v1788 k1_hw50 => k1_hw50

def k1_chk51 (v1803 : IVec S16 32) : Prop :=
  (∀ a x, ((![v1803] : Fin 1 → IVec S16 32) a x).toNat < S2048.size a)
theorem k1_idx51_inb : ∀ (v1803 : IVec S16 32) (k1_hw51 : k1_chk51 v1803), ∀ a x, ((![v1803] : Fin 1 → IVec S16 32) a x).toNat < S2048.size a := fun v1803 k1_hw51 => k1_hw51

def k1_chk52 (v1818 : IVec S16 32) : Prop :=
  (∀ a x, ((![v1818] : Fin 1 → IVec S16 32) a x).toNat < S2048.size a)
theorem k1_idx52_inb : ∀ (v1818 : IVec S16 32) (k1_hw52 : k1_chk52 v1818), ∀ a x, ((![v1818] : Fin 1 → IVec S16 32) a x).toNat < S2048.size a := fun v1818 k1_hw52 => k1_hw52

def k1_chk53 (v1833 : IVec S16 32) : Prop :=
  (∀ a x, ((![v1833] : Fin 1 → IVec S16 32) a x).toNat < S2048.size a)
theorem k1_idx53_inb : ∀ (v1833 : IVec S16 32) (k1_hw53 : k1_chk53 v1833), ∀ a x, ((![v1833] : Fin 1 → IVec S16 32) a x).toNat < S2048.size a := fun v1833 k1_hw53 => k1_hw53

def k1_chk54 (v1848 : IVec S16 32) : Prop :=
  (∀ a x, ((![v1848] : Fin 1 → IVec S16 32) a x).toNat < S2048.size a)
theorem k1_idx54_inb : ∀ (v1848 : IVec S16 32) (k1_hw54 : k1_chk54 v1848), ∀ a x, ((![v1848] : Fin 1 → IVec S16 32) a x).toNat < S2048.size a := fun v1848 k1_hw54 => k1_hw54

def k1_chk55 (v1863 : IVec S16 32) : Prop :=
  (∀ a x, ((![v1863] : Fin 1 → IVec S16 32) a x).toNat < S2048.size a)
theorem k1_idx55_inb : ∀ (v1863 : IVec S16 32) (k1_hw55 : k1_chk55 v1863), ∀ a x, ((![v1863] : Fin 1 → IVec S16 32) a x).toNat < S2048.size a := fun v1863 k1_hw55 => k1_hw55

def k1_chk56 (v1878 : IVec S16 32) : Prop :=
  (∀ a x, ((![v1878] : Fin 1 → IVec S16 32) a x).toNat < S2048.size a)
theorem k1_idx56_inb : ∀ (v1878 : IVec S16 32) (k1_hw56 : k1_chk56 v1878), ∀ a x, ((![v1878] : Fin 1 → IVec S16 32) a x).toNat < S2048.size a := fun v1878 k1_hw56 => k1_hw56

def k1_chk57 (v1893 : IVec S16 32) : Prop :=
  (∀ a x, ((![v1893] : Fin 1 → IVec S16 32) a x).toNat < S2048.size a)
theorem k1_idx57_inb : ∀ (v1893 : IVec S16 32) (k1_hw57 : k1_chk57 v1893), ∀ a x, ((![v1893] : Fin 1 → IVec S16 32) a x).toNat < S2048.size a := fun v1893 k1_hw57 => k1_hw57

def k1_chk58 (v1908 : IVec S16 32) : Prop :=
  (∀ a x, ((![v1908] : Fin 1 → IVec S16 32) a x).toNat < S2048.size a)
theorem k1_idx58_inb : ∀ (v1908 : IVec S16 32) (k1_hw58 : k1_chk58 v1908), ∀ a x, ((![v1908] : Fin 1 → IVec S16 32) a x).toNat < S2048.size a := fun v1908 k1_hw58 => k1_hw58

def k1_chk59 (v1923 : IVec S16 32) : Prop :=
  (∀ a x, ((![v1923] : Fin 1 → IVec S16 32) a x).toNat < S2048.size a)
theorem k1_idx59_inb : ∀ (v1923 : IVec S16 32) (k1_hw59 : k1_chk59 v1923), ∀ a x, ((![v1923] : Fin 1 → IVec S16 32) a x).toNat < S2048.size a := fun v1923 k1_hw59 => k1_hw59

def k1_chk60 (v1938 : IVec S16 32) : Prop :=
  (∀ a x, ((![v1938] : Fin 1 → IVec S16 32) a x).toNat < S2048.size a)
theorem k1_idx60_inb : ∀ (v1938 : IVec S16 32) (k1_hw60 : k1_chk60 v1938), ∀ a x, ((![v1938] : Fin 1 → IVec S16 32) a x).toNat < S2048.size a := fun v1938 k1_hw60 => k1_hw60

def k1_chk61 (v1953 : IVec S16 32) : Prop :=
  (∀ a x, ((![v1953] : Fin 1 → IVec S16 32) a x).toNat < S2048.size a)
theorem k1_idx61_inb : ∀ (v1953 : IVec S16 32) (k1_hw61 : k1_chk61 v1953), ∀ a x, ((![v1953] : Fin 1 → IVec S16 32) a x).toNat < S2048.size a := fun v1953 k1_hw61 => k1_hw61

def k1_chk62 (v1968 : IVec S16 32) : Prop :=
  (∀ a x, ((![v1968] : Fin 1 → IVec S16 32) a x).toNat < S2048.size a)
theorem k1_idx62_inb : ∀ (v1968 : IVec S16 32) (k1_hw62 : k1_chk62 v1968), ∀ a x, ((![v1968] : Fin 1 → IVec S16 32) a x).toNat < S2048.size a := fun v1968 k1_hw62 => k1_hw62

def k1_chk63 (v1983 : IVec S16 32) : Prop :=
  (∀ a x, ((![v1983] : Fin 1 → IVec S16 32) a x).toNat < S2048.size a)
theorem k1_idx63_inb : ∀ (v1983 : IVec S16 32) (k1_hw63 : k1_chk63 v1983), ∀ a x, ((![v1983] : Fin 1 → IVec S16 32) a x).toNat < S2048.size a := fun v1983 k1_hw63 => k1_hw63

def k1_chk64 (v1998 : IVec S16 32) : Prop :=
  (∀ a x, ((![v1998] : Fin 1 → IVec S16 32) a x).toNat < S2048.size a)
theorem k1_idx64_inb : ∀ (v1998 : IVec S16 32) (k1_hw64 : k1_chk64 v1998), ∀ a x, ((![v1998] : Fin 1 → IVec S16 32) a x).toNat < S2048.size a := fun v1998 k1_hw64 => k1_hw64

def k1_chk65 (v2013 : IVec S16 32) : Prop :=
  (∀ a x, ((![v2013] : Fin 1 → IVec S16 32) a x).toNat < S2048.size a)
theorem k1_idx65_inb : ∀ (v2013 : IVec S16 32) (k1_hw65 : k1_chk65 v2013), ∀ a x, ((![v2013] : Fin 1 → IVec S16 32) a x).toNat < S2048.size a := fun v2013 k1_hw65 => k1_hw65

def k1_chk66 (v2028 : IVec S16 32) : Prop :=
  (∀ a x, ((![v2028] : Fin 1 → IVec S16 32) a x).toNat < S2048.size a)
theorem k1_idx66_inb : ∀ (v2028 : IVec S16 32) (k1_hw66 : k1_chk66 v2028), ∀ a x, ((![v2028] : Fin 1 → IVec S16 32) a x).toNat < S2048.size a := fun v2028 k1_hw66 => k1_hw66

def k1_chk67 (v2043 : IVec S16 32) : Prop :=
  (∀ a x, ((![v2043] : Fin 1 → IVec S16 32) a x).toNat < S2048.size a)
theorem k1_idx67_inb : ∀ (v2043 : IVec S16 32) (k1_hw67 : k1_chk67 v2043), ∀ a x, ((![v2043] : Fin 1 → IVec S16 32) a x).toNat < S2048.size a := fun v2043 k1_hw67 => k1_hw67

def k1_chk68 (v2058 : IVec S16 32) : Prop :=
  (∀ a x, ((![v2058] : Fin 1 → IVec S16 32) a x).toNat < S2048.size a)
theorem k1_idx68_inb : ∀ (v2058 : IVec S16 32) (k1_hw68 : k1_chk68 v2058), ∀ a x, ((![v2058] : Fin 1 → IVec S16 32) a x).toNat < S2048.size a := fun v2058 k1_hw68 => k1_hw68

def k1_chk69 (v2073 : IVec S16 32) : Prop :=
  (∀ a x, ((![v2073] : Fin 1 → IVec S16 32) a x).toNat < S2048.size a)
theorem k1_idx69_inb : ∀ (v2073 : IVec S16 32) (k1_hw69 : k1_chk69 v2073), ∀ a x, ((![v2073] : Fin 1 → IVec S16 32) a x).toNat < S2048.size a := fun v2073 k1_hw69 => k1_hw69

def k1_chk70 (v2088 : IVec S16 32) : Prop :=
  (∀ a x, ((![v2088] : Fin 1 → IVec S16 32) a x).toNat < S2048.size a)
theorem k1_idx70_inb : ∀ (v2088 : IVec S16 32) (k1_hw70 : k1_chk70 v2088), ∀ a x, ((![v2088] : Fin 1 → IVec S16 32) a x).toNat < S2048.size a := fun v2088 k1_hw70 => k1_hw70

def k1_chk71 (v2103 : IVec S16 32) : Prop :=
  (∀ a x, ((![v2103] : Fin 1 → IVec S16 32) a x).toNat < S2048.size a)
theorem k1_idx71_inb : ∀ (v2103 : IVec S16 32) (k1_hw71 : k1_chk71 v2103), ∀ a x, ((![v2103] : Fin 1 → IVec S16 32) a x).toNat < S2048.size a := fun v2103 k1_hw71 => k1_hw71

def k1_chk72 (v2118 : IVec S16 32) : Prop :=
  (∀ a x, ((![v2118] : Fin 1 → IVec S16 32) a x).toNat < S2048.size a)
theorem k1_idx72_inb : ∀ (v2118 : IVec S16 32) (k1_hw72 : k1_chk72 v2118), ∀ a x, ((![v2118] : Fin 1 → IVec S16 32) a x).toNat < S2048.size a := fun v2118 k1_hw72 => k1_hw72

def k1_chk73 (v2133 : IVec S16 32) : Prop :=
  (∀ a x, ((![v2133] : Fin 1 → IVec S16 32) a x).toNat < S2048.size a)
theorem k1_idx73_inb : ∀ (v2133 : IVec S16 32) (k1_hw73 : k1_chk73 v2133), ∀ a x, ((![v2133] : Fin 1 → IVec S16 32) a x).toNat < S2048.size a := fun v2133 k1_hw73 => k1_hw73

def k1_chk74 (v2148 : IVec S16 32) : Prop :=
  (∀ a x, ((![v2148] : Fin 1 → IVec S16 32) a x).toNat < S2048.size a)
theorem k1_idx74_inb : ∀ (v2148 : IVec S16 32) (k1_hw74 : k1_chk74 v2148), ∀ a x, ((![v2148] : Fin 1 → IVec S16 32) a x).toNat < S2048.size a := fun v2148 k1_hw74 => k1_hw74

def k1_chk75 (v2163 : IVec S16 32) : Prop :=
  (∀ a x, ((![v2163] : Fin 1 → IVec S16 32) a x).toNat < S2048.size a)
theorem k1_idx75_inb : ∀ (v2163 : IVec S16 32) (k1_hw75 : k1_chk75 v2163), ∀ a x, ((![v2163] : Fin 1 → IVec S16 32) a x).toNat < S2048.size a := fun v2163 k1_hw75 => k1_hw75

def k1_chk76 (v2178 : IVec S16 32) : Prop :=
  (∀ a x, ((![v2178] : Fin 1 → IVec S16 32) a x).toNat < S2048.size a)
theorem k1_idx76_inb : ∀ (v2178 : IVec S16 32) (k1_hw76 : k1_chk76 v2178), ∀ a x, ((![v2178] : Fin 1 → IVec S16 32) a x).toNat < S2048.size a := fun v2178 k1_hw76 => k1_hw76

def k1_chk77 (v2193 : IVec S16 32) : Prop :=
  (∀ a x, ((![v2193] : Fin 1 → IVec S16 32) a x).toNat < S2048.size a)
theorem k1_idx77_inb : ∀ (v2193 : IVec S16 32) (k1_hw77 : k1_chk77 v2193), ∀ a x, ((![v2193] : Fin 1 → IVec S16 32) a x).toNat < S2048.size a := fun v2193 k1_hw77 => k1_hw77

def k1_chk78 (v2208 : IVec S16 32) : Prop :=
  (∀ a x, ((![v2208] : Fin 1 → IVec S16 32) a x).toNat < S2048.size a)
theorem k1_idx78_inb : ∀ (v2208 : IVec S16 32) (k1_hw78 : k1_chk78 v2208), ∀ a x, ((![v2208] : Fin 1 → IVec S16 32) a x).toNat < S2048.size a := fun v2208 k1_hw78 => k1_hw78

def k1_chk79 (v2223 : IVec S16 32) : Prop :=
  (∀ a x, ((![v2223] : Fin 1 → IVec S16 32) a x).toNat < S2048.size a)
theorem k1_idx79_inb : ∀ (v2223 : IVec S16 32) (k1_hw79 : k1_chk79 v2223), ∀ a x, ((![v2223] : Fin 1 → IVec S16 32) a x).toNat < S2048.size a := fun v2223 k1_hw79 => k1_hw79

def k1_chk80 (v2238 : IVec S16 32) : Prop :=
  (∀ a x, ((![v2238] : Fin 1 → IVec S16 32) a x).toNat < S2048.size a)
theorem k1_idx80_inb : ∀ (v2238 : IVec S16 32) (k1_hw80 : k1_chk80 v2238), ∀ a x, ((![v2238] : Fin 1 → IVec S16 32) a x).toNat < S2048.size a := fun v2238 k1_hw80 => k1_hw80

def k1_chk81 (v2253 : IVec S16 32) : Prop :=
  (∀ a x, ((![v2253] : Fin 1 → IVec S16 32) a x).toNat < S2048.size a)
theorem k1_idx81_inb : ∀ (v2253 : IVec S16 32) (k1_hw81 : k1_chk81 v2253), ∀ a x, ((![v2253] : Fin 1 → IVec S16 32) a x).toNat < S2048.size a := fun v2253 k1_hw81 => k1_hw81

def k1_chk82 (v2268 : IVec S16 32) : Prop :=
  (∀ a x, ((![v2268] : Fin 1 → IVec S16 32) a x).toNat < S2048.size a)
theorem k1_idx82_inb : ∀ (v2268 : IVec S16 32) (k1_hw82 : k1_chk82 v2268), ∀ a x, ((![v2268] : Fin 1 → IVec S16 32) a x).toNat < S2048.size a := fun v2268 k1_hw82 => k1_hw82

def k1_chk83 (v2283 : IVec S16 32) : Prop :=
  (∀ a x, ((![v2283] : Fin 1 → IVec S16 32) a x).toNat < S2048.size a)
theorem k1_idx83_inb : ∀ (v2283 : IVec S16 32) (k1_hw83 : k1_chk83 v2283), ∀ a x, ((![v2283] : Fin 1 → IVec S16 32) a x).toNat < S2048.size a := fun v2283 k1_hw83 => k1_hw83

def k1_chk84 (v2298 : IVec S16 32) : Prop :=
  (∀ a x, ((![v2298] : Fin 1 → IVec S16 32) a x).toNat < S2048.size a)
theorem k1_idx84_inb : ∀ (v2298 : IVec S16 32) (k1_hw84 : k1_chk84 v2298), ∀ a x, ((![v2298] : Fin 1 → IVec S16 32) a x).toNat < S2048.size a := fun v2298 k1_hw84 => k1_hw84

def k1_chk85 (v2313 : IVec S16 32) : Prop :=
  (∀ a x, ((![v2313] : Fin 1 → IVec S16 32) a x).toNat < S2048.size a)
theorem k1_idx85_inb : ∀ (v2313 : IVec S16 32) (k1_hw85 : k1_chk85 v2313), ∀ a x, ((![v2313] : Fin 1 → IVec S16 32) a x).toNat < S2048.size a := fun v2313 k1_hw85 => k1_hw85

def k1_chk86 (v2328 : IVec S16 32) : Prop :=
  (∀ a x, ((![v2328] : Fin 1 → IVec S16 32) a x).toNat < S2048.size a)
theorem k1_idx86_inb : ∀ (v2328 : IVec S16 32) (k1_hw86 : k1_chk86 v2328), ∀ a x, ((![v2328] : Fin 1 → IVec S16 32) a x).toNat < S2048.size a := fun v2328 k1_hw86 => k1_hw86

def k1_chk87 (v2343 : IVec S16 32) : Prop :=
  (∀ a x, ((![v2343] : Fin 1 → IVec S16 32) a x).toNat < S2048.size a)
theorem k1_idx87_inb : ∀ (v2343 : IVec S16 32) (k1_hw87 : k1_chk87 v2343), ∀ a x, ((![v2343] : Fin 1 → IVec S16 32) a x).toNat < S2048.size a := fun v2343 k1_hw87 => k1_hw87

def k1_chk88 (v2358 : IVec S16 32) : Prop :=
  (∀ a x, ((![v2358] : Fin 1 → IVec S16 32) a x).toNat < S2048.size a)
theorem k1_idx88_inb : ∀ (v2358 : IVec S16 32) (k1_hw88 : k1_chk88 v2358), ∀ a x, ((![v2358] : Fin 1 → IVec S16 32) a x).toNat < S2048.size a := fun v2358 k1_hw88 => k1_hw88

def k1_chk89 (v2373 : IVec S16 32) : Prop :=
  (∀ a x, ((![v2373] : Fin 1 → IVec S16 32) a x).toNat < S2048.size a)
theorem k1_idx89_inb : ∀ (v2373 : IVec S16 32) (k1_hw89 : k1_chk89 v2373), ∀ a x, ((![v2373] : Fin 1 → IVec S16 32) a x).toNat < S2048.size a := fun v2373 k1_hw89 => k1_hw89

def k1_chk90 (v2388 : IVec S16 32) : Prop :=
  (∀ a x, ((![v2388] : Fin 1 → IVec S16 32) a x).toNat < S2048.size a)
theorem k1_idx90_inb : ∀ (v2388 : IVec S16 32) (k1_hw90 : k1_chk90 v2388), ∀ a x, ((![v2388] : Fin 1 → IVec S16 32) a x).toNat < S2048.size a := fun v2388 k1_hw90 => k1_hw90

def k1_chk91 (v2403 : IVec S16 32) : Prop :=
  (∀ a x, ((![v2403] : Fin 1 → IVec S16 32) a x).toNat < S2048.size a)
theorem k1_idx91_inb : ∀ (v2403 : IVec S16 32) (k1_hw91 : k1_chk91 v2403), ∀ a x, ((![v2403] : Fin 1 → IVec S16 32) a x).toNat < S2048.size a := fun v2403 k1_hw91 => k1_hw91

def k1_chk92 (v2418 : IVec S16 32) : Prop :=
  (∀ a x, ((![v2418] : Fin 1 → IVec S16 32) a x).toNat < S2048.size a)
theorem k1_idx92_inb : ∀ (v2418 : IVec S16 32) (k1_hw92 : k1_chk92 v2418), ∀ a x, ((![v2418] : Fin 1 → IVec S16 32) a x).toNat < S2048.size a := fun v2418 k1_hw92 => k1_hw92

def k1_chk93 (v2433 : IVec S16 32) : Prop :=
  (∀ a x, ((![v2433] : Fin 1 → IVec S16 32) a x).toNat < S2048.size a)
theorem k1_idx93_inb : ∀ (v2433 : IVec S16 32) (k1_hw93 : k1_chk93 v2433), ∀ a x, ((![v2433] : Fin 1 → IVec S16 32) a x).toNat < S2048.size a := fun v2433 k1_hw93 => k1_hw93

def k1_chk94 (v2448 : IVec S16 32) : Prop :=
  (∀ a x, ((![v2448] : Fin 1 → IVec S16 32) a x).toNat < S2048.size a)
theorem k1_idx94_inb : ∀ (v2448 : IVec S16 32) (k1_hw94 : k1_chk94 v2448), ∀ a x, ((![v2448] : Fin 1 → IVec S16 32) a x).toNat < S2048.size a := fun v2448 k1_hw94 => k1_hw94

def k1_chk95 (v2463 : IVec S16 32) : Prop :=
  (∀ a x, ((![v2463] : Fin 1 → IVec S16 32) a x).toNat < S2048.size a)
theorem k1_idx95_inb : ∀ (v2463 : IVec S16 32) (k1_hw95 : k1_chk95 v2463), ∀ a x, ((![v2463] : Fin 1 → IVec S16 32) a x).toNat < S2048.size a := fun v2463 k1_hw95 => k1_hw95

def k1_chk96 (v2478 : IVec S16 32) : Prop :=
  (∀ a x, ((![v2478] : Fin 1 → IVec S16 32) a x).toNat < S2048.size a)
theorem k1_idx96_inb : ∀ (v2478 : IVec S16 32) (k1_hw96 : k1_chk96 v2478), ∀ a x, ((![v2478] : Fin 1 → IVec S16 32) a x).toNat < S2048.size a := fun v2478 k1_hw96 => k1_hw96

def k1_chk97 (v2493 : IVec S16 32) : Prop :=
  (∀ a x, ((![v2493] : Fin 1 → IVec S16 32) a x).toNat < S2048.size a)
theorem k1_idx97_inb : ∀ (v2493 : IVec S16 32) (k1_hw97 : k1_chk97 v2493), ∀ a x, ((![v2493] : Fin 1 → IVec S16 32) a x).toNat < S2048.size a := fun v2493 k1_hw97 => k1_hw97

def k1_chk98 (v2508 : IVec S16 32) : Prop :=
  (∀ a x, ((![v2508] : Fin 1 → IVec S16 32) a x).toNat < S2048.size a)
theorem k1_idx98_inb : ∀ (v2508 : IVec S16 32) (k1_hw98 : k1_chk98 v2508), ∀ a x, ((![v2508] : Fin 1 → IVec S16 32) a x).toNat < S2048.size a := fun v2508 k1_hw98 => k1_hw98

def k1_chk99 (v2523 : IVec S16 32) : Prop :=
  (∀ a x, ((![v2523] : Fin 1 → IVec S16 32) a x).toNat < S2048.size a)
theorem k1_idx99_inb : ∀ (v2523 : IVec S16 32) (k1_hw99 : k1_chk99 v2523), ∀ a x, ((![v2523] : Fin 1 → IVec S16 32) a x).toNat < S2048.size a := fun v2523 k1_hw99 => k1_hw99

def k1_chk100 (v2538 : IVec S16 32) : Prop :=
  (∀ a x, ((![v2538] : Fin 1 → IVec S16 32) a x).toNat < S2048.size a)
theorem k1_idx100_inb : ∀ (v2538 : IVec S16 32) (k1_hw100 : k1_chk100 v2538), ∀ a x, ((![v2538] : Fin 1 → IVec S16 32) a x).toNat < S2048.size a := fun v2538 k1_hw100 => k1_hw100

def k1_chk101 (v2553 : IVec S16 32) : Prop :=
  (∀ a x, ((![v2553] : Fin 1 → IVec S16 32) a x).toNat < S2048.size a)
theorem k1_idx101_inb : ∀ (v2553 : IVec S16 32) (k1_hw101 : k1_chk101 v2553), ∀ a x, ((![v2553] : Fin 1 → IVec S16 32) a x).toNat < S2048.size a := fun v2553 k1_hw101 => k1_hw101

def k1_chk102 (v2568 : IVec S16 32) : Prop :=
  (∀ a x, ((![v2568] : Fin 1 → IVec S16 32) a x).toNat < S2048.size a)
theorem k1_idx102_inb : ∀ (v2568 : IVec S16 32) (k1_hw102 : k1_chk102 v2568), ∀ a x, ((![v2568] : Fin 1 → IVec S16 32) a x).toNat < S2048.size a := fun v2568 k1_hw102 => k1_hw102

def k1_chk103 (v2583 : IVec S16 32) : Prop :=
  (∀ a x, ((![v2583] : Fin 1 → IVec S16 32) a x).toNat < S2048.size a)
theorem k1_idx103_inb : ∀ (v2583 : IVec S16 32) (k1_hw103 : k1_chk103 v2583), ∀ a x, ((![v2583] : Fin 1 → IVec S16 32) a x).toNat < S2048.size a := fun v2583 k1_hw103 => k1_hw103

def k1_chk104 (v2598 : IVec S16 32) : Prop :=
  (∀ a x, ((![v2598] : Fin 1 → IVec S16 32) a x).toNat < S2048.size a)
theorem k1_idx104_inb : ∀ (v2598 : IVec S16 32) (k1_hw104 : k1_chk104 v2598), ∀ a x, ((![v2598] : Fin 1 → IVec S16 32) a x).toNat < S2048.size a := fun v2598 k1_hw104 => k1_hw104

def k1_chk105 (v2613 : IVec S16 32) : Prop :=
  (∀ a x, ((![v2613] : Fin 1 → IVec S16 32) a x).toNat < S2048.size a)
theorem k1_idx105_inb : ∀ (v2613 : IVec S16 32) (k1_hw105 : k1_chk105 v2613), ∀ a x, ((![v2613] : Fin 1 → IVec S16 32) a x).toNat < S2048.size a := fun v2613 k1_hw105 => k1_hw105

def k1_chk106 (v2628 : IVec S16 32) : Prop :=
  (∀ a x, ((![v2628] : Fin 1 → IVec S16 32) a x).toNat < S2048.size a)
theorem k1_idx106_inb : ∀ (v2628 : IVec S16 32) (k1_hw106 : k1_chk106 v2628), ∀ a x, ((![v2628] : Fin 1 → IVec S16 32) a x).toNat < S2048.size a := fun v2628 k1_hw106 => k1_hw106

def k1_chk107 (v2643 : IVec S16 32) : Prop :=
  (∀ a x, ((![v2643] : Fin 1 → IVec S16 32) a x).toNat < S2048.size a)
theorem k1_idx107_inb : ∀ (v2643 : IVec S16 32) (k1_hw107 : k1_chk107 v2643), ∀ a x, ((![v2643] : Fin 1 → IVec S16 32) a x).toNat < S2048.size a := fun v2643 k1_hw107 => k1_hw107

def k1_chk108 (v2658 : IVec S16 32) : Prop :=
  (∀ a x, ((![v2658] : Fin 1 → IVec S16 32) a x).toNat < S2048.size a)
theorem k1_idx108_inb : ∀ (v2658 : IVec S16 32) (k1_hw108 : k1_chk108 v2658), ∀ a x, ((![v2658] : Fin 1 → IVec S16 32) a x).toNat < S2048.size a := fun v2658 k1_hw108 => k1_hw108

def k1_chk109 (v2673 : IVec S16 32) : Prop :=
  (∀ a x, ((![v2673] : Fin 1 → IVec S16 32) a x).toNat < S2048.size a)
theorem k1_idx109_inb : ∀ (v2673 : IVec S16 32) (k1_hw109 : k1_chk109 v2673), ∀ a x, ((![v2673] : Fin 1 → IVec S16 32) a x).toNat < S2048.size a := fun v2673 k1_hw109 => k1_hw109

def k1_chk110 (v2688 : IVec S16 32) : Prop :=
  (∀ a x, ((![v2688] : Fin 1 → IVec S16 32) a x).toNat < S2048.size a)
theorem k1_idx110_inb : ∀ (v2688 : IVec S16 32) (k1_hw110 : k1_chk110 v2688), ∀ a x, ((![v2688] : Fin 1 → IVec S16 32) a x).toNat < S2048.size a := fun v2688 k1_hw110 => k1_hw110

def k1_chk111 (v2703 : IVec S16 32) : Prop :=
  (∀ a x, ((![v2703] : Fin 1 → IVec S16 32) a x).toNat < S2048.size a)
theorem k1_idx111_inb : ∀ (v2703 : IVec S16 32) (k1_hw111 : k1_chk111 v2703), ∀ a x, ((![v2703] : Fin 1 → IVec S16 32) a x).toNat < S2048.size a := fun v2703 k1_hw111 => k1_hw111

def k1_chk112 (v2718 : IVec S16 32) : Prop :=
  (∀ a x, ((![v2718] : Fin 1 → IVec S16 32) a x).toNat < S2048.size a)
theorem k1_idx112_inb : ∀ (v2718 : IVec S16 32) (k1_hw112 : k1_chk112 v2718), ∀ a x, ((![v2718] : Fin 1 → IVec S16 32) a x).toNat < S2048.size a := fun v2718 k1_hw112 => k1_hw112

def k1_chk113 (v2733 : IVec S16 32) : Prop :=
  (∀ a x, ((![v2733] : Fin 1 → IVec S16 32) a x).toNat < S2048.size a)
theorem k1_idx113_inb : ∀ (v2733 : IVec S16 32) (k1_hw113 : k1_chk113 v2733), ∀ a x, ((![v2733] : Fin 1 → IVec S16 32) a x).toNat < S2048.size a := fun v2733 k1_hw113 => k1_hw113

def k1_chk114 (v2748 : IVec S16 32) : Prop :=
  (∀ a x, ((![v2748] : Fin 1 → IVec S16 32) a x).toNat < S2048.size a)
theorem k1_idx114_inb : ∀ (v2748 : IVec S16 32) (k1_hw114 : k1_chk114 v2748), ∀ a x, ((![v2748] : Fin 1 → IVec S16 32) a x).toNat < S2048.size a := fun v2748 k1_hw114 => k1_hw114

def k1_chk115 (v2763 : IVec S16 32) : Prop :=
  (∀ a x, ((![v2763] : Fin 1 → IVec S16 32) a x).toNat < S2048.size a)
theorem k1_idx115_inb : ∀ (v2763 : IVec S16 32) (k1_hw115 : k1_chk115 v2763), ∀ a x, ((![v2763] : Fin 1 → IVec S16 32) a x).toNat < S2048.size a := fun v2763 k1_hw115 => k1_hw115

def k1_chk116 (v2778 : IVec S16 32) : Prop :=
  (∀ a x, ((![v2778] : Fin 1 → IVec S16 32) a x).toNat < S2048.size a)
theorem k1_idx116_inb : ∀ (v2778 : IVec S16 32) (k1_hw116 : k1_chk116 v2778), ∀ a x, ((![v2778] : Fin 1 → IVec S16 32) a x).toNat < S2048.size a := fun v2778 k1_hw116 => k1_hw116

def k1_chk117 (v2793 : IVec S16 32) : Prop :=
  (∀ a x, ((![v2793] : Fin 1 → IVec S16 32) a x).toNat < S2048.size a)
theorem k1_idx117_inb : ∀ (v2793 : IVec S16 32) (k1_hw117 : k1_chk117 v2793), ∀ a x, ((![v2793] : Fin 1 → IVec S16 32) a x).toNat < S2048.size a := fun v2793 k1_hw117 => k1_hw117

def k1_chk118 (v2808 : IVec S16 32) : Prop :=
  (∀ a x, ((![v2808] : Fin 1 → IVec S16 32) a x).toNat < S2048.size a)
theorem k1_idx118_inb : ∀ (v2808 : IVec S16 32) (k1_hw118 : k1_chk118 v2808), ∀ a x, ((![v2808] : Fin 1 → IVec S16 32) a x).toNat < S2048.size a := fun v2808 k1_hw118 => k1_hw118

def k1_chk119 (v2823 : IVec S16 32) : Prop :=
  (∀ a x, ((![v2823] : Fin 1 → IVec S16 32) a x).toNat < S2048.size a)
theorem k1_idx119_inb : ∀ (v2823 : IVec S16 32) (k1_hw119 : k1_chk119 v2823), ∀ a x, ((![v2823] : Fin 1 → IVec S16 32) a x).toNat < S2048.size a := fun v2823 k1_hw119 => k1_hw119

def k1_chk120 (v2838 : IVec S16 32) : Prop :=
  (∀ a x, ((![v2838] : Fin 1 → IVec S16 32) a x).toNat < S2048.size a)
theorem k1_idx120_inb : ∀ (v2838 : IVec S16 32) (k1_hw120 : k1_chk120 v2838), ∀ a x, ((![v2838] : Fin 1 → IVec S16 32) a x).toNat < S2048.size a := fun v2838 k1_hw120 => k1_hw120

def k1_chk121 (v2853 : IVec S16 32) : Prop :=
  (∀ a x, ((![v2853] : Fin 1 → IVec S16 32) a x).toNat < S2048.size a)
theorem k1_idx121_inb : ∀ (v2853 : IVec S16 32) (k1_hw121 : k1_chk121 v2853), ∀ a x, ((![v2853] : Fin 1 → IVec S16 32) a x).toNat < S2048.size a := fun v2853 k1_hw121 => k1_hw121

def k1_chk122 (v2868 : IVec S16 32) : Prop :=
  (∀ a x, ((![v2868] : Fin 1 → IVec S16 32) a x).toNat < S2048.size a)
theorem k1_idx122_inb : ∀ (v2868 : IVec S16 32) (k1_hw122 : k1_chk122 v2868), ∀ a x, ((![v2868] : Fin 1 → IVec S16 32) a x).toNat < S2048.size a := fun v2868 k1_hw122 => k1_hw122

def k1_chk123 (v2883 : IVec S16 32) : Prop :=
  (∀ a x, ((![v2883] : Fin 1 → IVec S16 32) a x).toNat < S2048.size a)
theorem k1_idx123_inb : ∀ (v2883 : IVec S16 32) (k1_hw123 : k1_chk123 v2883), ∀ a x, ((![v2883] : Fin 1 → IVec S16 32) a x).toNat < S2048.size a := fun v2883 k1_hw123 => k1_hw123

def k1_chk124 (v2898 : IVec S16 32) : Prop :=
  (∀ a x, ((![v2898] : Fin 1 → IVec S16 32) a x).toNat < S2048.size a)
theorem k1_idx124_inb : ∀ (v2898 : IVec S16 32) (k1_hw124 : k1_chk124 v2898), ∀ a x, ((![v2898] : Fin 1 → IVec S16 32) a x).toNat < S2048.size a := fun v2898 k1_hw124 => k1_hw124

def k1_chk125 (v2913 : IVec S16 32) : Prop :=
  (∀ a x, ((![v2913] : Fin 1 → IVec S16 32) a x).toNat < S2048.size a)
theorem k1_idx125_inb : ∀ (v2913 : IVec S16 32) (k1_hw125 : k1_chk125 v2913), ∀ a x, ((![v2913] : Fin 1 → IVec S16 32) a x).toNat < S2048.size a := fun v2913 k1_hw125 => k1_hw125

def k1_chk126 (v2928 : IVec S16 32) : Prop :=
  (∀ a x, ((![v2928] : Fin 1 → IVec S16 32) a x).toNat < S2048.size a)
theorem k1_idx126_inb : ∀ (v2928 : IVec S16 32) (k1_hw126 : k1_chk126 v2928), ∀ a x, ((![v2928] : Fin 1 → IVec S16 32) a x).toNat < S2048.size a := fun v2928 k1_hw126 => k1_hw126

def k1_chk127 (v2943 : IVec S16 32) : Prop :=
  (∀ a x, ((![v2943] : Fin 1 → IVec S16 32) a x).toNat < S2048.size a)
theorem k1_idx127_inb : ∀ (v2943 : IVec S16 32) (k1_hw127 : k1_chk127 v2943), ∀ a x, ((![v2943] : Fin 1 → IVec S16 32) a x).toNat < S2048.size a := fun v2943 k1_hw127 => k1_hw127

def k1_chk128 (v2958 : IVec S16 32) : Prop :=
  (∀ a x, ((![v2958] : Fin 1 → IVec S16 32) a x).toNat < S2048.size a)
theorem k1_idx128_inb : ∀ (v2958 : IVec S16 32) (k1_hw128 : k1_chk128 v2958), ∀ a x, ((![v2958] : Fin 1 → IVec S16 32) a x).toNat < S2048.size a := fun v2958 k1_hw128 => k1_hw128

def k1_chk129 (v2973 : IVec S16 32) : Prop :=
  (∀ a x, ((![v2973] : Fin 1 → IVec S16 32) a x).toNat < S2048.size a)
theorem k1_idx129_inb : ∀ (v2973 : IVec S16 32) (k1_hw129 : k1_chk129 v2973), ∀ a x, ((![v2973] : Fin 1 → IVec S16 32) a x).toNat < S2048.size a := fun v2973 k1_hw129 => k1_hw129

def k1_chk130 (v2988 : IVec S16 32) : Prop :=
  (∀ a x, ((![v2988] : Fin 1 → IVec S16 32) a x).toNat < S2048.size a)
theorem k1_idx130_inb : ∀ (v2988 : IVec S16 32) (k1_hw130 : k1_chk130 v2988), ∀ a x, ((![v2988] : Fin 1 → IVec S16 32) a x).toNat < S2048.size a := fun v2988 k1_hw130 => k1_hw130

def k1_chk131 (v3003 : IVec S16 32) : Prop :=
  (∀ a x, ((![v3003] : Fin 1 → IVec S16 32) a x).toNat < S2048.size a)
theorem k1_idx131_inb : ∀ (v3003 : IVec S16 32) (k1_hw131 : k1_chk131 v3003), ∀ a x, ((![v3003] : Fin 1 → IVec S16 32) a x).toNat < S2048.size a := fun v3003 k1_hw131 => k1_hw131

def k1_chk132 (v3018 : IVec S16 32) : Prop :=
  (∀ a x, ((![v3018] : Fin 1 → IVec S16 32) a x).toNat < S2048.size a)
theorem k1_idx132_inb : ∀ (v3018 : IVec S16 32) (k1_hw132 : k1_chk132 v3018), ∀ a x, ((![v3018] : Fin 1 → IVec S16 32) a x).toNat < S2048.size a := fun v3018 k1_hw132 => k1_hw132

def k1_chk133 (v3033 : IVec S16 32) : Prop :=
  (∀ a x, ((![v3033] : Fin 1 → IVec S16 32) a x).toNat < S2048.size a)
theorem k1_idx133_inb : ∀ (v3033 : IVec S16 32) (k1_hw133 : k1_chk133 v3033), ∀ a x, ((![v3033] : Fin 1 → IVec S16 32) a x).toNat < S2048.size a := fun v3033 k1_hw133 => k1_hw133

def k1_chk134 (v3048 : IVec S16 32) : Prop :=
  (∀ a x, ((![v3048] : Fin 1 → IVec S16 32) a x).toNat < S2048.size a)
theorem k1_idx134_inb : ∀ (v3048 : IVec S16 32) (k1_hw134 : k1_chk134 v3048), ∀ a x, ((![v3048] : Fin 1 → IVec S16 32) a x).toNat < S2048.size a := fun v3048 k1_hw134 => k1_hw134

def k1_chk135 (v3063 : IVec S16 32) : Prop :=
  (∀ a x, ((![v3063] : Fin 1 → IVec S16 32) a x).toNat < S2048.size a)
theorem k1_idx135_inb : ∀ (v3063 : IVec S16 32) (k1_hw135 : k1_chk135 v3063), ∀ a x, ((![v3063] : Fin 1 → IVec S16 32) a x).toNat < S2048.size a := fun v3063 k1_hw135 => k1_hw135

def k1_chk136 (v3078 : IVec S16 32) : Prop :=
  (∀ a x, ((![v3078] : Fin 1 → IVec S16 32) a x).toNat < S2048.size a)
theorem k1_idx136_inb : ∀ (v3078 : IVec S16 32) (k1_hw136 : k1_chk136 v3078), ∀ a x, ((![v3078] : Fin 1 → IVec S16 32) a x).toNat < S2048.size a := fun v3078 k1_hw136 => k1_hw136

def k1_chk137 (v3093 : IVec S16 32) : Prop :=
  (∀ a x, ((![v3093] : Fin 1 → IVec S16 32) a x).toNat < S2048.size a)
theorem k1_idx137_inb : ∀ (v3093 : IVec S16 32) (k1_hw137 : k1_chk137 v3093), ∀ a x, ((![v3093] : Fin 1 → IVec S16 32) a x).toNat < S2048.size a := fun v3093 k1_hw137 => k1_hw137

def k1_chk138 (v3108 : IVec S16 32) : Prop :=
  (∀ a x, ((![v3108] : Fin 1 → IVec S16 32) a x).toNat < S2048.size a)
theorem k1_idx138_inb : ∀ (v3108 : IVec S16 32) (k1_hw138 : k1_chk138 v3108), ∀ a x, ((![v3108] : Fin 1 → IVec S16 32) a x).toNat < S2048.size a := fun v3108 k1_hw138 => k1_hw138

def k1_chk139 (v3123 : IVec S16 32) : Prop :=
  (∀ a x, ((![v3123] : Fin 1 → IVec S16 32) a x).toNat < S2048.size a)
theorem k1_idx139_inb : ∀ (v3123 : IVec S16 32) (k1_hw139 : k1_chk139 v3123), ∀ a x, ((![v3123] : Fin 1 → IVec S16 32) a x).toNat < S2048.size a := fun v3123 k1_hw139 => k1_hw139

def k1_chk140 (v3138 : IVec S16 32) : Prop :=
  (∀ a x, ((![v3138] : Fin 1 → IVec S16 32) a x).toNat < S2048.size a)
theorem k1_idx140_inb : ∀ (v3138 : IVec S16 32) (k1_hw140 : k1_chk140 v3138), ∀ a x, ((![v3138] : Fin 1 → IVec S16 32) a x).toNat < S2048.size a := fun v3138 k1_hw140 => k1_hw140

def k1_chk141 (v3153 : IVec S16 32) : Prop :=
  (∀ a x, ((![v3153] : Fin 1 → IVec S16 32) a x).toNat < S2048.size a)
theorem k1_idx141_inb : ∀ (v3153 : IVec S16 32) (k1_hw141 : k1_chk141 v3153), ∀ a x, ((![v3153] : Fin 1 → IVec S16 32) a x).toNat < S2048.size a := fun v3153 k1_hw141 => k1_hw141

def k1_chk142 (v3168 : IVec S16 32) : Prop :=
  (∀ a x, ((![v3168] : Fin 1 → IVec S16 32) a x).toNat < S2048.size a)
theorem k1_idx142_inb : ∀ (v3168 : IVec S16 32) (k1_hw142 : k1_chk142 v3168), ∀ a x, ((![v3168] : Fin 1 → IVec S16 32) a x).toNat < S2048.size a := fun v3168 k1_hw142 => k1_hw142

def k1_chk143 (v3183 : IVec S16 32) : Prop :=
  (∀ a x, ((![v3183] : Fin 1 → IVec S16 32) a x).toNat < S2048.size a)
theorem k1_idx143_inb : ∀ (v3183 : IVec S16 32) (k1_hw143 : k1_chk143 v3183), ∀ a x, ((![v3183] : Fin 1 → IVec S16 32) a x).toNat < S2048.size a := fun v3183 k1_hw143 => k1_hw143

def k1_chk144 (v3198 : IVec S16 32) : Prop :=
  (∀ a x, ((![v3198] : Fin 1 → IVec S16 32) a x).toNat < S2048.size a)
theorem k1_idx144_inb : ∀ (v3198 : IVec S16 32) (k1_hw144 : k1_chk144 v3198), ∀ a x, ((![v3198] : Fin 1 → IVec S16 32) a x).toNat < S2048.size a := fun v3198 k1_hw144 => k1_hw144

def k1_chk145 (v3213 : IVec S16 32) : Prop :=
  (∀ a x, ((![v3213] : Fin 1 → IVec S16 32) a x).toNat < S2048.size a)
theorem k1_idx145_inb : ∀ (v3213 : IVec S16 32) (k1_hw145 : k1_chk145 v3213), ∀ a x, ((![v3213] : Fin 1 → IVec S16 32) a x).toNat < S2048.size a := fun v3213 k1_hw145 => k1_hw145

def k1_chk146 (v3228 : IVec S16 32) : Prop :=
  (∀ a x, ((![v3228] : Fin 1 → IVec S16 32) a x).toNat < S2048.size a)
theorem k1_idx146_inb : ∀ (v3228 : IVec S16 32) (k1_hw146 : k1_chk146 v3228), ∀ a x, ((![v3228] : Fin 1 → IVec S16 32) a x).toNat < S2048.size a := fun v3228 k1_hw146 => k1_hw146

def k1_chk147 (v3243 : IVec S16 32) : Prop :=
  (∀ a x, ((![v3243] : Fin 1 → IVec S16 32) a x).toNat < S2048.size a)
theorem k1_idx147_inb : ∀ (v3243 : IVec S16 32) (k1_hw147 : k1_chk147 v3243), ∀ a x, ((![v3243] : Fin 1 → IVec S16 32) a x).toNat < S2048.size a := fun v3243 k1_hw147 => k1_hw147

def k1_chk148 (v3258 : IVec S16 32) : Prop :=
  (∀ a x, ((![v3258] : Fin 1 → IVec S16 32) a x).toNat < S2048.size a)
theorem k1_idx148_inb : ∀ (v3258 : IVec S16 32) (k1_hw148 : k1_chk148 v3258), ∀ a x, ((![v3258] : Fin 1 → IVec S16 32) a x).toNat < S2048.size a := fun v3258 k1_hw148 => k1_hw148

def k1_chk149 (v3273 : IVec S16 32) : Prop :=
  (∀ a x, ((![v3273] : Fin 1 → IVec S16 32) a x).toNat < S2048.size a)
theorem k1_idx149_inb : ∀ (v3273 : IVec S16 32) (k1_hw149 : k1_chk149 v3273), ∀ a x, ((![v3273] : Fin 1 → IVec S16 32) a x).toNat < S2048.size a := fun v3273 k1_hw149 => k1_hw149

def k1_chk150 (v3288 : IVec S16 32) : Prop :=
  (∀ a x, ((![v3288] : Fin 1 → IVec S16 32) a x).toNat < S2048.size a)
theorem k1_idx150_inb : ∀ (v3288 : IVec S16 32) (k1_hw150 : k1_chk150 v3288), ∀ a x, ((![v3288] : Fin 1 → IVec S16 32) a x).toNat < S2048.size a := fun v3288 k1_hw150 => k1_hw150

def k1_chk151 (v3303 : IVec S16 32) : Prop :=
  (∀ a x, ((![v3303] : Fin 1 → IVec S16 32) a x).toNat < S2048.size a)
theorem k1_idx151_inb : ∀ (v3303 : IVec S16 32) (k1_hw151 : k1_chk151 v3303), ∀ a x, ((![v3303] : Fin 1 → IVec S16 32) a x).toNat < S2048.size a := fun v3303 k1_hw151 => k1_hw151

def k1_chk152 (v3318 : IVec S16 32) : Prop :=
  (∀ a x, ((![v3318] : Fin 1 → IVec S16 32) a x).toNat < S2048.size a)
theorem k1_idx152_inb : ∀ (v3318 : IVec S16 32) (k1_hw152 : k1_chk152 v3318), ∀ a x, ((![v3318] : Fin 1 → IVec S16 32) a x).toNat < S2048.size a := fun v3318 k1_hw152 => k1_hw152

def k1_chk153 (v3333 : IVec S16 32) : Prop :=
  (∀ a x, ((![v3333] : Fin 1 → IVec S16 32) a x).toNat < S2048.size a)
theorem k1_idx153_inb : ∀ (v3333 : IVec S16 32) (k1_hw153 : k1_chk153 v3333), ∀ a x, ((![v3333] : Fin 1 → IVec S16 32) a x).toNat < S2048.size a := fun v3333 k1_hw153 => k1_hw153

def k1_chk154 (v3348 : IVec S16 32) : Prop :=
  (∀ a x, ((![v3348] : Fin 1 → IVec S16 32) a x).toNat < S2048.size a)
theorem k1_idx154_inb : ∀ (v3348 : IVec S16 32) (k1_hw154 : k1_chk154 v3348), ∀ a x, ((![v3348] : Fin 1 → IVec S16 32) a x).toNat < S2048.size a := fun v3348 k1_hw154 => k1_hw154

def k1_chk155 (v3363 : IVec S16 32) : Prop :=
  (∀ a x, ((![v3363] : Fin 1 → IVec S16 32) a x).toNat < S2048.size a)
theorem k1_idx155_inb : ∀ (v3363 : IVec S16 32) (k1_hw155 : k1_chk155 v3363), ∀ a x, ((![v3363] : Fin 1 → IVec S16 32) a x).toNat < S2048.size a := fun v3363 k1_hw155 => k1_hw155

def k1_chk156 (v3378 : IVec S16 32) : Prop :=
  (∀ a x, ((![v3378] : Fin 1 → IVec S16 32) a x).toNat < S2048.size a)
theorem k1_idx156_inb : ∀ (v3378 : IVec S16 32) (k1_hw156 : k1_chk156 v3378), ∀ a x, ((![v3378] : Fin 1 → IVec S16 32) a x).toNat < S2048.size a := fun v3378 k1_hw156 => k1_hw156

def k1_chk157 (v3393 : IVec S16 32) : Prop :=
  (∀ a x, ((![v3393] : Fin 1 → IVec S16 32) a x).toNat < S2048.size a)
theorem k1_idx157_inb : ∀ (v3393 : IVec S16 32) (k1_hw157 : k1_chk157 v3393), ∀ a x, ((![v3393] : Fin 1 → IVec S16 32) a x).toNat < S2048.size a := fun v3393 k1_hw157 => k1_hw157

def k1_chk158 (v3408 : IVec S16 32) : Prop :=
  (∀ a x, ((![v3408] : Fin 1 → IVec S16 32) a x).toNat < S2048.size a)
theorem k1_idx158_inb : ∀ (v3408 : IVec S16 32) (k1_hw158 : k1_chk158 v3408), ∀ a x, ((![v3408] : Fin 1 → IVec S16 32) a x).toNat < S2048.size a := fun v3408 k1_hw158 => k1_hw158

def k1_chk159 (v3423 : IVec S16 32) : Prop :=
  (∀ a x, ((![v3423] : Fin 1 → IVec S16 32) a x).toNat < S2048.size a)
theorem k1_idx159_inb : ∀ (v3423 : IVec S16 32) (k1_hw159 : k1_chk159 v3423), ∀ a x, ((![v3423] : Fin 1 → IVec S16 32) a x).toNat < S2048.size a := fun v3423 k1_hw159 => k1_hw159

def k1_chk160 (v3438 : IVec S16 32) : Prop :=
  (∀ a x, ((![v3438] : Fin 1 → IVec S16 32) a x).toNat < S2048.size a)
theorem k1_idx160_inb : ∀ (v3438 : IVec S16 32) (k1_hw160 : k1_chk160 v3438), ∀ a x, ((![v3438] : Fin 1 → IVec S16 32) a x).toNat < S2048.size a := fun v3438 k1_hw160 => k1_hw160

def k1_chk161 (v3453 : IVec S16 32) : Prop :=
  (∀ a x, ((![v3453] : Fin 1 → IVec S16 32) a x).toNat < S2048.size a)
theorem k1_idx161_inb : ∀ (v3453 : IVec S16 32) (k1_hw161 : k1_chk161 v3453), ∀ a x, ((![v3453] : Fin 1 → IVec S16 32) a x).toNat < S2048.size a := fun v3453 k1_hw161 => k1_hw161

def k1_chk162 (v3468 : IVec S16 32) : Prop :=
  (∀ a x, ((![v3468] : Fin 1 → IVec S16 32) a x).toNat < S2048.size a)
theorem k1_idx162_inb : ∀ (v3468 : IVec S16 32) (k1_hw162 : k1_chk162 v3468), ∀ a x, ((![v3468] : Fin 1 → IVec S16 32) a x).toNat < S2048.size a := fun v3468 k1_hw162 => k1_hw162

def k1_chk163 (v3483 : IVec S16 32) : Prop :=
  (∀ a x, ((![v3483] : Fin 1 → IVec S16 32) a x).toNat < S2048.size a)
theorem k1_idx163_inb : ∀ (v3483 : IVec S16 32) (k1_hw163 : k1_chk163 v3483), ∀ a x, ((![v3483] : Fin 1 → IVec S16 32) a x).toNat < S2048.size a := fun v3483 k1_hw163 => k1_hw163

def k1_chk164 (v3498 : IVec S16 32) : Prop :=
  (∀ a x, ((![v3498] : Fin 1 → IVec S16 32) a x).toNat < S2048.size a)
theorem k1_idx164_inb : ∀ (v3498 : IVec S16 32) (k1_hw164 : k1_chk164 v3498), ∀ a x, ((![v3498] : Fin 1 → IVec S16 32) a x).toNat < S2048.size a := fun v3498 k1_hw164 => k1_hw164

def k1_chk165 (v3513 : IVec S16 32) : Prop :=
  (∀ a x, ((![v3513] : Fin 1 → IVec S16 32) a x).toNat < S2048.size a)
theorem k1_idx165_inb : ∀ (v3513 : IVec S16 32) (k1_hw165 : k1_chk165 v3513), ∀ a x, ((![v3513] : Fin 1 → IVec S16 32) a x).toNat < S2048.size a := fun v3513 k1_hw165 => k1_hw165

def k1_chk166 (v3528 : IVec S16 32) : Prop :=
  (∀ a x, ((![v3528] : Fin 1 → IVec S16 32) a x).toNat < S2048.size a)
theorem k1_idx166_inb : ∀ (v3528 : IVec S16 32) (k1_hw166 : k1_chk166 v3528), ∀ a x, ((![v3528] : Fin 1 → IVec S16 32) a x).toNat < S2048.size a := fun v3528 k1_hw166 => k1_hw166

def k1_chk167 (v3543 : IVec S16 32) : Prop :=
  (∀ a x, ((![v3543] : Fin 1 → IVec S16 32) a x).toNat < S2048.size a)
theorem k1_idx167_inb : ∀ (v3543 : IVec S16 32) (k1_hw167 : k1_chk167 v3543), ∀ a x, ((![v3543] : Fin 1 → IVec S16 32) a x).toNat < S2048.size a := fun v3543 k1_hw167 => k1_hw167

def k1_chk168 (v3558 : IVec S16 32) : Prop :=
  (∀ a x, ((![v3558] : Fin 1 → IVec S16 32) a x).toNat < S2048.size a)
theorem k1_idx168_inb : ∀ (v3558 : IVec S16 32) (k1_hw168 : k1_chk168 v3558), ∀ a x, ((![v3558] : Fin 1 → IVec S16 32) a x).toNat < S2048.size a := fun v3558 k1_hw168 => k1_hw168

def k1_chk169 (v3573 : IVec S16 32) : Prop :=
  (∀ a x, ((![v3573] : Fin 1 → IVec S16 32) a x).toNat < S2048.size a)
theorem k1_idx169_inb : ∀ (v3573 : IVec S16 32) (k1_hw169 : k1_chk169 v3573), ∀ a x, ((![v3573] : Fin 1 → IVec S16 32) a x).toNat < S2048.size a := fun v3573 k1_hw169 => k1_hw169

def k1_chk170 (v3588 : IVec S16 32) : Prop :=
  (∀ a x, ((![v3588] : Fin 1 → IVec S16 32) a x).toNat < S2048.size a)
theorem k1_idx170_inb : ∀ (v3588 : IVec S16 32) (k1_hw170 : k1_chk170 v3588), ∀ a x, ((![v3588] : Fin 1 → IVec S16 32) a x).toNat < S2048.size a := fun v3588 k1_hw170 => k1_hw170

def k1_chk171 (v3603 : IVec S16 32) : Prop :=
  (∀ a x, ((![v3603] : Fin 1 → IVec S16 32) a x).toNat < S2048.size a)
theorem k1_idx171_inb : ∀ (v3603 : IVec S16 32) (k1_hw171 : k1_chk171 v3603), ∀ a x, ((![v3603] : Fin 1 → IVec S16 32) a x).toNat < S2048.size a := fun v3603 k1_hw171 => k1_hw171

def k1_chk172 (v3618 : IVec S16 32) : Prop :=
  (∀ a x, ((![v3618] : Fin 1 → IVec S16 32) a x).toNat < S2048.size a)
theorem k1_idx172_inb : ∀ (v3618 : IVec S16 32) (k1_hw172 : k1_chk172 v3618), ∀ a x, ((![v3618] : Fin 1 → IVec S16 32) a x).toNat < S2048.size a := fun v3618 k1_hw172 => k1_hw172

def k1_chk173 (v3633 : IVec S16 32) : Prop :=
  (∀ a x, ((![v3633] : Fin 1 → IVec S16 32) a x).toNat < S2048.size a)
theorem k1_idx173_inb : ∀ (v3633 : IVec S16 32) (k1_hw173 : k1_chk173 v3633), ∀ a x, ((![v3633] : Fin 1 → IVec S16 32) a x).toNat < S2048.size a := fun v3633 k1_hw173 => k1_hw173

def k1_chk174 (v3648 : IVec S16 32) : Prop :=
  (∀ a x, ((![v3648] : Fin 1 → IVec S16 32) a x).toNat < S2048.size a)
theorem k1_idx174_inb : ∀ (v3648 : IVec S16 32) (k1_hw174 : k1_chk174 v3648), ∀ a x, ((![v3648] : Fin 1 → IVec S16 32) a x).toNat < S2048.size a := fun v3648 k1_hw174 => k1_hw174

def k1_chk175 (v3663 : IVec S16 32) : Prop :=
  (∀ a x, ((![v3663] : Fin 1 → IVec S16 32) a x).toNat < S2048.size a)
theorem k1_idx175_inb : ∀ (v3663 : IVec S16 32) (k1_hw175 : k1_chk175 v3663), ∀ a x, ((![v3663] : Fin 1 → IVec S16 32) a x).toNat < S2048.size a := fun v3663 k1_hw175 => k1_hw175

def k1_chk176 (v3678 : IVec S16 32) : Prop :=
  (∀ a x, ((![v3678] : Fin 1 → IVec S16 32) a x).toNat < S2048.size a)
theorem k1_idx176_inb : ∀ (v3678 : IVec S16 32) (k1_hw176 : k1_chk176 v3678), ∀ a x, ((![v3678] : Fin 1 → IVec S16 32) a x).toNat < S2048.size a := fun v3678 k1_hw176 => k1_hw176

def k1_chk177 (v3693 : IVec S16 32) : Prop :=
  (∀ a x, ((![v3693] : Fin 1 → IVec S16 32) a x).toNat < S2048.size a)
theorem k1_idx177_inb : ∀ (v3693 : IVec S16 32) (k1_hw177 : k1_chk177 v3693), ∀ a x, ((![v3693] : Fin 1 → IVec S16 32) a x).toNat < S2048.size a := fun v3693 k1_hw177 => k1_hw177

def k1_chk178 (v3708 : IVec S16 32) : Prop :=
  (∀ a x, ((![v3708] : Fin 1 → IVec S16 32) a x).toNat < S2048.size a)
theorem k1_idx178_inb : ∀ (v3708 : IVec S16 32) (k1_hw178 : k1_chk178 v3708), ∀ a x, ((![v3708] : Fin 1 → IVec S16 32) a x).toNat < S2048.size a := fun v3708 k1_hw178 => k1_hw178

def k1_chk179 (v3723 : IVec S16 32) : Prop :=
  (∀ a x, ((![v3723] : Fin 1 → IVec S16 32) a x).toNat < S2048.size a)
theorem k1_idx179_inb : ∀ (v3723 : IVec S16 32) (k1_hw179 : k1_chk179 v3723), ∀ a x, ((![v3723] : Fin 1 → IVec S16 32) a x).toNat < S2048.size a := fun v3723 k1_hw179 => k1_hw179

def k1_chk180 (v3738 : IVec S16 32) : Prop :=
  (∀ a x, ((![v3738] : Fin 1 → IVec S16 32) a x).toNat < S2048.size a)
theorem k1_idx180_inb : ∀ (v3738 : IVec S16 32) (k1_hw180 : k1_chk180 v3738), ∀ a x, ((![v3738] : Fin 1 → IVec S16 32) a x).toNat < S2048.size a := fun v3738 k1_hw180 => k1_hw180

def k1_chk181 (v3753 : IVec S16 32) : Prop :=
  (∀ a x, ((![v3753] : Fin 1 → IVec S16 32) a x).toNat < S2048.size a)
theorem k1_idx181_inb : ∀ (v3753 : IVec S16 32) (k1_hw181 : k1_chk181 v3753), ∀ a x, ((![v3753] : Fin 1 → IVec S16 32) a x).toNat < S2048.size a := fun v3753 k1_hw181 => k1_hw181

def k1_chk182 (v3768 : IVec S16 32) : Prop :=
  (∀ a x, ((![v3768] : Fin 1 → IVec S16 32) a x).toNat < S2048.size a)
theorem k1_idx182_inb : ∀ (v3768 : IVec S16 32) (k1_hw182 : k1_chk182 v3768), ∀ a x, ((![v3768] : Fin 1 → IVec S16 32) a x).toNat < S2048.size a := fun v3768 k1_hw182 => k1_hw182

def k1_chk183 (v3783 : IVec S16 32) : Prop :=
  (∀ a x, ((![v3783] : Fin 1 → IVec S16 32) a x).toNat < S2048.size a)
theorem k1_idx183_inb : ∀ (v3783 : IVec S16 32) (k1_hw183 : k1_chk183 v3783), ∀ a x, ((![v3783] : Fin 1 → IVec S16 32) a x).toNat < S2048.size a := fun v3783 k1_hw183 => k1_hw183

def k1_chk184 (v3798 : IVec S16 32) : Prop :=
  (∀ a x, ((![v3798] : Fin 1 → IVec S16 32) a x).toNat < S2048.size a)
theorem k1_idx184_inb : ∀ (v3798 : IVec S16 32) (k1_hw184 : k1_chk184 v3798), ∀ a x, ((![v3798] : Fin 1 → IVec S16 32) a x).toNat < S2048.size a := fun v3798 k1_hw184 => k1_hw184

def k1_chk185 (v3813 : IVec S16 32) : Prop :=
  (∀ a x, ((![v3813] : Fin 1 → IVec S16 32) a x).toNat < S2048.size a)
theorem k1_idx185_inb : ∀ (v3813 : IVec S16 32) (k1_hw185 : k1_chk185 v3813), ∀ a x, ((![v3813] : Fin 1 → IVec S16 32) a x).toNat < S2048.size a := fun v3813 k1_hw185 => k1_hw185

def k1_chk186 (v3828 : IVec S16 32) : Prop :=
  (∀ a x, ((![v3828] : Fin 1 → IVec S16 32) a x).toNat < S2048.size a)
theorem k1_idx186_inb : ∀ (v3828 : IVec S16 32) (k1_hw186 : k1_chk186 v3828), ∀ a x, ((![v3828] : Fin 1 → IVec S16 32) a x).toNat < S2048.size a := fun v3828 k1_hw186 => k1_hw186

def k1_chk187 (v3843 : IVec S16 32) : Prop :=
  (∀ a x, ((![v3843] : Fin 1 → IVec S16 32) a x).toNat < S2048.size a)
theorem k1_idx187_inb : ∀ (v3843 : IVec S16 32) (k1_hw187 : k1_chk187 v3843), ∀ a x, ((![v3843] : Fin 1 → IVec S16 32) a x).toNat < S2048.size a := fun v3843 k1_hw187 => k1_hw187

def k1_chk188 (v3858 : IVec S16 32) : Prop :=
  (∀ a x, ((![v3858] : Fin 1 → IVec S16 32) a x).toNat < S2048.size a)
theorem k1_idx188_inb : ∀ (v3858 : IVec S16 32) (k1_hw188 : k1_chk188 v3858), ∀ a x, ((![v3858] : Fin 1 → IVec S16 32) a x).toNat < S2048.size a := fun v3858 k1_hw188 => k1_hw188

def k1_chk189 (v3873 : IVec S16 32) : Prop :=
  (∀ a x, ((![v3873] : Fin 1 → IVec S16 32) a x).toNat < S2048.size a)
theorem k1_idx189_inb : ∀ (v3873 : IVec S16 32) (k1_hw189 : k1_chk189 v3873), ∀ a x, ((![v3873] : Fin 1 → IVec S16 32) a x).toNat < S2048.size a := fun v3873 k1_hw189 => k1_hw189

def k1_chk190 (v3888 : IVec S16 32) : Prop :=
  (∀ a x, ((![v3888] : Fin 1 → IVec S16 32) a x).toNat < S2048.size a)
theorem k1_idx190_inb : ∀ (v3888 : IVec S16 32) (k1_hw190 : k1_chk190 v3888), ∀ a x, ((![v3888] : Fin 1 → IVec S16 32) a x).toNat < S2048.size a := fun v3888 k1_hw190 => k1_hw190

def k1_chk191 (v3903 : IVec S16 32) : Prop :=
  (∀ a x, ((![v3903] : Fin 1 → IVec S16 32) a x).toNat < S2048.size a)
theorem k1_idx191_inb : ∀ (v3903 : IVec S16 32) (k1_hw191 : k1_chk191 v3903), ∀ a x, ((![v3903] : Fin 1 → IVec S16 32) a x).toNat < S2048.size a := fun v3903 k1_hw191 => k1_hw191

def k1_chk192 (v3918 : IVec S16 32) : Prop :=
  (∀ a x, ((![v3918] : Fin 1 → IVec S16 32) a x).toNat < S2048.size a)
theorem k1_idx192_inb : ∀ (v3918 : IVec S16 32) (k1_hw192 : k1_chk192 v3918), ∀ a x, ((![v3918] : Fin 1 → IVec S16 32) a x).toNat < S2048.size a := fun v3918 k1_hw192 => k1_hw192

def k1_chk193 (v3933 : IVec S16 32) : Prop :=
  (∀ a x, ((![v3933] : Fin 1 → IVec S16 32) a x).toNat < S2048.size a)
theorem k1_idx193_inb : ∀ (v3933 : IVec S16 32) (k1_hw193 : k1_chk193 v3933), ∀ a x, ((![v3933] : Fin 1 → IVec S16 32) a x).toNat < S2048.size a := fun v3933 k1_hw193 => k1_hw193

def k1_chk194 (v3948 : IVec S16 32) : Prop :=
  (∀ a x, ((![v3948] : Fin 1 → IVec S16 32) a x).toNat < S2048.size a)
theorem k1_idx194_inb : ∀ (v3948 : IVec S16 32) (k1_hw194 : k1_chk194 v3948), ∀ a x, ((![v3948] : Fin 1 → IVec S16 32) a x).toNat < S2048.size a := fun v3948 k1_hw194 => k1_hw194

def k1_chk195 (v3963 : IVec S16 32) : Prop :=
  (∀ a x, ((![v3963] : Fin 1 → IVec S16 32) a x).toNat < S2048.size a)
theorem k1_idx195_inb : ∀ (v3963 : IVec S16 32) (k1_hw195 : k1_chk195 v3963), ∀ a x, ((![v3963] : Fin 1 → IVec S16 32) a x).toNat < S2048.size a := fun v3963 k1_hw195 => k1_hw195

def k1_chk196 (v3978 : IVec S16 32) : Prop :=
  (∀ a x, ((![v3978] : Fin 1 → IVec S16 32) a x).toNat < S2048.size a)
theorem k1_idx196_inb : ∀ (v3978 : IVec S16 32) (k1_hw196 : k1_chk196 v3978), ∀ a x, ((![v3978] : Fin 1 → IVec S16 32) a x).toNat < S2048.size a := fun v3978 k1_hw196 => k1_hw196

def k1_chk197 (v3993 : IVec S16 32) : Prop :=
  (∀ a x, ((![v3993] : Fin 1 → IVec S16 32) a x).toNat < S2048.size a)
theorem k1_idx197_inb : ∀ (v3993 : IVec S16 32) (k1_hw197 : k1_chk197 v3993), ∀ a x, ((![v3993] : Fin 1 → IVec S16 32) a x).toNat < S2048.size a := fun v3993 k1_hw197 => k1_hw197

def k1_chk198 (v4008 : IVec S16 32) : Prop :=
  (∀ a x, ((![v4008] : Fin 1 → IVec S16 32) a x).toNat < S2048.size a)
theorem k1_idx198_inb : ∀ (v4008 : IVec S16 32) (k1_hw198 : k1_chk198 v4008), ∀ a x, ((![v4008] : Fin 1 → IVec S16 32) a x).toNat < S2048.size a := fun v4008 k1_hw198 => k1_hw198

def k1_chk199 (v4023 : IVec S16 32) : Prop :=
  (∀ a x, ((![v4023] : Fin 1 → IVec S16 32) a x).toNat < S2048.size a)
theorem k1_idx199_inb : ∀ (v4023 : IVec S16 32) (k1_hw199 : k1_chk199 v4023), ∀ a x, ((![v4023] : Fin 1 → IVec S16 32) a x).toNat < S2048.size a := fun v4023 k1_hw199 => k1_hw199

def k1_chk200 (v4038 : IVec S16 32) : Prop :=
  (∀ a x, ((![v4038] : Fin 1 → IVec S16 32) a x).toNat < S2048.size a)
theorem k1_idx200_inb : ∀ (v4038 : IVec S16 32) (k1_hw200 : k1_chk200 v4038), ∀ a x, ((![v4038] : Fin 1 → IVec S16 32) a x).toNat < S2048.size a := fun v4038 k1_hw200 => k1_hw200

def k1_chk201 (v4053 : IVec S16 32) : Prop :=
  (∀ a x, ((![v4053] : Fin 1 → IVec S16 32) a x).toNat < S2048.size a)
theorem k1_idx201_inb : ∀ (v4053 : IVec S16 32) (k1_hw201 : k1_chk201 v4053), ∀ a x, ((![v4053] : Fin 1 → IVec S16 32) a x).toNat < S2048.size a := fun v4053 k1_hw201 => k1_hw201

def k1_chk202 (v4068 : IVec S16 32) : Prop :=
  (∀ a x, ((![v4068] : Fin 1 → IVec S16 32) a x).toNat < S2048.size a)
theorem k1_idx202_inb : ∀ (v4068 : IVec S16 32) (k1_hw202 : k1_chk202 v4068), ∀ a x, ((![v4068] : Fin 1 → IVec S16 32) a x).toNat < S2048.size a := fun v4068 k1_hw202 => k1_hw202

def k1_chk203 (v4083 : IVec S16 32) : Prop :=
  (∀ a x, ((![v4083] : Fin 1 → IVec S16 32) a x).toNat < S2048.size a)
theorem k1_idx203_inb : ∀ (v4083 : IVec S16 32) (k1_hw203 : k1_chk203 v4083), ∀ a x, ((![v4083] : Fin 1 → IVec S16 32) a x).toNat < S2048.size a := fun v4083 k1_hw203 => k1_hw203

def k1_chk204 (v4098 : IVec S16 32) : Prop :=
  (∀ a x, ((![v4098] : Fin 1 → IVec S16 32) a x).toNat < S2048.size a)
theorem k1_idx204_inb : ∀ (v4098 : IVec S16 32) (k1_hw204 : k1_chk204 v4098), ∀ a x, ((![v4098] : Fin 1 → IVec S16 32) a x).toNat < S2048.size a := fun v4098 k1_hw204 => k1_hw204

def k1_chk205 (v4113 : IVec S16 32) : Prop :=
  (∀ a x, ((![v4113] : Fin 1 → IVec S16 32) a x).toNat < S2048.size a)
theorem k1_idx205_inb : ∀ (v4113 : IVec S16 32) (k1_hw205 : k1_chk205 v4113), ∀ a x, ((![v4113] : Fin 1 → IVec S16 32) a x).toNat < S2048.size a := fun v4113 k1_hw205 => k1_hw205

def k1_chk206 (v4128 : IVec S16 32) : Prop :=
  (∀ a x, ((![v4128] : Fin 1 → IVec S16 32) a x).toNat < S2048.size a)
theorem k1_idx206_inb : ∀ (v4128 : IVec S16 32) (k1_hw206 : k1_chk206 v4128), ∀ a x, ((![v4128] : Fin 1 → IVec S16 32) a x).toNat < S2048.size a := fun v4128 k1_hw206 => k1_hw206

def k1_chk207 (v4143 : IVec S16 32) : Prop :=
  (∀ a x, ((![v4143] : Fin 1 → IVec S16 32) a x).toNat < S2048.size a)
theorem k1_idx207_inb : ∀ (v4143 : IVec S16 32) (k1_hw207 : k1_chk207 v4143), ∀ a x, ((![v4143] : Fin 1 → IVec S16 32) a x).toNat < S2048.size a := fun v4143 k1_hw207 => k1_hw207

def k1_chk208 (v4158 : IVec S16 32) : Prop :=
  (∀ a x, ((![v4158] : Fin 1 → IVec S16 32) a x).toNat < S2048.size a)
theorem k1_idx208_inb : ∀ (v4158 : IVec S16 32) (k1_hw208 : k1_chk208 v4158), ∀ a x, ((![v4158] : Fin 1 → IVec S16 32) a x).toNat < S2048.size a := fun v4158 k1_hw208 => k1_hw208

def k1_chk209 (v4173 : IVec S16 32) : Prop :=
  (∀ a x, ((![v4173] : Fin 1 → IVec S16 32) a x).toNat < S2048.size a)
theorem k1_idx209_inb : ∀ (v4173 : IVec S16 32) (k1_hw209 : k1_chk209 v4173), ∀ a x, ((![v4173] : Fin 1 → IVec S16 32) a x).toNat < S2048.size a := fun v4173 k1_hw209 => k1_hw209

def k1_chk210 (v4188 : IVec S16 32) : Prop :=
  (∀ a x, ((![v4188] : Fin 1 → IVec S16 32) a x).toNat < S2048.size a)
theorem k1_idx210_inb : ∀ (v4188 : IVec S16 32) (k1_hw210 : k1_chk210 v4188), ∀ a x, ((![v4188] : Fin 1 → IVec S16 32) a x).toNat < S2048.size a := fun v4188 k1_hw210 => k1_hw210

def k1_chk211 (v4203 : IVec S16 32) : Prop :=
  (∀ a x, ((![v4203] : Fin 1 → IVec S16 32) a x).toNat < S2048.size a)
theorem k1_idx211_inb : ∀ (v4203 : IVec S16 32) (k1_hw211 : k1_chk211 v4203), ∀ a x, ((![v4203] : Fin 1 → IVec S16 32) a x).toNat < S2048.size a := fun v4203 k1_hw211 => k1_hw211

def k1_chk212 (v4218 : IVec S16 32) : Prop :=
  (∀ a x, ((![v4218] : Fin 1 → IVec S16 32) a x).toNat < S2048.size a)
theorem k1_idx212_inb : ∀ (v4218 : IVec S16 32) (k1_hw212 : k1_chk212 v4218), ∀ a x, ((![v4218] : Fin 1 → IVec S16 32) a x).toNat < S2048.size a := fun v4218 k1_hw212 => k1_hw212

def k1_chk213 (v4233 : IVec S16 32) : Prop :=
  (∀ a x, ((![v4233] : Fin 1 → IVec S16 32) a x).toNat < S2048.size a)
theorem k1_idx213_inb : ∀ (v4233 : IVec S16 32) (k1_hw213 : k1_chk213 v4233), ∀ a x, ((![v4233] : Fin 1 → IVec S16 32) a x).toNat < S2048.size a := fun v4233 k1_hw213 => k1_hw213

def k1_chk214 (v4248 : IVec S16 32) : Prop :=
  (∀ a x, ((![v4248] : Fin 1 → IVec S16 32) a x).toNat < S2048.size a)
theorem k1_idx214_inb : ∀ (v4248 : IVec S16 32) (k1_hw214 : k1_chk214 v4248), ∀ a x, ((![v4248] : Fin 1 → IVec S16 32) a x).toNat < S2048.size a := fun v4248 k1_hw214 => k1_hw214

def k1_chk215 (v4263 : IVec S16 32) : Prop :=
  (∀ a x, ((![v4263] : Fin 1 → IVec S16 32) a x).toNat < S2048.size a)
theorem k1_idx215_inb : ∀ (v4263 : IVec S16 32) (k1_hw215 : k1_chk215 v4263), ∀ a x, ((![v4263] : Fin 1 → IVec S16 32) a x).toNat < S2048.size a := fun v4263 k1_hw215 => k1_hw215

def k1_chk216 (v4278 : IVec S16 32) : Prop :=
  (∀ a x, ((![v4278] : Fin 1 → IVec S16 32) a x).toNat < S2048.size a)
theorem k1_idx216_inb : ∀ (v4278 : IVec S16 32) (k1_hw216 : k1_chk216 v4278), ∀ a x, ((![v4278] : Fin 1 → IVec S16 32) a x).toNat < S2048.size a := fun v4278 k1_hw216 => k1_hw216

def k1_chk217 (v4293 : IVec S16 32) : Prop :=
  (∀ a x, ((![v4293] : Fin 1 → IVec S16 32) a x).toNat < S2048.size a)
theorem k1_idx217_inb : ∀ (v4293 : IVec S16 32) (k1_hw217 : k1_chk217 v4293), ∀ a x, ((![v4293] : Fin 1 → IVec S16 32) a x).toNat < S2048.size a := fun v4293 k1_hw217 => k1_hw217

def k1_chk218 (v4308 : IVec S16 32) : Prop :=
  (∀ a x, ((![v4308] : Fin 1 → IVec S16 32) a x).toNat < S2048.size a)
theorem k1_idx218_inb : ∀ (v4308 : IVec S16 32) (k1_hw218 : k1_chk218 v4308), ∀ a x, ((![v4308] : Fin 1 → IVec S16 32) a x).toNat < S2048.size a := fun v4308 k1_hw218 => k1_hw218

def k1_chk219 (v4323 : IVec S16 32) : Prop :=
  (∀ a x, ((![v4323] : Fin 1 → IVec S16 32) a x).toNat < S2048.size a)
theorem k1_idx219_inb : ∀ (v4323 : IVec S16 32) (k1_hw219 : k1_chk219 v4323), ∀ a x, ((![v4323] : Fin 1 → IVec S16 32) a x).toNat < S2048.size a := fun v4323 k1_hw219 => k1_hw219

def k1_chk220 (v4338 : IVec S16 32) : Prop :=
  (∀ a x, ((![v4338] : Fin 1 → IVec S16 32) a x).toNat < S2048.size a)
theorem k1_idx220_inb : ∀ (v4338 : IVec S16 32) (k1_hw220 : k1_chk220 v4338), ∀ a x, ((![v4338] : Fin 1 → IVec S16 32) a x).toNat < S2048.size a := fun v4338 k1_hw220 => k1_hw220

def k1_chk221 (v4353 : IVec S16 32) : Prop :=
  (∀ a x, ((![v4353] : Fin 1 → IVec S16 32) a x).toNat < S2048.size a)
theorem k1_idx221_inb : ∀ (v4353 : IVec S16 32) (k1_hw221 : k1_chk221 v4353), ∀ a x, ((![v4353] : Fin 1 → IVec S16 32) a x).toNat < S2048.size a := fun v4353 k1_hw221 => k1_hw221

def k1_chk222 (v4368 : IVec S16 32) : Prop :=
  (∀ a x, ((![v4368] : Fin 1 → IVec S16 32) a x).toNat < S2048.size a)
theorem k1_idx222_inb : ∀ (v4368 : IVec S16 32) (k1_hw222 : k1_chk222 v4368), ∀ a x, ((![v4368] : Fin 1 → IVec S16 32) a x).toNat < S2048.size a := fun v4368 k1_hw222 => k1_hw222

def k1_chk223 (v4383 : IVec S16 32) : Prop :=
  (∀ a x, ((![v4383] : Fin 1 → IVec S16 32) a x).toNat < S2048.size a)
theorem k1_idx223_inb : ∀ (v4383 : IVec S16 32) (k1_hw223 : k1_chk223 v4383), ∀ a x, ((![v4383] : Fin 1 → IVec S16 32) a x).toNat < S2048.size a := fun v4383 k1_hw223 => k1_hw223

def k1_chk224 (v4398 : IVec S16 32) : Prop :=
  (∀ a x, ((![v4398] : Fin 1 → IVec S16 32) a x).toNat < S2048.size a)
theorem k1_idx224_inb : ∀ (v4398 : IVec S16 32) (k1_hw224 : k1_chk224 v4398), ∀ a x, ((![v4398] : Fin 1 → IVec S16 32) a x).toNat < S2048.size a := fun v4398 k1_hw224 => k1_hw224

def k1_chk225 (v4413 : IVec S16 32) : Prop :=
  (∀ a x, ((![v4413] : Fin 1 → IVec S16 32) a x).toNat < S2048.size a)
theorem k1_idx225_inb : ∀ (v4413 : IVec S16 32) (k1_hw225 : k1_chk225 v4413), ∀ a x, ((![v4413] : Fin 1 → IVec S16 32) a x).toNat < S2048.size a := fun v4413 k1_hw225 => k1_hw225

def k1_chk226 (v4428 : IVec S16 32) : Prop :=
  (∀ a x, ((![v4428] : Fin 1 → IVec S16 32) a x).toNat < S2048.size a)
theorem k1_idx226_inb : ∀ (v4428 : IVec S16 32) (k1_hw226 : k1_chk226 v4428), ∀ a x, ((![v4428] : Fin 1 → IVec S16 32) a x).toNat < S2048.size a := fun v4428 k1_hw226 => k1_hw226

def k1_chk227 (v4443 : IVec S16 32) : Prop :=
  (∀ a x, ((![v4443] : Fin 1 → IVec S16 32) a x).toNat < S2048.size a)
theorem k1_idx227_inb : ∀ (v4443 : IVec S16 32) (k1_hw227 : k1_chk227 v4443), ∀ a x, ((![v4443] : Fin 1 → IVec S16 32) a x).toNat < S2048.size a := fun v4443 k1_hw227 => k1_hw227

def k1_chk228 (v4458 : IVec S16 32) : Prop :=
  (∀ a x, ((![v4458] : Fin 1 → IVec S16 32) a x).toNat < S2048.size a)
theorem k1_idx228_inb : ∀ (v4458 : IVec S16 32) (k1_hw228 : k1_chk228 v4458), ∀ a x, ((![v4458] : Fin 1 → IVec S16 32) a x).toNat < S2048.size a := fun v4458 k1_hw228 => k1_hw228

def k1_chk229 (v4473 : IVec S16 32) : Prop :=
  (∀ a x, ((![v4473] : Fin 1 → IVec S16 32) a x).toNat < S2048.size a)
theorem k1_idx229_inb : ∀ (v4473 : IVec S16 32) (k1_hw229 : k1_chk229 v4473), ∀ a x, ((![v4473] : Fin 1 → IVec S16 32) a x).toNat < S2048.size a := fun v4473 k1_hw229 => k1_hw229

def k1_chk230 (v4488 : IVec S16 32) : Prop :=
  (∀ a x, ((![v4488] : Fin 1 → IVec S16 32) a x).toNat < S2048.size a)
theorem k1_idx230_inb : ∀ (v4488 : IVec S16 32) (k1_hw230 : k1_chk230 v4488), ∀ a x, ((![v4488] : Fin 1 → IVec S16 32) a x).toNat < S2048.size a := fun v4488 k1_hw230 => k1_hw230

def k1_chk231 (v4503 : IVec S16 32) : Prop :=
  (∀ a x, ((![v4503] : Fin 1 → IVec S16 32) a x).toNat < S2048.size a)
theorem k1_idx231_inb : ∀ (v4503 : IVec S16 32) (k1_hw231 : k1_chk231 v4503), ∀ a x, ((![v4503] : Fin 1 → IVec S16 32) a x).toNat < S2048.size a := fun v4503 k1_hw231 => k1_hw231

def k1_chk232 (v4518 : IVec S16 32) : Prop :=
  (∀ a x, ((![v4518] : Fin 1 → IVec S16 32) a x).toNat < S2048.size a)
theorem k1_idx232_inb : ∀ (v4518 : IVec S16 32) (k1_hw232 : k1_chk232 v4518), ∀ a x, ((![v4518] : Fin 1 → IVec S16 32) a x).toNat < S2048.size a := fun v4518 k1_hw232 => k1_hw232

def k1_chk233 (v4533 : IVec S16 32) : Prop :=
  (∀ a x, ((![v4533] : Fin 1 → IVec S16 32) a x).toNat < S2048.size a)
theorem k1_idx233_inb : ∀ (v4533 : IVec S16 32) (k1_hw233 : k1_chk233 v4533), ∀ a x, ((![v4533] : Fin 1 → IVec S16 32) a x).toNat < S2048.size a := fun v4533 k1_hw233 => k1_hw233

def k1_chk234 (v4548 : IVec S16 32) : Prop :=
  (∀ a x, ((![v4548] : Fin 1 → IVec S16 32) a x).toNat < S2048.size a)
theorem k1_idx234_inb : ∀ (v4548 : IVec S16 32) (k1_hw234 : k1_chk234 v4548), ∀ a x, ((![v4548] : Fin 1 → IVec S16 32) a x).toNat < S2048.size a := fun v4548 k1_hw234 => k1_hw234

def k1_chk235 (v4563 : IVec S16 32) : Prop :=
  (∀ a x, ((![v4563] : Fin 1 → IVec S16 32) a x).toNat < S2048.size a)
theorem k1_idx235_inb : ∀ (v4563 : IVec S16 32) (k1_hw235 : k1_chk235 v4563), ∀ a x, ((![v4563] : Fin 1 → IVec S16 32) a x).toNat < S2048.size a := fun v4563 k1_hw235 => k1_hw235

def k1_chk236 (v4578 : IVec S16 32) : Prop :=
  (∀ a x, ((![v4578] : Fin 1 → IVec S16 32) a x).toNat < S2048.size a)
theorem k1_idx236_inb : ∀ (v4578 : IVec S16 32) (k1_hw236 : k1_chk236 v4578), ∀ a x, ((![v4578] : Fin 1 → IVec S16 32) a x).toNat < S2048.size a := fun v4578 k1_hw236 => k1_hw236

def k1_chk237 (v4593 : IVec S16 32) : Prop :=
  (∀ a x, ((![v4593] : Fin 1 → IVec S16 32) a x).toNat < S2048.size a)
theorem k1_idx237_inb : ∀ (v4593 : IVec S16 32) (k1_hw237 : k1_chk237 v4593), ∀ a x, ((![v4593] : Fin 1 → IVec S16 32) a x).toNat < S2048.size a := fun v4593 k1_hw237 => k1_hw237

def k1_chk238 (v4608 : IVec S16 32) : Prop :=
  (∀ a x, ((![v4608] : Fin 1 → IVec S16 32) a x).toNat < S2048.size a)
theorem k1_idx238_inb : ∀ (v4608 : IVec S16 32) (k1_hw238 : k1_chk238 v4608), ∀ a x, ((![v4608] : Fin 1 → IVec S16 32) a x).toNat < S2048.size a := fun v4608 k1_hw238 => k1_hw238

def k1_chk239 (v4623 : IVec S16 32) : Prop :=
  (∀ a x, ((![v4623] : Fin 1 → IVec S16 32) a x).toNat < S2048.size a)
theorem k1_idx239_inb : ∀ (v4623 : IVec S16 32) (k1_hw239 : k1_chk239 v4623), ∀ a x, ((![v4623] : Fin 1 → IVec S16 32) a x).toNat < S2048.size a := fun v4623 k1_hw239 => k1_hw239

def k1_chk240 (v4638 : IVec S16 32) : Prop :=
  (∀ a x, ((![v4638] : Fin 1 → IVec S16 32) a x).toNat < S2048.size a)
theorem k1_idx240_inb : ∀ (v4638 : IVec S16 32) (k1_hw240 : k1_chk240 v4638), ∀ a x, ((![v4638] : Fin 1 → IVec S16 32) a x).toNat < S2048.size a := fun v4638 k1_hw240 => k1_hw240

def k1_chk241 (v4653 : IVec S16 32) : Prop :=
  (∀ a x, ((![v4653] : Fin 1 → IVec S16 32) a x).toNat < S2048.size a)
theorem k1_idx241_inb : ∀ (v4653 : IVec S16 32) (k1_hw241 : k1_chk241 v4653), ∀ a x, ((![v4653] : Fin 1 → IVec S16 32) a x).toNat < S2048.size a := fun v4653 k1_hw241 => k1_hw241

def k1_chk242 (v4668 : IVec S16 32) : Prop :=
  (∀ a x, ((![v4668] : Fin 1 → IVec S16 32) a x).toNat < S2048.size a)
theorem k1_idx242_inb : ∀ (v4668 : IVec S16 32) (k1_hw242 : k1_chk242 v4668), ∀ a x, ((![v4668] : Fin 1 → IVec S16 32) a x).toNat < S2048.size a := fun v4668 k1_hw242 => k1_hw242

def k1_chk243 (v4683 : IVec S16 32) : Prop :=
  (∀ a x, ((![v4683] : Fin 1 → IVec S16 32) a x).toNat < S2048.size a)
theorem k1_idx243_inb : ∀ (v4683 : IVec S16 32) (k1_hw243 : k1_chk243 v4683), ∀ a x, ((![v4683] : Fin 1 → IVec S16 32) a x).toNat < S2048.size a := fun v4683 k1_hw243 => k1_hw243

def k1_chk244 (v4698 : IVec S16 32) : Prop :=
  (∀ a x, ((![v4698] : Fin 1 → IVec S16 32) a x).toNat < S2048.size a)
theorem k1_idx244_inb : ∀ (v4698 : IVec S16 32) (k1_hw244 : k1_chk244 v4698), ∀ a x, ((![v4698] : Fin 1 → IVec S16 32) a x).toNat < S2048.size a := fun v4698 k1_hw244 => k1_hw244

def k1_chk245 (v4713 : IVec S16 32) : Prop :=
  (∀ a x, ((![v4713] : Fin 1 → IVec S16 32) a x).toNat < S2048.size a)
theorem k1_idx245_inb : ∀ (v4713 : IVec S16 32) (k1_hw245 : k1_chk245 v4713), ∀ a x, ((![v4713] : Fin 1 → IVec S16 32) a x).toNat < S2048.size a := fun v4713 k1_hw245 => k1_hw245

def k1_chk246 (v4728 : IVec S16 32) : Prop :=
  (∀ a x, ((![v4728] : Fin 1 → IVec S16 32) a x).toNat < S2048.size a)
theorem k1_idx246_inb : ∀ (v4728 : IVec S16 32) (k1_hw246 : k1_chk246 v4728), ∀ a x, ((![v4728] : Fin 1 → IVec S16 32) a x).toNat < S2048.size a := fun v4728 k1_hw246 => k1_hw246

def k1_chk247 (v4743 : IVec S16 32) : Prop :=
  (∀ a x, ((![v4743] : Fin 1 → IVec S16 32) a x).toNat < S2048.size a)
theorem k1_idx247_inb : ∀ (v4743 : IVec S16 32) (k1_hw247 : k1_chk247 v4743), ∀ a x, ((![v4743] : Fin 1 → IVec S16 32) a x).toNat < S2048.size a := fun v4743 k1_hw247 => k1_hw247

def k1_chk248 (v4758 : IVec S16 32) : Prop :=
  (∀ a x, ((![v4758] : Fin 1 → IVec S16 32) a x).toNat < S2048.size a)
theorem k1_idx248_inb : ∀ (v4758 : IVec S16 32) (k1_hw248 : k1_chk248 v4758), ∀ a x, ((![v4758] : Fin 1 → IVec S16 32) a x).toNat < S2048.size a := fun v4758 k1_hw248 => k1_hw248

def k1_chk249 (v4773 : IVec S16 32) : Prop :=
  (∀ a x, ((![v4773] : Fin 1 → IVec S16 32) a x).toNat < S2048.size a)
theorem k1_idx249_inb : ∀ (v4773 : IVec S16 32) (k1_hw249 : k1_chk249 v4773), ∀ a x, ((![v4773] : Fin 1 → IVec S16 32) a x).toNat < S2048.size a := fun v4773 k1_hw249 => k1_hw249

def k1_chk250 (v4788 : IVec S16 32) : Prop :=
  (∀ a x, ((![v4788] : Fin 1 → IVec S16 32) a x).toNat < S2048.size a)
theorem k1_idx250_inb : ∀ (v4788 : IVec S16 32) (k1_hw250 : k1_chk250 v4788), ∀ a x, ((![v4788] : Fin 1 → IVec S16 32) a x).toNat < S2048.size a := fun v4788 k1_hw250 => k1_hw250

def k1_chk251 (v4803 : IVec S16 32) : Prop :=
  (∀ a x, ((![v4803] : Fin 1 → IVec S16 32) a x).toNat < S2048.size a)
theorem k1_idx251_inb : ∀ (v4803 : IVec S16 32) (k1_hw251 : k1_chk251 v4803), ∀ a x, ((![v4803] : Fin 1 → IVec S16 32) a x).toNat < S2048.size a := fun v4803 k1_hw251 => k1_hw251

def k1_chk252 (v4818 : IVec S16 32) : Prop :=
  (∀ a x, ((![v4818] : Fin 1 → IVec S16 32) a x).toNat < S2048.size a)
theorem k1_idx252_inb : ∀ (v4818 : IVec S16 32) (k1_hw252 : k1_chk252 v4818), ∀ a x, ((![v4818] : Fin 1 → IVec S16 32) a x).toNat < S2048.size a := fun v4818 k1_hw252 => k1_hw252

def k1_chk253 (v4833 : IVec S16 32) : Prop :=
  (∀ a x, ((![v4833] : Fin 1 → IVec S16 32) a x).toNat < S2048.size a)
theorem k1_idx253_inb : ∀ (v4833 : IVec S16 32) (k1_hw253 : k1_chk253 v4833), ∀ a x, ((![v4833] : Fin 1 → IVec S16 32) a x).toNat < S2048.size a := fun v4833 k1_hw253 => k1_hw253

def k1_chk254 (v4848 : IVec S16 32) : Prop :=
  (∀ a x, ((![v4848] : Fin 1 → IVec S16 32) a x).toNat < S2048.size a)
theorem k1_idx254_inb : ∀ (v4848 : IVec S16 32) (k1_hw254 : k1_chk254 v4848), ∀ a x, ((![v4848] : Fin 1 → IVec S16 32) a x).toNat < S2048.size a := fun v4848 k1_hw254 => k1_hw254

def k1_chk255 (v4863 : IVec S16 32) : Prop :=
  (∀ a x, ((![v4863] : Fin 1 → IVec S16 32) a x).toNat < S2048.size a)
theorem k1_idx255_inb : ∀ (v4863 : IVec S16 32) (k1_hw255 : k1_chk255 v4863), ∀ a x, ((![v4863] : Fin 1 → IVec S16 32) a x).toNat < S2048.size a := fun v4863 k1_hw255 => k1_hw255

def k1_chk256 (v4878 : IVec S16 32) : Prop :=
  (∀ a x, ((![v4878] : Fin 1 → IVec S16 32) a x).toNat < S2048.size a)
theorem k1_idx256_inb : ∀ (v4878 : IVec S16 32) (k1_hw256 : k1_chk256 v4878), ∀ a x, ((![v4878] : Fin 1 → IVec S16 32) a x).toNat < S2048.size a := fun v4878 k1_hw256 => k1_hw256
def k1_cond1 (k1_t1 : Fin k1_t1_loop.trips) : BitVec 1 :=
  let c0_i32_481 : BitVec 32 := 0#32
  let c1_i32_483 : BitVec 32 := 1#32
  let arg14 : BitVec 32 := Scf.iv c0_i32_481 c1_i32_483 k1_t1
  let c7_i32_2296 : BitVec 32 := 7#32
  let v4885 : BitVec 1 := Scalar.cmpi .slt arg14 c7_i32_2296
  let v4886 : BitVec 32 := Scalar.extui v4885
  let c0_i32_2297 : BitVec 32 := 0#32
  let v4887 : BitVec 1 := Scalar.cmpi .ne v4886 c0_i32_2297
  v4887

def k1_off2 (k1_t1 : Fin k1_t1_loop.trips) : Fin 2 → Nat :=
  let c0_i32_481 : BitVec 32 := 0#32
  let c1_i32_483 : BitVec 32 := 1#32
  let arg14 : BitVec 32 := Scf.iv c0_i32_481 c1_i32_483 k1_t1
  let c2_i32_4094 : BitVec 32 := 2#32
  let v8731 : BitVec 32 := Scalar.muli arg14 c2_i32_4094
  let c2_i32_4095 : BitVec 32 := 2#32
  let v8732 : BitVec 32 := Scalar.addi v8731 c2_i32_4095
  let c32_i32_4096 : BitVec 32 := 32#32
  let v8733 : BitVec 32 := Scalar.muli v8732 c32_i32_4096
  let c0_i32_4097 : BitVec 32 := 0#32
  ![v8733.toNat, 0]

def k1_chk257 (v4901 : IVec S16 32) : Prop :=
  (∀ a x, ((![v4901] : Fin 1 → IVec S16 32) a x).toNat < S2048.size a)
theorem k1_idx257_inb : ∀ (v4901 : IVec S16 32) (k1_hw257 : k1_chk257 v4901), ∀ a x, ((![v4901] : Fin 1 → IVec S16 32) a x).toNat < S2048.size a := fun v4901 k1_hw257 => k1_hw257

def k1_chk258 (v4916 : IVec S16 32) : Prop :=
  (∀ a x, ((![v4916] : Fin 1 → IVec S16 32) a x).toNat < S2048.size a)
theorem k1_idx258_inb : ∀ (v4916 : IVec S16 32) (k1_hw258 : k1_chk258 v4916), ∀ a x, ((![v4916] : Fin 1 → IVec S16 32) a x).toNat < S2048.size a := fun v4916 k1_hw258 => k1_hw258

def k1_chk259 (v4931 : IVec S16 32) : Prop :=
  (∀ a x, ((![v4931] : Fin 1 → IVec S16 32) a x).toNat < S2048.size a)
theorem k1_idx259_inb : ∀ (v4931 : IVec S16 32) (k1_hw259 : k1_chk259 v4931), ∀ a x, ((![v4931] : Fin 1 → IVec S16 32) a x).toNat < S2048.size a := fun v4931 k1_hw259 => k1_hw259

def k1_chk260 (v4946 : IVec S16 32) : Prop :=
  (∀ a x, ((![v4946] : Fin 1 → IVec S16 32) a x).toNat < S2048.size a)
theorem k1_idx260_inb : ∀ (v4946 : IVec S16 32) (k1_hw260 : k1_chk260 v4946), ∀ a x, ((![v4946] : Fin 1 → IVec S16 32) a x).toNat < S2048.size a := fun v4946 k1_hw260 => k1_hw260

def k1_chk261 (v4961 : IVec S16 32) : Prop :=
  (∀ a x, ((![v4961] : Fin 1 → IVec S16 32) a x).toNat < S2048.size a)
theorem k1_idx261_inb : ∀ (v4961 : IVec S16 32) (k1_hw261 : k1_chk261 v4961), ∀ a x, ((![v4961] : Fin 1 → IVec S16 32) a x).toNat < S2048.size a := fun v4961 k1_hw261 => k1_hw261

def k1_chk262 (v4976 : IVec S16 32) : Prop :=
  (∀ a x, ((![v4976] : Fin 1 → IVec S16 32) a x).toNat < S2048.size a)
theorem k1_idx262_inb : ∀ (v4976 : IVec S16 32) (k1_hw262 : k1_chk262 v4976), ∀ a x, ((![v4976] : Fin 1 → IVec S16 32) a x).toNat < S2048.size a := fun v4976 k1_hw262 => k1_hw262

def k1_chk263 (v4991 : IVec S16 32) : Prop :=
  (∀ a x, ((![v4991] : Fin 1 → IVec S16 32) a x).toNat < S2048.size a)
theorem k1_idx263_inb : ∀ (v4991 : IVec S16 32) (k1_hw263 : k1_chk263 v4991), ∀ a x, ((![v4991] : Fin 1 → IVec S16 32) a x).toNat < S2048.size a := fun v4991 k1_hw263 => k1_hw263

def k1_chk264 (v5006 : IVec S16 32) : Prop :=
  (∀ a x, ((![v5006] : Fin 1 → IVec S16 32) a x).toNat < S2048.size a)
theorem k1_idx264_inb : ∀ (v5006 : IVec S16 32) (k1_hw264 : k1_chk264 v5006), ∀ a x, ((![v5006] : Fin 1 → IVec S16 32) a x).toNat < S2048.size a := fun v5006 k1_hw264 => k1_hw264

def k1_chk265 (v5021 : IVec S16 32) : Prop :=
  (∀ a x, ((![v5021] : Fin 1 → IVec S16 32) a x).toNat < S2048.size a)
theorem k1_idx265_inb : ∀ (v5021 : IVec S16 32) (k1_hw265 : k1_chk265 v5021), ∀ a x, ((![v5021] : Fin 1 → IVec S16 32) a x).toNat < S2048.size a := fun v5021 k1_hw265 => k1_hw265

def k1_chk266 (v5036 : IVec S16 32) : Prop :=
  (∀ a x, ((![v5036] : Fin 1 → IVec S16 32) a x).toNat < S2048.size a)
theorem k1_idx266_inb : ∀ (v5036 : IVec S16 32) (k1_hw266 : k1_chk266 v5036), ∀ a x, ((![v5036] : Fin 1 → IVec S16 32) a x).toNat < S2048.size a := fun v5036 k1_hw266 => k1_hw266

def k1_chk267 (v5051 : IVec S16 32) : Prop :=
  (∀ a x, ((![v5051] : Fin 1 → IVec S16 32) a x).toNat < S2048.size a)
theorem k1_idx267_inb : ∀ (v5051 : IVec S16 32) (k1_hw267 : k1_chk267 v5051), ∀ a x, ((![v5051] : Fin 1 → IVec S16 32) a x).toNat < S2048.size a := fun v5051 k1_hw267 => k1_hw267

def k1_chk268 (v5066 : IVec S16 32) : Prop :=
  (∀ a x, ((![v5066] : Fin 1 → IVec S16 32) a x).toNat < S2048.size a)
theorem k1_idx268_inb : ∀ (v5066 : IVec S16 32) (k1_hw268 : k1_chk268 v5066), ∀ a x, ((![v5066] : Fin 1 → IVec S16 32) a x).toNat < S2048.size a := fun v5066 k1_hw268 => k1_hw268

def k1_chk269 (v5081 : IVec S16 32) : Prop :=
  (∀ a x, ((![v5081] : Fin 1 → IVec S16 32) a x).toNat < S2048.size a)
theorem k1_idx269_inb : ∀ (v5081 : IVec S16 32) (k1_hw269 : k1_chk269 v5081), ∀ a x, ((![v5081] : Fin 1 → IVec S16 32) a x).toNat < S2048.size a := fun v5081 k1_hw269 => k1_hw269

def k1_chk270 (v5096 : IVec S16 32) : Prop :=
  (∀ a x, ((![v5096] : Fin 1 → IVec S16 32) a x).toNat < S2048.size a)
theorem k1_idx270_inb : ∀ (v5096 : IVec S16 32) (k1_hw270 : k1_chk270 v5096), ∀ a x, ((![v5096] : Fin 1 → IVec S16 32) a x).toNat < S2048.size a := fun v5096 k1_hw270 => k1_hw270

def k1_chk271 (v5111 : IVec S16 32) : Prop :=
  (∀ a x, ((![v5111] : Fin 1 → IVec S16 32) a x).toNat < S2048.size a)
theorem k1_idx271_inb : ∀ (v5111 : IVec S16 32) (k1_hw271 : k1_chk271 v5111), ∀ a x, ((![v5111] : Fin 1 → IVec S16 32) a x).toNat < S2048.size a := fun v5111 k1_hw271 => k1_hw271

def k1_chk272 (v5126 : IVec S16 32) : Prop :=
  (∀ a x, ((![v5126] : Fin 1 → IVec S16 32) a x).toNat < S2048.size a)
theorem k1_idx272_inb : ∀ (v5126 : IVec S16 32) (k1_hw272 : k1_chk272 v5126), ∀ a x, ((![v5126] : Fin 1 → IVec S16 32) a x).toNat < S2048.size a := fun v5126 k1_hw272 => k1_hw272

def k1_chk273 (v5141 : IVec S16 32) : Prop :=
  (∀ a x, ((![v5141] : Fin 1 → IVec S16 32) a x).toNat < S2048.size a)
theorem k1_idx273_inb : ∀ (v5141 : IVec S16 32) (k1_hw273 : k1_chk273 v5141), ∀ a x, ((![v5141] : Fin 1 → IVec S16 32) a x).toNat < S2048.size a := fun v5141 k1_hw273 => k1_hw273

def k1_chk274 (v5156 : IVec S16 32) : Prop :=
  (∀ a x, ((![v5156] : Fin 1 → IVec S16 32) a x).toNat < S2048.size a)
theorem k1_idx274_inb : ∀ (v5156 : IVec S16 32) (k1_hw274 : k1_chk274 v5156), ∀ a x, ((![v5156] : Fin 1 → IVec S16 32) a x).toNat < S2048.size a := fun v5156 k1_hw274 => k1_hw274

def k1_chk275 (v5171 : IVec S16 32) : Prop :=
  (∀ a x, ((![v5171] : Fin 1 → IVec S16 32) a x).toNat < S2048.size a)
theorem k1_idx275_inb : ∀ (v5171 : IVec S16 32) (k1_hw275 : k1_chk275 v5171), ∀ a x, ((![v5171] : Fin 1 → IVec S16 32) a x).toNat < S2048.size a := fun v5171 k1_hw275 => k1_hw275

def k1_chk276 (v5186 : IVec S16 32) : Prop :=
  (∀ a x, ((![v5186] : Fin 1 → IVec S16 32) a x).toNat < S2048.size a)
theorem k1_idx276_inb : ∀ (v5186 : IVec S16 32) (k1_hw276 : k1_chk276 v5186), ∀ a x, ((![v5186] : Fin 1 → IVec S16 32) a x).toNat < S2048.size a := fun v5186 k1_hw276 => k1_hw276

def k1_chk277 (v5201 : IVec S16 32) : Prop :=
  (∀ a x, ((![v5201] : Fin 1 → IVec S16 32) a x).toNat < S2048.size a)
theorem k1_idx277_inb : ∀ (v5201 : IVec S16 32) (k1_hw277 : k1_chk277 v5201), ∀ a x, ((![v5201] : Fin 1 → IVec S16 32) a x).toNat < S2048.size a := fun v5201 k1_hw277 => k1_hw277

def k1_chk278 (v5216 : IVec S16 32) : Prop :=
  (∀ a x, ((![v5216] : Fin 1 → IVec S16 32) a x).toNat < S2048.size a)
theorem k1_idx278_inb : ∀ (v5216 : IVec S16 32) (k1_hw278 : k1_chk278 v5216), ∀ a x, ((![v5216] : Fin 1 → IVec S16 32) a x).toNat < S2048.size a := fun v5216 k1_hw278 => k1_hw278

def k1_chk279 (v5231 : IVec S16 32) : Prop :=
  (∀ a x, ((![v5231] : Fin 1 → IVec S16 32) a x).toNat < S2048.size a)
theorem k1_idx279_inb : ∀ (v5231 : IVec S16 32) (k1_hw279 : k1_chk279 v5231), ∀ a x, ((![v5231] : Fin 1 → IVec S16 32) a x).toNat < S2048.size a := fun v5231 k1_hw279 => k1_hw279

def k1_chk280 (v5246 : IVec S16 32) : Prop :=
  (∀ a x, ((![v5246] : Fin 1 → IVec S16 32) a x).toNat < S2048.size a)
theorem k1_idx280_inb : ∀ (v5246 : IVec S16 32) (k1_hw280 : k1_chk280 v5246), ∀ a x, ((![v5246] : Fin 1 → IVec S16 32) a x).toNat < S2048.size a := fun v5246 k1_hw280 => k1_hw280

def k1_chk281 (v5261 : IVec S16 32) : Prop :=
  (∀ a x, ((![v5261] : Fin 1 → IVec S16 32) a x).toNat < S2048.size a)
theorem k1_idx281_inb : ∀ (v5261 : IVec S16 32) (k1_hw281 : k1_chk281 v5261), ∀ a x, ((![v5261] : Fin 1 → IVec S16 32) a x).toNat < S2048.size a := fun v5261 k1_hw281 => k1_hw281

def k1_chk282 (v5276 : IVec S16 32) : Prop :=
  (∀ a x, ((![v5276] : Fin 1 → IVec S16 32) a x).toNat < S2048.size a)
theorem k1_idx282_inb : ∀ (v5276 : IVec S16 32) (k1_hw282 : k1_chk282 v5276), ∀ a x, ((![v5276] : Fin 1 → IVec S16 32) a x).toNat < S2048.size a := fun v5276 k1_hw282 => k1_hw282

def k1_chk283 (v5291 : IVec S16 32) : Prop :=
  (∀ a x, ((![v5291] : Fin 1 → IVec S16 32) a x).toNat < S2048.size a)
theorem k1_idx283_inb : ∀ (v5291 : IVec S16 32) (k1_hw283 : k1_chk283 v5291), ∀ a x, ((![v5291] : Fin 1 → IVec S16 32) a x).toNat < S2048.size a := fun v5291 k1_hw283 => k1_hw283

def k1_chk284 (v5306 : IVec S16 32) : Prop :=
  (∀ a x, ((![v5306] : Fin 1 → IVec S16 32) a x).toNat < S2048.size a)
theorem k1_idx284_inb : ∀ (v5306 : IVec S16 32) (k1_hw284 : k1_chk284 v5306), ∀ a x, ((![v5306] : Fin 1 → IVec S16 32) a x).toNat < S2048.size a := fun v5306 k1_hw284 => k1_hw284

def k1_chk285 (v5321 : IVec S16 32) : Prop :=
  (∀ a x, ((![v5321] : Fin 1 → IVec S16 32) a x).toNat < S2048.size a)
theorem k1_idx285_inb : ∀ (v5321 : IVec S16 32) (k1_hw285 : k1_chk285 v5321), ∀ a x, ((![v5321] : Fin 1 → IVec S16 32) a x).toNat < S2048.size a := fun v5321 k1_hw285 => k1_hw285

def k1_chk286 (v5336 : IVec S16 32) : Prop :=
  (∀ a x, ((![v5336] : Fin 1 → IVec S16 32) a x).toNat < S2048.size a)
theorem k1_idx286_inb : ∀ (v5336 : IVec S16 32) (k1_hw286 : k1_chk286 v5336), ∀ a x, ((![v5336] : Fin 1 → IVec S16 32) a x).toNat < S2048.size a := fun v5336 k1_hw286 => k1_hw286

def k1_chk287 (v5351 : IVec S16 32) : Prop :=
  (∀ a x, ((![v5351] : Fin 1 → IVec S16 32) a x).toNat < S2048.size a)
theorem k1_idx287_inb : ∀ (v5351 : IVec S16 32) (k1_hw287 : k1_chk287 v5351), ∀ a x, ((![v5351] : Fin 1 → IVec S16 32) a x).toNat < S2048.size a := fun v5351 k1_hw287 => k1_hw287

def k1_chk288 (v5366 : IVec S16 32) : Prop :=
  (∀ a x, ((![v5366] : Fin 1 → IVec S16 32) a x).toNat < S2048.size a)
theorem k1_idx288_inb : ∀ (v5366 : IVec S16 32) (k1_hw288 : k1_chk288 v5366), ∀ a x, ((![v5366] : Fin 1 → IVec S16 32) a x).toNat < S2048.size a := fun v5366 k1_hw288 => k1_hw288

def k1_chk289 (v5381 : IVec S16 32) : Prop :=
  (∀ a x, ((![v5381] : Fin 1 → IVec S16 32) a x).toNat < S2048.size a)
theorem k1_idx289_inb : ∀ (v5381 : IVec S16 32) (k1_hw289 : k1_chk289 v5381), ∀ a x, ((![v5381] : Fin 1 → IVec S16 32) a x).toNat < S2048.size a := fun v5381 k1_hw289 => k1_hw289

def k1_chk290 (v5396 : IVec S16 32) : Prop :=
  (∀ a x, ((![v5396] : Fin 1 → IVec S16 32) a x).toNat < S2048.size a)
theorem k1_idx290_inb : ∀ (v5396 : IVec S16 32) (k1_hw290 : k1_chk290 v5396), ∀ a x, ((![v5396] : Fin 1 → IVec S16 32) a x).toNat < S2048.size a := fun v5396 k1_hw290 => k1_hw290

def k1_chk291 (v5411 : IVec S16 32) : Prop :=
  (∀ a x, ((![v5411] : Fin 1 → IVec S16 32) a x).toNat < S2048.size a)
theorem k1_idx291_inb : ∀ (v5411 : IVec S16 32) (k1_hw291 : k1_chk291 v5411), ∀ a x, ((![v5411] : Fin 1 → IVec S16 32) a x).toNat < S2048.size a := fun v5411 k1_hw291 => k1_hw291

def k1_chk292 (v5426 : IVec S16 32) : Prop :=
  (∀ a x, ((![v5426] : Fin 1 → IVec S16 32) a x).toNat < S2048.size a)
theorem k1_idx292_inb : ∀ (v5426 : IVec S16 32) (k1_hw292 : k1_chk292 v5426), ∀ a x, ((![v5426] : Fin 1 → IVec S16 32) a x).toNat < S2048.size a := fun v5426 k1_hw292 => k1_hw292

def k1_chk293 (v5441 : IVec S16 32) : Prop :=
  (∀ a x, ((![v5441] : Fin 1 → IVec S16 32) a x).toNat < S2048.size a)
theorem k1_idx293_inb : ∀ (v5441 : IVec S16 32) (k1_hw293 : k1_chk293 v5441), ∀ a x, ((![v5441] : Fin 1 → IVec S16 32) a x).toNat < S2048.size a := fun v5441 k1_hw293 => k1_hw293

def k1_chk294 (v5456 : IVec S16 32) : Prop :=
  (∀ a x, ((![v5456] : Fin 1 → IVec S16 32) a x).toNat < S2048.size a)
theorem k1_idx294_inb : ∀ (v5456 : IVec S16 32) (k1_hw294 : k1_chk294 v5456), ∀ a x, ((![v5456] : Fin 1 → IVec S16 32) a x).toNat < S2048.size a := fun v5456 k1_hw294 => k1_hw294

def k1_chk295 (v5471 : IVec S16 32) : Prop :=
  (∀ a x, ((![v5471] : Fin 1 → IVec S16 32) a x).toNat < S2048.size a)
theorem k1_idx295_inb : ∀ (v5471 : IVec S16 32) (k1_hw295 : k1_chk295 v5471), ∀ a x, ((![v5471] : Fin 1 → IVec S16 32) a x).toNat < S2048.size a := fun v5471 k1_hw295 => k1_hw295

def k1_chk296 (v5486 : IVec S16 32) : Prop :=
  (∀ a x, ((![v5486] : Fin 1 → IVec S16 32) a x).toNat < S2048.size a)
theorem k1_idx296_inb : ∀ (v5486 : IVec S16 32) (k1_hw296 : k1_chk296 v5486), ∀ a x, ((![v5486] : Fin 1 → IVec S16 32) a x).toNat < S2048.size a := fun v5486 k1_hw296 => k1_hw296

def k1_chk297 (v5501 : IVec S16 32) : Prop :=
  (∀ a x, ((![v5501] : Fin 1 → IVec S16 32) a x).toNat < S2048.size a)
theorem k1_idx297_inb : ∀ (v5501 : IVec S16 32) (k1_hw297 : k1_chk297 v5501), ∀ a x, ((![v5501] : Fin 1 → IVec S16 32) a x).toNat < S2048.size a := fun v5501 k1_hw297 => k1_hw297

def k1_chk298 (v5516 : IVec S16 32) : Prop :=
  (∀ a x, ((![v5516] : Fin 1 → IVec S16 32) a x).toNat < S2048.size a)
theorem k1_idx298_inb : ∀ (v5516 : IVec S16 32) (k1_hw298 : k1_chk298 v5516), ∀ a x, ((![v5516] : Fin 1 → IVec S16 32) a x).toNat < S2048.size a := fun v5516 k1_hw298 => k1_hw298

def k1_chk299 (v5531 : IVec S16 32) : Prop :=
  (∀ a x, ((![v5531] : Fin 1 → IVec S16 32) a x).toNat < S2048.size a)
theorem k1_idx299_inb : ∀ (v5531 : IVec S16 32) (k1_hw299 : k1_chk299 v5531), ∀ a x, ((![v5531] : Fin 1 → IVec S16 32) a x).toNat < S2048.size a := fun v5531 k1_hw299 => k1_hw299

def k1_chk300 (v5546 : IVec S16 32) : Prop :=
  (∀ a x, ((![v5546] : Fin 1 → IVec S16 32) a x).toNat < S2048.size a)
theorem k1_idx300_inb : ∀ (v5546 : IVec S16 32) (k1_hw300 : k1_chk300 v5546), ∀ a x, ((![v5546] : Fin 1 → IVec S16 32) a x).toNat < S2048.size a := fun v5546 k1_hw300 => k1_hw300

def k1_chk301 (v5561 : IVec S16 32) : Prop :=
  (∀ a x, ((![v5561] : Fin 1 → IVec S16 32) a x).toNat < S2048.size a)
theorem k1_idx301_inb : ∀ (v5561 : IVec S16 32) (k1_hw301 : k1_chk301 v5561), ∀ a x, ((![v5561] : Fin 1 → IVec S16 32) a x).toNat < S2048.size a := fun v5561 k1_hw301 => k1_hw301

def k1_chk302 (v5576 : IVec S16 32) : Prop :=
  (∀ a x, ((![v5576] : Fin 1 → IVec S16 32) a x).toNat < S2048.size a)
theorem k1_idx302_inb : ∀ (v5576 : IVec S16 32) (k1_hw302 : k1_chk302 v5576), ∀ a x, ((![v5576] : Fin 1 → IVec S16 32) a x).toNat < S2048.size a := fun v5576 k1_hw302 => k1_hw302

def k1_chk303 (v5591 : IVec S16 32) : Prop :=
  (∀ a x, ((![v5591] : Fin 1 → IVec S16 32) a x).toNat < S2048.size a)
theorem k1_idx303_inb : ∀ (v5591 : IVec S16 32) (k1_hw303 : k1_chk303 v5591), ∀ a x, ((![v5591] : Fin 1 → IVec S16 32) a x).toNat < S2048.size a := fun v5591 k1_hw303 => k1_hw303

def k1_chk304 (v5606 : IVec S16 32) : Prop :=
  (∀ a x, ((![v5606] : Fin 1 → IVec S16 32) a x).toNat < S2048.size a)
theorem k1_idx304_inb : ∀ (v5606 : IVec S16 32) (k1_hw304 : k1_chk304 v5606), ∀ a x, ((![v5606] : Fin 1 → IVec S16 32) a x).toNat < S2048.size a := fun v5606 k1_hw304 => k1_hw304

def k1_chk305 (v5621 : IVec S16 32) : Prop :=
  (∀ a x, ((![v5621] : Fin 1 → IVec S16 32) a x).toNat < S2048.size a)
theorem k1_idx305_inb : ∀ (v5621 : IVec S16 32) (k1_hw305 : k1_chk305 v5621), ∀ a x, ((![v5621] : Fin 1 → IVec S16 32) a x).toNat < S2048.size a := fun v5621 k1_hw305 => k1_hw305

def k1_chk306 (v5636 : IVec S16 32) : Prop :=
  (∀ a x, ((![v5636] : Fin 1 → IVec S16 32) a x).toNat < S2048.size a)
theorem k1_idx306_inb : ∀ (v5636 : IVec S16 32) (k1_hw306 : k1_chk306 v5636), ∀ a x, ((![v5636] : Fin 1 → IVec S16 32) a x).toNat < S2048.size a := fun v5636 k1_hw306 => k1_hw306

def k1_chk307 (v5651 : IVec S16 32) : Prop :=
  (∀ a x, ((![v5651] : Fin 1 → IVec S16 32) a x).toNat < S2048.size a)
theorem k1_idx307_inb : ∀ (v5651 : IVec S16 32) (k1_hw307 : k1_chk307 v5651), ∀ a x, ((![v5651] : Fin 1 → IVec S16 32) a x).toNat < S2048.size a := fun v5651 k1_hw307 => k1_hw307

def k1_chk308 (v5666 : IVec S16 32) : Prop :=
  (∀ a x, ((![v5666] : Fin 1 → IVec S16 32) a x).toNat < S2048.size a)
theorem k1_idx308_inb : ∀ (v5666 : IVec S16 32) (k1_hw308 : k1_chk308 v5666), ∀ a x, ((![v5666] : Fin 1 → IVec S16 32) a x).toNat < S2048.size a := fun v5666 k1_hw308 => k1_hw308

def k1_chk309 (v5681 : IVec S16 32) : Prop :=
  (∀ a x, ((![v5681] : Fin 1 → IVec S16 32) a x).toNat < S2048.size a)
theorem k1_idx309_inb : ∀ (v5681 : IVec S16 32) (k1_hw309 : k1_chk309 v5681), ∀ a x, ((![v5681] : Fin 1 → IVec S16 32) a x).toNat < S2048.size a := fun v5681 k1_hw309 => k1_hw309

def k1_chk310 (v5696 : IVec S16 32) : Prop :=
  (∀ a x, ((![v5696] : Fin 1 → IVec S16 32) a x).toNat < S2048.size a)
theorem k1_idx310_inb : ∀ (v5696 : IVec S16 32) (k1_hw310 : k1_chk310 v5696), ∀ a x, ((![v5696] : Fin 1 → IVec S16 32) a x).toNat < S2048.size a := fun v5696 k1_hw310 => k1_hw310

def k1_chk311 (v5711 : IVec S16 32) : Prop :=
  (∀ a x, ((![v5711] : Fin 1 → IVec S16 32) a x).toNat < S2048.size a)
theorem k1_idx311_inb : ∀ (v5711 : IVec S16 32) (k1_hw311 : k1_chk311 v5711), ∀ a x, ((![v5711] : Fin 1 → IVec S16 32) a x).toNat < S2048.size a := fun v5711 k1_hw311 => k1_hw311

def k1_chk312 (v5726 : IVec S16 32) : Prop :=
  (∀ a x, ((![v5726] : Fin 1 → IVec S16 32) a x).toNat < S2048.size a)
theorem k1_idx312_inb : ∀ (v5726 : IVec S16 32) (k1_hw312 : k1_chk312 v5726), ∀ a x, ((![v5726] : Fin 1 → IVec S16 32) a x).toNat < S2048.size a := fun v5726 k1_hw312 => k1_hw312

def k1_chk313 (v5741 : IVec S16 32) : Prop :=
  (∀ a x, ((![v5741] : Fin 1 → IVec S16 32) a x).toNat < S2048.size a)
theorem k1_idx313_inb : ∀ (v5741 : IVec S16 32) (k1_hw313 : k1_chk313 v5741), ∀ a x, ((![v5741] : Fin 1 → IVec S16 32) a x).toNat < S2048.size a := fun v5741 k1_hw313 => k1_hw313

def k1_chk314 (v5756 : IVec S16 32) : Prop :=
  (∀ a x, ((![v5756] : Fin 1 → IVec S16 32) a x).toNat < S2048.size a)
theorem k1_idx314_inb : ∀ (v5756 : IVec S16 32) (k1_hw314 : k1_chk314 v5756), ∀ a x, ((![v5756] : Fin 1 → IVec S16 32) a x).toNat < S2048.size a := fun v5756 k1_hw314 => k1_hw314

def k1_chk315 (v5771 : IVec S16 32) : Prop :=
  (∀ a x, ((![v5771] : Fin 1 → IVec S16 32) a x).toNat < S2048.size a)
theorem k1_idx315_inb : ∀ (v5771 : IVec S16 32) (k1_hw315 : k1_chk315 v5771), ∀ a x, ((![v5771] : Fin 1 → IVec S16 32) a x).toNat < S2048.size a := fun v5771 k1_hw315 => k1_hw315

def k1_chk316 (v5786 : IVec S16 32) : Prop :=
  (∀ a x, ((![v5786] : Fin 1 → IVec S16 32) a x).toNat < S2048.size a)
theorem k1_idx316_inb : ∀ (v5786 : IVec S16 32) (k1_hw316 : k1_chk316 v5786), ∀ a x, ((![v5786] : Fin 1 → IVec S16 32) a x).toNat < S2048.size a := fun v5786 k1_hw316 => k1_hw316

def k1_chk317 (v5801 : IVec S16 32) : Prop :=
  (∀ a x, ((![v5801] : Fin 1 → IVec S16 32) a x).toNat < S2048.size a)
theorem k1_idx317_inb : ∀ (v5801 : IVec S16 32) (k1_hw317 : k1_chk317 v5801), ∀ a x, ((![v5801] : Fin 1 → IVec S16 32) a x).toNat < S2048.size a := fun v5801 k1_hw317 => k1_hw317

def k1_chk318 (v5816 : IVec S16 32) : Prop :=
  (∀ a x, ((![v5816] : Fin 1 → IVec S16 32) a x).toNat < S2048.size a)
theorem k1_idx318_inb : ∀ (v5816 : IVec S16 32) (k1_hw318 : k1_chk318 v5816), ∀ a x, ((![v5816] : Fin 1 → IVec S16 32) a x).toNat < S2048.size a := fun v5816 k1_hw318 => k1_hw318

def k1_chk319 (v5831 : IVec S16 32) : Prop :=
  (∀ a x, ((![v5831] : Fin 1 → IVec S16 32) a x).toNat < S2048.size a)
theorem k1_idx319_inb : ∀ (v5831 : IVec S16 32) (k1_hw319 : k1_chk319 v5831), ∀ a x, ((![v5831] : Fin 1 → IVec S16 32) a x).toNat < S2048.size a := fun v5831 k1_hw319 => k1_hw319

def k1_chk320 (v5846 : IVec S16 32) : Prop :=
  (∀ a x, ((![v5846] : Fin 1 → IVec S16 32) a x).toNat < S2048.size a)
theorem k1_idx320_inb : ∀ (v5846 : IVec S16 32) (k1_hw320 : k1_chk320 v5846), ∀ a x, ((![v5846] : Fin 1 → IVec S16 32) a x).toNat < S2048.size a := fun v5846 k1_hw320 => k1_hw320

def k1_chk321 (v5861 : IVec S16 32) : Prop :=
  (∀ a x, ((![v5861] : Fin 1 → IVec S16 32) a x).toNat < S2048.size a)
theorem k1_idx321_inb : ∀ (v5861 : IVec S16 32) (k1_hw321 : k1_chk321 v5861), ∀ a x, ((![v5861] : Fin 1 → IVec S16 32) a x).toNat < S2048.size a := fun v5861 k1_hw321 => k1_hw321

def k1_chk322 (v5876 : IVec S16 32) : Prop :=
  (∀ a x, ((![v5876] : Fin 1 → IVec S16 32) a x).toNat < S2048.size a)
theorem k1_idx322_inb : ∀ (v5876 : IVec S16 32) (k1_hw322 : k1_chk322 v5876), ∀ a x, ((![v5876] : Fin 1 → IVec S16 32) a x).toNat < S2048.size a := fun v5876 k1_hw322 => k1_hw322

def k1_chk323 (v5891 : IVec S16 32) : Prop :=
  (∀ a x, ((![v5891] : Fin 1 → IVec S16 32) a x).toNat < S2048.size a)
theorem k1_idx323_inb : ∀ (v5891 : IVec S16 32) (k1_hw323 : k1_chk323 v5891), ∀ a x, ((![v5891] : Fin 1 → IVec S16 32) a x).toNat < S2048.size a := fun v5891 k1_hw323 => k1_hw323

def k1_chk324 (v5906 : IVec S16 32) : Prop :=
  (∀ a x, ((![v5906] : Fin 1 → IVec S16 32) a x).toNat < S2048.size a)
theorem k1_idx324_inb : ∀ (v5906 : IVec S16 32) (k1_hw324 : k1_chk324 v5906), ∀ a x, ((![v5906] : Fin 1 → IVec S16 32) a x).toNat < S2048.size a := fun v5906 k1_hw324 => k1_hw324

def k1_chk325 (v5921 : IVec S16 32) : Prop :=
  (∀ a x, ((![v5921] : Fin 1 → IVec S16 32) a x).toNat < S2048.size a)
theorem k1_idx325_inb : ∀ (v5921 : IVec S16 32) (k1_hw325 : k1_chk325 v5921), ∀ a x, ((![v5921] : Fin 1 → IVec S16 32) a x).toNat < S2048.size a := fun v5921 k1_hw325 => k1_hw325

def k1_chk326 (v5936 : IVec S16 32) : Prop :=
  (∀ a x, ((![v5936] : Fin 1 → IVec S16 32) a x).toNat < S2048.size a)
theorem k1_idx326_inb : ∀ (v5936 : IVec S16 32) (k1_hw326 : k1_chk326 v5936), ∀ a x, ((![v5936] : Fin 1 → IVec S16 32) a x).toNat < S2048.size a := fun v5936 k1_hw326 => k1_hw326

def k1_chk327 (v5951 : IVec S16 32) : Prop :=
  (∀ a x, ((![v5951] : Fin 1 → IVec S16 32) a x).toNat < S2048.size a)
theorem k1_idx327_inb : ∀ (v5951 : IVec S16 32) (k1_hw327 : k1_chk327 v5951), ∀ a x, ((![v5951] : Fin 1 → IVec S16 32) a x).toNat < S2048.size a := fun v5951 k1_hw327 => k1_hw327

def k1_chk328 (v5966 : IVec S16 32) : Prop :=
  (∀ a x, ((![v5966] : Fin 1 → IVec S16 32) a x).toNat < S2048.size a)
theorem k1_idx328_inb : ∀ (v5966 : IVec S16 32) (k1_hw328 : k1_chk328 v5966), ∀ a x, ((![v5966] : Fin 1 → IVec S16 32) a x).toNat < S2048.size a := fun v5966 k1_hw328 => k1_hw328

def k1_chk329 (v5981 : IVec S16 32) : Prop :=
  (∀ a x, ((![v5981] : Fin 1 → IVec S16 32) a x).toNat < S2048.size a)
theorem k1_idx329_inb : ∀ (v5981 : IVec S16 32) (k1_hw329 : k1_chk329 v5981), ∀ a x, ((![v5981] : Fin 1 → IVec S16 32) a x).toNat < S2048.size a := fun v5981 k1_hw329 => k1_hw329

def k1_chk330 (v5996 : IVec S16 32) : Prop :=
  (∀ a x, ((![v5996] : Fin 1 → IVec S16 32) a x).toNat < S2048.size a)
theorem k1_idx330_inb : ∀ (v5996 : IVec S16 32) (k1_hw330 : k1_chk330 v5996), ∀ a x, ((![v5996] : Fin 1 → IVec S16 32) a x).toNat < S2048.size a := fun v5996 k1_hw330 => k1_hw330

def k1_chk331 (v6011 : IVec S16 32) : Prop :=
  (∀ a x, ((![v6011] : Fin 1 → IVec S16 32) a x).toNat < S2048.size a)
theorem k1_idx331_inb : ∀ (v6011 : IVec S16 32) (k1_hw331 : k1_chk331 v6011), ∀ a x, ((![v6011] : Fin 1 → IVec S16 32) a x).toNat < S2048.size a := fun v6011 k1_hw331 => k1_hw331

def k1_chk332 (v6026 : IVec S16 32) : Prop :=
  (∀ a x, ((![v6026] : Fin 1 → IVec S16 32) a x).toNat < S2048.size a)
theorem k1_idx332_inb : ∀ (v6026 : IVec S16 32) (k1_hw332 : k1_chk332 v6026), ∀ a x, ((![v6026] : Fin 1 → IVec S16 32) a x).toNat < S2048.size a := fun v6026 k1_hw332 => k1_hw332

def k1_chk333 (v6041 : IVec S16 32) : Prop :=
  (∀ a x, ((![v6041] : Fin 1 → IVec S16 32) a x).toNat < S2048.size a)
theorem k1_idx333_inb : ∀ (v6041 : IVec S16 32) (k1_hw333 : k1_chk333 v6041), ∀ a x, ((![v6041] : Fin 1 → IVec S16 32) a x).toNat < S2048.size a := fun v6041 k1_hw333 => k1_hw333

def k1_chk334 (v6056 : IVec S16 32) : Prop :=
  (∀ a x, ((![v6056] : Fin 1 → IVec S16 32) a x).toNat < S2048.size a)
theorem k1_idx334_inb : ∀ (v6056 : IVec S16 32) (k1_hw334 : k1_chk334 v6056), ∀ a x, ((![v6056] : Fin 1 → IVec S16 32) a x).toNat < S2048.size a := fun v6056 k1_hw334 => k1_hw334

def k1_chk335 (v6071 : IVec S16 32) : Prop :=
  (∀ a x, ((![v6071] : Fin 1 → IVec S16 32) a x).toNat < S2048.size a)
theorem k1_idx335_inb : ∀ (v6071 : IVec S16 32) (k1_hw335 : k1_chk335 v6071), ∀ a x, ((![v6071] : Fin 1 → IVec S16 32) a x).toNat < S2048.size a := fun v6071 k1_hw335 => k1_hw335

def k1_chk336 (v6086 : IVec S16 32) : Prop :=
  (∀ a x, ((![v6086] : Fin 1 → IVec S16 32) a x).toNat < S2048.size a)
theorem k1_idx336_inb : ∀ (v6086 : IVec S16 32) (k1_hw336 : k1_chk336 v6086), ∀ a x, ((![v6086] : Fin 1 → IVec S16 32) a x).toNat < S2048.size a := fun v6086 k1_hw336 => k1_hw336

def k1_chk337 (v6101 : IVec S16 32) : Prop :=
  (∀ a x, ((![v6101] : Fin 1 → IVec S16 32) a x).toNat < S2048.size a)
theorem k1_idx337_inb : ∀ (v6101 : IVec S16 32) (k1_hw337 : k1_chk337 v6101), ∀ a x, ((![v6101] : Fin 1 → IVec S16 32) a x).toNat < S2048.size a := fun v6101 k1_hw337 => k1_hw337

def k1_chk338 (v6116 : IVec S16 32) : Prop :=
  (∀ a x, ((![v6116] : Fin 1 → IVec S16 32) a x).toNat < S2048.size a)
theorem k1_idx338_inb : ∀ (v6116 : IVec S16 32) (k1_hw338 : k1_chk338 v6116), ∀ a x, ((![v6116] : Fin 1 → IVec S16 32) a x).toNat < S2048.size a := fun v6116 k1_hw338 => k1_hw338

def k1_chk339 (v6131 : IVec S16 32) : Prop :=
  (∀ a x, ((![v6131] : Fin 1 → IVec S16 32) a x).toNat < S2048.size a)
theorem k1_idx339_inb : ∀ (v6131 : IVec S16 32) (k1_hw339 : k1_chk339 v6131), ∀ a x, ((![v6131] : Fin 1 → IVec S16 32) a x).toNat < S2048.size a := fun v6131 k1_hw339 => k1_hw339

def k1_chk340 (v6146 : IVec S16 32) : Prop :=
  (∀ a x, ((![v6146] : Fin 1 → IVec S16 32) a x).toNat < S2048.size a)
theorem k1_idx340_inb : ∀ (v6146 : IVec S16 32) (k1_hw340 : k1_chk340 v6146), ∀ a x, ((![v6146] : Fin 1 → IVec S16 32) a x).toNat < S2048.size a := fun v6146 k1_hw340 => k1_hw340

def k1_chk341 (v6161 : IVec S16 32) : Prop :=
  (∀ a x, ((![v6161] : Fin 1 → IVec S16 32) a x).toNat < S2048.size a)
theorem k1_idx341_inb : ∀ (v6161 : IVec S16 32) (k1_hw341 : k1_chk341 v6161), ∀ a x, ((![v6161] : Fin 1 → IVec S16 32) a x).toNat < S2048.size a := fun v6161 k1_hw341 => k1_hw341

def k1_chk342 (v6176 : IVec S16 32) : Prop :=
  (∀ a x, ((![v6176] : Fin 1 → IVec S16 32) a x).toNat < S2048.size a)
theorem k1_idx342_inb : ∀ (v6176 : IVec S16 32) (k1_hw342 : k1_chk342 v6176), ∀ a x, ((![v6176] : Fin 1 → IVec S16 32) a x).toNat < S2048.size a := fun v6176 k1_hw342 => k1_hw342

def k1_chk343 (v6191 : IVec S16 32) : Prop :=
  (∀ a x, ((![v6191] : Fin 1 → IVec S16 32) a x).toNat < S2048.size a)
theorem k1_idx343_inb : ∀ (v6191 : IVec S16 32) (k1_hw343 : k1_chk343 v6191), ∀ a x, ((![v6191] : Fin 1 → IVec S16 32) a x).toNat < S2048.size a := fun v6191 k1_hw343 => k1_hw343

def k1_chk344 (v6206 : IVec S16 32) : Prop :=
  (∀ a x, ((![v6206] : Fin 1 → IVec S16 32) a x).toNat < S2048.size a)
theorem k1_idx344_inb : ∀ (v6206 : IVec S16 32) (k1_hw344 : k1_chk344 v6206), ∀ a x, ((![v6206] : Fin 1 → IVec S16 32) a x).toNat < S2048.size a := fun v6206 k1_hw344 => k1_hw344

def k1_chk345 (v6221 : IVec S16 32) : Prop :=
  (∀ a x, ((![v6221] : Fin 1 → IVec S16 32) a x).toNat < S2048.size a)
theorem k1_idx345_inb : ∀ (v6221 : IVec S16 32) (k1_hw345 : k1_chk345 v6221), ∀ a x, ((![v6221] : Fin 1 → IVec S16 32) a x).toNat < S2048.size a := fun v6221 k1_hw345 => k1_hw345

def k1_chk346 (v6236 : IVec S16 32) : Prop :=
  (∀ a x, ((![v6236] : Fin 1 → IVec S16 32) a x).toNat < S2048.size a)
theorem k1_idx346_inb : ∀ (v6236 : IVec S16 32) (k1_hw346 : k1_chk346 v6236), ∀ a x, ((![v6236] : Fin 1 → IVec S16 32) a x).toNat < S2048.size a := fun v6236 k1_hw346 => k1_hw346

def k1_chk347 (v6251 : IVec S16 32) : Prop :=
  (∀ a x, ((![v6251] : Fin 1 → IVec S16 32) a x).toNat < S2048.size a)
theorem k1_idx347_inb : ∀ (v6251 : IVec S16 32) (k1_hw347 : k1_chk347 v6251), ∀ a x, ((![v6251] : Fin 1 → IVec S16 32) a x).toNat < S2048.size a := fun v6251 k1_hw347 => k1_hw347

def k1_chk348 (v6266 : IVec S16 32) : Prop :=
  (∀ a x, ((![v6266] : Fin 1 → IVec S16 32) a x).toNat < S2048.size a)
theorem k1_idx348_inb : ∀ (v6266 : IVec S16 32) (k1_hw348 : k1_chk348 v6266), ∀ a x, ((![v6266] : Fin 1 → IVec S16 32) a x).toNat < S2048.size a := fun v6266 k1_hw348 => k1_hw348

def k1_chk349 (v6281 : IVec S16 32) : Prop :=
  (∀ a x, ((![v6281] : Fin 1 → IVec S16 32) a x).toNat < S2048.size a)
theorem k1_idx349_inb : ∀ (v6281 : IVec S16 32) (k1_hw349 : k1_chk349 v6281), ∀ a x, ((![v6281] : Fin 1 → IVec S16 32) a x).toNat < S2048.size a := fun v6281 k1_hw349 => k1_hw349

def k1_chk350 (v6296 : IVec S16 32) : Prop :=
  (∀ a x, ((![v6296] : Fin 1 → IVec S16 32) a x).toNat < S2048.size a)
theorem k1_idx350_inb : ∀ (v6296 : IVec S16 32) (k1_hw350 : k1_chk350 v6296), ∀ a x, ((![v6296] : Fin 1 → IVec S16 32) a x).toNat < S2048.size a := fun v6296 k1_hw350 => k1_hw350

def k1_chk351 (v6311 : IVec S16 32) : Prop :=
  (∀ a x, ((![v6311] : Fin 1 → IVec S16 32) a x).toNat < S2048.size a)
theorem k1_idx351_inb : ∀ (v6311 : IVec S16 32) (k1_hw351 : k1_chk351 v6311), ∀ a x, ((![v6311] : Fin 1 → IVec S16 32) a x).toNat < S2048.size a := fun v6311 k1_hw351 => k1_hw351

def k1_chk352 (v6326 : IVec S16 32) : Prop :=
  (∀ a x, ((![v6326] : Fin 1 → IVec S16 32) a x).toNat < S2048.size a)
theorem k1_idx352_inb : ∀ (v6326 : IVec S16 32) (k1_hw352 : k1_chk352 v6326), ∀ a x, ((![v6326] : Fin 1 → IVec S16 32) a x).toNat < S2048.size a := fun v6326 k1_hw352 => k1_hw352

def k1_chk353 (v6341 : IVec S16 32) : Prop :=
  (∀ a x, ((![v6341] : Fin 1 → IVec S16 32) a x).toNat < S2048.size a)
theorem k1_idx353_inb : ∀ (v6341 : IVec S16 32) (k1_hw353 : k1_chk353 v6341), ∀ a x, ((![v6341] : Fin 1 → IVec S16 32) a x).toNat < S2048.size a := fun v6341 k1_hw353 => k1_hw353

def k1_chk354 (v6356 : IVec S16 32) : Prop :=
  (∀ a x, ((![v6356] : Fin 1 → IVec S16 32) a x).toNat < S2048.size a)
theorem k1_idx354_inb : ∀ (v6356 : IVec S16 32) (k1_hw354 : k1_chk354 v6356), ∀ a x, ((![v6356] : Fin 1 → IVec S16 32) a x).toNat < S2048.size a := fun v6356 k1_hw354 => k1_hw354

def k1_chk355 (v6371 : IVec S16 32) : Prop :=
  (∀ a x, ((![v6371] : Fin 1 → IVec S16 32) a x).toNat < S2048.size a)
theorem k1_idx355_inb : ∀ (v6371 : IVec S16 32) (k1_hw355 : k1_chk355 v6371), ∀ a x, ((![v6371] : Fin 1 → IVec S16 32) a x).toNat < S2048.size a := fun v6371 k1_hw355 => k1_hw355

def k1_chk356 (v6386 : IVec S16 32) : Prop :=
  (∀ a x, ((![v6386] : Fin 1 → IVec S16 32) a x).toNat < S2048.size a)
theorem k1_idx356_inb : ∀ (v6386 : IVec S16 32) (k1_hw356 : k1_chk356 v6386), ∀ a x, ((![v6386] : Fin 1 → IVec S16 32) a x).toNat < S2048.size a := fun v6386 k1_hw356 => k1_hw356

def k1_chk357 (v6401 : IVec S16 32) : Prop :=
  (∀ a x, ((![v6401] : Fin 1 → IVec S16 32) a x).toNat < S2048.size a)
theorem k1_idx357_inb : ∀ (v6401 : IVec S16 32) (k1_hw357 : k1_chk357 v6401), ∀ a x, ((![v6401] : Fin 1 → IVec S16 32) a x).toNat < S2048.size a := fun v6401 k1_hw357 => k1_hw357

def k1_chk358 (v6416 : IVec S16 32) : Prop :=
  (∀ a x, ((![v6416] : Fin 1 → IVec S16 32) a x).toNat < S2048.size a)
theorem k1_idx358_inb : ∀ (v6416 : IVec S16 32) (k1_hw358 : k1_chk358 v6416), ∀ a x, ((![v6416] : Fin 1 → IVec S16 32) a x).toNat < S2048.size a := fun v6416 k1_hw358 => k1_hw358

def k1_chk359 (v6431 : IVec S16 32) : Prop :=
  (∀ a x, ((![v6431] : Fin 1 → IVec S16 32) a x).toNat < S2048.size a)
theorem k1_idx359_inb : ∀ (v6431 : IVec S16 32) (k1_hw359 : k1_chk359 v6431), ∀ a x, ((![v6431] : Fin 1 → IVec S16 32) a x).toNat < S2048.size a := fun v6431 k1_hw359 => k1_hw359

def k1_chk360 (v6446 : IVec S16 32) : Prop :=
  (∀ a x, ((![v6446] : Fin 1 → IVec S16 32) a x).toNat < S2048.size a)
theorem k1_idx360_inb : ∀ (v6446 : IVec S16 32) (k1_hw360 : k1_chk360 v6446), ∀ a x, ((![v6446] : Fin 1 → IVec S16 32) a x).toNat < S2048.size a := fun v6446 k1_hw360 => k1_hw360

def k1_chk361 (v6461 : IVec S16 32) : Prop :=
  (∀ a x, ((![v6461] : Fin 1 → IVec S16 32) a x).toNat < S2048.size a)
theorem k1_idx361_inb : ∀ (v6461 : IVec S16 32) (k1_hw361 : k1_chk361 v6461), ∀ a x, ((![v6461] : Fin 1 → IVec S16 32) a x).toNat < S2048.size a := fun v6461 k1_hw361 => k1_hw361

def k1_chk362 (v6476 : IVec S16 32) : Prop :=
  (∀ a x, ((![v6476] : Fin 1 → IVec S16 32) a x).toNat < S2048.size a)
theorem k1_idx362_inb : ∀ (v6476 : IVec S16 32) (k1_hw362 : k1_chk362 v6476), ∀ a x, ((![v6476] : Fin 1 → IVec S16 32) a x).toNat < S2048.size a := fun v6476 k1_hw362 => k1_hw362

def k1_chk363 (v6491 : IVec S16 32) : Prop :=
  (∀ a x, ((![v6491] : Fin 1 → IVec S16 32) a x).toNat < S2048.size a)
theorem k1_idx363_inb : ∀ (v6491 : IVec S16 32) (k1_hw363 : k1_chk363 v6491), ∀ a x, ((![v6491] : Fin 1 → IVec S16 32) a x).toNat < S2048.size a := fun v6491 k1_hw363 => k1_hw363

def k1_chk364 (v6506 : IVec S16 32) : Prop :=
  (∀ a x, ((![v6506] : Fin 1 → IVec S16 32) a x).toNat < S2048.size a)
theorem k1_idx364_inb : ∀ (v6506 : IVec S16 32) (k1_hw364 : k1_chk364 v6506), ∀ a x, ((![v6506] : Fin 1 → IVec S16 32) a x).toNat < S2048.size a := fun v6506 k1_hw364 => k1_hw364

def k1_chk365 (v6521 : IVec S16 32) : Prop :=
  (∀ a x, ((![v6521] : Fin 1 → IVec S16 32) a x).toNat < S2048.size a)
theorem k1_idx365_inb : ∀ (v6521 : IVec S16 32) (k1_hw365 : k1_chk365 v6521), ∀ a x, ((![v6521] : Fin 1 → IVec S16 32) a x).toNat < S2048.size a := fun v6521 k1_hw365 => k1_hw365

def k1_chk366 (v6536 : IVec S16 32) : Prop :=
  (∀ a x, ((![v6536] : Fin 1 → IVec S16 32) a x).toNat < S2048.size a)
theorem k1_idx366_inb : ∀ (v6536 : IVec S16 32) (k1_hw366 : k1_chk366 v6536), ∀ a x, ((![v6536] : Fin 1 → IVec S16 32) a x).toNat < S2048.size a := fun v6536 k1_hw366 => k1_hw366

def k1_chk367 (v6551 : IVec S16 32) : Prop :=
  (∀ a x, ((![v6551] : Fin 1 → IVec S16 32) a x).toNat < S2048.size a)
theorem k1_idx367_inb : ∀ (v6551 : IVec S16 32) (k1_hw367 : k1_chk367 v6551), ∀ a x, ((![v6551] : Fin 1 → IVec S16 32) a x).toNat < S2048.size a := fun v6551 k1_hw367 => k1_hw367

def k1_chk368 (v6566 : IVec S16 32) : Prop :=
  (∀ a x, ((![v6566] : Fin 1 → IVec S16 32) a x).toNat < S2048.size a)
theorem k1_idx368_inb : ∀ (v6566 : IVec S16 32) (k1_hw368 : k1_chk368 v6566), ∀ a x, ((![v6566] : Fin 1 → IVec S16 32) a x).toNat < S2048.size a := fun v6566 k1_hw368 => k1_hw368

def k1_chk369 (v6581 : IVec S16 32) : Prop :=
  (∀ a x, ((![v6581] : Fin 1 → IVec S16 32) a x).toNat < S2048.size a)
theorem k1_idx369_inb : ∀ (v6581 : IVec S16 32) (k1_hw369 : k1_chk369 v6581), ∀ a x, ((![v6581] : Fin 1 → IVec S16 32) a x).toNat < S2048.size a := fun v6581 k1_hw369 => k1_hw369

def k1_chk370 (v6596 : IVec S16 32) : Prop :=
  (∀ a x, ((![v6596] : Fin 1 → IVec S16 32) a x).toNat < S2048.size a)
theorem k1_idx370_inb : ∀ (v6596 : IVec S16 32) (k1_hw370 : k1_chk370 v6596), ∀ a x, ((![v6596] : Fin 1 → IVec S16 32) a x).toNat < S2048.size a := fun v6596 k1_hw370 => k1_hw370

def k1_chk371 (v6611 : IVec S16 32) : Prop :=
  (∀ a x, ((![v6611] : Fin 1 → IVec S16 32) a x).toNat < S2048.size a)
theorem k1_idx371_inb : ∀ (v6611 : IVec S16 32) (k1_hw371 : k1_chk371 v6611), ∀ a x, ((![v6611] : Fin 1 → IVec S16 32) a x).toNat < S2048.size a := fun v6611 k1_hw371 => k1_hw371

def k1_chk372 (v6626 : IVec S16 32) : Prop :=
  (∀ a x, ((![v6626] : Fin 1 → IVec S16 32) a x).toNat < S2048.size a)
theorem k1_idx372_inb : ∀ (v6626 : IVec S16 32) (k1_hw372 : k1_chk372 v6626), ∀ a x, ((![v6626] : Fin 1 → IVec S16 32) a x).toNat < S2048.size a := fun v6626 k1_hw372 => k1_hw372

def k1_chk373 (v6641 : IVec S16 32) : Prop :=
  (∀ a x, ((![v6641] : Fin 1 → IVec S16 32) a x).toNat < S2048.size a)
theorem k1_idx373_inb : ∀ (v6641 : IVec S16 32) (k1_hw373 : k1_chk373 v6641), ∀ a x, ((![v6641] : Fin 1 → IVec S16 32) a x).toNat < S2048.size a := fun v6641 k1_hw373 => k1_hw373

def k1_chk374 (v6656 : IVec S16 32) : Prop :=
  (∀ a x, ((![v6656] : Fin 1 → IVec S16 32) a x).toNat < S2048.size a)
theorem k1_idx374_inb : ∀ (v6656 : IVec S16 32) (k1_hw374 : k1_chk374 v6656), ∀ a x, ((![v6656] : Fin 1 → IVec S16 32) a x).toNat < S2048.size a := fun v6656 k1_hw374 => k1_hw374

def k1_chk375 (v6671 : IVec S16 32) : Prop :=
  (∀ a x, ((![v6671] : Fin 1 → IVec S16 32) a x).toNat < S2048.size a)
theorem k1_idx375_inb : ∀ (v6671 : IVec S16 32) (k1_hw375 : k1_chk375 v6671), ∀ a x, ((![v6671] : Fin 1 → IVec S16 32) a x).toNat < S2048.size a := fun v6671 k1_hw375 => k1_hw375

def k1_chk376 (v6686 : IVec S16 32) : Prop :=
  (∀ a x, ((![v6686] : Fin 1 → IVec S16 32) a x).toNat < S2048.size a)
theorem k1_idx376_inb : ∀ (v6686 : IVec S16 32) (k1_hw376 : k1_chk376 v6686), ∀ a x, ((![v6686] : Fin 1 → IVec S16 32) a x).toNat < S2048.size a := fun v6686 k1_hw376 => k1_hw376

def k1_chk377 (v6701 : IVec S16 32) : Prop :=
  (∀ a x, ((![v6701] : Fin 1 → IVec S16 32) a x).toNat < S2048.size a)
theorem k1_idx377_inb : ∀ (v6701 : IVec S16 32) (k1_hw377 : k1_chk377 v6701), ∀ a x, ((![v6701] : Fin 1 → IVec S16 32) a x).toNat < S2048.size a := fun v6701 k1_hw377 => k1_hw377

def k1_chk378 (v6716 : IVec S16 32) : Prop :=
  (∀ a x, ((![v6716] : Fin 1 → IVec S16 32) a x).toNat < S2048.size a)
theorem k1_idx378_inb : ∀ (v6716 : IVec S16 32) (k1_hw378 : k1_chk378 v6716), ∀ a x, ((![v6716] : Fin 1 → IVec S16 32) a x).toNat < S2048.size a := fun v6716 k1_hw378 => k1_hw378

def k1_chk379 (v6731 : IVec S16 32) : Prop :=
  (∀ a x, ((![v6731] : Fin 1 → IVec S16 32) a x).toNat < S2048.size a)
theorem k1_idx379_inb : ∀ (v6731 : IVec S16 32) (k1_hw379 : k1_chk379 v6731), ∀ a x, ((![v6731] : Fin 1 → IVec S16 32) a x).toNat < S2048.size a := fun v6731 k1_hw379 => k1_hw379

def k1_chk380 (v6746 : IVec S16 32) : Prop :=
  (∀ a x, ((![v6746] : Fin 1 → IVec S16 32) a x).toNat < S2048.size a)
theorem k1_idx380_inb : ∀ (v6746 : IVec S16 32) (k1_hw380 : k1_chk380 v6746), ∀ a x, ((![v6746] : Fin 1 → IVec S16 32) a x).toNat < S2048.size a := fun v6746 k1_hw380 => k1_hw380

def k1_chk381 (v6761 : IVec S16 32) : Prop :=
  (∀ a x, ((![v6761] : Fin 1 → IVec S16 32) a x).toNat < S2048.size a)
theorem k1_idx381_inb : ∀ (v6761 : IVec S16 32) (k1_hw381 : k1_chk381 v6761), ∀ a x, ((![v6761] : Fin 1 → IVec S16 32) a x).toNat < S2048.size a := fun v6761 k1_hw381 => k1_hw381

def k1_chk382 (v6776 : IVec S16 32) : Prop :=
  (∀ a x, ((![v6776] : Fin 1 → IVec S16 32) a x).toNat < S2048.size a)
theorem k1_idx382_inb : ∀ (v6776 : IVec S16 32) (k1_hw382 : k1_chk382 v6776), ∀ a x, ((![v6776] : Fin 1 → IVec S16 32) a x).toNat < S2048.size a := fun v6776 k1_hw382 => k1_hw382

def k1_chk383 (v6791 : IVec S16 32) : Prop :=
  (∀ a x, ((![v6791] : Fin 1 → IVec S16 32) a x).toNat < S2048.size a)
theorem k1_idx383_inb : ∀ (v6791 : IVec S16 32) (k1_hw383 : k1_chk383 v6791), ∀ a x, ((![v6791] : Fin 1 → IVec S16 32) a x).toNat < S2048.size a := fun v6791 k1_hw383 => k1_hw383

def k1_chk384 (v6806 : IVec S16 32) : Prop :=
  (∀ a x, ((![v6806] : Fin 1 → IVec S16 32) a x).toNat < S2048.size a)
theorem k1_idx384_inb : ∀ (v6806 : IVec S16 32) (k1_hw384 : k1_chk384 v6806), ∀ a x, ((![v6806] : Fin 1 → IVec S16 32) a x).toNat < S2048.size a := fun v6806 k1_hw384 => k1_hw384

def k1_chk385 (v6821 : IVec S16 32) : Prop :=
  (∀ a x, ((![v6821] : Fin 1 → IVec S16 32) a x).toNat < S2048.size a)
theorem k1_idx385_inb : ∀ (v6821 : IVec S16 32) (k1_hw385 : k1_chk385 v6821), ∀ a x, ((![v6821] : Fin 1 → IVec S16 32) a x).toNat < S2048.size a := fun v6821 k1_hw385 => k1_hw385

def k1_chk386 (v6836 : IVec S16 32) : Prop :=
  (∀ a x, ((![v6836] : Fin 1 → IVec S16 32) a x).toNat < S2048.size a)
theorem k1_idx386_inb : ∀ (v6836 : IVec S16 32) (k1_hw386 : k1_chk386 v6836), ∀ a x, ((![v6836] : Fin 1 → IVec S16 32) a x).toNat < S2048.size a := fun v6836 k1_hw386 => k1_hw386

def k1_chk387 (v6851 : IVec S16 32) : Prop :=
  (∀ a x, ((![v6851] : Fin 1 → IVec S16 32) a x).toNat < S2048.size a)
theorem k1_idx387_inb : ∀ (v6851 : IVec S16 32) (k1_hw387 : k1_chk387 v6851), ∀ a x, ((![v6851] : Fin 1 → IVec S16 32) a x).toNat < S2048.size a := fun v6851 k1_hw387 => k1_hw387

def k1_chk388 (v6866 : IVec S16 32) : Prop :=
  (∀ a x, ((![v6866] : Fin 1 → IVec S16 32) a x).toNat < S2048.size a)
theorem k1_idx388_inb : ∀ (v6866 : IVec S16 32) (k1_hw388 : k1_chk388 v6866), ∀ a x, ((![v6866] : Fin 1 → IVec S16 32) a x).toNat < S2048.size a := fun v6866 k1_hw388 => k1_hw388

def k1_chk389 (v6881 : IVec S16 32) : Prop :=
  (∀ a x, ((![v6881] : Fin 1 → IVec S16 32) a x).toNat < S2048.size a)
theorem k1_idx389_inb : ∀ (v6881 : IVec S16 32) (k1_hw389 : k1_chk389 v6881), ∀ a x, ((![v6881] : Fin 1 → IVec S16 32) a x).toNat < S2048.size a := fun v6881 k1_hw389 => k1_hw389

def k1_chk390 (v6896 : IVec S16 32) : Prop :=
  (∀ a x, ((![v6896] : Fin 1 → IVec S16 32) a x).toNat < S2048.size a)
theorem k1_idx390_inb : ∀ (v6896 : IVec S16 32) (k1_hw390 : k1_chk390 v6896), ∀ a x, ((![v6896] : Fin 1 → IVec S16 32) a x).toNat < S2048.size a := fun v6896 k1_hw390 => k1_hw390

def k1_chk391 (v6911 : IVec S16 32) : Prop :=
  (∀ a x, ((![v6911] : Fin 1 → IVec S16 32) a x).toNat < S2048.size a)
theorem k1_idx391_inb : ∀ (v6911 : IVec S16 32) (k1_hw391 : k1_chk391 v6911), ∀ a x, ((![v6911] : Fin 1 → IVec S16 32) a x).toNat < S2048.size a := fun v6911 k1_hw391 => k1_hw391

def k1_chk392 (v6926 : IVec S16 32) : Prop :=
  (∀ a x, ((![v6926] : Fin 1 → IVec S16 32) a x).toNat < S2048.size a)
theorem k1_idx392_inb : ∀ (v6926 : IVec S16 32) (k1_hw392 : k1_chk392 v6926), ∀ a x, ((![v6926] : Fin 1 → IVec S16 32) a x).toNat < S2048.size a := fun v6926 k1_hw392 => k1_hw392

def k1_chk393 (v6941 : IVec S16 32) : Prop :=
  (∀ a x, ((![v6941] : Fin 1 → IVec S16 32) a x).toNat < S2048.size a)
theorem k1_idx393_inb : ∀ (v6941 : IVec S16 32) (k1_hw393 : k1_chk393 v6941), ∀ a x, ((![v6941] : Fin 1 → IVec S16 32) a x).toNat < S2048.size a := fun v6941 k1_hw393 => k1_hw393

def k1_chk394 (v6956 : IVec S16 32) : Prop :=
  (∀ a x, ((![v6956] : Fin 1 → IVec S16 32) a x).toNat < S2048.size a)
theorem k1_idx394_inb : ∀ (v6956 : IVec S16 32) (k1_hw394 : k1_chk394 v6956), ∀ a x, ((![v6956] : Fin 1 → IVec S16 32) a x).toNat < S2048.size a := fun v6956 k1_hw394 => k1_hw394

def k1_chk395 (v6971 : IVec S16 32) : Prop :=
  (∀ a x, ((![v6971] : Fin 1 → IVec S16 32) a x).toNat < S2048.size a)
theorem k1_idx395_inb : ∀ (v6971 : IVec S16 32) (k1_hw395 : k1_chk395 v6971), ∀ a x, ((![v6971] : Fin 1 → IVec S16 32) a x).toNat < S2048.size a := fun v6971 k1_hw395 => k1_hw395

def k1_chk396 (v6986 : IVec S16 32) : Prop :=
  (∀ a x, ((![v6986] : Fin 1 → IVec S16 32) a x).toNat < S2048.size a)
theorem k1_idx396_inb : ∀ (v6986 : IVec S16 32) (k1_hw396 : k1_chk396 v6986), ∀ a x, ((![v6986] : Fin 1 → IVec S16 32) a x).toNat < S2048.size a := fun v6986 k1_hw396 => k1_hw396

def k1_chk397 (v7001 : IVec S16 32) : Prop :=
  (∀ a x, ((![v7001] : Fin 1 → IVec S16 32) a x).toNat < S2048.size a)
theorem k1_idx397_inb : ∀ (v7001 : IVec S16 32) (k1_hw397 : k1_chk397 v7001), ∀ a x, ((![v7001] : Fin 1 → IVec S16 32) a x).toNat < S2048.size a := fun v7001 k1_hw397 => k1_hw397

def k1_chk398 (v7016 : IVec S16 32) : Prop :=
  (∀ a x, ((![v7016] : Fin 1 → IVec S16 32) a x).toNat < S2048.size a)
theorem k1_idx398_inb : ∀ (v7016 : IVec S16 32) (k1_hw398 : k1_chk398 v7016), ∀ a x, ((![v7016] : Fin 1 → IVec S16 32) a x).toNat < S2048.size a := fun v7016 k1_hw398 => k1_hw398

def k1_chk399 (v7031 : IVec S16 32) : Prop :=
  (∀ a x, ((![v7031] : Fin 1 → IVec S16 32) a x).toNat < S2048.size a)
theorem k1_idx399_inb : ∀ (v7031 : IVec S16 32) (k1_hw399 : k1_chk399 v7031), ∀ a x, ((![v7031] : Fin 1 → IVec S16 32) a x).toNat < S2048.size a := fun v7031 k1_hw399 => k1_hw399

def k1_chk400 (v7046 : IVec S16 32) : Prop :=
  (∀ a x, ((![v7046] : Fin 1 → IVec S16 32) a x).toNat < S2048.size a)
theorem k1_idx400_inb : ∀ (v7046 : IVec S16 32) (k1_hw400 : k1_chk400 v7046), ∀ a x, ((![v7046] : Fin 1 → IVec S16 32) a x).toNat < S2048.size a := fun v7046 k1_hw400 => k1_hw400

def k1_chk401 (v7061 : IVec S16 32) : Prop :=
  (∀ a x, ((![v7061] : Fin 1 → IVec S16 32) a x).toNat < S2048.size a)
theorem k1_idx401_inb : ∀ (v7061 : IVec S16 32) (k1_hw401 : k1_chk401 v7061), ∀ a x, ((![v7061] : Fin 1 → IVec S16 32) a x).toNat < S2048.size a := fun v7061 k1_hw401 => k1_hw401

def k1_chk402 (v7076 : IVec S16 32) : Prop :=
  (∀ a x, ((![v7076] : Fin 1 → IVec S16 32) a x).toNat < S2048.size a)
theorem k1_idx402_inb : ∀ (v7076 : IVec S16 32) (k1_hw402 : k1_chk402 v7076), ∀ a x, ((![v7076] : Fin 1 → IVec S16 32) a x).toNat < S2048.size a := fun v7076 k1_hw402 => k1_hw402

def k1_chk403 (v7091 : IVec S16 32) : Prop :=
  (∀ a x, ((![v7091] : Fin 1 → IVec S16 32) a x).toNat < S2048.size a)
theorem k1_idx403_inb : ∀ (v7091 : IVec S16 32) (k1_hw403 : k1_chk403 v7091), ∀ a x, ((![v7091] : Fin 1 → IVec S16 32) a x).toNat < S2048.size a := fun v7091 k1_hw403 => k1_hw403

def k1_chk404 (v7106 : IVec S16 32) : Prop :=
  (∀ a x, ((![v7106] : Fin 1 → IVec S16 32) a x).toNat < S2048.size a)
theorem k1_idx404_inb : ∀ (v7106 : IVec S16 32) (k1_hw404 : k1_chk404 v7106), ∀ a x, ((![v7106] : Fin 1 → IVec S16 32) a x).toNat < S2048.size a := fun v7106 k1_hw404 => k1_hw404

def k1_chk405 (v7121 : IVec S16 32) : Prop :=
  (∀ a x, ((![v7121] : Fin 1 → IVec S16 32) a x).toNat < S2048.size a)
theorem k1_idx405_inb : ∀ (v7121 : IVec S16 32) (k1_hw405 : k1_chk405 v7121), ∀ a x, ((![v7121] : Fin 1 → IVec S16 32) a x).toNat < S2048.size a := fun v7121 k1_hw405 => k1_hw405

def k1_chk406 (v7136 : IVec S16 32) : Prop :=
  (∀ a x, ((![v7136] : Fin 1 → IVec S16 32) a x).toNat < S2048.size a)
theorem k1_idx406_inb : ∀ (v7136 : IVec S16 32) (k1_hw406 : k1_chk406 v7136), ∀ a x, ((![v7136] : Fin 1 → IVec S16 32) a x).toNat < S2048.size a := fun v7136 k1_hw406 => k1_hw406

def k1_chk407 (v7151 : IVec S16 32) : Prop :=
  (∀ a x, ((![v7151] : Fin 1 → IVec S16 32) a x).toNat < S2048.size a)
theorem k1_idx407_inb : ∀ (v7151 : IVec S16 32) (k1_hw407 : k1_chk407 v7151), ∀ a x, ((![v7151] : Fin 1 → IVec S16 32) a x).toNat < S2048.size a := fun v7151 k1_hw407 => k1_hw407

def k1_chk408 (v7166 : IVec S16 32) : Prop :=
  (∀ a x, ((![v7166] : Fin 1 → IVec S16 32) a x).toNat < S2048.size a)
theorem k1_idx408_inb : ∀ (v7166 : IVec S16 32) (k1_hw408 : k1_chk408 v7166), ∀ a x, ((![v7166] : Fin 1 → IVec S16 32) a x).toNat < S2048.size a := fun v7166 k1_hw408 => k1_hw408

def k1_chk409 (v7181 : IVec S16 32) : Prop :=
  (∀ a x, ((![v7181] : Fin 1 → IVec S16 32) a x).toNat < S2048.size a)
theorem k1_idx409_inb : ∀ (v7181 : IVec S16 32) (k1_hw409 : k1_chk409 v7181), ∀ a x, ((![v7181] : Fin 1 → IVec S16 32) a x).toNat < S2048.size a := fun v7181 k1_hw409 => k1_hw409

def k1_chk410 (v7196 : IVec S16 32) : Prop :=
  (∀ a x, ((![v7196] : Fin 1 → IVec S16 32) a x).toNat < S2048.size a)
theorem k1_idx410_inb : ∀ (v7196 : IVec S16 32) (k1_hw410 : k1_chk410 v7196), ∀ a x, ((![v7196] : Fin 1 → IVec S16 32) a x).toNat < S2048.size a := fun v7196 k1_hw410 => k1_hw410

def k1_chk411 (v7211 : IVec S16 32) : Prop :=
  (∀ a x, ((![v7211] : Fin 1 → IVec S16 32) a x).toNat < S2048.size a)
theorem k1_idx411_inb : ∀ (v7211 : IVec S16 32) (k1_hw411 : k1_chk411 v7211), ∀ a x, ((![v7211] : Fin 1 → IVec S16 32) a x).toNat < S2048.size a := fun v7211 k1_hw411 => k1_hw411

def k1_chk412 (v7226 : IVec S16 32) : Prop :=
  (∀ a x, ((![v7226] : Fin 1 → IVec S16 32) a x).toNat < S2048.size a)
theorem k1_idx412_inb : ∀ (v7226 : IVec S16 32) (k1_hw412 : k1_chk412 v7226), ∀ a x, ((![v7226] : Fin 1 → IVec S16 32) a x).toNat < S2048.size a := fun v7226 k1_hw412 => k1_hw412

def k1_chk413 (v7241 : IVec S16 32) : Prop :=
  (∀ a x, ((![v7241] : Fin 1 → IVec S16 32) a x).toNat < S2048.size a)
theorem k1_idx413_inb : ∀ (v7241 : IVec S16 32) (k1_hw413 : k1_chk413 v7241), ∀ a x, ((![v7241] : Fin 1 → IVec S16 32) a x).toNat < S2048.size a := fun v7241 k1_hw413 => k1_hw413

def k1_chk414 (v7256 : IVec S16 32) : Prop :=
  (∀ a x, ((![v7256] : Fin 1 → IVec S16 32) a x).toNat < S2048.size a)
theorem k1_idx414_inb : ∀ (v7256 : IVec S16 32) (k1_hw414 : k1_chk414 v7256), ∀ a x, ((![v7256] : Fin 1 → IVec S16 32) a x).toNat < S2048.size a := fun v7256 k1_hw414 => k1_hw414

def k1_chk415 (v7271 : IVec S16 32) : Prop :=
  (∀ a x, ((![v7271] : Fin 1 → IVec S16 32) a x).toNat < S2048.size a)
theorem k1_idx415_inb : ∀ (v7271 : IVec S16 32) (k1_hw415 : k1_chk415 v7271), ∀ a x, ((![v7271] : Fin 1 → IVec S16 32) a x).toNat < S2048.size a := fun v7271 k1_hw415 => k1_hw415

def k1_chk416 (v7286 : IVec S16 32) : Prop :=
  (∀ a x, ((![v7286] : Fin 1 → IVec S16 32) a x).toNat < S2048.size a)
theorem k1_idx416_inb : ∀ (v7286 : IVec S16 32) (k1_hw416 : k1_chk416 v7286), ∀ a x, ((![v7286] : Fin 1 → IVec S16 32) a x).toNat < S2048.size a := fun v7286 k1_hw416 => k1_hw416

def k1_chk417 (v7301 : IVec S16 32) : Prop :=
  (∀ a x, ((![v7301] : Fin 1 → IVec S16 32) a x).toNat < S2048.size a)
theorem k1_idx417_inb : ∀ (v7301 : IVec S16 32) (k1_hw417 : k1_chk417 v7301), ∀ a x, ((![v7301] : Fin 1 → IVec S16 32) a x).toNat < S2048.size a := fun v7301 k1_hw417 => k1_hw417

def k1_chk418 (v7316 : IVec S16 32) : Prop :=
  (∀ a x, ((![v7316] : Fin 1 → IVec S16 32) a x).toNat < S2048.size a)
theorem k1_idx418_inb : ∀ (v7316 : IVec S16 32) (k1_hw418 : k1_chk418 v7316), ∀ a x, ((![v7316] : Fin 1 → IVec S16 32) a x).toNat < S2048.size a := fun v7316 k1_hw418 => k1_hw418

def k1_chk419 (v7331 : IVec S16 32) : Prop :=
  (∀ a x, ((![v7331] : Fin 1 → IVec S16 32) a x).toNat < S2048.size a)
theorem k1_idx419_inb : ∀ (v7331 : IVec S16 32) (k1_hw419 : k1_chk419 v7331), ∀ a x, ((![v7331] : Fin 1 → IVec S16 32) a x).toNat < S2048.size a := fun v7331 k1_hw419 => k1_hw419

def k1_chk420 (v7346 : IVec S16 32) : Prop :=
  (∀ a x, ((![v7346] : Fin 1 → IVec S16 32) a x).toNat < S2048.size a)
theorem k1_idx420_inb : ∀ (v7346 : IVec S16 32) (k1_hw420 : k1_chk420 v7346), ∀ a x, ((![v7346] : Fin 1 → IVec S16 32) a x).toNat < S2048.size a := fun v7346 k1_hw420 => k1_hw420

def k1_chk421 (v7361 : IVec S16 32) : Prop :=
  (∀ a x, ((![v7361] : Fin 1 → IVec S16 32) a x).toNat < S2048.size a)
theorem k1_idx421_inb : ∀ (v7361 : IVec S16 32) (k1_hw421 : k1_chk421 v7361), ∀ a x, ((![v7361] : Fin 1 → IVec S16 32) a x).toNat < S2048.size a := fun v7361 k1_hw421 => k1_hw421

def k1_chk422 (v7376 : IVec S16 32) : Prop :=
  (∀ a x, ((![v7376] : Fin 1 → IVec S16 32) a x).toNat < S2048.size a)
theorem k1_idx422_inb : ∀ (v7376 : IVec S16 32) (k1_hw422 : k1_chk422 v7376), ∀ a x, ((![v7376] : Fin 1 → IVec S16 32) a x).toNat < S2048.size a := fun v7376 k1_hw422 => k1_hw422

def k1_chk423 (v7391 : IVec S16 32) : Prop :=
  (∀ a x, ((![v7391] : Fin 1 → IVec S16 32) a x).toNat < S2048.size a)
theorem k1_idx423_inb : ∀ (v7391 : IVec S16 32) (k1_hw423 : k1_chk423 v7391), ∀ a x, ((![v7391] : Fin 1 → IVec S16 32) a x).toNat < S2048.size a := fun v7391 k1_hw423 => k1_hw423

def k1_chk424 (v7406 : IVec S16 32) : Prop :=
  (∀ a x, ((![v7406] : Fin 1 → IVec S16 32) a x).toNat < S2048.size a)
theorem k1_idx424_inb : ∀ (v7406 : IVec S16 32) (k1_hw424 : k1_chk424 v7406), ∀ a x, ((![v7406] : Fin 1 → IVec S16 32) a x).toNat < S2048.size a := fun v7406 k1_hw424 => k1_hw424

def k1_chk425 (v7421 : IVec S16 32) : Prop :=
  (∀ a x, ((![v7421] : Fin 1 → IVec S16 32) a x).toNat < S2048.size a)
theorem k1_idx425_inb : ∀ (v7421 : IVec S16 32) (k1_hw425 : k1_chk425 v7421), ∀ a x, ((![v7421] : Fin 1 → IVec S16 32) a x).toNat < S2048.size a := fun v7421 k1_hw425 => k1_hw425

def k1_chk426 (v7436 : IVec S16 32) : Prop :=
  (∀ a x, ((![v7436] : Fin 1 → IVec S16 32) a x).toNat < S2048.size a)
theorem k1_idx426_inb : ∀ (v7436 : IVec S16 32) (k1_hw426 : k1_chk426 v7436), ∀ a x, ((![v7436] : Fin 1 → IVec S16 32) a x).toNat < S2048.size a := fun v7436 k1_hw426 => k1_hw426

def k1_chk427 (v7451 : IVec S16 32) : Prop :=
  (∀ a x, ((![v7451] : Fin 1 → IVec S16 32) a x).toNat < S2048.size a)
theorem k1_idx427_inb : ∀ (v7451 : IVec S16 32) (k1_hw427 : k1_chk427 v7451), ∀ a x, ((![v7451] : Fin 1 → IVec S16 32) a x).toNat < S2048.size a := fun v7451 k1_hw427 => k1_hw427

def k1_chk428 (v7466 : IVec S16 32) : Prop :=
  (∀ a x, ((![v7466] : Fin 1 → IVec S16 32) a x).toNat < S2048.size a)
theorem k1_idx428_inb : ∀ (v7466 : IVec S16 32) (k1_hw428 : k1_chk428 v7466), ∀ a x, ((![v7466] : Fin 1 → IVec S16 32) a x).toNat < S2048.size a := fun v7466 k1_hw428 => k1_hw428

def k1_chk429 (v7481 : IVec S16 32) : Prop :=
  (∀ a x, ((![v7481] : Fin 1 → IVec S16 32) a x).toNat < S2048.size a)
theorem k1_idx429_inb : ∀ (v7481 : IVec S16 32) (k1_hw429 : k1_chk429 v7481), ∀ a x, ((![v7481] : Fin 1 → IVec S16 32) a x).toNat < S2048.size a := fun v7481 k1_hw429 => k1_hw429

def k1_chk430 (v7496 : IVec S16 32) : Prop :=
  (∀ a x, ((![v7496] : Fin 1 → IVec S16 32) a x).toNat < S2048.size a)
theorem k1_idx430_inb : ∀ (v7496 : IVec S16 32) (k1_hw430 : k1_chk430 v7496), ∀ a x, ((![v7496] : Fin 1 → IVec S16 32) a x).toNat < S2048.size a := fun v7496 k1_hw430 => k1_hw430

def k1_chk431 (v7511 : IVec S16 32) : Prop :=
  (∀ a x, ((![v7511] : Fin 1 → IVec S16 32) a x).toNat < S2048.size a)
theorem k1_idx431_inb : ∀ (v7511 : IVec S16 32) (k1_hw431 : k1_chk431 v7511), ∀ a x, ((![v7511] : Fin 1 → IVec S16 32) a x).toNat < S2048.size a := fun v7511 k1_hw431 => k1_hw431

def k1_chk432 (v7526 : IVec S16 32) : Prop :=
  (∀ a x, ((![v7526] : Fin 1 → IVec S16 32) a x).toNat < S2048.size a)
theorem k1_idx432_inb : ∀ (v7526 : IVec S16 32) (k1_hw432 : k1_chk432 v7526), ∀ a x, ((![v7526] : Fin 1 → IVec S16 32) a x).toNat < S2048.size a := fun v7526 k1_hw432 => k1_hw432

def k1_chk433 (v7541 : IVec S16 32) : Prop :=
  (∀ a x, ((![v7541] : Fin 1 → IVec S16 32) a x).toNat < S2048.size a)
theorem k1_idx433_inb : ∀ (v7541 : IVec S16 32) (k1_hw433 : k1_chk433 v7541), ∀ a x, ((![v7541] : Fin 1 → IVec S16 32) a x).toNat < S2048.size a := fun v7541 k1_hw433 => k1_hw433

def k1_chk434 (v7556 : IVec S16 32) : Prop :=
  (∀ a x, ((![v7556] : Fin 1 → IVec S16 32) a x).toNat < S2048.size a)
theorem k1_idx434_inb : ∀ (v7556 : IVec S16 32) (k1_hw434 : k1_chk434 v7556), ∀ a x, ((![v7556] : Fin 1 → IVec S16 32) a x).toNat < S2048.size a := fun v7556 k1_hw434 => k1_hw434

def k1_chk435 (v7571 : IVec S16 32) : Prop :=
  (∀ a x, ((![v7571] : Fin 1 → IVec S16 32) a x).toNat < S2048.size a)
theorem k1_idx435_inb : ∀ (v7571 : IVec S16 32) (k1_hw435 : k1_chk435 v7571), ∀ a x, ((![v7571] : Fin 1 → IVec S16 32) a x).toNat < S2048.size a := fun v7571 k1_hw435 => k1_hw435

def k1_chk436 (v7586 : IVec S16 32) : Prop :=
  (∀ a x, ((![v7586] : Fin 1 → IVec S16 32) a x).toNat < S2048.size a)
theorem k1_idx436_inb : ∀ (v7586 : IVec S16 32) (k1_hw436 : k1_chk436 v7586), ∀ a x, ((![v7586] : Fin 1 → IVec S16 32) a x).toNat < S2048.size a := fun v7586 k1_hw436 => k1_hw436

def k1_chk437 (v7601 : IVec S16 32) : Prop :=
  (∀ a x, ((![v7601] : Fin 1 → IVec S16 32) a x).toNat < S2048.size a)
theorem k1_idx437_inb : ∀ (v7601 : IVec S16 32) (k1_hw437 : k1_chk437 v7601), ∀ a x, ((![v7601] : Fin 1 → IVec S16 32) a x).toNat < S2048.size a := fun v7601 k1_hw437 => k1_hw437

def k1_chk438 (v7616 : IVec S16 32) : Prop :=
  (∀ a x, ((![v7616] : Fin 1 → IVec S16 32) a x).toNat < S2048.size a)
theorem k1_idx438_inb : ∀ (v7616 : IVec S16 32) (k1_hw438 : k1_chk438 v7616), ∀ a x, ((![v7616] : Fin 1 → IVec S16 32) a x).toNat < S2048.size a := fun v7616 k1_hw438 => k1_hw438

def k1_chk439 (v7631 : IVec S16 32) : Prop :=
  (∀ a x, ((![v7631] : Fin 1 → IVec S16 32) a x).toNat < S2048.size a)
theorem k1_idx439_inb : ∀ (v7631 : IVec S16 32) (k1_hw439 : k1_chk439 v7631), ∀ a x, ((![v7631] : Fin 1 → IVec S16 32) a x).toNat < S2048.size a := fun v7631 k1_hw439 => k1_hw439

def k1_chk440 (v7646 : IVec S16 32) : Prop :=
  (∀ a x, ((![v7646] : Fin 1 → IVec S16 32) a x).toNat < S2048.size a)
theorem k1_idx440_inb : ∀ (v7646 : IVec S16 32) (k1_hw440 : k1_chk440 v7646), ∀ a x, ((![v7646] : Fin 1 → IVec S16 32) a x).toNat < S2048.size a := fun v7646 k1_hw440 => k1_hw440

def k1_chk441 (v7661 : IVec S16 32) : Prop :=
  (∀ a x, ((![v7661] : Fin 1 → IVec S16 32) a x).toNat < S2048.size a)
theorem k1_idx441_inb : ∀ (v7661 : IVec S16 32) (k1_hw441 : k1_chk441 v7661), ∀ a x, ((![v7661] : Fin 1 → IVec S16 32) a x).toNat < S2048.size a := fun v7661 k1_hw441 => k1_hw441

def k1_chk442 (v7676 : IVec S16 32) : Prop :=
  (∀ a x, ((![v7676] : Fin 1 → IVec S16 32) a x).toNat < S2048.size a)
theorem k1_idx442_inb : ∀ (v7676 : IVec S16 32) (k1_hw442 : k1_chk442 v7676), ∀ a x, ((![v7676] : Fin 1 → IVec S16 32) a x).toNat < S2048.size a := fun v7676 k1_hw442 => k1_hw442

def k1_chk443 (v7691 : IVec S16 32) : Prop :=
  (∀ a x, ((![v7691] : Fin 1 → IVec S16 32) a x).toNat < S2048.size a)
theorem k1_idx443_inb : ∀ (v7691 : IVec S16 32) (k1_hw443 : k1_chk443 v7691), ∀ a x, ((![v7691] : Fin 1 → IVec S16 32) a x).toNat < S2048.size a := fun v7691 k1_hw443 => k1_hw443

def k1_chk444 (v7706 : IVec S16 32) : Prop :=
  (∀ a x, ((![v7706] : Fin 1 → IVec S16 32) a x).toNat < S2048.size a)
theorem k1_idx444_inb : ∀ (v7706 : IVec S16 32) (k1_hw444 : k1_chk444 v7706), ∀ a x, ((![v7706] : Fin 1 → IVec S16 32) a x).toNat < S2048.size a := fun v7706 k1_hw444 => k1_hw444

def k1_chk445 (v7721 : IVec S16 32) : Prop :=
  (∀ a x, ((![v7721] : Fin 1 → IVec S16 32) a x).toNat < S2048.size a)
theorem k1_idx445_inb : ∀ (v7721 : IVec S16 32) (k1_hw445 : k1_chk445 v7721), ∀ a x, ((![v7721] : Fin 1 → IVec S16 32) a x).toNat < S2048.size a := fun v7721 k1_hw445 => k1_hw445

def k1_chk446 (v7736 : IVec S16 32) : Prop :=
  (∀ a x, ((![v7736] : Fin 1 → IVec S16 32) a x).toNat < S2048.size a)
theorem k1_idx446_inb : ∀ (v7736 : IVec S16 32) (k1_hw446 : k1_chk446 v7736), ∀ a x, ((![v7736] : Fin 1 → IVec S16 32) a x).toNat < S2048.size a := fun v7736 k1_hw446 => k1_hw446

def k1_chk447 (v7751 : IVec S16 32) : Prop :=
  (∀ a x, ((![v7751] : Fin 1 → IVec S16 32) a x).toNat < S2048.size a)
theorem k1_idx447_inb : ∀ (v7751 : IVec S16 32) (k1_hw447 : k1_chk447 v7751), ∀ a x, ((![v7751] : Fin 1 → IVec S16 32) a x).toNat < S2048.size a := fun v7751 k1_hw447 => k1_hw447

def k1_chk448 (v7766 : IVec S16 32) : Prop :=
  (∀ a x, ((![v7766] : Fin 1 → IVec S16 32) a x).toNat < S2048.size a)
theorem k1_idx448_inb : ∀ (v7766 : IVec S16 32) (k1_hw448 : k1_chk448 v7766), ∀ a x, ((![v7766] : Fin 1 → IVec S16 32) a x).toNat < S2048.size a := fun v7766 k1_hw448 => k1_hw448

def k1_chk449 (v7781 : IVec S16 32) : Prop :=
  (∀ a x, ((![v7781] : Fin 1 → IVec S16 32) a x).toNat < S2048.size a)
theorem k1_idx449_inb : ∀ (v7781 : IVec S16 32) (k1_hw449 : k1_chk449 v7781), ∀ a x, ((![v7781] : Fin 1 → IVec S16 32) a x).toNat < S2048.size a := fun v7781 k1_hw449 => k1_hw449

def k1_chk450 (v7796 : IVec S16 32) : Prop :=
  (∀ a x, ((![v7796] : Fin 1 → IVec S16 32) a x).toNat < S2048.size a)
theorem k1_idx450_inb : ∀ (v7796 : IVec S16 32) (k1_hw450 : k1_chk450 v7796), ∀ a x, ((![v7796] : Fin 1 → IVec S16 32) a x).toNat < S2048.size a := fun v7796 k1_hw450 => k1_hw450

def k1_chk451 (v7811 : IVec S16 32) : Prop :=
  (∀ a x, ((![v7811] : Fin 1 → IVec S16 32) a x).toNat < S2048.size a)
theorem k1_idx451_inb : ∀ (v7811 : IVec S16 32) (k1_hw451 : k1_chk451 v7811), ∀ a x, ((![v7811] : Fin 1 → IVec S16 32) a x).toNat < S2048.size a := fun v7811 k1_hw451 => k1_hw451

def k1_chk452 (v7826 : IVec S16 32) : Prop :=
  (∀ a x, ((![v7826] : Fin 1 → IVec S16 32) a x).toNat < S2048.size a)
theorem k1_idx452_inb : ∀ (v7826 : IVec S16 32) (k1_hw452 : k1_chk452 v7826), ∀ a x, ((![v7826] : Fin 1 → IVec S16 32) a x).toNat < S2048.size a := fun v7826 k1_hw452 => k1_hw452

def k1_chk453 (v7841 : IVec S16 32) : Prop :=
  (∀ a x, ((![v7841] : Fin 1 → IVec S16 32) a x).toNat < S2048.size a)
theorem k1_idx453_inb : ∀ (v7841 : IVec S16 32) (k1_hw453 : k1_chk453 v7841), ∀ a x, ((![v7841] : Fin 1 → IVec S16 32) a x).toNat < S2048.size a := fun v7841 k1_hw453 => k1_hw453

def k1_chk454 (v7856 : IVec S16 32) : Prop :=
  (∀ a x, ((![v7856] : Fin 1 → IVec S16 32) a x).toNat < S2048.size a)
theorem k1_idx454_inb : ∀ (v7856 : IVec S16 32) (k1_hw454 : k1_chk454 v7856), ∀ a x, ((![v7856] : Fin 1 → IVec S16 32) a x).toNat < S2048.size a := fun v7856 k1_hw454 => k1_hw454

def k1_chk455 (v7871 : IVec S16 32) : Prop :=
  (∀ a x, ((![v7871] : Fin 1 → IVec S16 32) a x).toNat < S2048.size a)
theorem k1_idx455_inb : ∀ (v7871 : IVec S16 32) (k1_hw455 : k1_chk455 v7871), ∀ a x, ((![v7871] : Fin 1 → IVec S16 32) a x).toNat < S2048.size a := fun v7871 k1_hw455 => k1_hw455

def k1_chk456 (v7886 : IVec S16 32) : Prop :=
  (∀ a x, ((![v7886] : Fin 1 → IVec S16 32) a x).toNat < S2048.size a)
theorem k1_idx456_inb : ∀ (v7886 : IVec S16 32) (k1_hw456 : k1_chk456 v7886), ∀ a x, ((![v7886] : Fin 1 → IVec S16 32) a x).toNat < S2048.size a := fun v7886 k1_hw456 => k1_hw456

def k1_chk457 (v7901 : IVec S16 32) : Prop :=
  (∀ a x, ((![v7901] : Fin 1 → IVec S16 32) a x).toNat < S2048.size a)
theorem k1_idx457_inb : ∀ (v7901 : IVec S16 32) (k1_hw457 : k1_chk457 v7901), ∀ a x, ((![v7901] : Fin 1 → IVec S16 32) a x).toNat < S2048.size a := fun v7901 k1_hw457 => k1_hw457

def k1_chk458 (v7916 : IVec S16 32) : Prop :=
  (∀ a x, ((![v7916] : Fin 1 → IVec S16 32) a x).toNat < S2048.size a)
theorem k1_idx458_inb : ∀ (v7916 : IVec S16 32) (k1_hw458 : k1_chk458 v7916), ∀ a x, ((![v7916] : Fin 1 → IVec S16 32) a x).toNat < S2048.size a := fun v7916 k1_hw458 => k1_hw458

def k1_chk459 (v7931 : IVec S16 32) : Prop :=
  (∀ a x, ((![v7931] : Fin 1 → IVec S16 32) a x).toNat < S2048.size a)
theorem k1_idx459_inb : ∀ (v7931 : IVec S16 32) (k1_hw459 : k1_chk459 v7931), ∀ a x, ((![v7931] : Fin 1 → IVec S16 32) a x).toNat < S2048.size a := fun v7931 k1_hw459 => k1_hw459

def k1_chk460 (v7946 : IVec S16 32) : Prop :=
  (∀ a x, ((![v7946] : Fin 1 → IVec S16 32) a x).toNat < S2048.size a)
theorem k1_idx460_inb : ∀ (v7946 : IVec S16 32) (k1_hw460 : k1_chk460 v7946), ∀ a x, ((![v7946] : Fin 1 → IVec S16 32) a x).toNat < S2048.size a := fun v7946 k1_hw460 => k1_hw460

def k1_chk461 (v7961 : IVec S16 32) : Prop :=
  (∀ a x, ((![v7961] : Fin 1 → IVec S16 32) a x).toNat < S2048.size a)
theorem k1_idx461_inb : ∀ (v7961 : IVec S16 32) (k1_hw461 : k1_chk461 v7961), ∀ a x, ((![v7961] : Fin 1 → IVec S16 32) a x).toNat < S2048.size a := fun v7961 k1_hw461 => k1_hw461

def k1_chk462 (v7976 : IVec S16 32) : Prop :=
  (∀ a x, ((![v7976] : Fin 1 → IVec S16 32) a x).toNat < S2048.size a)
theorem k1_idx462_inb : ∀ (v7976 : IVec S16 32) (k1_hw462 : k1_chk462 v7976), ∀ a x, ((![v7976] : Fin 1 → IVec S16 32) a x).toNat < S2048.size a := fun v7976 k1_hw462 => k1_hw462

def k1_chk463 (v7991 : IVec S16 32) : Prop :=
  (∀ a x, ((![v7991] : Fin 1 → IVec S16 32) a x).toNat < S2048.size a)
theorem k1_idx463_inb : ∀ (v7991 : IVec S16 32) (k1_hw463 : k1_chk463 v7991), ∀ a x, ((![v7991] : Fin 1 → IVec S16 32) a x).toNat < S2048.size a := fun v7991 k1_hw463 => k1_hw463

def k1_chk464 (v8006 : IVec S16 32) : Prop :=
  (∀ a x, ((![v8006] : Fin 1 → IVec S16 32) a x).toNat < S2048.size a)
theorem k1_idx464_inb : ∀ (v8006 : IVec S16 32) (k1_hw464 : k1_chk464 v8006), ∀ a x, ((![v8006] : Fin 1 → IVec S16 32) a x).toNat < S2048.size a := fun v8006 k1_hw464 => k1_hw464

def k1_chk465 (v8021 : IVec S16 32) : Prop :=
  (∀ a x, ((![v8021] : Fin 1 → IVec S16 32) a x).toNat < S2048.size a)
theorem k1_idx465_inb : ∀ (v8021 : IVec S16 32) (k1_hw465 : k1_chk465 v8021), ∀ a x, ((![v8021] : Fin 1 → IVec S16 32) a x).toNat < S2048.size a := fun v8021 k1_hw465 => k1_hw465

def k1_chk466 (v8036 : IVec S16 32) : Prop :=
  (∀ a x, ((![v8036] : Fin 1 → IVec S16 32) a x).toNat < S2048.size a)
theorem k1_idx466_inb : ∀ (v8036 : IVec S16 32) (k1_hw466 : k1_chk466 v8036), ∀ a x, ((![v8036] : Fin 1 → IVec S16 32) a x).toNat < S2048.size a := fun v8036 k1_hw466 => k1_hw466

def k1_chk467 (v8051 : IVec S16 32) : Prop :=
  (∀ a x, ((![v8051] : Fin 1 → IVec S16 32) a x).toNat < S2048.size a)
theorem k1_idx467_inb : ∀ (v8051 : IVec S16 32) (k1_hw467 : k1_chk467 v8051), ∀ a x, ((![v8051] : Fin 1 → IVec S16 32) a x).toNat < S2048.size a := fun v8051 k1_hw467 => k1_hw467

def k1_chk468 (v8066 : IVec S16 32) : Prop :=
  (∀ a x, ((![v8066] : Fin 1 → IVec S16 32) a x).toNat < S2048.size a)
theorem k1_idx468_inb : ∀ (v8066 : IVec S16 32) (k1_hw468 : k1_chk468 v8066), ∀ a x, ((![v8066] : Fin 1 → IVec S16 32) a x).toNat < S2048.size a := fun v8066 k1_hw468 => k1_hw468

def k1_chk469 (v8081 : IVec S16 32) : Prop :=
  (∀ a x, ((![v8081] : Fin 1 → IVec S16 32) a x).toNat < S2048.size a)
theorem k1_idx469_inb : ∀ (v8081 : IVec S16 32) (k1_hw469 : k1_chk469 v8081), ∀ a x, ((![v8081] : Fin 1 → IVec S16 32) a x).toNat < S2048.size a := fun v8081 k1_hw469 => k1_hw469

def k1_chk470 (v8096 : IVec S16 32) : Prop :=
  (∀ a x, ((![v8096] : Fin 1 → IVec S16 32) a x).toNat < S2048.size a)
theorem k1_idx470_inb : ∀ (v8096 : IVec S16 32) (k1_hw470 : k1_chk470 v8096), ∀ a x, ((![v8096] : Fin 1 → IVec S16 32) a x).toNat < S2048.size a := fun v8096 k1_hw470 => k1_hw470

def k1_chk471 (v8111 : IVec S16 32) : Prop :=
  (∀ a x, ((![v8111] : Fin 1 → IVec S16 32) a x).toNat < S2048.size a)
theorem k1_idx471_inb : ∀ (v8111 : IVec S16 32) (k1_hw471 : k1_chk471 v8111), ∀ a x, ((![v8111] : Fin 1 → IVec S16 32) a x).toNat < S2048.size a := fun v8111 k1_hw471 => k1_hw471

def k1_chk472 (v8126 : IVec S16 32) : Prop :=
  (∀ a x, ((![v8126] : Fin 1 → IVec S16 32) a x).toNat < S2048.size a)
theorem k1_idx472_inb : ∀ (v8126 : IVec S16 32) (k1_hw472 : k1_chk472 v8126), ∀ a x, ((![v8126] : Fin 1 → IVec S16 32) a x).toNat < S2048.size a := fun v8126 k1_hw472 => k1_hw472

def k1_chk473 (v8141 : IVec S16 32) : Prop :=
  (∀ a x, ((![v8141] : Fin 1 → IVec S16 32) a x).toNat < S2048.size a)
theorem k1_idx473_inb : ∀ (v8141 : IVec S16 32) (k1_hw473 : k1_chk473 v8141), ∀ a x, ((![v8141] : Fin 1 → IVec S16 32) a x).toNat < S2048.size a := fun v8141 k1_hw473 => k1_hw473

def k1_chk474 (v8156 : IVec S16 32) : Prop :=
  (∀ a x, ((![v8156] : Fin 1 → IVec S16 32) a x).toNat < S2048.size a)
theorem k1_idx474_inb : ∀ (v8156 : IVec S16 32) (k1_hw474 : k1_chk474 v8156), ∀ a x, ((![v8156] : Fin 1 → IVec S16 32) a x).toNat < S2048.size a := fun v8156 k1_hw474 => k1_hw474

def k1_chk475 (v8171 : IVec S16 32) : Prop :=
  (∀ a x, ((![v8171] : Fin 1 → IVec S16 32) a x).toNat < S2048.size a)
theorem k1_idx475_inb : ∀ (v8171 : IVec S16 32) (k1_hw475 : k1_chk475 v8171), ∀ a x, ((![v8171] : Fin 1 → IVec S16 32) a x).toNat < S2048.size a := fun v8171 k1_hw475 => k1_hw475

def k1_chk476 (v8186 : IVec S16 32) : Prop :=
  (∀ a x, ((![v8186] : Fin 1 → IVec S16 32) a x).toNat < S2048.size a)
theorem k1_idx476_inb : ∀ (v8186 : IVec S16 32) (k1_hw476 : k1_chk476 v8186), ∀ a x, ((![v8186] : Fin 1 → IVec S16 32) a x).toNat < S2048.size a := fun v8186 k1_hw476 => k1_hw476

def k1_chk477 (v8201 : IVec S16 32) : Prop :=
  (∀ a x, ((![v8201] : Fin 1 → IVec S16 32) a x).toNat < S2048.size a)
theorem k1_idx477_inb : ∀ (v8201 : IVec S16 32) (k1_hw477 : k1_chk477 v8201), ∀ a x, ((![v8201] : Fin 1 → IVec S16 32) a x).toNat < S2048.size a := fun v8201 k1_hw477 => k1_hw477

def k1_chk478 (v8216 : IVec S16 32) : Prop :=
  (∀ a x, ((![v8216] : Fin 1 → IVec S16 32) a x).toNat < S2048.size a)
theorem k1_idx478_inb : ∀ (v8216 : IVec S16 32) (k1_hw478 : k1_chk478 v8216), ∀ a x, ((![v8216] : Fin 1 → IVec S16 32) a x).toNat < S2048.size a := fun v8216 k1_hw478 => k1_hw478

def k1_chk479 (v8231 : IVec S16 32) : Prop :=
  (∀ a x, ((![v8231] : Fin 1 → IVec S16 32) a x).toNat < S2048.size a)
theorem k1_idx479_inb : ∀ (v8231 : IVec S16 32) (k1_hw479 : k1_chk479 v8231), ∀ a x, ((![v8231] : Fin 1 → IVec S16 32) a x).toNat < S2048.size a := fun v8231 k1_hw479 => k1_hw479

def k1_chk480 (v8246 : IVec S16 32) : Prop :=
  (∀ a x, ((![v8246] : Fin 1 → IVec S16 32) a x).toNat < S2048.size a)
theorem k1_idx480_inb : ∀ (v8246 : IVec S16 32) (k1_hw480 : k1_chk480 v8246), ∀ a x, ((![v8246] : Fin 1 → IVec S16 32) a x).toNat < S2048.size a := fun v8246 k1_hw480 => k1_hw480

def k1_chk481 (v8261 : IVec S16 32) : Prop :=
  (∀ a x, ((![v8261] : Fin 1 → IVec S16 32) a x).toNat < S2048.size a)
theorem k1_idx481_inb : ∀ (v8261 : IVec S16 32) (k1_hw481 : k1_chk481 v8261), ∀ a x, ((![v8261] : Fin 1 → IVec S16 32) a x).toNat < S2048.size a := fun v8261 k1_hw481 => k1_hw481

def k1_chk482 (v8276 : IVec S16 32) : Prop :=
  (∀ a x, ((![v8276] : Fin 1 → IVec S16 32) a x).toNat < S2048.size a)
theorem k1_idx482_inb : ∀ (v8276 : IVec S16 32) (k1_hw482 : k1_chk482 v8276), ∀ a x, ((![v8276] : Fin 1 → IVec S16 32) a x).toNat < S2048.size a := fun v8276 k1_hw482 => k1_hw482

def k1_chk483 (v8291 : IVec S16 32) : Prop :=
  (∀ a x, ((![v8291] : Fin 1 → IVec S16 32) a x).toNat < S2048.size a)
theorem k1_idx483_inb : ∀ (v8291 : IVec S16 32) (k1_hw483 : k1_chk483 v8291), ∀ a x, ((![v8291] : Fin 1 → IVec S16 32) a x).toNat < S2048.size a := fun v8291 k1_hw483 => k1_hw483

def k1_chk484 (v8306 : IVec S16 32) : Prop :=
  (∀ a x, ((![v8306] : Fin 1 → IVec S16 32) a x).toNat < S2048.size a)
theorem k1_idx484_inb : ∀ (v8306 : IVec S16 32) (k1_hw484 : k1_chk484 v8306), ∀ a x, ((![v8306] : Fin 1 → IVec S16 32) a x).toNat < S2048.size a := fun v8306 k1_hw484 => k1_hw484

def k1_chk485 (v8321 : IVec S16 32) : Prop :=
  (∀ a x, ((![v8321] : Fin 1 → IVec S16 32) a x).toNat < S2048.size a)
theorem k1_idx485_inb : ∀ (v8321 : IVec S16 32) (k1_hw485 : k1_chk485 v8321), ∀ a x, ((![v8321] : Fin 1 → IVec S16 32) a x).toNat < S2048.size a := fun v8321 k1_hw485 => k1_hw485

def k1_chk486 (v8336 : IVec S16 32) : Prop :=
  (∀ a x, ((![v8336] : Fin 1 → IVec S16 32) a x).toNat < S2048.size a)
theorem k1_idx486_inb : ∀ (v8336 : IVec S16 32) (k1_hw486 : k1_chk486 v8336), ∀ a x, ((![v8336] : Fin 1 → IVec S16 32) a x).toNat < S2048.size a := fun v8336 k1_hw486 => k1_hw486

def k1_chk487 (v8351 : IVec S16 32) : Prop :=
  (∀ a x, ((![v8351] : Fin 1 → IVec S16 32) a x).toNat < S2048.size a)
theorem k1_idx487_inb : ∀ (v8351 : IVec S16 32) (k1_hw487 : k1_chk487 v8351), ∀ a x, ((![v8351] : Fin 1 → IVec S16 32) a x).toNat < S2048.size a := fun v8351 k1_hw487 => k1_hw487

def k1_chk488 (v8366 : IVec S16 32) : Prop :=
  (∀ a x, ((![v8366] : Fin 1 → IVec S16 32) a x).toNat < S2048.size a)
theorem k1_idx488_inb : ∀ (v8366 : IVec S16 32) (k1_hw488 : k1_chk488 v8366), ∀ a x, ((![v8366] : Fin 1 → IVec S16 32) a x).toNat < S2048.size a := fun v8366 k1_hw488 => k1_hw488

def k1_chk489 (v8381 : IVec S16 32) : Prop :=
  (∀ a x, ((![v8381] : Fin 1 → IVec S16 32) a x).toNat < S2048.size a)
theorem k1_idx489_inb : ∀ (v8381 : IVec S16 32) (k1_hw489 : k1_chk489 v8381), ∀ a x, ((![v8381] : Fin 1 → IVec S16 32) a x).toNat < S2048.size a := fun v8381 k1_hw489 => k1_hw489

def k1_chk490 (v8396 : IVec S16 32) : Prop :=
  (∀ a x, ((![v8396] : Fin 1 → IVec S16 32) a x).toNat < S2048.size a)
theorem k1_idx490_inb : ∀ (v8396 : IVec S16 32) (k1_hw490 : k1_chk490 v8396), ∀ a x, ((![v8396] : Fin 1 → IVec S16 32) a x).toNat < S2048.size a := fun v8396 k1_hw490 => k1_hw490

def k1_chk491 (v8411 : IVec S16 32) : Prop :=
  (∀ a x, ((![v8411] : Fin 1 → IVec S16 32) a x).toNat < S2048.size a)
theorem k1_idx491_inb : ∀ (v8411 : IVec S16 32) (k1_hw491 : k1_chk491 v8411), ∀ a x, ((![v8411] : Fin 1 → IVec S16 32) a x).toNat < S2048.size a := fun v8411 k1_hw491 => k1_hw491

def k1_chk492 (v8426 : IVec S16 32) : Prop :=
  (∀ a x, ((![v8426] : Fin 1 → IVec S16 32) a x).toNat < S2048.size a)
theorem k1_idx492_inb : ∀ (v8426 : IVec S16 32) (k1_hw492 : k1_chk492 v8426), ∀ a x, ((![v8426] : Fin 1 → IVec S16 32) a x).toNat < S2048.size a := fun v8426 k1_hw492 => k1_hw492

def k1_chk493 (v8441 : IVec S16 32) : Prop :=
  (∀ a x, ((![v8441] : Fin 1 → IVec S16 32) a x).toNat < S2048.size a)
theorem k1_idx493_inb : ∀ (v8441 : IVec S16 32) (k1_hw493 : k1_chk493 v8441), ∀ a x, ((![v8441] : Fin 1 → IVec S16 32) a x).toNat < S2048.size a := fun v8441 k1_hw493 => k1_hw493

def k1_chk494 (v8456 : IVec S16 32) : Prop :=
  (∀ a x, ((![v8456] : Fin 1 → IVec S16 32) a x).toNat < S2048.size a)
theorem k1_idx494_inb : ∀ (v8456 : IVec S16 32) (k1_hw494 : k1_chk494 v8456), ∀ a x, ((![v8456] : Fin 1 → IVec S16 32) a x).toNat < S2048.size a := fun v8456 k1_hw494 => k1_hw494

def k1_chk495 (v8471 : IVec S16 32) : Prop :=
  (∀ a x, ((![v8471] : Fin 1 → IVec S16 32) a x).toNat < S2048.size a)
theorem k1_idx495_inb : ∀ (v8471 : IVec S16 32) (k1_hw495 : k1_chk495 v8471), ∀ a x, ((![v8471] : Fin 1 → IVec S16 32) a x).toNat < S2048.size a := fun v8471 k1_hw495 => k1_hw495

def k1_chk496 (v8486 : IVec S16 32) : Prop :=
  (∀ a x, ((![v8486] : Fin 1 → IVec S16 32) a x).toNat < S2048.size a)
theorem k1_idx496_inb : ∀ (v8486 : IVec S16 32) (k1_hw496 : k1_chk496 v8486), ∀ a x, ((![v8486] : Fin 1 → IVec S16 32) a x).toNat < S2048.size a := fun v8486 k1_hw496 => k1_hw496

def k1_chk497 (v8501 : IVec S16 32) : Prop :=
  (∀ a x, ((![v8501] : Fin 1 → IVec S16 32) a x).toNat < S2048.size a)
theorem k1_idx497_inb : ∀ (v8501 : IVec S16 32) (k1_hw497 : k1_chk497 v8501), ∀ a x, ((![v8501] : Fin 1 → IVec S16 32) a x).toNat < S2048.size a := fun v8501 k1_hw497 => k1_hw497

def k1_chk498 (v8516 : IVec S16 32) : Prop :=
  (∀ a x, ((![v8516] : Fin 1 → IVec S16 32) a x).toNat < S2048.size a)
theorem k1_idx498_inb : ∀ (v8516 : IVec S16 32) (k1_hw498 : k1_chk498 v8516), ∀ a x, ((![v8516] : Fin 1 → IVec S16 32) a x).toNat < S2048.size a := fun v8516 k1_hw498 => k1_hw498

def k1_chk499 (v8531 : IVec S16 32) : Prop :=
  (∀ a x, ((![v8531] : Fin 1 → IVec S16 32) a x).toNat < S2048.size a)
theorem k1_idx499_inb : ∀ (v8531 : IVec S16 32) (k1_hw499 : k1_chk499 v8531), ∀ a x, ((![v8531] : Fin 1 → IVec S16 32) a x).toNat < S2048.size a := fun v8531 k1_hw499 => k1_hw499

def k1_chk500 (v8546 : IVec S16 32) : Prop :=
  (∀ a x, ((![v8546] : Fin 1 → IVec S16 32) a x).toNat < S2048.size a)
theorem k1_idx500_inb : ∀ (v8546 : IVec S16 32) (k1_hw500 : k1_chk500 v8546), ∀ a x, ((![v8546] : Fin 1 → IVec S16 32) a x).toNat < S2048.size a := fun v8546 k1_hw500 => k1_hw500

def k1_chk501 (v8561 : IVec S16 32) : Prop :=
  (∀ a x, ((![v8561] : Fin 1 → IVec S16 32) a x).toNat < S2048.size a)
theorem k1_idx501_inb : ∀ (v8561 : IVec S16 32) (k1_hw501 : k1_chk501 v8561), ∀ a x, ((![v8561] : Fin 1 → IVec S16 32) a x).toNat < S2048.size a := fun v8561 k1_hw501 => k1_hw501

def k1_chk502 (v8576 : IVec S16 32) : Prop :=
  (∀ a x, ((![v8576] : Fin 1 → IVec S16 32) a x).toNat < S2048.size a)
theorem k1_idx502_inb : ∀ (v8576 : IVec S16 32) (k1_hw502 : k1_chk502 v8576), ∀ a x, ((![v8576] : Fin 1 → IVec S16 32) a x).toNat < S2048.size a := fun v8576 k1_hw502 => k1_hw502

def k1_chk503 (v8591 : IVec S16 32) : Prop :=
  (∀ a x, ((![v8591] : Fin 1 → IVec S16 32) a x).toNat < S2048.size a)
theorem k1_idx503_inb : ∀ (v8591 : IVec S16 32) (k1_hw503 : k1_chk503 v8591), ∀ a x, ((![v8591] : Fin 1 → IVec S16 32) a x).toNat < S2048.size a := fun v8591 k1_hw503 => k1_hw503

def k1_chk504 (v8606 : IVec S16 32) : Prop :=
  (∀ a x, ((![v8606] : Fin 1 → IVec S16 32) a x).toNat < S2048.size a)
theorem k1_idx504_inb : ∀ (v8606 : IVec S16 32) (k1_hw504 : k1_chk504 v8606), ∀ a x, ((![v8606] : Fin 1 → IVec S16 32) a x).toNat < S2048.size a := fun v8606 k1_hw504 => k1_hw504

def k1_chk505 (v8621 : IVec S16 32) : Prop :=
  (∀ a x, ((![v8621] : Fin 1 → IVec S16 32) a x).toNat < S2048.size a)
theorem k1_idx505_inb : ∀ (v8621 : IVec S16 32) (k1_hw505 : k1_chk505 v8621), ∀ a x, ((![v8621] : Fin 1 → IVec S16 32) a x).toNat < S2048.size a := fun v8621 k1_hw505 => k1_hw505

def k1_chk506 (v8636 : IVec S16 32) : Prop :=
  (∀ a x, ((![v8636] : Fin 1 → IVec S16 32) a x).toNat < S2048.size a)
theorem k1_idx506_inb : ∀ (v8636 : IVec S16 32) (k1_hw506 : k1_chk506 v8636), ∀ a x, ((![v8636] : Fin 1 → IVec S16 32) a x).toNat < S2048.size a := fun v8636 k1_hw506 => k1_hw506

def k1_chk507 (v8651 : IVec S16 32) : Prop :=
  (∀ a x, ((![v8651] : Fin 1 → IVec S16 32) a x).toNat < S2048.size a)
theorem k1_idx507_inb : ∀ (v8651 : IVec S16 32) (k1_hw507 : k1_chk507 v8651), ∀ a x, ((![v8651] : Fin 1 → IVec S16 32) a x).toNat < S2048.size a := fun v8651 k1_hw507 => k1_hw507

def k1_chk508 (v8666 : IVec S16 32) : Prop :=
  (∀ a x, ((![v8666] : Fin 1 → IVec S16 32) a x).toNat < S2048.size a)
theorem k1_idx508_inb : ∀ (v8666 : IVec S16 32) (k1_hw508 : k1_chk508 v8666), ∀ a x, ((![v8666] : Fin 1 → IVec S16 32) a x).toNat < S2048.size a := fun v8666 k1_hw508 => k1_hw508

def k1_chk509 (v8681 : IVec S16 32) : Prop :=
  (∀ a x, ((![v8681] : Fin 1 → IVec S16 32) a x).toNat < S2048.size a)
theorem k1_idx509_inb : ∀ (v8681 : IVec S16 32) (k1_hw509 : k1_chk509 v8681), ∀ a x, ((![v8681] : Fin 1 → IVec S16 32) a x).toNat < S2048.size a := fun v8681 k1_hw509 => k1_hw509

def k1_chk510 (v8696 : IVec S16 32) : Prop :=
  (∀ a x, ((![v8696] : Fin 1 → IVec S16 32) a x).toNat < S2048.size a)
theorem k1_idx510_inb : ∀ (v8696 : IVec S16 32) (k1_hw510 : k1_chk510 v8696), ∀ a x, ((![v8696] : Fin 1 → IVec S16 32) a x).toNat < S2048.size a := fun v8696 k1_hw510 => k1_hw510

def k1_chk511 (v8711 : IVec S16 32) : Prop :=
  (∀ a x, ((![v8711] : Fin 1 → IVec S16 32) a x).toNat < S2048.size a)
theorem k1_idx511_inb : ∀ (v8711 : IVec S16 32) (k1_hw511 : k1_chk511 v8711), ∀ a x, ((![v8711] : Fin 1 → IVec S16 32) a x).toNat < S2048.size a := fun v8711 k1_hw511 => k1_hw511

def k1_chk512 (v8726 : IVec S16 32) : Prop :=
  (∀ a x, ((![v8726] : Fin 1 → IVec S16 32) a x).toNat < S2048.size a)
theorem k1_idx512_inb : ∀ (v8726 : IVec S16 32) (k1_hw512 : k1_chk512 v8726), ∀ a x, ((![v8726] : Fin 1 → IVec S16 32) a x).toNat < S2048.size a := fun v8726 k1_hw512 => k1_hw512
@[reducible] def k1_t2_loop : Scf.Loop 32 :=
  let c0_i32_486 : BitVec 32 := 0#32
  let c128_i32_487 : BitVec 32 := 128#32
  let v1032 : BitVec 32 := Scalar.addi c0_i32_486 c128_i32_487
  let c1_i32_488 : BitVec 32 := 1#32
  ⟨c0_i32_486, v1032, c1_i32_488⟩

def k1_chk513 (v1042 : IVec S16 32) : Prop :=
  (∀ a x, ((![v1042] : Fin 1 → IVec S16 32) a x).toNat < S64.size a)
theorem k1_idx513_inb : ∀ (v1042 : IVec S16 32) (k1_hw513 : k1_chk513 v1042), ∀ a x, ((![v1042] : Fin 1 → IVec S16 32) a x).toNat < S64.size a := fun v1042 k1_hw513 => k1_hw513

def k1_chk514 (v1049 : IVec S16 32) : Prop :=
  (∀ a x, ((![v1049] : Fin 1 → IVec S16 32) a x).toNat < S64.size a)
theorem k1_idx514_inb : ∀ (v1049 : IVec S16 32) (k1_hw514 : k1_chk514 v1049), ∀ a x, ((![v1049] : Fin 1 → IVec S16 32) a x).toNat < S64.size a := fun v1049 k1_hw514 => k1_hw514

def k1_chk515 (v1056 : IVec S16 32) : Prop :=
  (∀ a x, ((![v1056] : Fin 1 → IVec S16 32) a x).toNat < S64.size a)
theorem k1_idx515_inb : ∀ (v1056 : IVec S16 32) (k1_hw515 : k1_chk515 v1056), ∀ a x, ((![v1056] : Fin 1 → IVec S16 32) a x).toNat < S64.size a := fun v1056 k1_hw515 => k1_hw515

def k1_chk516 (v1063 : IVec S16 32) : Prop :=
  (∀ a x, ((![v1063] : Fin 1 → IVec S16 32) a x).toNat < S64.size a)
theorem k1_idx516_inb : ∀ (v1063 : IVec S16 32) (k1_hw516 : k1_chk516 v1063), ∀ a x, ((![v1063] : Fin 1 → IVec S16 32) a x).toNat < S64.size a := fun v1063 k1_hw516 => k1_hw516

def k1_chk517 (v1070 : IVec S16 32) : Prop :=
  (∀ a x, ((![v1070] : Fin 1 → IVec S16 32) a x).toNat < S64.size a)
theorem k1_idx517_inb : ∀ (v1070 : IVec S16 32) (k1_hw517 : k1_chk517 v1070), ∀ a x, ((![v1070] : Fin 1 → IVec S16 32) a x).toNat < S64.size a := fun v1070 k1_hw517 => k1_hw517

def k1_chk518 (v1077 : IVec S16 32) : Prop :=
  (∀ a x, ((![v1077] : Fin 1 → IVec S16 32) a x).toNat < S64.size a)
theorem k1_idx518_inb : ∀ (v1077 : IVec S16 32) (k1_hw518 : k1_chk518 v1077), ∀ a x, ((![v1077] : Fin 1 → IVec S16 32) a x).toNat < S64.size a := fun v1077 k1_hw518 => k1_hw518
def k1_off3 (k1_t2 : Fin k1_t2_loop.trips) : Fin 1 → Nat :=
  let c0_i32_486 : BitVec 32 := 0#32
  let c1_i32_488 : BitVec 32 := 1#32
  let arg14 : BitVec 32 := Scf.iv c0_i32_486 c1_i32_488 k1_t2
  let c16_i32_504 : BitVec 32 := 16#32
  let v1081 : BitVec 32 := Scalar.muli arg14 c16_i32_504
  let v1082 : Index := Scalar.indexCast v1081
  ![v1082.toNat]
def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Reference.lean ====
abbrev S512x128 : Shape := ⟨2, ![512, 128]⟩
abbrev S1x64 : Shape := ⟨2, ![1, 64]⟩
abbrev S32x1x64 : Shape := ⟨3, ![32, 1, 64]⟩
abbrev S65536 : Shape := ⟨1, ![65536]⟩
abbrev S_ : Shape := ⟨0, ![]⟩
abbrev S64 : Shape := ⟨1, ![64]⟩
abbrev S65536x1 : Shape := ⟨2, ![65536, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x128, .i32⟩
  | .hbm, ⟨1, _⟩ => ⟨S1x64, .i32⟩
  | .hbm, ⟨2, _⟩ => ⟨S32x1x64, .i32⟩
  | .hbm, ⟨3, _⟩ => ⟨S65536, .i32⟩
  | .hbm, ⟨4, _⟩ => ⟨S65536, .i32⟩
  | .hbm, ⟨5, _⟩ => ⟨S65536, .i32⟩
  | .hbm, ⟨6, _⟩ => ⟨S65536, .i32⟩
  | .hbm, ⟨7, _⟩ => ⟨S65536, .i32⟩
  | .hbm, ⟨8, _⟩ => ⟨S_, .i32⟩
  | .hbm, ⟨9, _⟩ => ⟨S64, .i32⟩
  | .hbm, ⟨10, _⟩ => ⟨S_, .i32⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S_, .i32⟩
  | .hbm, ⟨15, _⟩ => ⟨S65536, .i32⟩
  | .hbm, ⟨16, _⟩ => ⟨S65536, .i1⟩
  | .hbm, ⟨17, _⟩ => ⟨S_, .i32⟩
  | .hbm, ⟨18, _⟩ => ⟨S65536, .i32⟩
  | .hbm, ⟨19, _⟩ => ⟨S65536, .i32⟩
  | .hbm, ⟨20, _⟩ => ⟨S65536, .i32⟩
  | .hbm, ⟨21, _⟩ => ⟨S65536x1, .i32⟩
  | .hbm, ⟨22, _⟩ => ⟨S_, .i32⟩
  | .hbm, ⟨23, _⟩ => ⟨S65536, .i32⟩
  | .hbm, ⟨24, _⟩ => ⟨S64, .i32⟩
  | .hbm, ⟨25, _⟩ => ⟨S_, .i32⟩
  | .hbm, ⟨26, _⟩ => ⟨S_, .i32⟩
  | .hbm, ⟨27, _⟩ => ⟨S64, .i32⟩
  | _, _ => ⟨S512x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call1_v0 : Ref sig .tc := ⟨.hbm, 5, rfl⟩
abbrev main_call1_v1_0 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_call2_v0 : Ref sig .tc := ⟨.hbm, 11, rfl⟩
abbrev main_call2_v1 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_call3_call0_c : Ref sig .tc := ⟨.hbm, 25, rfl⟩
abbrev main_call3_call0_v0 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== Gate.lean ====
abbrev S8192x4096 : Shape := ⟨2, ![8192, 4096]⟩
abbrev S64x4096 : Shape := ⟨2, ![64, 4096]⟩
abbrev S8192x8 : Shape := ⟨2, ![8192, 8]⟩
abbrev S32x1x64 : Shape := ⟨3, ![32, 1, 64]⟩
abbrev S1x64 : Shape := ⟨2, ![1, 64]⟩
abbrev S1x1 : Shape := ⟨2, ![1, 1]⟩
abbrev S256x4096 : Shape := ⟨2, ![256, 4096]⟩
abbrev S256x8 : Shape := ⟨2, ![256, 8]⟩
abbrev S1x1x64 : Shape := ⟨3, ![1, 1, 64]⟩
abbrev S64 : Shape := ⟨1, ![64]⟩
abbrev S256x64 : Shape := ⟨2, ![256, 64]⟩
abbrev S256 : Shape := ⟨1, ![256]⟩
abbrev S256x1 : Shape := ⟨2, ![256, 1]⟩
abbrev S1 : Shape := ⟨1, ![1]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S8192x8, .f32⟩
  | .hbm, ⟨3, _⟩ => ⟨S8192x8, .i32⟩
  | .hbm, ⟨4, _⟩ => ⟨S32x1x64, .i32⟩
  | .hbm, ⟨5, _⟩ => ⟨S1x64, .i32⟩
  | .hbm, ⟨6, _⟩ => ⟨S1x1, .f32⟩
  | .local _ .vmem, ⟨0, _⟩ => ⟨S256x4096, .f32⟩
  | .local _ .vmem, ⟨1, _⟩ => ⟨S256x4096, .f32⟩
  | .local _ .vmem, ⟨2, _⟩ => ⟨S64x4096, .f32⟩
  | .local _ .vmem, ⟨3, _⟩ => ⟨S256x8, .f32⟩
  | .local _ .vmem, ⟨4, _⟩ => ⟨S256x8, .f32⟩
  | .local _ .vmem, ⟨5, _⟩ => ⟨S256x8, .i32⟩
  | .local _ .vmem, ⟨6, _⟩ => ⟨S256x8, .i32⟩
  | .local _ .vmem, ⟨7, _⟩ => ⟨S1x1x64, .i32⟩
  | .local _ .vmem, ⟨8, _⟩ => ⟨S1x1x64, .i32⟩
  | .local _ .vmem, ⟨9, _⟩ => ⟨S1x64, .i32⟩
  | .local _ .vmem, ⟨10, _⟩ => ⟨S1x1, .f32⟩
  | .local _ .vmem, ⟨11, _⟩ => ⟨S1x64, .f32⟩
  | .local _ .vmem, ⟨12, _⟩ => ⟨S1x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v140 : BitVec 1 := Scalar.cmpi .eq arg0 c31_i32
  let v141 : BitVec 32 := Scalar.extui v140
  let c0_i32_57 : BitVec 32 := 0#32
  let v142 : BitVec 1 := Scalar.cmpi .ne v141 c0_i32_57
  v142

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateReferenceIdeal.lean ====
abbrev S8192x4096 : Shape := ⟨2, ![8192, 4096]⟩
abbrev S64x4096 : Shape := ⟨2, ![64, 4096]⟩
abbrev S4096x64 : Shape := ⟨2, ![4096, 64]⟩
abbrev S8192x64 : Shape := ⟨2, ![8192, 64]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S8192x8x1 : Shape := ⟨3, ![8192, 8, 1]⟩
abbrev S8192x8x2 : Shape := ⟨3, ![8192, 8, 2]⟩
abbrev S64 : Shape := ⟨1, ![64]⟩
abbrev S65536 : Shape := ⟨1, ![65536]⟩
abbrev S65536x1 : Shape := ⟨2, ![65536, 1]⟩
abbrev S32x2048x1 : Shape := ⟨3, ![32, 2048, 1]⟩
abbrev S1x1x64 : Shape := ⟨3, ![1, 1, 64]⟩
abbrev S32x2048x64 : Shape := ⟨3, ![32, 2048, 64]⟩
abbrev S32x64 : Shape := ⟨2, ![32, 64]⟩
abbrev S1x1 : Shape := ⟨2, ![1, 1]⟩
abbrev S1x64 : Shape := ⟨2, ![1, 64]⟩
abbrev S32x1x64 : Shape := ⟨3, ![32, 1, 64]⟩

abbrev nBuf : Space → Nat
  | .hbm => 101
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S4096x64, .f32⟩
  | .hbm, ⟨3, _⟩ => ⟨S8192x64, .f32⟩
  | .hbm, ⟨4, _⟩ => ⟨S8192x8, .f32⟩
  | .hbm, ⟨5, _⟩ => ⟨S8192x8, .i32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x64, .f32⟩
  | .hbm, ⟨13, _⟩ => ⟨S8192x64, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x64, .f32⟩
  | .hbm, ⟨19, _⟩ => ⟨S8192x64, .f32⟩
  | .hbm, ⟨20, _⟩ => ⟨S8192, .i32⟩
  | .hbm, ⟨21, _⟩ => ⟨S8192x1, .i32⟩
  | .hbm, ⟨22, _⟩ => ⟨S_, .i1⟩
  | .hbm, ⟨23, _⟩ => ⟨S8192x64, .i1⟩
  | .hbm, ⟨24, _⟩ => ⟨S_, .i32⟩
  | .hbm, ⟨25, _⟩ => ⟨S8192x1, .i32⟩
  | .hbm, ⟨26, _⟩ => ⟨S8192x1, .i1⟩
  | .hbm, ⟨27, _⟩ => ⟨S_, .i32⟩
  | .hbm, ⟨28, _⟩ => ⟨S8192x1, .i32⟩
  | .hbm, ⟨29, _⟩ => ⟨S8192x1, .i32⟩
  | .hbm, ⟨30, _⟩ => ⟨S8192x1, .i32⟩
  | .hbm, ⟨31, _⟩ => ⟨S_, .i32⟩
  | .hbm, ⟨32, _⟩ => ⟨S8192x8, .i32⟩
  | .hbm, ⟨33, _⟩ => ⟨S8192x8, .i1⟩
  | .hbm, ⟨34, _⟩ => ⟨S_, .i32⟩
  | .hbm, ⟨35, _⟩ => ⟨S8192x8, .i32⟩
  | .hbm, ⟨36, _⟩ => ⟨S8192x8, .i32⟩
  | .hbm, ⟨37, _⟩ => ⟨S8192x8, .i32⟩
  | .hbm, ⟨38, _⟩ => ⟨S8192x8, .i32⟩
  | .hbm, ⟨39, _⟩ => ⟨S8192x8x1, .i32⟩
  | .hbm, ⟨40, _⟩ => ⟨S8192x8x1, .i32⟩
  | .hbm, ⟨41, _⟩ => ⟨S8192x8x2, .i32⟩
  | .hbm, ⟨42, _⟩ => ⟨S_, .i1⟩
  | .hbm, ⟨43, _⟩ => ⟨S8192x8, .i1⟩
  | .hbm, ⟨44, _⟩ => ⟨S8192x64, .i1⟩
  | .hbm, ⟨45, _⟩ => ⟨S_, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S8192x64, .f32⟩
  | .hbm, ⟨51, _⟩ => ⟨S_, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S65536, .i32⟩
  | .hbm, ⟨68, _⟩ => ⟨S_, .i32⟩
  | .hbm, ⟨69, _⟩ => ⟨S64, .i32⟩
  | .hbm, ⟨70, _⟩ => ⟨S_, .i32⟩
  | .hbm, ⟨71, _⟩ => ⟨S_, .i32⟩
  | .hbm, ⟨72, _⟩ => ⟨S65536, .i32⟩
  | .hbm, ⟨73, _⟩ => ⟨S65536, .i32⟩
  | .hbm, ⟨74, _⟩ => ⟨S_, .i32⟩
  | .hbm, ⟨75, _⟩ => ⟨S65536, .i32⟩
  | .hbm, ⟨76, _⟩ => ⟨S65536, .i1⟩
  | .hbm, ⟨77, _⟩ => ⟨S_, .i32⟩
  | .hbm, ⟨78, _⟩ => ⟨S65536, .i32⟩
  | .hbm, ⟨79, _⟩ => ⟨S65536, .i32⟩
  | .hbm, ⟨80, _⟩ => ⟨S65536, .i32⟩
  | .hbm, ⟨81, _⟩ => ⟨S65536x1, .i32⟩
  | .hbm, ⟨82, _⟩ => ⟨S_, .i32⟩
  | .hbm, ⟨83, _⟩ => ⟨S65536, .i32⟩
  | .hbm, ⟨84, _⟩ => ⟨S64, .i32⟩
  | .hbm, ⟨85, _⟩ => ⟨S32x2048x1, .i32⟩
  | .hbm, ⟨86, _⟩ => ⟨S64, .i32⟩
  | .hbm, ⟨87, _⟩ => ⟨S1x1x64, .i32⟩
  | .hbm, ⟨88, _⟩ => ⟨S32x2048x64, .i32⟩
  | .hbm, ⟨89, _⟩ => ⟨S32x2048x64, .i32⟩
  | .hbm, ⟨90, _⟩ => ⟨S32x2048x64, .i1⟩
  | .hbm, ⟨91, _⟩ => ⟨S32x2048x64, .i32⟩
  | .hbm, ⟨92, _⟩ => ⟨S_, .i32⟩
  | .hbm, ⟨93, _⟩ => ⟨S32x64, .i32⟩
  | .hbm, ⟨94, _⟩ => ⟨S_, .i32⟩
  | .hbm, ⟨95, _⟩ => ⟨S_, .i32⟩
  | .hbm, ⟨96, _⟩ => ⟨S32x64, .i32⟩
  | .hbm, ⟨97, _⟩ => ⟨S32x64, .i32⟩
  | .hbm, ⟨98, _⟩ => ⟨S1x1, .f32⟩
  | .hbm, ⟨99, _⟩ => ⟨S1x64, .i32⟩
  | .hbm, ⟨100, _⟩ => ⟨S32x1x64, .i32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_cst_15 : Ref sig .tc := ⟨.hbm, 65, rfl⟩
abbrev main_v44 : Ref sig .tc := ⟨.hbm, 66, rfl⟩
abbrev main_v45 : Ref sig .tc := ⟨.hbm, 67, rfl⟩
abbrev main_c_16 : Ref sig .tc := ⟨.hbm, 68, rfl⟩
abbrev main_v46 : Ref sig .tc := ⟨.hbm, 69, rfl⟩
abbrev main_c_17 : Ref sig .tc := ⟨.hbm, 70, rfl⟩
abbrev main_call0_v0 : Ref sig .tc := ⟨.hbm, 71, rfl⟩
abbrev main_call0_v1 : Ref sig .tc := ⟨.hbm, 72, rfl⟩
abbrev main_v47 : Ref sig .tc := ⟨.hbm, 73, rfl⟩
abbrev main_c_18 : Ref sig .tc := ⟨.hbm, 74, rfl⟩
abbrev main_v48 : Ref sig .tc := ⟨.hbm, 75, rfl⟩
abbrev main_v49 : Ref sig .tc := ⟨.hbm, 76, rfl⟩
abbrev main_c_19 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_20 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_21 : Ref sig .tc := ⟨.hbm, 92, rfl⟩
abbrev main_v63 : Ref sig .tc := ⟨.hbm, 93, rfl⟩
abbrev main_call1_call0_c : Ref sig .tc := ⟨.hbm, 94, rfl⟩
abbrev main_call1_call0_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== Proof.PermBody.lean ====
/-
  The permute task's body as a program over four steps that recur: the stores that fill the table of lanes, the chunks of
  sixteen positions of a block, the six probes of a binary search, and the transfers between them. The printed body is
  that program (`cc1_eq`), step by step: each lemma `…_step` puts one step of the printed text in the place of one step
  of the program, and what is left of the text is the next one's.
-/
module

public import proofs.«01_k».proof.KernelIdeal

@[expose] public section

noncomputable section

namespace Cert.Proof.Perm

open Cert.KernelIdeal
open Idealize.ShloMosaic Idealize.SL.Sem

variable {F : FTy → Type} [FloatOps F] [Facts]
open Facts₀ Facts

/-- The programs of the permute task at grid coordinates `i`. -/
abbrev PT (i : grid1.Coords) := Prog (TpuEff nD τ sig (Elt F) Λ₀ (.scVector ((i 0).castLE hcore1) ((i 1).castLE hsub1)))

/-- Sixteen lanes at row `n / 8` and columns from `16 (n % 8)` lie inside a block of 32 rows. -/
theorem inb (n : Nat) (h : n < 256) : ∀ a, (![n / 8, 16 * (n % 8)] : Fin 2 → Nat) a + S1x16.size a ≤ S32x128.size a := by
  intro a
  match a with
  | ⟨0, _⟩ => show n / 8 + 1 ≤ 32; omega
  | ⟨1, _⟩ => show 16 * (n % 8) + 16 ≤ 128; omega

/-- The sixteen lanes of chunk `n` of a block. -/
abbrev lanes (n : Nat) (h : n < 256) : Rect S32x128 := Rect.unit (s := S32x128) ![n / 8, 16 * (n % 8)] S1x16.size (inb n h)

/-- Lane numbers 0–15. -/
abbrev lane : IVec S16 32 := iota .scVector S16 32 [0] iota_S16_d0_w32_scVector

/-- The first of the 2048 places a task fills. -/
abbrev lo (i : grid1.Coords) : BitVec 32 :=
  Scalar.muli (Scalar.addi (Scalar.muli (BitVec.ofNat 32 (i 1).val) 2#32) (BitVec.ofNat 32 (i 0).val)) 2048#32

/-- Where sixteen positions fall relative to the task's first place, whether inside its window, and the place stored to. -/
abbrev off (lo : BitVec 32) (ld : Vec F S1x16 .i32) : IVec S16 32 := subi (shapeCast S16 ld shapeCasts_S1x16_S16) (broadcast S16 lo)
abbrev inside (lo : BitVec 32) (ld : Vec F S1x16 .i32) : IVec S16 1 :=
  andi (cmpi .sge (off (F := F) lo ld) (broadcast S16 (0#32))) (cmpi .slt (off (F := F) lo ld) (broadcast S16 (2048#32)))
abbrev place (lo : BitVec 32) (ld : Vec F S1x16 .i32) : IVec S16 32 := select (inside (F := F) lo ld) (off (F := F) lo ld) (broadcast S16 (0#32))

section Steps

variable {i : grid1.Coords} {β : Type}

/-- Lanes `n` of the table: `16 n` and on. -/
def fill (t : Memref sig .scVector .vmem S32x128 .i32) (n : Nat) (h : n < 256) (k : PT (F := F) i β) : PT (F := F) i β :=
  .op (.load t (lanes n h).toLoadRect (View.loadsAt_vmem h_S1x16)) fun _ =>
  .op (.store t (lanes n h) (shapeCast S1x16 (addi (broadcast S16 (BitVec.ofNat 32 (16 * n))) lane) shapeCasts_S16_S1x16) Finset.univ
    (View.stores_vmem_bits_univ h_S1x16 rfl) (.inl rfl)) fun _ => k

/-- The last `m` of the 256 stores that fill the table. -/
def fills (t : Memref sig .scVector .vmem S32x128 .i32) : (m : Nat) → m ≤ 256 → PT (F := F) i β → PT (F := F) i β
  | 0, _, k => k
  | m + 1, h, k => fill t (256 - (m + 1)) (by omega) (fills t m (by omega) k)

theorem fills_step {t : Memref sig .scVector .vmem S32x128 .i32} {m : Nat} {h : m + 1 ≤ 256} {p q k : PT (F := F) i β}
    (h1 : p = fill t (256 - (m + 1)) (by omega) q) (h2 : q = fills t m (by omega) k) : p = fills t (m + 1) h k := by
  rw [h1, h2]; rfl

/-- Chunk `n` of a block: sixteen positions of `b` are read, and at those inside the window the lanes of the table moved by
    `hi` are stored. -/
def chunk (b t : Memref sig .scVector .vmem S32x128 .i32) (out : Memref sig .scVector .vmem S2048 .i32) (lo hi : BitVec 32)
    (n : Nat) (h : n < 256) (k : PT (F := F) i β) : PT (F := F) i β :=
  .op (.load b (lanes n h).toLoadRect (View.loadsAt_vmem h_S1x16)) fun ld =>
  .op (TpuEff.assume (k1_chk1 (place (F := F) lo ld)) (k1_chk1.dec _)) fun hw =>
  .op (.load t (lanes n h).toLoadRect (View.loadsAt_vmem h_S1x16)) fun ll =>
  .bind (SparseCore.vectorStoreIdx out ![place (F := F) lo ld] (addi (shapeCast S16 ll shapeCasts_S1x16_S16) (broadcast S16 hi))
    (inside (F := F) lo ld) false (k1_idx1_inb _ hw.down) (View.stores_vmem_bits_univ h_S2048 rfl)) fun _ => k

/-- The last `m` of a block's 256 chunks. -/
def chunks (b t : Memref sig .scVector .vmem S32x128 .i32) (out : Memref sig .scVector .vmem S2048 .i32) (lo hi : BitVec 32) :
    (m : Nat) → m ≤ 256 → PT (F := F) i β → PT (F := F) i β
  | 0, _, k => k
  | m + 1, h, k => chunk b t out lo hi (256 - (m + 1)) (by omega) (chunks b t out lo hi m (by omega) k)

theorem chunks_step {b t : Memref sig .scVector .vmem S32x128 .i32} {out : Memref sig .scVector .vmem S2048 .i32} {lo hi : BitVec 32}
    {m : Nat} {h : m + 1 ≤ 256} {p q k : PT (F := F) i β} (h1 : p = chunk b t out lo hi (256 - (m + 1)) (by omega) q)
    (h2 : q = chunks b t out lo hi m (by omega) k) : p = chunks b t out lo hi (m + 1) h k := by
  rw [h1, h2]; rfl

/-- One probe of the search for the places `p`: the bound before candidate `e + step` is read, and the candidate taken where
    the bound is at most the place. -/
def probe (bins : Memref sig .scVector .vmem S64 .i32) (step : BitVec 32) (p e : IVec S16 32) (k : IVec S16 32 → PT (F := F) i β) : PT (F := F) i β :=
  .op (TpuEff.assume (k1_chk513 (subi (addi e (broadcast S16 step)) (broadcast S16 1#32))) (k1_chk513.dec _)) fun hw =>
  .bind (SparseCore.vectorLoadIdx bins ![subi (addi e (broadcast S16 step)) (broadcast S16 1#32)] (k1_idx513_inb _ hw.down) (View.loads_vmem h_S64))
    fun b => k (select (cmpi .sle (b : IVec S16 32) p) (addi e (broadcast S16 step)) e)

end Steps

section Body

variable (i : grid1.Coords) (arg2 : Memref sig .scVector .hbm S512x128 .i32) (harg2 : arg2.IsWhole) (arg3 : Memref sig .scVector .hbm S64 .i32) (harg3 : arg3.IsWhole)
  (arg4 : Memref sig .scVector .hbm S65536 .i32) (harg4 : arg4.IsWhole) (arg5 : Memref sig .scVector .hbm S65536 .i32) (harg5 : arg5.IsWhole)
  (arg6 : Memref sig .scVector .vmem S32x128 .i32) (harg6 : arg6.IsWhole) (arg7 : Memref sig .scVector .vmem S32x128 .i32) (harg7 : arg7.IsWhole)
  (arg8 : Memref sig .scVector .vmem S32x128 .i32) (harg8 : arg8.IsWhole) (arg9 : Memref sig .scVector .vmem S64 .i32) (harg9 : arg9.IsWhole)
  (arg10 : Memref sig .scVector .vmem S2048 .i32) (harg10 : arg10.IsWhole) (arg11 : Memref sig .scVector .vmem S2048 .i32) (harg11 : arg11.IsWhole)
  (arg12 arg13 r0 r1 r2 : DmaSems sig S_)

/-- The first block of positions, and the blocks a trip fetches. -/
abbrev src0 : Memref sig .scVector .hbm S32x128 .i32 := arg2.slice (Rect.unit (s := S512x128) ![0, 0] S32x128.size inb_S512x128_S32x128_0_0) (fun _ => rfl)
abbrev src1 (t : Fin k1_t1_loop.trips) : Memref sig .scVector .hbm S32x128 .i32 :=
  arg2.slice (Rect.unit (s := S512x128) (k1_off1 t) S32x128.size (k1_off1_inb t)) (fun _ => rfl)
abbrev src2 (t : Fin k1_t1_loop.trips) (h : k1_cond1 t = 1#1) : Memref sig .scVector .hbm S32x128 .i32 :=
  arg2.slice (Rect.unit (s := S512x128) (k1_off2 t) S32x128.size (k1_off2_inb t h)) (fun _ => rfl)
/-- The task's window of a result. -/
abbrev win (a : Memref sig .scVector .hbm S65536 .i32) : Memref sig .scVector .hbm S2048 .i32 :=
  a.slice (Rect.unit (s := S65536) (k1_off4 i) S2048.size (k1_off4_inb i)) (fun _ => rfl)

/-- What a trip adds to the table's lanes, at the first block it reads and at the second. -/
abbrev hi1 (t : Fin k1_t1_loop.trips) : BitVec 32 := Scalar.muli (Scalar.muli (Scf.iv 0#32 1#32 t) 2#32) 4096#32
abbrev hi2 (t : Fin k1_t1_loop.trips) : BitVec 32 := Scalar.muli (Scalar.addi (Scalar.muli (Scf.iv 0#32 1#32 t) 2#32) 1#32) 4096#32

section
variable {β : Type}

/-- A trip's first block arrives, and its second is asked for. -/
def head (t : Fin k1_t1_loop.trips) (k : PT (F := F) i β) : PT (F := F) i β :=
  .op (.waitDma2 arg12.sem (src0 arg2) arg6 (View.wordExact_bits rfl) harg6.wordExact) fun _ =>
  .op (.enqueueDma (src1 arg2 t) (.here arg7) (.dma arg13.sem) (View.wordExact_bits rfl) harg7.wordExact ⟨Or.inl rfl, trivial⟩) fun _ => k

/-- A trip's second block arrives, and the next trip's first is asked for where there is one. -/
def mid (t : Fin k1_t1_loop.trips) (k : PT (F := F) i β) : PT (F := F) i β :=
  .op (.waitDma2 arg13.sem (src0 arg2) arg7 (View.wordExact_bits rfl) harg7.wordExact) fun _ =>
  if h : k1_cond1 t = 1#1 then
    .op (.enqueueDma (src2 arg2 t h) (.here arg6) (.dma arg12.sem) (View.wordExact_bits rfl) harg6.wordExact ⟨Or.inl rfl, trivial⟩) fun _ => k
  else k

/-- The table of bounds is fetched, to begin with. -/
def start (k : PT (F := F) i β) : PT (F := F) i β :=
  .op (.enqueueDma arg3 (.here arg9) (.dma r0.sem) harg3.wordExact harg9.wordExact ⟨Or.inl rfl, trivial⟩) fun _ =>
  .op (.waitDma2 r0.sem arg3 arg9 harg3.wordExact harg9.wordExact) fun _ => k

/-- The first block of positions is asked for. -/
def ask (k : PT (F := F) i β) : PT (F := F) i β :=
  .op (.enqueueDma (src0 arg2) (.here arg6) (.dma arg12.sem) (View.wordExact_bits rfl) harg6.wordExact ⟨Or.inl rfl, trivial⟩) fun _ => k

end

/-- One trip over two blocks of positions. -/
def trip (t : Fin k1_t1_loop.trips) : PT (F := F) i (BitVec 32) :=
  head i arg2 arg6 harg6 arg7 harg7 arg12 arg13 t <| chunks arg6 arg8 arg10 (lo i) (hi1 t) 256 (Nat.le_refl _) <|
    mid i arg2 arg6 harg6 arg7 harg7 arg12 arg13 t <| chunks arg7 arg8 arg10 (lo i) (hi2 t) 256 (Nat.le_refl _) <| .ret 0#32

/-- One trip of the search: sixteen places. -/
abbrev places (t : Fin k1_t2_loop.trips) : IVec S16 32 := addi (broadcast S16 (Scalar.addi (lo i) (Scalar.muli (Scf.iv 0#32 1#32 t) 16#32))) lane
def find (t : Fin k1_t2_loop.trips) : PT (F := F) i (BitVec 32) :=
  probe arg9 32#32 (places i t) (broadcast S16 0#32) fun e => probe arg9 16#32 (places i t) e fun e => probe arg9 8#32 (places i t) e fun e =>
  probe arg9 4#32 (places i t) e fun e => probe arg9 2#32 (places i t) e fun e => probe arg9 1#32 (places i t) e fun e =>
  .op (.load arg11 (Rect.unit (s := S2048) (k1_off3 t) S16.size (k1_off3_inb t)).toLoadRect (View.loadsAt_vmem h_S16)) fun _ =>
  .op (.store arg11 (Rect.unit (s := S2048) (k1_off3 t) S16.size (k1_off3_inb t)) (e : Vec F S16 .i32) Finset.univ (View.stores_vmem_bits_univ h_S16 rfl) (.inl rfl)) fun _ =>
  .ret 0#32

/-- The two windows are written back. -/
def finish : PT (F := F) i PUnit :=
  .op (.enqueueDma arg10 (.here (win i arg4)) (.dma r1.sem) harg10.wordExact (View.wordExact_bits rfl) ⟨Or.inl rfl, trivial⟩) fun _ =>
  .op (.waitDma2 r1.sem arg10 (win i arg4) harg10.wordExact (View.wordExact_bits rfl)) fun _ =>
  .op (.enqueueDma arg11 (.here (win i arg5)) (.dma r2.sem) harg11.wordExact (View.wordExact_bits rfl) ⟨Or.inl rfl, trivial⟩) fun _ =>
  .op (.waitDma2 r2.sem arg11 (win i arg5) harg11.wordExact (View.wordExact_bits rfl)) fun _ => .ret ⟨⟩

/-- The body: the table of bounds, the table of lanes, the trips over the positions, the search, the write-back. -/
def body : PT (F := F) i PUnit :=
  start i arg3 harg3 arg9 harg9 r0 <| fills arg8 256 (Nat.le_refl _) <| ask i arg2 arg6 harg6 arg12 <|
    .bind (Scf.Loop.for k1_t1_loop k1_t1_ok (0#32) fun t _ => trip i arg2 arg6 harg6 arg7 harg7 arg8 arg10 arg12 arg13 t) fun _ =>
    .bind (Scf.Loop.for k1_t2_loop k1_t2_ok (0#32) fun t _ => find i arg9 arg11 t) fun _ =>
    finish i arg4 arg5 arg10 harg10 arg11 harg11 r1 r2

/-! ## The printed body -/

section
variable {β : Type} {i}
theorem start_step {p q r : PT (F := F) i β} (h1 : p = start i arg3 harg3 arg9 harg9 r0 q) (h2 : q = r) : p = start i arg3 harg3 arg9 harg9 r0 r := by rw [h1, h2]
theorem ask_step {p r : PT (F := F) i β} {k : PUnit → PT (F := F) i β}
    (h1 : p = .op (.enqueueDma (src0 arg2) (.here arg6) (.dma arg12.sem) (View.wordExact_bits rfl) harg6.wordExact ⟨Or.inl rfl, trivial⟩) k) (h2 : k ⟨⟩ = r) :
    p = ask i arg2 arg6 harg6 arg12 r := by
  rw [h1, ← h2]; rfl
theorem head_step {t : Fin k1_t1_loop.trips} {p q r : PT (F := F) i β} (h1 : p = head i arg2 arg6 harg6 arg7 harg7 arg12 arg13 t q) (h2 : q = r) :
    p = head i arg2 arg6 harg6 arg7 harg7 arg12 arg13 t r := by rw [h1, h2]
theorem mid_step {γ δ : Type} {t : Fin k1_t1_loop.trips} {p r : PT (F := F) i β} {K J : PUnit → PT (F := F) i β}
    {A : k1_cond1 t = 1#1 → PT (F := F) i γ} {B : ¬ k1_cond1 t = 1#1 → PT (F := F) i γ} {l : γ → PT (F := F) i δ} {k : δ → PT (F := F) i β}
    (h1 : p = .op (.waitDma2 arg13.sem (src0 arg2) arg7 (View.wordExact_bits rfl) harg7.wordExact) K) (h2 : K ⟨⟩ = ((dite (k1_cond1 t = 1#1) A B).bind l).bind k)
    (hA : ∀ h, ((A h).bind l).bind k = .op (.enqueueDma (src2 arg2 t h) (.here arg6) (.dma arg12.sem) (View.wordExact_bits rfl) harg6.wordExact ⟨Or.inl rfl, trivial⟩) J)
    (hB : ∀ h, ((B h).bind l).bind k = J ⟨⟩) (hr : J ⟨⟩ = r) : p = mid i arg2 arg6 harg6 arg7 harg7 arg12 arg13 t r := by
  subst hr; rw [h1]; unfold mid; congr 1; funext x; rw [show K x = K ⟨⟩ from rfl, h2]
  by_cases h : k1_cond1 t = 1#1
  · rw [dif_pos h, dif_pos h]; exact hA h
  · rw [dif_neg h, dif_neg h]; exact hB h
theorem mid_ret {α γ δ : Type} {u : α} {g : α → PT (F := F) i γ} {l : γ → PT (F := F) i δ} {k : δ → PT (F := F) i β} {p : PT (F := F) i β} (h : ((g u).bind l).bind k = p) :
    ((Prog.bind (.ret u) g).bind l).bind k = p := h
theorem ret_step {α γ : Type} {u : α} {g : α → PT (F := F) i γ} {k : γ → PT (F := F) i β} {p : PT (F := F) i β} (h : (g u).bind k = p) :
    (Prog.bind (.ret u) g).bind k = p := h
theorem loop_step {γ : Type} {L : Scf.Loop 32} {ok : L.OK} {v : BitVec 32} {f f' : Fin L.trips → BitVec 32 → PT (F := F) i (BitVec 32)}
    {g : BitVec 32 → PT (F := F) i γ} {k : γ → PT (F := F) i β} {g' : BitVec 32 → PT (F := F) i β}
    (h2 : ∀ t a, f t a = f' t a) (h3 : ∀ a, (g a).bind k = g' a) : (Prog.bind (Scf.Loop.for L ok v f) g).bind k = .bind (Scf.Loop.for L ok v f') g' := by
  rw [show f = f' from funext fun t => funext fun a => h2 t a, ← show _ = g' from funext h3]
  exact Prog.bind_assoc _ _ _
end

set_option maxHeartbeats 4000000 in
theorem cc1_eq : cc1__permute_body (F := F) i arg2 harg2 arg3 harg3 arg4 harg4 arg5 harg5 arg6 harg6 arg7 harg7 arg8 harg8 arg9 harg9 arg10 harg10 arg11 harg11 arg12 arg13 r0 r1 r2
    = body i arg2 arg3 harg3 arg4 arg5 arg6 harg6 arg7 harg7 arg8 arg9 harg9 arg10 harg10 arg11 harg11 arg12 arg13 r0 r1 r2 := by
  refine start_step _ _ _ _ _ rfl ?_
  iterate 256 refine fills_step rfl ?_
  refine ask_step _ _ _ _ (by rfl) ?_
  refine ret_step ?_
  refine loop_step (fun t a => ?_) (fun a => ?_)
  · refine head_step _ _ _ _ _ _ _ rfl ?_
    iterate 256 refine chunks_step rfl ?_
    refine mid_step _ _ _ _ _ _ _ (by rfl) (mid_ret rfl) (fun h => by rfl) (fun h => by rfl) ?_
    iterate 256 refine chunks_step rfl ?_
    rfl
  · refine loop_step (fun t a => ?_) (fun a => ?_)
    · rfl
    · rfl

end Body

end Cert.Proof.Perm

end
-- ==== Proof.RankBody.lean ====
/-
  The rank task's body as a program over three steps that recur: the transfers, the four groups of sixteen running sums, and
  the 128 chunks of sixteen experts. The printed body is that program (`cc0_eq`), step by step.
-/
module

public import proofs.«01_k».proof.KernelIdeal

@[expose] public section

noncomputable section

namespace Cert.Proof.Rank

open Cert.KernelIdeal
open Idealize.ShloMosaic Idealize.SL.Sem

variable {F : FTy → Type} [FloatOps F] [Facts]
open Facts₀ Facts

/-- The programs of the rank task at grid coordinates `i`. -/
abbrev RT (i : grid0.Coords) := Prog (TpuEff nD τ sig (Elt F) Λ₀ (.scVector ((i 0).castLE hcore0) ((i 1).castLE hsub0)))

theorem inb (n : Nat) (h : n < 128) : ∀ a, (![n / 8, 16 * (n % 8)] : Fin 2 → Nat) a + S1x16.size a ≤ S16x128.size a := by
  intro a
  match a with
  | ⟨0, _⟩ => show n / 8 + 1 ≤ 16; omega
  | ⟨1, _⟩ => show 16 * (n % 8) + 16 ≤ 128; omega

/-- The sixteen lanes of chunk `n`. -/
abbrev lanes (n : Nat) (h : n < 128) : Rect S16x128 := Rect.unit (s := S16x128) ![n / 8, 16 * (n % 8)] S1x16.size (inb n h)

theorem inbG (n : Nat) (h : n < 4) : ∀ a, (![16 * n] : Fin 1 → Nat) a + S16.size a ≤ S64.size a := by
  intro a
  match a with
  | ⟨0, _⟩ => show 16 * n + 16 ≤ 64; omega

/-- The sixteen experts of group `n`. -/
abbrev group (n : Nat) (h : n < 4) : Rect S64 := Rect.unit (s := S64) ![16 * n] S16.size (inbG n h)

/-- The number of the task. -/
abbrev wid (i : grid0.Coords) : BitVec 32 := Scalar.addi (Scalar.muli (BitVec.ofNat 32 (i 1).val) 2#32) (BitVec.ofNat 32 (i 0).val)

/-- Whether the task writes the bounds. -/
abbrev first (i : grid0.Coords) : BitVec 1 := Scalar.cmpi .ne (Scalar.extui (Scalar.cmpi .eq (wid i) 0#32) : BitVec 32) 0#32

section Steps

variable {i : grid0.Coords} {β : Type}

/-- Group `n` of running sums, from the sum `carry` of the groups before it: the totals `tot` are read and summed, the sums
    before each expert added to the counts `cnt`, the sums including it stored as bounds. -/
def sums (tot cnt bnd : Memref sig .scVector .vmem S64 .i32) (carry : BitVec 32) (n : Nat) (h : n < 4) (k : Vec F S16 .i32 → RT (F := F) i β) : RT (F := F) i β :=
  .op (.load tot (group n h).toLoadRect (View.loadsAt_vmem h_S16)) fun (v : Vec F S16 .i32) =>
  .op (.load cnt (group n h).toLoadRect (View.loadsAt_vmem h_S16)) fun (u : Vec F S16 .i32) =>
  .op (.load cnt (group n h).toLoadRect (View.loadsAt_vmem h_S16)) fun _ =>
  .op (.store cnt (group n h) (addi u (subi (addi (broadcast S16 carry) (scan .sum v)) v) : IVec S16 32) Finset.univ (View.stores_vmem_bits_univ h_S16 rfl) (.inl rfl)) fun _ =>
  .op (.load bnd (group n h).toLoadRect (View.loadsAt_vmem h_S16)) fun _ =>
  .op (.store bnd (group n h) (addi (broadcast S16 carry) (scan .sum v) : IVec S16 32) Finset.univ (View.stores_vmem_bits_univ h_S16 rfl) (.inl rfl)) fun _ =>
  k v

/-- The sum of the totals up to a group's end. -/
abbrev next (carry : BitVec 32) (v : Vec F S16 .i32) : BitVec 32 := Scalar.addi carry (extractAt ![15] (scan .sum v : IVec S16 32) inpos_S16_p15)

/-- Chunk `n`: sixteen experts of `te` are read; the counts at them and their occurrences so far give the places stored in
    `pos`, and the counts move on. -/
def chunk (te pos : Memref sig .scVector .vmem S16x128 .i32) (cnt : Memref sig .scVector .vmem S64 .i32) (n : Nat) (h : n < 128) (k : RT (F := F) i β) : RT (F := F) i β :=
  .op (.load te (lanes n h).toLoadRect (View.loadsAt_vmem h_S1x16)) fun ld =>
  .op (TpuEff.assume (k0_chk1 (shapeCast S16 ld shapeCasts_S1x16_S16)) (k0_chk1.dec _)) fun hw =>
  .bind (SparseCore.vectorLoadIdx cnt ![shapeCast S16 ld shapeCasts_S1x16_S16] (k0_idx1_inb _ hw.down) (View.loads_vmem h_S64)) fun (b : Vec F S16 .i32) =>
  .op (.load pos (lanes n h).toLoadRect (View.loadsAt_vmem h_S1x16)) fun _ =>
  .op (.store pos (lanes n h) (shapeCast S1x16 (subi (addi b (scanCount (broadcast S16 1#1) (shapeCast S16 ld shapeCasts_S1x16_S16)).2) (broadcast S16 1#32) : IVec S16 32)
    shapeCasts_S16_S1x16) Finset.univ (View.stores_vmem_bits_univ h_S1x16 rfl) (.inl rfl)) fun _ =>
  .bind (SparseCore.vectorStoreIdx cnt ![shapeCast S16 ld shapeCasts_S1x16_S16] (addi b (scanCount (broadcast S16 1#1) (shapeCast S16 ld shapeCasts_S1x16_S16)).2 : IVec S16 32)
    (scanCount (broadcast S16 1#1) (shapeCast S16 ld shapeCasts_S1x16_S16)).1 false (k0_idx2_inb _ hw.down) (View.stores_vmem_bits_univ h_S64 rfl)) fun _ => k

/-- The last `m` of the 128 chunks. -/
def chunks (te pos : Memref sig .scVector .vmem S16x128 .i32) (cnt : Memref sig .scVector .vmem S64 .i32) : (m : Nat) → m ≤ 128 → RT (F := F) i β → RT (F := F) i β
  | 0, _, k => k
  | m + 1, h, k => chunk te pos cnt (128 - (m + 1)) (by omega) (chunks te pos cnt m (by omega) k)

theorem chunks_step {te pos : Memref sig .scVector .vmem S16x128 .i32} {cnt : Memref sig .scVector .vmem S64 .i32} {m : Nat} {h : m + 1 ≤ 128} {p q k : RT (F := F) i β}
    (h1 : p = chunk te pos cnt (128 - (m + 1)) (by omega) q) (h2 : q = chunks te pos cnt m (by omega) k) : p = chunks te pos cnt (m + 1) h k := by
  rw [h1, h2]; rfl

end Steps

section Body

variable (i : grid0.Coords) (arg2 : Memref sig .scVector .hbm S512x128 .i32) (harg2 : arg2.IsWhole) (arg3 : Memref sig .scVector .hbm S1x64 .i32) (harg3 : arg3.IsWhole)
  (arg4 : Memref sig .scVector .hbm S32x1x64 .i32) (harg4 : arg4.IsWhole) (arg5 : Memref sig .scVector .hbm S512x128 .i32) (harg5 : arg5.IsWhole)
  (arg6 : Memref sig .scVector .hbm S64 .i32) (harg6 : arg6.IsWhole)
  (arg7 : Memref sig .scVector .vmem S16x128 .i32) (harg7 : arg7.IsWhole) (arg8 : Memref sig .scVector .vmem S16x128 .i32) (harg8 : arg8.IsWhole)
  (arg9 : Memref sig .scVector .vmem S64 .i32) (harg9 : arg9.IsWhole) (arg10 : Memref sig .scVector .vmem S64 .i32) (harg10 : arg10.IsWhole)
  (arg11 : Memref sig .scVector .vmem S64 .i32) (harg11 : arg11.IsWhole) (r0 r1 r2 r3 r4 : DmaSems sig S_)

/-- The task's sixteen rows of experts, the experts' totals, and the task's row of counts. -/
abbrev rows : Memref sig .scVector .hbm S16x128 .i32 := arg2.slice (Rect.unit (s := S512x128) (k0_off1 i) S16x128.size (k0_off1_inb i)) (fun _ => rfl)
abbrev totals : Memref sig .scVector .hbm S64 .i32 :=
  (arg3.slice (Rect.unit (s := S1x64) ![0, 0] S1x64.size inb_S1x64_S1x64_0_0) (fun _ => rfl)).squeeze S64 squeezes_S1x64_S64
abbrev before : Memref sig .scVector .hbm S64 .i32 :=
  (arg4.slice (Rect.unit (s := S32x1x64) (k0_off2 i) S1x1x64.size (k0_off2_inb i)) (fun _ => rfl)).squeeze S64 squeezes_S1x1x64_S64
/-- The task's sixteen rows of places. -/
abbrev out : Memref sig .scVector .hbm S16x128 .i32 := arg5.slice (Rect.unit (s := S512x128) (k0_off3 i) S16x128.size (k0_off3_inb i)) (fun _ => rfl)

section
variable {β : Type}

/-- The experts, their totals and their counts arrive. -/
def start (k : RT (F := F) i β) : RT (F := F) i β :=
  .op (.enqueueDma (rows i arg2) (.here arg7) (.dma r0.sem) (View.wordExact_bits rfl) harg7.wordExact ⟨Or.inl rfl, trivial⟩) fun _ =>
  .op (.waitDma2 r0.sem (rows i arg2) arg7 (View.wordExact_bits rfl) harg7.wordExact) fun _ =>
  .op (.enqueueDma (totals arg3) (.here arg10) (.dma r1.sem) ((View.wordExact_bits rfl).reshape _ _) harg10.wordExact ⟨Or.inl rfl, trivial⟩) fun _ =>
  .op (.waitDma2 r1.sem (totals arg3) arg10 ((View.wordExact_bits rfl).reshape _ _) harg10.wordExact) fun _ =>
  .op (.enqueueDma (before i arg4) (.here arg9) (.dma r2.sem) ((View.wordExact_bits rfl).reshape _ _) harg9.wordExact ⟨Or.inl rfl, trivial⟩) fun _ =>
  .op (.waitDma2 r2.sem (before i arg4) arg9 ((View.wordExact_bits rfl).reshape _ _) harg9.wordExact) fun _ => k

/-- The running sums, in four groups. -/
def prefixes (k : RT (F := F) i β) : RT (F := F) i β :=
  sums arg10 arg9 arg11 0#32 0 (by omega) fun a => sums arg10 arg9 arg11 (next (F := F) 0#32 a) 1 (by omega) fun b =>
  sums arg10 arg9 arg11 (next (F := F) (next (F := F) 0#32 a) b) 2 (by omega) fun c =>
  sums arg10 arg9 arg11 (next (F := F) (next (F := F) (next (F := F) 0#32 a) b) c) 3 (by omega) fun _ => k

/-- The first task writes the bounds. -/
def bounds (k : RT (F := F) i β) : RT (F := F) i β :=
  if first i = 1#1 then
    .op (.enqueueDma arg11 (.here arg6) (.dma r3.sem) harg11.wordExact harg6.wordExact ⟨Or.inl rfl, trivial⟩) fun _ =>
    .op (.waitDma2 r3.sem arg11 arg6 harg11.wordExact harg6.wordExact) fun _ => k
  else k
end

/-- The places are written back. -/
def finish : RT (F := F) i PUnit :=
  .op (.enqueueDma arg8 (.here (out i arg5)) (.dma r4.sem) harg8.wordExact (View.wordExact_bits rfl) ⟨Or.inl rfl, trivial⟩) fun _ =>
  .op (.waitDma2 r4.sem arg8 (out i arg5) harg8.wordExact (View.wordExact_bits rfl)) fun _ => .ret ⟨⟩

/-- The body. -/
def body : RT (F := F) i PUnit :=
  start i arg2 arg3 arg4 arg7 harg7 arg9 harg9 arg10 harg10 r0 r1 r2 <| prefixes i arg9 arg10 arg11 <| bounds i arg6 harg6 arg11 harg11 r3 <|
    chunks arg7 arg8 arg9 128 (Nat.le_refl _) <| finish i arg5 arg8 harg8 r4

/-! ## The printed body -/

section
variable {β : Type} {i}
theorem start_step {p q r : RT (F := F) i β} (h1 : p = start i arg2 arg3 arg4 arg7 harg7 arg9 harg9 arg10 harg10 r0 r1 r2 q) (h2 : q = r) :
    p = start i arg2 arg3 arg4 arg7 harg7 arg9 harg9 arg10 harg10 r0 r1 r2 r := by rw [h1, h2]
theorem sums_step {tot cnt bnd : Memref sig .scVector .vmem S64 .i32} {carry : BitVec 32} {n : Nat} {h : n < 4} {p : RT (F := F) i β} {q k : Vec F S16 .i32 → RT (F := F) i β}
    (h1 : p = sums tot cnt bnd carry n h q) (h2 : ∀ v, q v = k v) : p = sums tot cnt bnd carry n h k := by
  rw [h1, show q = k from funext h2]
theorem sums_last {tot cnt bnd : Memref sig .scVector .vmem S64 .i32} {carry : BitVec 32} {n : Nat} {h : n < 4} {p : RT (F := F) i β} {k : Vec F S16 .i32 → RT (F := F) i β}
    {K : Vec F S16 .i32 → Vec F S16 .i32 → Vec F S16 .i32 → PUnit → Vec F S16 .i32 → PUnit → RT (F := F) i β}
    (h1 : p = .op (.load tot (group n h).toLoadRect (View.loadsAt_vmem h_S16)) fun (v : Vec F S16 .i32) =>
      .op (.load cnt (group n h).toLoadRect (View.loadsAt_vmem h_S16)) fun (u : Vec F S16 .i32) =>
      .op (.load cnt (group n h).toLoadRect (View.loadsAt_vmem h_S16)) fun w =>
      .op (.store cnt (group n h) (addi u (subi (addi (broadcast S16 carry) (scan .sum v)) v) : IVec S16 32) Finset.univ (View.stores_vmem_bits_univ h_S16 rfl) (.inl rfl)) fun x =>
      .op (.load bnd (group n h).toLoadRect (View.loadsAt_vmem h_S16)) fun y =>
      .op (.store bnd (group n h) (addi (broadcast S16 carry) (scan .sum v) : IVec S16 32) Finset.univ (View.stores_vmem_bits_univ h_S16 rfl) (.inl rfl)) (K v u w x y))
    (h2 : ∀ v u w x y z, K v u w x y z = k v) : p = sums tot cnt bnd carry n h k := by
  rw [h1]; unfold sums; congr; funext v; congr; funext u; congr; funext w; congr; funext x; congr; funext y; congr; funext z; exact h2 v u w x y z
theorem prefixes_step {p q r : RT (F := F) i β} (h1 : p = prefixes i arg9 arg10 arg11 q) (h2 : q = r) : p = prefixes i arg9 arg10 arg11 r := by rw [h1, h2]
theorem bounds_step {γ δ : Type} {p r : RT (F := F) i β} {A : first i = 1#1 → RT (F := F) i γ} {B : ¬ first i = 1#1 → RT (F := F) i γ}
    {m : γ → RT (F := F) i δ} {k : δ → RT (F := F) i β} {J : PUnit → RT (F := F) i β} (h0 : p = ((dite (first i = 1#1) A B).bind m).bind k)
    (hA : ∀ h, (((A h).bind m).bind k) = .op (.enqueueDma arg11 (.here arg6) (.dma r3.sem) harg11.wordExact harg6.wordExact ⟨Or.inl rfl, trivial⟩) fun _ =>
      .op (.waitDma2 r3.sem arg11 arg6 harg11.wordExact harg6.wordExact) J)
    (hB : ∀ h, (((B h).bind m).bind k) = J ⟨⟩) (hr : J ⟨⟩ = r) : p = bounds i arg6 harg6 arg11 harg11 r3 r := by
  subst hr; rw [h0]; unfold bounds
  by_cases h : first i = 1#1
  · rw [dif_pos h, if_pos h]; exact hA h
  · rw [dif_neg h, if_neg h]; exact hB h
end

set_option maxHeartbeats 4000000 in
theorem cc0_eq : cc0__rank_body (F := F) i arg2 harg2 arg3 harg3 arg4 harg4 arg5 harg5 arg6 harg6 arg7 harg7 arg8 harg8 arg9 harg9 arg10 harg10 arg11 harg11 r0 r1 r2 r3 r4
    = body i arg2 arg3 arg4 arg5 arg6 harg6 arg7 harg7 arg8 harg8 arg9 harg9 arg10 harg10 arg11 harg11 r0 r1 r2 r3 r4 := by
  refine start_step _ _ _ _ _ _ _ _ _ _ _ _ rfl ?_
  unfold prefixes
  iterate 3 refine sums_step rfl fun v => ?_
  refine sums_last (by rfl) fun v u w x y z => ?_
  refine bounds_step _ _ _ _ _ (by rfl) (fun h => by rfl) (fun h => by rfl) ?_
  iterate 128 refine chunks_step rfl ?_
  rfl

end Body

end Cert.Proof.Rank

end
-- ==== Proof.Lanes.lean ====
/-
  The sixteen lanes of a vector: what an indexed store leaves (`storeIdx`), what a running count and a running sum hold
  (`scanCount`, `scan`), lane by lane, and what one chunk of either task does to the array it fills.
-/
module

public import proofs.«01_k».proof.Proof.PermBody
public import proofs.«01_k».proof.Proof.RankBody
public import Idealize.ShloMosaic.Lib.ValueLayout
public import Mathlib.Data.Nat.Count

@[expose] public section

noncomputable section

namespace Cert.Proof

open Cert.KernelIdeal
open Idealize.ShloMosaic
open Idealize.ShloMosaic.ValueIdx

variable {F : FTy → Type} [FloatOps F]

/-- Lane `k` of a vector of sixteen. -/
abbrev L (k : Fin 16) : S16.Idx := ix1 k

theorem ofLane_eq (k : Fin 16) : Shape.ofLane (d := ![16]) k = L k := by
  rw [eq_ix1 (Shape.ofLane k)]; rfl

/-! ## Indexed stores -/

section
variable {n : Nat} {g : Vec F ⟨1, ![n]⟩ .i32} {p v : IVec S16 32} {mask : IVec S16 1}
  {h : ∀ a x, ((![p] : Fin 1 → IVec S16 32) a x).toNat < (⟨1, ![n]⟩ : Shape).size a}

/-- One lane's share of an indexed store. -/
def put (p v : IVec S16 32) (mask : IVec S16 1) (j : Nat) (g : BitVec 32) (k : Fin 16) : BitVec 32 :=
  if mask (L k) = 1 then if j = (p (L k)).toNat then v (L k) else g else g

theorem storeIdx_eq (j : (⟨1, ![n]⟩ : Shape).Idx) :
    storeIdx g ![p] (v : Vec F S16 .i32) mask false h j = (List.finRange 16).foldl (put p v mask (j 0).val) (g j) := by
  unfold storeIdx
  generalize hl : List.finRange ((![16] : Fin 1 → Nat) 0) = l
  rw [show List.finRange 16 = l from hl]
  clear hl
  induction l generalizing g with
  | nil => rfl
  | cons k l ih =>
    rw [List.foldl_cons]
    refine ih.trans (Eq.trans ?_ (List.foldl_cons (f := put p v mask (j 0).val) (a := (k : Fin 16))).symm)
    congr 1
    unfold put
    dsimp only
    have hk : Shape.ofLane (d := ![16]) k = L k := ofLane_eq k
    rw [hk]
    by_cases hm : mask (L k) = 1
    · rw [if_pos hm, if_pos hm]
      have hj : (∀ a, (j a).val = (idxAt ![p] h (L k) a).val) ↔ (j 0).val = (p (L k)).toNat :=
        ⟨fun hh => hh 0, fun hh a => by match a with | ⟨0, _⟩ => exact hh⟩
      by_cases hh : (j 0).val = (p (L k)).toNat
      · rw [if_pos hh, if_pos (hj.2 hh)]; rfl
      · rw [if_neg hh, if_neg (mt hj.1 hh)]
    · rw [if_neg hm, if_neg hm]

theorem puts_miss {j : Nat} {x : BitVec 32} {l : List (Fin 16)} (hl : ∀ k ∈ l, mask (L k) = 1 → j ≠ (p (L k)).toNat) :
    l.foldl (put p v mask j) x = x := by
  induction l generalizing x with
  | nil => rfl
  | cons k l ih =>
    rw [List.foldl_cons, ih (fun k hk => hl k (List.mem_cons_of_mem _ hk))]
    unfold put
    by_cases hm : mask (L k) = 1
    · rw [if_pos hm, if_neg (hl k List.mem_cons_self hm)]
    · rw [if_neg hm]

/-- An element no set lane names keeps its value. -/
theorem storeIdx_miss {j : (⟨1, ![n]⟩ : Shape).Idx} (hl : ∀ k, mask (L k) = 1 → (j 0).val ≠ (p (L k)).toNat) :
    storeIdx g ![p] (v : Vec F S16 .i32) mask false h j = g j := by
  rw [storeIdx_eq]; exact puts_miss fun k _ => hl k

/-- An element gets the value of the last set lane that names it. -/
theorem storeIdx_hit {j : (⟨1, ![n]⟩ : Shape).Idx} (k : Fin 16) (hm : mask (L k) = 1) (hj : (j 0).val = (p (L k)).toNat)
    (hl : ∀ k', k < k' → mask (L k') = 1 → (j 0).val ≠ (p (L k')).toNat) :
    storeIdx g ![p] (v : Vec F S16 .i32) mask false h j = v (L k) := by
  rw [storeIdx_eq]
  obtain ⟨l₁, l₂, hs⟩ := List.append_of_mem (List.mem_finRange k)
  have hp : (l₁ ++ k :: l₂).Pairwise (· < ·) := hs ▸ List.pairwise_lt_finRange 16
  rw [hs, List.foldl_append, List.foldl_cons, puts_miss]
  · unfold put; rw [if_pos hm, if_pos hj]
  · intro k' hk'
    exact hl k' ((List.pairwise_cons.1 (List.pairwise_append.1 hp).2.1).1 k' hk')

end

/-! ## A chunk of the permute task -/

section
variable [Facts]
open Facts₀ Facts

/-- Sixteen lanes of a row, as a vector. -/
theorem cast_lane {α : Type} (f : S1x16.Idx → α) (k : Fin 16) : shapeCast S16 f shapeCasts_S1x16_S16 (L k) = f (ix2 0 k) :=
  shapeCast_1a_a_apply f _ k

theorem inside_word (x : BitVec 32) : IntOp.andi (IntOp.cmpi .sge x 0#32) (IntOp.cmpi .slt x 2048#32) = 1 ↔ x.toNat < 2048 := by
  have e : IntOp.andi (IntOp.cmpi .sge x 0#32) (IntOp.cmpi .slt x 2048#32) = 1 ↔ (0 ≤ x.toInt ∧ x.toInt < 2048) := by
    show BitVec.ofBool _ &&& BitVec.ofBool _ = 1#1 ↔ _
    have b : ∀ b c : Bool, BitVec.ofBool b &&& BitVec.ofBool c = 1#1 ↔ b = true ∧ c = true := by decide
    rw [b, BitVec.sle_iff_toInt_le, BitVec.slt_iff_toInt_lt]
    rfl
  rw [e, BitVec.toInt_eq_toNat_cond]
  split <;> omega

/-- A place of the window is one whose distance from the window's first is under 2048. -/
theorem inside_iff (lo : BitVec 32) (ld : Vec F S1x16 .i32) (k : Fin 16) :
    Perm.inside (F := F) lo ld (L k) = 1 ↔ ((ld (ix2 0 k) : BitVec 32) - lo).toNat < 2048 := by
  have h : Perm.inside (F := F) lo ld (L k) = IntOp.andi (IntOp.cmpi .sge (((ld (ix2 0 k) : BitVec 32)) - lo) 0#32) (IntOp.cmpi .slt ((ld (ix2 0 k) : BitVec 32) - lo) 2048#32) := by
    rw [← cast_lane (α := BitVec 32) ld]; rfl
  rw [h]
  exact inside_word _

theorem place_lane (lo : BitVec 32) (ld : Vec F S1x16 .i32) (k : Fin 16) (h : ((ld (ix2 0 k) : BitVec 32) - lo).toNat < 2048) :
    Perm.place (F := F) lo ld (L k) = (ld (ix2 0 k) : BitVec 32) - lo := by
  have := (inside_iff lo ld k).2 h
  have e : Perm.place (F := F) lo ld (L k) = if Perm.inside (F := F) lo ld (L k) = 1 then Perm.off (F := F) lo ld (L k) else 0#32 := rfl
  rw [e, if_pos this, ← cast_lane (α := BitVec 32) ld]; rfl

theorem place_lt (lo : BitVec 32) (ld : Vec F S1x16 .i32) : k1_chk1 (Perm.place (F := F) lo ld) := by
  intro a x
  match a with
  | ⟨0, _⟩ =>
    show (Perm.place (F := F) lo ld x).toNat < 2048
    rw [eq_ix1 x]
    by_cases h : ((ld (ix2 0 (x 0)) : BitVec 32) - lo).toNat < 2048
    · exact (congrArg BitVec.toNat (place_lane lo ld (x 0) h)).trans_lt h
    · have e : Perm.place (F := F) lo ld (L (x 0)) = if Perm.inside (F := F) lo ld (L (x 0)) = 1 then Perm.off (F := F) lo ld (L (x 0)) else 0#32 := rfl
      refine (congrArg BitVec.toNat (e.trans (if_neg (mt (inside_iff lo ld (x 0)).1 h)))).trans_lt (by decide)

/-- After `N` of the positions `P`, the window's array holds at each place a position names alone that position's number. -/
def Placed (P : Nat → BitVec 32) (lo : BitVec 32) (N : Nat) (g : Vec F S2048 .i32) : Prop :=
  ∀ i < N, ∀ q : Fin 2048, (P i - lo).toNat = q.val → (∀ i' < 65536, P i' = P i → i' = i) → g (ix1 q) = BitVec.ofNat 32 i

theorem Placed.step {P : Nat → BitVec 32} {lo hi : BitVec 32} {N : Nat} {g : Vec F S2048 .i32} (hg : Placed P lo N g) (hN : N + 16 ≤ 65536)
    {ld ll : Vec F S1x16 .i32} (hP : ∀ k : Fin 16, ld (ix2 0 k) = P (N + k)) (hl : ∀ k : Fin 16, (ll (ix2 0 k) : BitVec 32) + hi = BitVec.ofNat 32 (N + k))
    (hw : ∀ a x, ((![Perm.place (F := F) lo ld] : Fin 1 → IVec S16 32) a x).toNat < S2048.size a) :
    Placed P lo (N + 16) (storeIdx g ![Perm.place (F := F) lo ld] (addi (shapeCast S16 ll shapeCasts_S1x16_S16) (broadcast S16 hi) : Vec F S16 .i32)
      (Perm.inside (F := F) lo ld) false hw) := by
  intro i hi' q hq hu
  by_cases h : i < N
  · refine (storeIdx_miss fun k hm => ?_).trans (hg i h q hq hu)
    have hk := (inside_iff lo ld k).1 hm
    rw [place_lane lo ld k hk]
    intro he
    have e : P (N + k) = P i := by
      have : (P (N + k) - lo) = P i - lo := BitVec.eq_of_toNat_eq (by rw [hq, ← hP k]; exact he.symm)
      simpa using congrArg (· + lo) this
    have := hu (N + k) (by omega) e
    omega
  · obtain ⟨k, rfl⟩ : ∃ k : Fin 16, i = N + k := ⟨⟨i - N, by omega⟩, by simp; omega⟩
    have hk : ((ld (ix2 0 k) : BitVec 32) - lo).toNat < 2048 := by rw [hP k, hq]; exact q.isLt
    refine (storeIdx_hit k ((inside_iff lo ld k).2 hk) ?_ ?_).trans ?_
    · rw [place_lane lo ld k hk, hP k, hq]
    · intro k' hkk hm
      have hk' := (inside_iff lo ld k').1 hm
      rw [place_lane lo ld k' hk']
      intro he
      have e : P (N + k') = P (N + k) := by
        have : (P (N + k') - lo) = P (N + k) - lo := BitVec.eq_of_toNat_eq (by rw [hq, ← hP k']; exact he.symm)
        simpa using congrArg (· + lo) this
      have := hu (N + k') (by omega) e
      have : k < k' := hkk
      omega
    · rw [← hl k, ← cast_lane (α := BitVec 32) ll]; rfl

/-! ## A chunk of the rank task -/

/-- How many of the first `n` keys are `e`. -/
abbrev occ (key : Nat → BitVec 32) (e n : Nat) : Nat := Nat.count (fun j => (key j).toNat = e) n

theorem scan_last (v : IVec S16 32) (k : Fin 16) :
    (scanCount (broadcast S16 1#1) v).1 (L k) = 1 ↔ ∀ k', k < k' → v (L k') ≠ v (L k) := by
  unfold scanCount
  dsimp only
  have hk : ∀ j : S16.Idx, (S16.rowMajor j).val = (j 0).val := fun j => Shape.rowMajor_val_one _
  constructor
  · intro h k' hkk hv
    split at h
    · rename_i hh
      exact hh.2 (L k') (by rw [hk, hk]; exact hkk) ⟨rfl, hv⟩
    · exact absurd h (by decide)
  · intro h
    rw [if_pos]
    refine ⟨rfl, fun j hj hh => ?_⟩
    rw [hk, hk] at hj
    exact h (j 0) hj ((congrArg v (eq_ix1 j).symm).trans hh.2)

theorem scan_count (v : IVec S16 32) (k : Fin 16) {key : Nat → BitVec 32} {N : Nat} (hv : ∀ k : Fin 16, v (L k) = key (N + k)) :
    (scanCount (broadcast S16 1#1) v).2 (L k) = BitVec.ofNat 32 (Nat.count (fun j => (key (N + j)).toNat = (key (N + k)).toNat) (k + 1)) := by
  unfold scanCount
  dsimp only
  rw [if_pos (show broadcast S16 (1#1) (L k) = 1 from rfl), Nat.count_eq_card_filter_range]
  have hk : ∀ j : S16.Idx, (S16.rowMajor j).val = (j 0).val := fun j => Shape.rowMajor_val_one _
  congr 1
  refine Finset.card_bij (fun j _ => (j 0).val) ?_ ?_ ?_
  · intro j hj
    obtain ⟨-, h1, -, h2⟩ := Finset.mem_filter.1 hj
    rw [hk, hk] at h1
    refine Finset.mem_filter.2 ⟨Finset.mem_range.2 (Nat.lt_succ_of_le h1), ?_⟩
    exact congrArg BitVec.toNat ((hv (j 0)).symm.trans ((congrArg v (eq_ix1 j).symm).trans (h2.trans (hv k))))
  · intro j _ j' _ h
    rw [eq_ix1 j, eq_ix1 j']
    exact congrArg ix1 (Fin.ext h)
  · intro b hb
    obtain ⟨h1, h2⟩ := Finset.mem_filter.1 hb
    have h1 := Finset.mem_range.1 h1
    have hb16 : b < 16 := by omega
    refine ⟨L ⟨b, hb16⟩, Finset.mem_filter.2 ⟨Finset.mem_univ _, ?_, rfl, ?_⟩, rfl⟩
    · rw [hk, hk]; exact Nat.le_of_lt_succ h1
    · rw [hv ⟨b, hb16⟩, hv k]; exact BitVec.eq_of_toNat_eq h2

/-- The count at each expert once `N` keys have been seen. -/
def Counted (key base : Nat → BitVec 32) (N : Nat) (g : Vec F S64 .i32) : Prop :=
  ∀ e : Fin 64, (g (ix1 e) : BitVec 32) = base e + BitVec.ofNat 32 (occ key e N)

/-- The place of slot `j`. -/
def rank (key base : Nat → BitVec 32) (j : Nat) : BitVec 32 := base (key j).toNat + BitVec.ofNat 32 (occ key (key j).toNat j)

section
variable {key base : Nat → BitVec 32} {N : Nat} {g : Vec F S64 .i32} {v : IVec S16 32}

theorem occ_add (e n m : Nat) : occ key e (n + m) = occ key e n + Nat.count (fun j => (key (n + j)).toNat = e) m := Nat.count_add _ _ _

theorem Counted.load (hg : Counted key base N g) (hv : ∀ k : Fin 16, v (L k) = key (N + k))
    (hw : ∀ a x, ((![v] : Fin 1 → IVec S16 32) a x).toNat < S64.size a) (k : Fin 16) :
    (addi (loadIdx g ![v] hw : IVec S16 32) (scanCount (broadcast S16 1#1) v).2) (L k) = base (key (N + k)).toNat + BitVec.ofNat 32 (occ key (key (N + k)).toNat (N + k + 1)) := by
  have h := hg ⟨(v (L k)).toNat, hw 0 (L k)⟩
  have e : (loadIdx g ![v] hw : IVec S16 32) (L k) = g (ix1 ⟨(v (L k)).toNat, hw 0 (L k)⟩) :=
    congrArg g (by funext a; match a with | ⟨0, _⟩ => rfl)
  have hk := congrArg BitVec.toNat (hv k)
  show (loadIdx g ![v] hw : IVec S16 32) (L k) + (scanCount (broadcast S16 1#1) v).2 (L k) = _
  rw [e, h, scan_count v k hv, Nat.add_assoc, occ_add, BitVec.ofNat_add, ← BitVec.add_assoc]
  show base (v (L k)).toNat + BitVec.ofNat 32 (occ key (v (L k)).toNat N) + _ = _
  rw [hk]

theorem Counted.rank (hg : Counted key base N g) (hv : ∀ k : Fin 16, v (L k) = key (N + k))
    (hw : ∀ a x, ((![v] : Fin 1 → IVec S16 32) a x).toNat < S64.size a) (k : Fin 16) :
    (subi (addi (loadIdx g ![v] hw : IVec S16 32) (scanCount (broadcast S16 1#1) v).2) (broadcast S16 1#32)) (L k) = rank key base (N + k) := by
  show (addi (loadIdx g ![v] hw : IVec S16 32) (scanCount (broadcast S16 1#1) v).2) (L k) - 1#32 = _
  rw [hg.load hv hw k, occ_add]
  have : Nat.count (fun j => (key (N + k + j)).toNat = (key (N + k)).toNat) 1 = 1 := by simp [Nat.count_succ]
  rw [this, BitVec.ofNat_add, ← BitVec.add_assoc, BitVec.add_sub_cancel]; rfl

theorem Counted.step (hg : Counted key base N g) (hv : ∀ k : Fin 16, v (L k) = key (N + k))
    (hw hw' : ∀ a x, ((![v] : Fin 1 → IVec S16 32) a x).toNat < S64.size a) :
    Counted key base (N + 16) (storeIdx g ![v] (addi (loadIdx g ![v] hw : IVec S16 32) (scanCount (broadcast S16 1#1) v).2 : Vec F S16 .i32)
      (scanCount (broadcast S16 1#1) v).1 false hw') := by
  intro e
  by_cases h : ∃ k : Fin 16, (v (L k)).toNat = e.val
  · -- the last lane that names the expert
    obtain ⟨k, hk, hl⟩ : ∃ k : Fin 16, (v (L k)).toNat = e.val ∧ ∀ k', k < k' → (v (L k')).toNat ≠ e.val := by
      have hne : (Finset.univ.filter fun k : Fin 16 => (v (L k)).toNat = e.val).Nonempty := by
        obtain ⟨k, hk⟩ := h; exact ⟨k, by simp [hk]⟩
      refine ⟨Finset.max' _ hne, (Finset.mem_filter.1 (Finset.max'_mem _ hne)).2, fun k' hk' he => ?_⟩
      exact absurd (Finset.le_max' _ k' (by simp [he])) (not_le.2 hk')
    refine (storeIdx_hit (F := F) k ((scan_last v k).2 fun k' hk' he => hl k' hk' (by rw [he, hk])) hk.symm fun k' hk' _ he => hl k' hk' he.symm).trans ?_
    refine (hg.load hv hw k).trans ?_
    rw [← hv k, hk]
    congr 2
    have e16 : N + 16 = (N + k + 1) + (15 - k) := by omega
    rw [e16, occ_add e (N + k + 1)]
    have : Nat.count (fun j => (key (N + k + 1 + j)).toNat = e.val) (15 - k) = 0 := by
      rw [Nat.count_eq_card_filter_range, Finset.card_eq_zero, Finset.filter_eq_empty_iff]
      intro j hj he
      have hj := Finset.mem_range.1 hj
      have := hl ⟨k + 1 + j, by omega⟩ (by show k.val < k + 1 + j; omega)
      rw [hv] at this
      exact this (by rw [← he]; congr 2; show N + (k + 1 + j) = _; omega)
    omega
  · refine (storeIdx_miss (F := F) fun k _ he => h ⟨k, he.symm⟩).trans ?_
    rw [hg e, occ_add]
    have : Nat.count (fun j => (key (N + j)).toNat = e.val) 16 = 0 := by
      rw [Nat.count_eq_card_filter_range, Finset.card_eq_zero, Finset.filter_eq_empty_iff]
      intro j hj he
      have hj := Finset.mem_range.1 hj
      exact h ⟨⟨j, hj⟩, by rw [hv]; exact he⟩
    rw [this, Nat.add_zero]

end

/-! ## Running sums -/

/-- The sum of the first `n` words. -/
def psum (f : Nat → BitVec 32) : Nat → BitVec 32
  | 0 => 0#32
  | n + 1 => psum f n + f n

theorem psum_add (f : Nat → BitVec 32) (N n : Nat) : psum f N + psum (fun j => f (N + j)) n = psum f (N + n) := by
  induction n with
  | zero => exact BitVec.add_zero _
  | succ n ih => show _ + (_ + f (N + n)) = psum f (N + n) + f (N + n); rw [← ih, BitVec.add_assoc]

theorem lanes_upto : ∀ j : Fin 16, ((List.finRange 16).filter fun k : Fin 16 => decide (0 < k.val ∧ k.val ≤ j.val)) = (List.range j.val).map fun x => Fin.ofNat 16 (x + 1) := by
  decide

theorem scan_psum (v : IVec S16 32) (k : Fin 16) : (scan .sum v : IVec S16 32) (L k) = psum (fun j => v (L (Fin.ofNat 16 j))) (k + 1) := by
  have hv : ∀ w : Fin 16 → BitVec 32, (∀ x : Fin 16, v (Shape.ofLane (d := ![16]) x) = w x) → (scan .sum v : IVec S16 32) (L k)
      = ((List.finRange 16).filter fun x : Fin 16 => decide (0 < x.val ∧ x.val ≤ k.val)).foldl (fun r x => r + w x) (w 0) := by
    intro w hw
    obtain rfl : (fun x : Fin 16 => v (Shape.ofLane (d := ![16]) x)) = w := funext hw
    rfl
  rw [hv (fun x => v (L x)) fun x => congrArg v (ofLane_eq x), lanes_upto, List.foldl_map]
  generalize k.val = n
  induction n with
  | zero => show v _ = 0#32 + v _; rw [BitVec.zero_add]; rfl
  | succ n ih =>
    rw [List.range_succ, List.foldl_append, ih]; rfl

theorem psum_congr {f g : Nat → BitVec 32} {n : Nat} (h : ∀ j < n, f j = g j) : psum f n = psum g n := by
  induction n with
  | zero => rfl
  | succ n ih => show psum f n + f n = psum g n + g n; rw [ih fun j hj => h j (by omega), h n (by omega)]

theorem scan_sum (v : IVec S16 32) {f : Nat → BitVec 32} {N : Nat} (hv : ∀ k : Fin 16, v (L k) = f (N + k)) (k : Fin 16) :
    psum f N + (scan .sum v : IVec S16 32) (L k) = psum f (N + k + 1) := by
  rw [scan_psum, Nat.add_assoc, ← psum_add f N (k + 1)]
  congr 1
  refine psum_congr fun j hj => ?_
  rw [hv]; congr 1; show N + j % 16 = N + j; omega

end

end Cert.Proof

end
-- ==== Proof.Setup.lean ====
/-
  What both tasks' proofs share: the two calls as the launch theorem sees them, the resource algebra, the arrays and
  scratches by name, and a transfer issued and waited for at once.
-/
module

public import proofs.«01_k».proof.Proof.Lanes
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
theorem nSub_eq (q : Fin 2) : (K (F := F)).nSub q = 16 := match q with | 0 => rfl | 1 => rfl
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 2) (Elt F) ℕ UU ℕ

def EH : Emb UH (MT nD τ sig (HIx 2) (Elt F) ℕ UU ℕ) :=
  (Emb.inl : Emb UH UU).trans (uEmb (nD := nD) (sig := sig) (Ix := HIx 2) (Val := Elt F) (Name := ℕ) (U := UU) (Lvl := ℕ)).toEmb
instance EH_landsIn : (EH : Emb UH 𝕄).LandsIn (upEmb : UEmb _ 𝕄) := by unfold EH; infer_instance

/-! ## What a task owns -/

theorem bigSep_take {I : Type} [DecidableEq I] {M : Type} [URA M] (Φ : I → sProp M) : ∀ (l : List I) (s : Finset I), l.Nodup → (∀ x ∈ l, x ∈ s) →
    bigSep s Φ = l.foldr (fun x P => iprop(Φ x ∗ P)) (bigSep (l.foldl Finset.erase s) Φ)
  | [], _, _, _ => rfl
  | a :: l, s, hn, hs => by
    rw [SparseCore.bigSep_erase' (hs a List.mem_cons_self), bigSep_take Φ l (s.erase a) (List.nodup_cons.1 hn).2 fun x hx =>
      Finset.mem_erase.2 ⟨fun e => (List.nodup_cons.1 hn).1 (e ▸ hx), hs x (List.mem_cons_of_mem _ hx)⟩]
    rfl

section Own
variable (d : Dev nD) (c : Fin τ.nSC) (j : Fin τ.nSub)

theorem ownSems0_take (l : List (DmaSem sig)) (hl : l.Nodup) (hs : ∀ x ∈ l, (SemLoc.dma x : SemLoc sig).isScoped .scVector = true) :
    (ownSems0 (V d c j) : sProp 𝕄) = (l.map fun x => ((V d c j, .dma x) : GSem nD τ sig)).foldr (fun g P => iprop(semVal g 0 ∗ P))
      (bigSep ((l.map fun x => ((V d c j, .dma x) : GSem nD τ sig)).foldl Finset.erase (ownCells (V d c j))) fun g => semVal g 0) := by
  unfold SparseCore.Cfg.ownSems0
  refine bigSep_take _ _ _ (hl.map fun x y e => ?_) fun g hg => ?_
  · exact SemLoc.dma.inj (Prod.mk.inj e).2
  · obtain ⟨x, hx, rfl⟩ := List.mem_map.1 hg
    exact mem_ownCells.mpr ⟨rfl, hs x hx⟩

theorem ownBufs_take (l : List (Ref sig .scVector)) (hl : l.Nodup) (hs : ∀ x ∈ l, ((Proc.scVector c j).devRef x : DevRef τ sig).owner = .proc (.scVector c j)) :
    (ownBufs (V d c j) : sProp 𝕄) = (l.map fun x => ((Proc.scVector c j).devRef x : DevRef τ sig)).foldr (fun b P => iprop((∃ f, ((d, b) : Loc nD τ sig) ↦{fullShare} f) ∗ P))
      (bigSep ((l.map fun x => ((Proc.scVector c j).devRef x : DevRef τ sig)).foldl Finset.erase (ownRefs (τ := τ) (.scVector c j))) fun b => iprop(∃ f, ((d, b) : Loc nD τ sig) ↦{fullShare} f)) := by
  unfold SparseCore.Cfg.ownBufs
  refine bigSep_take (fun b => iprop(∃ f, ((d, b) : Loc nD τ sig) ↦{fullShare} f)) _ _ (hl.map (Proc.devRef_injective _)) fun b hb => ?_
  obtain ⟨x, hx, rfl⟩ := List.mem_map.1 hb
  exact SparseCore.Cfg.mem_ownRefs_of_owner (hs x hx)
end Own

/-! ## Transfers -/

section Copy

variable [FloatOps F] (thr : Thread nD τ) {α : Type} {Q : α → sProp (MT nD τ sig (HIx 2) (Elt F) ℕ UU ℕ)}
  {sp sp' : Space} {s : Shape} {e : EltTy}

/-- A flight keeps whatever is given to it until its delivery. -/
theorem flight_frame {sm : SemLoc sig} {N : ℕ} {D R : sProp 𝕄} :
    iprop(Flight (countersEmb : UEmb Counters 𝕄) thr sm (none : HIx 2) N D ∗ R) ⊢ Flight (countersEmb : UEmb Counters 𝕄) thr sm (none : HIx 2) N iprop(D ∗ R) := by
  unfold Flight
  iintro ⟨⟨⟨%X, HX, %hcap, %hpeek⟩, Hcred⟩, HR⟩
  isplitl [HX HR]
  · iexists iprop(X ∗ R)
    isplitl [HX HR]; · isplitl [HX] <;> iassumption
    isplit
    · ipureintro
      intro K
      iintro ⟨⟨HX, HR⟩, HK⟩
      iapply (hcap K)
      isplitl [HX]; · iexact HX
      iintro ⟨Hv, HD⟩
      iapply HK
      isplitl [Hv]; · iexact Hv
      isplitl [HD] <;> iassumption
    · ipureintro
      intro K
      iintro ⟨⟨HX, HR⟩, HK⟩
      iapply (hpeek K)
      isplitl [HX]; · iexact HX
      iintro HX
      iapply HK
      isplitl [HX] <;> iassumption
  · iexact Hcred

/-- A transfer from an array held (at any share) into elements `Sd` that cover the destination. -/
theorem wp_ask {src : Memref sig thr.2.kind sp s e} {dst : Memref sig thr.2.kind sp' s e} {sem : DmaSem sig}
    {hsrc : src.view.WordExact} {hdst : dst.view.WordExact} {hsem : DmaTarget.Typed (nD := nD) sp (.dma sem) (.here dst)}
    {k : PUnit → Prog (TpuEff nD τ sig (Elt F) Λ₀ thr.2) α} {q : PosShare TreeShare} {fs : Buf (Elt F) (src.view.loc thr)}
    {Sd : Finset (Idx (dst.view.loc thr))} {fd : Buf (Elt F) (dst.view.loc thr)}
    {fd' : Buf (Elt F) (dst.view.loc thr)}
    (hN0 : 0 < dst.view.dmaCredit) (hSd : dst.view.set ⊆ Sd) (hd : ∀ x ∈ Sd, dst.view.write (Elt F) fd (src.view.read (Elt F) fs) Finset.univ x = fd' x) :
    iprop((src.view.loc thr ↦{q} fs) ∗ (dst.view.loc thr ↦[Sd]{fullShare} fd) ∗ semVal (thr, .dma sem) 0)
      ⊢ iprop((Flight (countersEmb : UEmb Counters 𝕄) thr (.dma sem) (none : HIx 2) dst.view.dmaCredit
                iprop((dst.view.loc thr ↦[Sd]{fullShare} fd') ∗ (src.view.loc thr ↦{q} fs))
              -∗ wp frame (wpE (defs₀ (F := F)) 𝒱₀ thr none) Set.univ (k ⟨⟩) Q)
          -∗ wp frame (wpE (defs₀ (F := F)) 𝒱₀ thr none) Set.univ (.op (.enqueueDma src (.here dst) (.dma sem) hsrc hdst hsem) k) Q) := by
  iintro ⟨Hs, Hd, Hv⟩ Hk
  have hsplit : (src.view.loc thr ↦{q} fs : sProp 𝕄) ⊣⊢ iprop((src.view.loc thr ↦[src.view.set]{q} fs) ∗ src.view.loc thr ↦[Finset.univ \ src.view.set]{q} fs) :=
    pointsTo_split_subset (Finset.subset_univ src.view.set)
  ihave H := hsplit.1 $$ Hs
  icases H with ⟨Ha, Hb⟩
  iapply (Transfers.wp_dmaLocal (countersEmb : UEmb Counters 𝕄) 𝒱₀ thr none (none : HIx 2) dst.view.dmaCredit rfl hN0 hSd) $$ [Ha Hd Hv]
  · isplitl [Ha]; · iexact Ha
    isplitl [Hd] <;> iassumption
  iintro HF
  iapply Hk
  ihave HF := (flight_frame thr) $$ [HF Hb]
  · isplitl [HF]
    · iexact HF
    · iexact Hb
  iapply (Flight_mono (countersEmb : UEmb Counters 𝕄) thr ?_) $$ HF
  iintro ⟨⟨Hd, Ha⟩, Hb⟩
  isplitl [Hd]
  · iapply (Entails.of_eq (pointsTo_congr hd)); iexact Hd
  iapply hsplit.2
  isplitl [Ha] <;> iassumption

/-- The wait for a transfer. -/
theorem wp_await {src : Memref sig thr.2.kind sp s e} {dst : Memref sig thr.2.kind sp' s e} {sem : DmaSem sig}
    {hsrc : src.view.WordExact} {hdst : dst.view.WordExact}
    {k : PUnit → Prog (TpuEff nD τ sig (Elt F) Λ₀ thr.2) α} {D : sProp 𝕄} {O : CellTallies nD τ sig (HIx 2)} {W : Waits sig (HIx 2)} :
    iprop(MayWaits thr (none : HIx 2) O ∗ Flight (countersEmb : UEmb Counters 𝕄) thr (.dma sem) (none : HIx 2) dst.view.dmaCredit D ∗ owes thr O W)
      ⊢ iprop(((D ∗ semVal (thr, .dma sem) 0 ∗ owes thr O (insert (SemLoc.dma sem, none) W)) -∗ wp frame (wpE (defs₀ (F := F)) 𝒱₀ thr none) Set.univ (k ⟨⟩) Q)
          -∗ wp frame (wpE (defs₀ (F := F)) 𝒱₀ thr none) Set.univ (.op (.waitDma2 sem src dst hsrc hdst) k) Q) := by
  iintro ⟨Hm, HF, HO⟩ Hk
  iapply (wp_waitLocalO (countersEmb : UEmb Counters 𝕄) 𝒱₀ thr none (none : HIx 2) (defs := defs₀ (F := F)) (N := dst.view.dmaCredit) rfl (D := D) (O := O) (W := W)) $$ [Hm HF HO]
  · isplitl [HF]; · iexact HF
    isplitl [HO]; · iexact HO
    iapply (show (MayWaits thr (none : HIx 2) O : sProp 𝕄) ⊢ MayWait thr (.dma sem) none O from MayWaits.elim (.dma sem)) $$ Hm
  iexact Hk

/-- A transfer and the wait for it. -/
theorem wp_copy {src : Memref sig thr.2.kind sp s e} {dst : Memref sig thr.2.kind sp' s e} {sem : DmaSem sig}
    {hsrc hsrc' : src.view.WordExact} {hdst hdst' : dst.view.WordExact} {hsem : DmaTarget.Typed (nD := nD) sp (.dma sem) (.here dst)}
    {k : PUnit → Prog (TpuEff nD τ sig (Elt F) Λ₀ thr.2) α} {q : PosShare TreeShare} {fs : Buf (Elt F) (src.view.loc thr)}
    {Sd : Finset (Idx (dst.view.loc thr))} {fd : Buf (Elt F) (dst.view.loc thr)} {O : CellTallies nD τ sig (HIx 2)} {W : Waits sig (HIx 2)}
    {fd' : Buf (Elt F) (dst.view.loc thr)}
    (hN0 : 0 < dst.view.dmaCredit) (hSd : dst.view.set ⊆ Sd) (hd : ∀ x ∈ Sd, dst.view.write (Elt F) fd (src.view.read (Elt F) fs) Finset.univ x = fd' x) :
    iprop(MayWaits thr (none : HIx 2) O ∗ (src.view.loc thr ↦{q} fs) ∗ (dst.view.loc thr ↦[Sd]{fullShare} fd) ∗ semVal (thr, .dma sem) 0 ∗ owes thr O W)
      ⊢ iprop((((src.view.loc thr ↦{q} fs) ∗ (dst.view.loc thr ↦[Sd]{fullShare} fd')
                ∗ semVal (thr, .dma sem) 0 ∗ owes thr O (insert (SemLoc.dma sem, none) W))
              -∗ wp frame (wpE (defs₀ (F := F)) 𝒱₀ thr none) Set.univ (k ⟨⟩) Q)
          -∗ wp frame (wpE (defs₀ (F := F)) 𝒱₀ thr none) Set.univ (.op (.enqueueDma src (.here dst) (.dma sem) hsrc hdst hsem) fun _ =>
              .op (.waitDma2 sem src dst hsrc' hdst') k) Q) := by
  iintro ⟨Hm, Hs, Hd, Hv, HO⟩ Hk
  iapply (wp_ask thr hN0 hSd hd) $$ [Hs Hd Hv]
  · isplitl [Hs]; · iexact Hs
    isplitl [Hd] <;> iassumption
  iintro HF
  iapply (wp_await thr) $$ [Hm HF HO]
  · isplitl [Hm]; · iexact Hm
    isplitl [HF] <;> iassumption
  iintro ⟨⟨Hd, Hs⟩, Hv, HO⟩
  iapply Hk
  isplitl [Hs]; · iexact Hs
  isplitl [Hd]; · iexact Hd
  isplitl [Hv] <;> iassumption

end Copy

end Cert.Proof
-- ==== Proof.RankTile.lean ====
/-
  The rank task: from its block of experts, the totals and the counts of earlier blocks to the places of its slots, and
  the bounds where it writes them.
-/
module

public import proofs.«01_k».proof.Proof.Setup

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 2) (Elt F) ℕ UU ℕ

/-! ## Stores at a rectangle of a whole buffer -/

section Access
variable {κ : Kind} {Val : EltTy → Type} (b : Ref sig κ) (r : Rect b.ty.shape) (f : b.ty.Contents Val) (w : r.shape.Idx → Val b.ty.elt)

theorem write_hit (x : r.shape.Idx) : ((Memref.whole b).access r).write Val f w Finset.univ (r.emb x) = w x :=
  View.write_emb_of_mem (v := ((Memref.whole b).access r)) f w (Finset.mem_univ x)

theorem write_miss {i : b.ty.shape.Idx} (h : i ∉ r.set) : ((Memref.whole b).access r).write Val f w Finset.univ i = f i := by
  refine View.write_of_not_mem (v := ((Memref.whole b).access r)) f w _ fun hi => h ?_
  have e : ((Memref.whole b).access r : View sig κ _ _ _).set = r.set := View.set_slice_whole b r
  exact e ▸ hi
end Access

/-! ## What the tasks compute -/

/-- Slot `p`'s expert. -/
def flat (A : IVec S512x128 32) (p : ℕ) : BitVec 32 := if h : p < 65536 then A (ix2 ⟨p / 128, by omega⟩ ⟨p % 128, by omega⟩) else 0#32

/-- Expert `e`'s total. -/
def tots (A : IVec S1x64 32) (e : ℕ) : BitVec 32 := if h : e < 64 then A (ix2 0 ⟨e, h⟩) else 0#32

/-- The slots of expert `e` in the blocks before block `w`. -/
def befs (A : IVec S32x1x64 32) (w e : ℕ) : BitVec 32 := if h : w < 32 ∧ e < 64 then A (ix3 ⟨w, h.1⟩ 0 ⟨e, h.2⟩) else 0#32

/-- Slot `p`'s place. -/
def placeOf (A : IVec S512x128 32) (A1 : IVec S1x64 32) (A2 : IVec S32x1x64 32) (p : ℕ) : BitVec 32 :=
  rank (fun j => flat A (2048 * (p / 2048) + j)) (fun e => befs A2 (p / 2048) e + psum (tots A1) e) (p % 2048)

/-- The array of places, and the array of bounds. -/
def posOf (A : IVec S512x128 32) (A1 : IVec S1x64 32) (A2 : IVec S32x1x64 32) : IVec S512x128 32 := fun x => placeOf A A1 A2 (128 * (x 0).val + (x 1).val)
def bndOf (A1 : IVec S1x64 32) : IVec S64 32 := fun x => psum (tots A1) ((x 0).val + 1)

/-! ## The running sums -/

namespace Rank

theorem group_emb (n : Nat) (h : n < 4) (k : Fin 16) : (group n h).emb (L k) = ix1 ⟨16 * n + k, by omega⟩ := by
  funext a
  match a with
  | ⟨0, _⟩ => exact Fin.ext (by show 16 * n + 1 * k.val = 16 * n + k.val; omega)

theorem group_mem (n : Nat) (h : n < 4) (e : Fin 64) : (ix1 e : S64.Idx) ∈ (group n h).set ↔ 16 * n ≤ e.val ∧ e.val < 16 * n + 16 := by
  rw [Rect.mem_set_unit]
  constructor
  · intro hx; exact hx 0
  · intro hx a; match a with
    | ⟨0, _⟩ => exact hx

/-- Before group `n`: below it the counts have moved on by the sums before them and the bounds are the sums through them;
    from it on the counts are as given. -/
def Prefixed (T base : ℕ → BitVec 32) (n : ℕ) (cnt bnd : Vec F S64 .i32) : Prop :=
  ∀ e : Fin 64, ((cnt (ix1 e) : BitVec 32) = base e + if e.val < 16 * n then psum T e else 0#32) ∧ (e.val < 16 * n → (bnd (ix1 e) : BitVec 32) = psum T (e + 1))

theorem Prefixed.step {T base : ℕ → BitVec 32} {n : ℕ} {cnt bnd cnt' bnd' : Vec F S64 .i32} {carry : BitVec 32} (h : n < 4) (hp : Prefixed (F := F) T base n cnt bnd)
    (hc : carry = psum T (16 * n)) {v u : IVec S16 32} (hv : ∀ k : Fin 16, v (L k) = T (16 * n + k))
    (hu : ∀ k : Fin 16, u (L k) = cnt (ix1 ⟨16 * n + k, by omega⟩))
    (hcnt : ∀ k : Fin 16, cnt' (ix1 ⟨16 * n + k, by omega⟩) = (addi u (subi (addi (broadcast S16 carry) (scan .sum v)) v) : IVec S16 32) (L k))
    (hbnd : ∀ k : Fin 16, bnd' (ix1 ⟨16 * n + k, by omega⟩) = (addi (broadcast S16 carry) (scan .sum v) : IVec S16 32) (L k))
    (hcnt' : ∀ e : Fin 64, ¬(16 * n ≤ e.val ∧ e.val < 16 * n + 16) → cnt' (ix1 e) = cnt (ix1 e))
    (hbnd' : ∀ e : Fin 64, ¬(16 * n ≤ e.val ∧ e.val < 16 * n + 16) → bnd' (ix1 e) = bnd (ix1 e)) :
    Prefixed (F := F) T base (n + 1) cnt' bnd' := by
  intro e
  by_cases hin : 16 * n ≤ e.val ∧ e.val < 16 * n + 16
  · obtain ⟨k, hk⟩ : ∃ k : Fin 16, e.val = 16 * n + k.val := ⟨⟨e.val - 16 * n, by omega⟩, by show e.val = 16 * n + (e.val - 16 * n); omega⟩
    have he : e = ⟨16 * n + k, by omega⟩ := Fin.ext hk
    have hs := scan_sum v hv k
    have hn : e.val < 16 * (n + 1) := by omega
    refine ⟨?_, fun _ => ?_⟩
    · rw [if_pos hn]
      have h1 := (hp e).1
      rw [if_neg (by omega), BitVec.add_zero] at h1
      have h2 : cnt' (ix1 e) = u (L k) + ((carry + (scan .sum v : IVec S16 32) (L k)) - v (L k)) := by rw [he]; exact hcnt k
      rw [h2, hu k, ← he, h1, hc, hs, hv k, show psum T (16 * n + k.val + 1) = psum T (16 * n + k.val) + T (16 * n + k.val) from rfl, BitVec.add_sub_cancel, ← hk]
    · have h2 : bnd' (ix1 e) = carry + (scan .sum v : IVec S16 32) (L k) := by rw [he]; exact hbnd k
      rw [h2, hc, hs, ← hk]
  · have h1 := hp e
    refine ⟨?_, fun hlt => ?_⟩
    · rw [hcnt' e hin, h1.1]; congr 1
      by_cases hlt : e.val < 16 * n
      · rw [if_pos hlt, if_pos (by omega)]
      · rw [if_neg hlt, if_neg (by omega)]
    · rw [hbnd' e hin]; exact h1.2 (by omega)

theorem next_eq {T : ℕ → BitVec 32} {n : ℕ} {carry : BitVec 32} (hc : carry = psum T (16 * n)) {v : Vec F S16 .i32} (hv : ∀ k : Fin 16, v (L k) = T (16 * n + k)) :
    next (F := F) carry v = psum T (16 * (n + 1)) := by
  have hs := scan_sum v hv 15
  rw [hc]
  have e : next (F := F) (psum T (16 * n)) v = psum T (16 * n) + (scan .sum v : IVec S16 32) (L 15) := by
    show psum T (16 * n) + _ = _
    congr 1
  rw [e, hs]; rfl

/-! ## The scratches of a task -/

abbrev teV : Memref sig .scVector .vmem S16x128 .i32 := Memref.whole cc0_scratch0
abbrev posV : Memref sig .scVector .vmem S16x128 .i32 := Memref.whole cc0_scratch1
abbrev cntV : Memref sig .scVector .vmem S64 .i32 := Memref.whole cc0_scratch2
abbrev totV : Memref sig .scVector .vmem S64 .i32 := Memref.whole cc0_scratch3
abbrev bndV : Memref sig .scVector .vmem S64 .i32 := Memref.whole cc0_scratch4

section Tile

variable [FloatOps F] (d : Dev nD) (i : grid0.Coords)

abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

variable {β : Type} {Q : β → sProp (MT nD τ sig (HIx 2) (Elt F) ℕ UU ℕ)}

theorem wp_sums {T base : ℕ → BitVec 32} {carry : BitVec 32} {n : ℕ} (h : n < 4) {k : Vec F S16 .i32 → RT (F := F) i β}
    {tot cnt bnd : Vec F S64 .i32} (hT : ∀ e : Fin 64, (tot (ix1 e) : BitVec 32) = T e) (hp : Prefixed (F := F) T base n cnt bnd) (hc : carry = psum T (16 * n)) :
    iprop(((thr d i).loc cc0_scratch3 ↦{fullShare} tot) ∗ ((thr d i).loc cc0_scratch2 ↦{fullShare} cnt) ∗ ((thr d i).loc cc0_scratch4 ↦{fullShare} bnd))
      ⊢ iprop((∀ v cnt' bnd', ⌜Prefixed (F := F) T base (n + 1) cnt' bnd' ∧ next (F := F) carry v = psum T (16 * (n + 1))⌝
            -∗ (((thr d i).loc cc0_scratch3 ↦{fullShare} tot) ∗ ((thr d i).loc cc0_scratch2 ↦{fullShare} cnt') ∗ ((thr d i).loc cc0_scratch4 ↦{fullShare} bnd'))
            -∗ wp frame (wpE (defs₀ (F := F)) 𝒱₀ (thr d i) none) Set.univ (k v) Q)
          -∗ wp frame (wpE (defs₀ (F := F)) 𝒱₀ (thr d i) none) Set.univ (sums totV cntV bndV carry n h k) Q) := by
  iintro ⟨Ht, Hc, Hb⟩ Hk
  unfold sums
  iapply (wp_load 𝒱₀ (thr d i) none Set.univ (m := totV) (S := Finset.univ) (Finset.subset_univ _)) $$ Ht
  iintro Ht
  iapply (wp_load 𝒱₀ (thr d i) none Set.univ (m := cntV) (S := Finset.univ) (Finset.subset_univ _)) $$ Hc
  iintro Hc
  iapply (wp_load 𝒱₀ (thr d i) none Set.univ (m := cntV) (S := Finset.univ) (Finset.subset_univ _)) $$ Hc
  iintro Hc
  iapply (wp_store 𝒱₀ (thr d i) none Set.univ (m := cntV) (r := group n h) (Mk := Finset.univ) (S := Finset.univ) (f := cnt) (Finset.subset_univ _)) $$ Hc
  iintro Hc
  iapply (wp_load 𝒱₀ (thr d i) none Set.univ (m := bndV) (S := Finset.univ) (Finset.subset_univ _)) $$ Hb
  iintro Hb
  iapply (wp_store 𝒱₀ (thr d i) none Set.univ (m := bndV) (r := group n h) (Mk := Finset.univ) (S := Finset.univ) (f := bnd) (Finset.subset_univ _)) $$ Hb
  iintro Hb
  iapply Hk $$ [] [Ht Hc Hb]
  rotate_left
  · isplitl [Ht]; · iexact Ht
    isplitl [Hc]
    · iexact Hc
    · iexact Hb
  · ipureintro
    have hv : ∀ k : Fin 16, (totV.view.readAt (Elt F) (group n h).toLoadRect tot : IVec S16 32) (L k) = T (16 * n + k) := fun k => by
      show tot ((group n h).emb (L k)) = _
      rw [group_emb]; exact hT _
    refine ⟨Prefixed.step (u := cntV.view.readAt (Elt F) (group n h).toLoadRect cnt) h hp hc hv (fun k => ?_) (fun k => ?_) (fun k => ?_) (fun e he => ?_) (fun e he => ?_), next_eq hc hv⟩
    · show cnt ((group n h).emb (L k)) = _
      rw [group_emb]
    · rw [← group_emb n h k]; exact write_hit cc0_scratch2 (group n h) cnt _ (L k)
    · rw [← group_emb n h k]; exact write_hit cc0_scratch4 (group n h) bnd _ (L k)
    · exact write_miss cc0_scratch2 (group n h) cnt _ (mt (group_mem n h e).1 he)
    · exact write_miss cc0_scratch4 (group n h) bnd _ (mt (group_mem n h e).1 he)

/-! ## The chunks -/

omit [FloatOps F] in
theorem lanes_emb (n : Nat) (h : n < 128) (k : Fin 16) : (lanes n h).emb (ix2 0 k) = ix2 ⟨n / 8, by omega⟩ ⟨16 * (n % 8) + k, by omega⟩ := by
  funext a
  match a with
  | ⟨0, _⟩ => exact Fin.ext (by show n / 8 + 1 * 0 = n / 8; omega)
  | ⟨1, _⟩ => exact Fin.ext (by show 16 * (n % 8) + 1 * k.val = 16 * (n % 8) + k.val; omega)

omit [FloatOps F] in
theorem lanes_mem (n : Nat) (h : n < 128) (r : Fin 16) (c : Fin 128) :
    (ix2 r c : S16x128.Idx) ∈ (lanes n h).set ↔ 16 * n ≤ 128 * r.val + c.val ∧ 128 * r.val + c.val < 16 * n + 16 := by
  rw [Rect.mem_set_unit]
  constructor
  · intro hx
    have h0 : n / 8 ≤ r.val ∧ r.val < n / 8 + 1 := hx 0
    have h1 : 16 * (n % 8) ≤ c.val ∧ c.val < 16 * (n % 8) + 16 := hx 1
    omega
  · intro hx a; match a with
    | ⟨0, _⟩ => show n / 8 ≤ r.val ∧ r.val < n / 8 + 1; omega
    | ⟨1, _⟩ => show 16 * (n % 8) ≤ c.val ∧ c.val < 16 * (n % 8) + 16; omega

/-- The first `N` slots' places are in. -/
def Ranked (key base : ℕ → BitVec 32) (N : ℕ) (pos : Vec F S16x128 .i32) : Prop :=
  ∀ (r : Fin 16) (c : Fin 128), 128 * r.val + c.val < N → (pos (ix2 r c) : BitVec 32) = rank key base (128 * r.val + c.val)

theorem wp_chunks {key base : ℕ → BitVec 32} (hkey : ∀ j < 2048, (key j).toNat < 64) {te : Vec F S16x128 .i32}
    (hte : ∀ (r : Fin 16) (c : Fin 128), (te (ix2 r c) : BitVec 32) = key (128 * r.val + c.val)) {k : RT (F := F) i β} (m : ℕ) (h : m ≤ 128) {cnt : Vec F S64 .i32} {pos : Vec F S16x128 .i32}
    (hc : Counted (F := F) key base (16 * (128 - m)) cnt) (hp : Ranked (F := F) key base (16 * (128 - m)) pos) :
    iprop(((thr d i).loc cc0_scratch0 ↦{fullShare} te) ∗ ((thr d i).loc cc0_scratch2 ↦{fullShare} cnt) ∗ ((thr d i).loc cc0_scratch1 ↦{fullShare} pos))
      ⊢ iprop((∀ cnt' pos', ⌜Ranked (F := F) key base 2048 pos'⌝
            -∗ (((thr d i).loc cc0_scratch0 ↦{fullShare} te) ∗ ((thr d i).loc cc0_scratch2 ↦{fullShare} cnt') ∗ ((thr d i).loc cc0_scratch1 ↦{fullShare} pos'))
            -∗ wp frame (wpE (defs₀ (F := F)) 𝒱₀ (thr d i) none) Set.univ k Q)
          -∗ wp frame (wpE (defs₀ (F := F)) 𝒱₀ (thr d i) none) Set.univ (chunks teV posV cntV m h k) Q) := by
  induction m generalizing cnt pos with
  | zero =>
    iintro H Hk
    unfold chunks
    iapply Hk $$ [] H
    ipureintro; exact hp
  | succ m ih =>
    set n := 128 - (m + 1) with hn
    have hnl : n < 128 := by omega
    have hn1 : 16 * (128 - m) = 16 * n + 16 := by omega
    rw [hn1] at ih
    iintro ⟨Ht, Hc, Hp⟩ Hk
    unfold chunks chunk
    have hv : ∀ k : Fin 16, (shapeCast S16 (teV.view.readAt (Elt F) (lanes n hnl).toLoadRect te) shapeCasts_S1x16_S16 : IVec S16 32) (L k) = key (16 * n + k) := fun k => by
      rw [cast_lane]
      show te ((lanes n hnl).emb (ix2 0 k)) = _
      rw [lanes_emb, hte]
      congr 1
      show 128 * (n / 8) + (16 * (n % 8) + k.val) = _
      omega
    have hchk : k0_chk1 (shapeCast S16 (teV.view.readAt (Elt F) (lanes n hnl).toLoadRect te) shapeCasts_S1x16_S16) := by
      have h1 : ∀ a x, ((![shapeCast S16 (teV.view.readAt (Elt F) (lanes n hnl).toLoadRect te) shapeCasts_S1x16_S16] : Fin 1 → IVec S16 32) a x).toNat < S64.size a := by
        intro a x
        match a with
        | ⟨0, _⟩ =>
          obtain ⟨k', rfl⟩ : ∃ k' : Fin 16, x = L k' := ⟨x 0, eq_ix1 x⟩
          have e := congrArg BitVec.toNat (hv k')
          exact lt_of_eq_of_lt e (hkey _ (by omega))
      exact ⟨h1, h1⟩
    have hread : (cntV.access (.whole S64)).read (Elt F) cnt = cnt := Memref.read_access_whole (Elt F) cc0_scratch2 cnt
    iapply (wp_load 𝒱₀ (thr d i) none Set.univ (m := teV) (S := Finset.univ) (Finset.subset_univ _)) $$ Ht
    iintro Ht
    rw [wp_assume_of _ _ _ _ hchk]
    iapply (SparseCore.wp_vectorLoadIdx 𝒱₀ (thr d i) none Set.univ (base := cntV) (S := Finset.univ) (f := cnt) (Finset.subset_univ _)) $$ Hc
    rw [hread]
    iintro Hc
    iapply (wp_load 𝒱₀ (thr d i) none Set.univ (m := posV) (S := Finset.univ) (Finset.subset_univ _)) $$ Hp
    iintro Hp
    iapply (wp_store 𝒱₀ (thr d i) none Set.univ (m := posV) (r := lanes n hnl) (Mk := Finset.univ) (S := Finset.univ) (f := pos) (Finset.subset_univ _)) $$ Hp
    iintro Hp
    have hset : (cntV.access (.whole S64)).set = Finset.univ := View.set_slice_whole _ _ |>.trans (Rect.set_whole _)
    iapply (SparseCore.wp_vectorStoreIdx 𝒱₀ (thr d i) none Set.univ (base := cntV) (f := cnt)) $$ [Hc]
    · rw [hset]; iexact Hc
    rw [hset, hread]
    iintro Hc
    iapply (ih _ ?_ ?_) $$ [Ht Hc Hp] Hk
    rotate_left 2
    · isplitl [Ht]; · iexact Ht
      isplitl [Hc]; · iexact Hc
      iexact Hp
    · refine Eq.mpr (congrArg (Counted (F := F) key base (16 * n + 16)) (Memref.write_access_whole_univ (Elt F) cc0_scratch2 cnt _)) ?_
      exact Counted.step hc hv _ _
    · intro r c hlt
      by_cases hin : 16 * n ≤ 128 * r.val + c.val ∧ 128 * r.val + c.val < 16 * n + 16
      · obtain ⟨k', hk'⟩ : ∃ k' : Fin 16, 128 * r.val + c.val = 16 * n + k'.val := ⟨⟨128 * r.val + c.val - 16 * n, by omega⟩, by show _ = 16 * n + (128 * r.val + c.val - 16 * n); omega⟩
        have e : (ix2 r c : S16x128.Idx) = (lanes n hnl).emb (ix2 0 k') := by
          rw [lanes_emb]; congr 1 <;> exact Fin.ext (by first | (show r.val = n / 8; omega) | (show c.val = 16 * (n % 8) + k'.val; omega))
        rw [e, hk']
        refine (write_hit cc0_scratch1 (lanes n hnl) pos _ (ix2 0 k')).trans ?_
        refine (shapeCast_a_1a_apply _ _ _ k').trans ?_
        exact Counted.rank hc hv _ k'
      · refine (write_miss cc0_scratch1 (lanes n hnl) pos _ (mt (lanes_mem n hnl r c).1 hin)).trans (hp r c (by omega))

/-! ## The task -/

abbrev teA : Memref sig .scVector .hbm S512x128 .i32 := Memref.whole main_arg0_scv
abbrev totA : Memref sig .scVector .hbm S1x64 .i32 := Memref.whole main_arg1_scv
abbrev befA : Memref sig .scVector .hbm S32x1x64 .i32 := Memref.whole main_arg2_scv
abbrev posA : Memref sig .scVector .hbm S512x128 .i32 := Memref.whole main_v0_0_scv
abbrev bndA : Memref sig .scVector .hbm S64 .i32 := Memref.whole main_v0_1_scv

/-- The task's number. -/
abbrev num (i : grid0.Coords) : ℕ := 2 * (i 1).val + (i 0).val

omit [FloatOps F] in
theorem num_lt : num i < 32 := by
  have h1 : (i 1).val < 16 := (i 1).isLt
  have h0 : (i 0).val < 2 := (i 0).isLt
  unfold num; omega

omit [FloatOps F] in
theorem first_iff : ∀ i : grid0.Coords, first i = 1#1 ↔ num i = 0 := by decide +kernel

omit [FloatOps F] in
theorem read_te (A : IVec S512x128 32) (r : Fin 16) (c : Fin 128) :
    ((rows i teA).view.read (Elt F) A : IVec S16x128 32) (ix2 r c) = flat A (2048 * num i + (128 * r.val + c.val)) := by
  have hn := num_lt i
  have e : (Rect.unit (s := S512x128) (k0_off1 i) S16x128.size (k0_off1_inb i)).emb (ix2 r c) = ix2 ⟨16 * num i + r.val, by omega⟩ c := by
    have ho := k0_off1_eq i
    funext a
    match a with
    | ⟨0, _⟩ => exact Fin.ext (by show k0_off1 i 0 + 1 * r.val = _; rw [ho]; show 32 * (i 1).val + 16 * (i 0).val + 1 * r.val = 16 * (2 * (i 1).val + (i 0).val) + r.val; omega)
    | ⟨1, _⟩ => exact Fin.ext (by show k0_off1 i 1 + 1 * c.val = _; rw [ho]; show 0 + 1 * c.val = c.val; omega)
  show A ((Rect.unit (s := S512x128) (k0_off1 i) S16x128.size (k0_off1_inb i)).emb (ix2 r c)) = _
  rw [e]; unfold flat; rw [dif_pos (by omega)]
  congr 2 <;> exact Fin.ext (by first | (show 16 * num i + r.val = (2048 * num i + (128 * r.val + c.val)) / 128; omega) | (show c.val = (2048 * num i + (128 * r.val + c.val)) % 128; omega))

omit [FloatOps F] in
theorem read_tot (A : IVec S1x64 32) (e : Fin 64) : ((totals totA).view.read (Elt F) A : IVec S64 32) (ix1 e) = tots A e := by
  unfold tots; rw [dif_pos e.isLt]
  refine (shapeCast_1a_a_apply (fun j => A ((Rect.unit (s := S1x64) ![0, 0] S1x64.size inb_S1x64_S1x64_0_0).emb j)) squeezes_S1x64_S64.numel_eq.symm e).trans ?_
  congr 1
  funext a
  match a with
  | ⟨0, _⟩ => exact Fin.ext (by show 0 + 1 * 0 = 0; rfl)
  | ⟨1, _⟩ => exact Fin.ext (by show 0 + 1 * e.val = e.val; omega)

omit [FloatOps F] in
theorem read_bef (A : IVec S32x1x64 32) (e : Fin 64) : ((before i befA).view.read (Elt F) A : IVec S64 32) (ix1 e) = befs A (num i) e := by
  have hn := num_lt i
  unfold befs; rw [dif_pos ⟨hn, e.isLt⟩]
  refine (shapeCast_apply (s := S1x1x64) (t := S64) (fun j => A ((Rect.unit (s := S32x1x64) (k0_off2 i) S1x1x64.size (k0_off2_inb i)).emb j)) squeezes_S1x1x64_S64.numel_eq (ix1 e) (ix3 0 0 e) (by
    rw [Shape.rowMajor_val_three, Shape.rowMajor_val_one]; show (0 * 1 + 0) * 64 + e.val = e.val; omega)).trans ?_
  have ho := k0_off2_eq i
  congr 1
  funext a
  match a with
  | ⟨0, _⟩ => exact Fin.ext (by show k0_off2 i 0 + 1 * 0 = num i; rw [ho]; rfl)
  | ⟨1, _⟩ => exact Fin.ext (by show k0_off2 i 1 + 1 * 0 = 0; rw [ho]; rfl)
  | ⟨2, _⟩ => exact Fin.ext (by show k0_off2 i 2 + 1 * e.val = e.val; rw [ho]; show 0 + 1 * e.val = e.val; omega)

/-- The task's rows of the array of places. -/
def rowsOf (w : ℕ) : Finset S512x128.Idx := Finset.univ.filter fun x => (x 0).val / 16 = w

omit [FloatOps F] in
theorem out_set : (out i posA).view.set = rowsOf (num i) := by
  have ho := k0_off3_eq i
  refine (View.set_slice_whole main_v0_0_scv _).trans ?_
  ext x
  rw [Rect.mem_set_unit]
  unfold rowsOf; rw [Finset.mem_filter]
  have h1 : (x 1).val < 128 := (x 1).isLt
  constructor
  · intro h
    have h0 := h 0
    rw [ho] at h0
    have h0' : 32 * (i 1).val + 16 * (i 0).val ≤ (x 0).val ∧ (x 0).val < 32 * (i 1).val + 16 * (i 0).val + 16 := h0
    refine ⟨Finset.mem_univ _, ?_⟩
    unfold num; omega
  · intro h a
    have h0 : (x 0).val / 16 = 2 * (i 1).val + (i 0).val := h.2
    rw [ho]
    match a with
    | ⟨0, _⟩ => show 32 * (i 1).val + 16 * (i 0).val ≤ (x 0).val ∧ (x 0).val < 32 * (i 1).val + 16 * (i 0).val + 16; omega
    | ⟨1, _⟩ => show 0 ≤ (x 1).val ∧ (x 1).val < 0 + 128; omega

omit [FloatOps F] in
theorem out_write (A0 : IVec S512x128 32) (A1 : IVec S1x64 32) (A2 : IVec S32x1x64 32) (f : IVec S512x128 32) (pos : IVec S16x128 32)
    (hp : Ranked (F := F) (fun j => flat A0 (2048 * num i + j)) (fun e => befs A2 (num i) e + psum (tots A1) e) 2048 pos) :
    ∀ x ∈ rowsOf (num i), (out i posA).view.write (Elt F) f (posV.view.read (Elt F) pos) Finset.univ x = posOf A0 A1 A2 x := by
  intro x hx
  have hn := num_lt i
  have hx0 : (x 0).val / 16 = num i := (Finset.mem_filter.1 hx).2
  have h1 : (x 1).val < 128 := (x 1).isLt
  have ho := k0_off3_eq i
  have e : x = (Rect.unit (s := S512x128) (k0_off3 i) S16x128.size (k0_off3_inb i)).emb (ix2 ⟨(x 0).val - 16 * num i, by omega⟩ ⟨(x 1).val, h1⟩) := by
    funext a
    match a with
    | ⟨0, _⟩ => exact Fin.ext (by
        show (x 0).val = k0_off3 i 0 + 1 * ((x 0).val - 16 * num i); rw [ho]
        show (x 0).val = 32 * (i 1).val + 16 * (i 0).val + 1 * ((x 0).val - 16 * num i); unfold num at *; omega)
    | ⟨1, _⟩ => exact Fin.ext (by show (x 1).val = k0_off3 i 1 + 1 * (x 1).val; rw [ho]; show (x 1).val = 0 + 1 * (x 1).val; omega)
  have hw : (out i posA).view.write (Elt F) f (posV.view.read (Elt F) pos) Finset.univ
      ((Rect.unit (s := S512x128) (k0_off3 i) S16x128.size (k0_off3_inb i)).emb (ix2 ⟨(x 0).val - 16 * num i, by omega⟩ ⟨(x 1).val, h1⟩))
      = pos (ix2 ⟨(x 0).val - 16 * num i, by omega⟩ ⟨(x 1).val, h1⟩) :=
    View.write_emb_of_mem (v := (out i posA).view) f (posV.view.read (Elt F) pos) (Finset.mem_univ _)
  refine (congrArg _ e).trans (hw.trans ((hp _ _ (by show 128 * ((x 0).val - 16 * num i) + (x 1).val < 2048; omega)).trans ?_))
  unfold posOf placeOf
  have e1 : (128 * (x 0).val + (x 1).val) / 2048 = num i := by omega
  have e2 : (128 * (x 0).val + (x 1).val) % 2048 = 128 * ((x 0).val - 16 * num i) + (x 1).val := by omega
  rw [e1, e2]

/-- The array of bounds, where the task writes it. -/
def bndPts (d : Dev nD) (w : ℕ) (f : IVec S64 32) : sProp (MT nD τ sig (HIx 2) (Elt F) ℕ UU ℕ) :=
  if w = 0 then iprop((SparseCore.T d).loc main_v0_1 ↦{fullShare} (f : Buf (Elt F) ((SparseCore.T d).loc main_v0_1))) else iprop(emp)

/-- What a task is given (`f`, `g` what its rows and the bounds hold), and gives back. -/
def own (d : Dev nD) (w : ℕ) (q : PosShare TreeShare) (A0 : IVec S512x128 32) (A1 : IVec S1x64 32) (A2 : IVec S32x1x64 32) (f : IVec S512x128 32) (g : IVec S64 32) :
    sProp (MT nD τ sig (HIx 2) (Elt F) ℕ UU ℕ) :=
  iprop(((SparseCore.T d).loc main_arg0 ↦{q} (A0 : Buf (Elt F) ((SparseCore.T d).loc main_arg0))) ∗ ((SparseCore.T d).loc main_arg1 ↦{q} (A1 : Buf (Elt F) ((SparseCore.T d).loc main_arg1)))
    ∗ ((SparseCore.T d).loc main_arg2 ↦{q} (A2 : Buf (Elt F) ((SparseCore.T d).loc main_arg2)))
    ∗ ((SparseCore.T d).loc main_v0_0 ↦[rowsOf w]{fullShare} (f : Buf (Elt F) ((SparseCore.T d).loc main_v0_0))) ∗ bndPts d w g)

theorem wp_bounds {b g g' : IVec S64 32} (hb : ∀ x, b x = g' x) {O : CellTallies nD τ sig (HIx 2)} {W : Waits sig (HIx 2)} {k : RT (F := F) i β} :
    iprop(MayWaits (thr d i) (none : HIx 2) O ∗ bndPts d (num i) g ∗ ((thr d i).loc cc0_scratch4 ↦{fullShare} (b : Buf (Elt F) ((thr d i).loc cc0_scratch4)))
        ∗ semVal ((thr d i, .dma cc0_scoped3.sem) : GSem nD τ sig) 0 ∗ owes (thr d i) O W)
      ⊢ iprop(((bndPts d (num i) g' ∗ (∃ f, (thr d i).loc cc0_scratch4 ↦{fullShare} f)
          ∗ semVal ((thr d i, .dma cc0_scoped3.sem) : GSem nD τ sig) 0 ∗ ∃ W', ⌜∀ p ∈ W', p ∈ W ∨ p.2 = none⌝ ∗ owes (thr d i) O W')
            -∗ wp frame (wpE (defs₀ (F := F)) 𝒱₀ (thr d i) none) Set.univ k Q)
          -∗ wp frame (wpE (defs₀ (F := F)) 𝒱₀ (thr d i) none) Set.univ (bounds i bndA (Memref.isWhole_whole _) bndV (Memref.isWhole_whole _) cc0_scoped3 k) Q) := by
  unfold bounds bndPts
  by_cases hz : num i = 0
  · rw [if_pos ((first_iff i).2 hz), if_pos hz, if_pos hz]
    iintro ⟨Hm, Hg, Hb, Hs, HO⟩ Hk
    iapply (wp_copy (thr d i) (src := bndV) (dst := bndA) (sem := cc0_scoped3.sem) (fs := b) (Sd := Finset.univ) (fd := g) (fd' := g') (View.dmaCredit_pos _ (by decide)) (Finset.subset_univ _)
      (fun x _ => (congrFun (View.write_whole_univ _ _ _) x).trans (hb x))) $$ [Hm Hg Hb Hs HO]
    · isplitl [Hm]; · iexact Hm
      isplitl [Hb]; · iexact Hb
      isplitl [Hg]; · iexact Hg
      isplitl [Hs] <;> iassumption
    iintro ⟨Hb, Hg, Hs, HO⟩
    iapply Hk
    isplitl [Hg]; · iexact Hg
    isplitl [Hb]; · iexists _; iexact Hb
    isplitl [Hs]; · iexact Hs
    iexists _; isplitr
    rotate_left
    · iexact HO
    · ipureintro; intro p hp
      rcases Finset.mem_insert.mp hp with hp | hp
      · exact .inr (hp ▸ rfl)
      · exact .inl hp
  · rw [if_neg (mt (first_iff i).1 hz), if_neg hz, if_neg hz]
    iintro ⟨-, Hg, Hb, Hs, HO⟩ Hk
    iapply Hk
    isplitl [Hg]; · iexact Hg
    isplitl [Hb]; · iexists _; iexact Hb
    isplitl [Hs]; · iexact Hs
    iexists W; isplitr
    · ipureintro; exact fun p hp => .inl hp
    · iexact HO

theorem wp_body {q : PosShare TreeShare} {A0 : IVec S512x128 32} {A1 : IVec S1x64 32} {A2 : IVec S32x1x64 32} (hA : ∀ x, (A0 x).toNat < 64)
    {f : IVec S512x128 32} {g : IVec S64 32} {O : CellTallies nD τ sig (HIx 2)} {W : Waits sig (HIx 2)} (hO : ∀ g, O g none = 0) :
    iprop(levAts (K (F := F)).L (K (F := F)).lev ∗ emp ∗ own d (num i) q A0 A1 A2 f g ∗ scopedBufs (thr d i) ∗ scopedSems0 (thr d i) ∗ owes (thr d i) O W)
      ⊢ wp frame (wpE (defs₀ (F := F)) 𝒱₀ (thr d i) none) Set.univ
          (cc0__rank_body i teA (Memref.isWhole_whole _) totA (Memref.isWhole_whole _) befA (Memref.isWhole_whole _) posA (Memref.isWhole_whole _) bndA (Memref.isWhole_whole _)
            teV (Memref.isWhole_whole _) posV (Memref.isWhole_whole _) cntV (Memref.isWhole_whole _) totV (Memref.isWhole_whole _) bndV (Memref.isWhole_whole _)
            cc0_scoped0 cc0_scoped1 cc0_scoped2 cc0_scoped3 cc0_scoped4)
          fun _ => iprop(own d (num i) q A0 A1 A2 (posOf A0 A1 A2) (bndOf A1) ∗ scopedBufs (thr d i) ∗ scopedSems0 (thr d i)
            ∗ ∃ W', ⌜∀ p ∈ W', p ∈ W ∨ p.2 = none⌝ ∗ owes (thr d i) O W') := by
  rw [cc0_eq, (K (F := F)).scopedBufs_V facts d (cV i) (jV i), SparseCore.Cfg.scopedSems0_V (Val := Elt F) d (cV i) (jV i),
    ownSems0_take d (cV i) (jV i) [cc0_scoped0.sem, cc0_scoped1.sem, cc0_scoped2.sem, cc0_scoped3.sem, cc0_scoped4.sem] (by decide) (by decide),
    ownBufs_take d (cV i) (jV i) [cc0_scratch0, cc0_scratch1, cc0_scratch2, cc0_scratch3, cc0_scratch4] (by decide) (by
      intro x hx; simp only [List.mem_cons, List.not_mem_nil, or_false] at hx
      rcases hx with rfl | rfl | rfl | rfl | rfl <;> rfl)]
  simp only [List.map_cons, List.map_nil, List.foldr_cons, List.foldr_nil, List.foldl_cons, List.foldl_nil]
  iintro ⟨#Hlv, -, Hown, ⟨⟨%f0, B0⟩, ⟨%f1, B1⟩, ⟨%f2, B2⟩, ⟨%f3, B3⟩, ⟨%f4, B4⟩, Bs⟩, ⟨S0, S1, S2, S3, S4, Ss⟩, HO⟩
  ihave #Hmw := ((K (F := F)).mayWaits_none (thr := thr d i) hO) $$ Hlv
  unfold own
  icases Hown with ⟨H0, H1, H2, H3, H4⟩
  unfold body start
  iapply (wp_copy (thr d i) (src := rows i teA) (dst := teV) (sem := cc0_scoped0.sem) (fs := A0) (Sd := Finset.univ) (fd := f0) (View.dmaCredit_pos _ (by decide)) (Finset.subset_univ _)
    (fun x _ => congrFun (View.write_whole_univ _ _ _) x)) $$ [H0 B0 S0 HO]
  · isplitl []; · iexact Hmw
    isplitl [H0]; · iexact H0
    isplitl [B0]; · iexact B0
    isplitl [S0] <;> iassumption
  iintro ⟨H0, B0, S0, HO⟩
  iapply (wp_copy (thr d i) (src := totals totA) (dst := totV) (sem := cc0_scoped1.sem) (fs := A1) (Sd := Finset.univ) (fd := f3) (View.dmaCredit_pos _ (by decide)) (Finset.subset_univ _)
    (fun x _ => congrFun (View.write_whole_univ _ _ _) x)) $$ [H1 B3 S1 HO]
  · isplitl []; · iexact Hmw
    isplitl [H1]; · iexact H1
    isplitl [B3]; · iexact B3
    isplitl [S1] <;> iassumption
  iintro ⟨H1, B3, S1, HO⟩
  iapply (wp_copy (thr d i) (src := before i befA) (dst := cntV) (sem := cc0_scoped2.sem) (fs := A2) (Sd := Finset.univ) (fd := f2) (View.dmaCredit_pos _ (by decide)) (Finset.subset_univ _)
    (fun x _ => congrFun (View.write_whole_univ _ _ _) x)) $$ [H2 B2 S2 HO]
  · isplitl []; · iexact Hmw
    isplitl [H2]; · iexact H2
    isplitl [B2]; · iexact B2
    isplitl [S2] <;> iassumption
  iintro ⟨H2, B2, S2, HO⟩
  have hT := read_tot (F := F) A1
  have hp0 : Prefixed (F := F) (tots A1) (befs A2 (num i)) 0 ((before i befA).view.read (Elt F) A2) f4 := fun e =>
    ⟨by rw [if_neg (by omega), BitVec.add_zero]; exact read_bef i A2 e, fun h => absurd h (by omega)⟩
  unfold prefixes
  iapply (wp_sums d i (by omega) hT hp0 rfl) $$ [B3 B2 B4]
  · isplitl [B3]; · iexact B3
    isplitl [B2] <;> iassumption
  iintro %v1 %c1 %b1 %hp1 ⟨B3, B2, B4⟩
  iapply (wp_sums d i (by omega) hT hp1.1 hp1.2) $$ [B3 B2 B4]
  · isplitl [B3]; · iexact B3
    isplitl [B2] <;> iassumption
  iintro %v2 %c2 %b2 %hp2 ⟨B3, B2, B4⟩
  iapply (wp_sums d i (by omega) hT hp2.1 hp2.2) $$ [B3 B2 B4]
  · isplitl [B3]; · iexact B3
    isplitl [B2] <;> iassumption
  iintro %v3 %c3 %b3 %hp3 ⟨B3, B2, B4⟩
  iapply (wp_sums d i (by omega) hT hp3.1 hp3.2) $$ [B3 B2 B4]
  · isplitl [B3]; · iexact B3
    isplitl [B2] <;> iassumption
  iintro %v4 %c4 %b4 %hp4 ⟨B3, B2, B4⟩
  have hb : ∀ x, b4 x = bndOf A1 x := fun x => by
    obtain ⟨e, rfl⟩ : ∃ e : Fin 64, x = ix1 e := ⟨x 0, eq_ix1 x⟩
    exact (hp4.1 e).2 (by omega)
  have hcnt : Counted (F := F) (fun j => flat A0 (2048 * num i + j)) (fun e => befs A2 (num i) e + psum (tots A1) e) (16 * (128 - 128)) c4 := fun e => by
    have h := (hp4.1 e).1
    rw [if_pos (by omega)] at h
    rw [h]; unfold occ; simp
  have hkey : ∀ j < 2048, (flat A0 (2048 * num i + j)).toNat < 64 := fun j hj => by
    unfold flat; split
    · exact hA _
    · decide
  iapply (wp_bounds d i hb) $$ [H4 B4 S3 HO]
  · isplitl []; · iexact Hmw
    isplitl [H4]; · iexact H4
    isplitl [B4]; · iexact B4
    isplitl [S3] <;> iassumption
  iintro ⟨H4, B4, S3, %W1, %hW1, HO⟩
  iapply (wp_chunks d i hkey (read_te i A0) 128 (Nat.le_refl _) hcnt (fun r c h => absurd h (by omega))) $$ [B0 B2 B1]
  · isplitl [B0]; · iexact B0
    isplitl [B2] <;> iassumption
  iintro %c5 %p5 %hp5 ⟨B0, B2, B1⟩
  unfold finish
  iapply (wp_copy (thr d i) (src := posV) (dst := out i posA) (sem := cc0_scoped4.sem) (fs := p5) (Sd := rowsOf (num i)) (fd := f) (fd' := posOf A0 A1 A2)
    (View.dmaCredit_pos _ (by decide)) (out_set i).le (out_write i A0 A1 A2 f p5 hp5)) $$ [H3 B1 S4 HO]
  · isplitl []; · iexact Hmw
    isplitl [B1]; · iexact B1
    isplitl [H3]; · iexact H3
    isplitl [S4] <;> iassumption
  iintro ⟨B1, H3, S4, HO⟩
  rw [wp_ret]
  imodintro
  isplitl [H0 H1 H2 H3 H4]
  · isplitl [H0]; · iexact H0
    isplitl [H1]; · iexact H1
    isplitl [H2]; · iexact H2
    isplitl [H3] <;> iassumption
  isplitl [B0 B1 B2 B3 B4 Bs]
  · isplitl [B0]; · iexists _; iexact B0
    isplitl [B1]; · iexists _; iexact B1
    isplitl [B2]; · iexists _; iexact B2
    isplitl [B3]; · iexists _; iexact B3
    isplitl [B4] <;> iassumption
  isplitl [S0 S1 S2 S3 S4 Ss]
  · isplitl [S0]; · iexact S0
    isplitl [S1]; · iexact S1
    isplitl [S2]; · iexact S2
    isplitl [S3]; · iexact S3
    isplitl [S4] <;> iassumption
  iexists _; isplitr
  rotate_left
  · iexact HO
  · ipureintro; intro p hp
    rcases Finset.mem_insert.mp hp with hp | hp
    · exact .inr (hp ▸ rfl)
    rcases hW1 p hp with hp | hp
    · rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      exact .inl hp
    · exact .inr hp

end Tile

end Rank

end Cert.Proof
-- ==== Proof.PermTile.lean ====
/-
  The permute task: over all positions it keeps the numbers of those that fall in its window, and over the places of its
  window it searches the bounds.
-/
module

public import proofs.«01_k».proof.Proof.RankTile

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 2) (Elt F) ℕ UU ℕ

/-! ## What the task computes -/

/-- One step of the search for the last bound at most `p`: from `n` on to `n + s` where the bound before that is at most `p`. -/
def seek (b : ℕ → BitVec 32) (p : BitVec 32) (s n : ℕ) : ℕ := if IntOp.cmpi .sle (b (n + s - 1)) p = 1#1 then n + s else n

/-- The search. -/
def seeks (b : ℕ → BitVec 32) (p : BitVec 32) : ℕ := seek b p 1 <| seek b p 2 <| seek b p 4 <| seek b p 8 <| seek b p 16 <| seek b p 32 0

theorem seek_le {b : ℕ → BitVec 32} {p : BitVec 32} {s n m : ℕ} (h : n ≤ m) : seek b p s n ≤ m + s := by
  unfold seek; split <;> omega

/-- The bounds as a sequence, and the experts of all places. -/
def bnds (B : IVec S64 32) (e : ℕ) : BitVec 32 := if h : e < 64 then B (ix1 ⟨e, h⟩) else 0#32
def binOf (B : IVec S64 32) : IVec S65536 32 := fun x => BitVec.ofNat 32 (seeks (bnds B) (BitVec.ofNat 32 (x 0).val))

/-- Of window `w`: each place that a position names alone holds that position's number. -/
def Named (P : ℕ → BitVec 32) (w : ℕ) (f : IVec S65536 32) : Prop :=
  ∀ i < 65536, (∀ i' < 65536, P i' = P i → i' = i) → ∀ x : Fin 65536, x.val = (P i).toNat → x.val / 2048 = w → f (ix1 x) = BitVec.ofNat 32 i

/-- Thirty-two rows of the positions. -/
def blk (A : IVec S512x128 32) (a : ℕ) : IVec S32x128 32 := fun x => flat A (4096 * a + (128 * (x 0).val + (x 1).val))

namespace Perm

abbrev pb0V : Memref sig .scVector .vmem S32x128 .i32 := Memref.whole cc1_scratch0
abbrev pb1V : Memref sig .scVector .vmem S32x128 .i32 := Memref.whole cc1_scratch1
abbrev tabV : Memref sig .scVector .vmem S32x128 .i32 := Memref.whole cc1_scratch2
abbrev binV : Memref sig .scVector .vmem S64 .i32 := Memref.whole cc1_scratch3
abbrev idxV : Memref sig .scVector .vmem S2048 .i32 := Memref.whole cc1_scratch4
abbrev expV : Memref sig .scVector .vmem S2048 .i32 := Memref.whole cc1_scratch5

section

variable [FloatOps F] (d : Dev nD) (i : grid1.Coords)

abbrev cV (i : grid1.Coords) : Fin τ.nSC := (i 0).castLE hcore1
abbrev jV (i : grid1.Coords) : Fin τ.nSub := (i 1).castLE hsub1
abbrev thr (d : Dev nD) (i : grid1.Coords) : Thread nD τ := V d (cV i) (jV i)

variable {β : Type} {Q : β → sProp (MT nD τ sig (HIx 2) (Elt F) ℕ UU ℕ)}

omit [FloatOps F] in
theorem lanes_emb (n : Nat) (h : n < 256) (k : Fin 16) : (lanes n h).emb (ix2 0 k) = ix2 ⟨n / 8, by omega⟩ ⟨16 * (n % 8) + k, by omega⟩ := by
  funext a
  match a with
  | ⟨0, _⟩ => exact Fin.ext (by show n / 8 + 1 * 0 = n / 8; omega)
  | ⟨1, _⟩ => exact Fin.ext (by show 16 * (n % 8) + 1 * k.val = 16 * (n % 8) + k.val; omega)

omit [FloatOps F] in
theorem lanes_mem (n : Nat) (h : n < 256) (r : Fin 32) (c : Fin 128) :
    (ix2 r c : S32x128.Idx) ∈ (lanes n h).set ↔ 16 * n ≤ 128 * r.val + c.val ∧ 128 * r.val + c.val < 16 * n + 16 := by
  rw [Rect.mem_set_unit]
  constructor
  · intro hh
    have h0 := hh 0; have h1 := hh 1
    have h0' : n / 8 ≤ r.val ∧ r.val < n / 8 + 1 := h0
    have h1' : 16 * (n % 8) ≤ c.val ∧ c.val < 16 * (n % 8) + 16 := h1
    omega
  · intro hh a
    match a with
    | ⟨0, _⟩ => show n / 8 ≤ r.val ∧ r.val < n / 8 + 1; omega
    | ⟨1, _⟩ => show 16 * (n % 8) ≤ c.val ∧ c.val < 16 * (n % 8) + 16; omega

/-! ## The table of lanes -/

/-- The first `N` lanes of the table are their numbers. -/
def Filled (N : ℕ) (f : Vec F S32x128 .i32) : Prop := ∀ (r : Fin 32) (c : Fin 128), 128 * r.val + c.val < N → (f (ix2 r c) : BitVec 32) = BitVec.ofNat 32 (128 * r.val + c.val)

theorem wp_fills {k : PT (F := F) i β} (m : ℕ) (h : m ≤ 256) {tab : Vec F S32x128 .i32} (ht : Filled (F := F) (16 * (256 - m)) tab) :
    iprop((thr d i).loc cc1_scratch2 ↦{fullShare} tab)
      ⊢ iprop((∀ tab', ⌜Filled (F := F) 4096 tab'⌝ -∗ ((thr d i).loc cc1_scratch2 ↦{fullShare} tab') -∗ wp frame (wpE (defs₀ (F := F)) 𝒱₀ (thr d i) none) Set.univ k Q)
          -∗ wp frame (wpE (defs₀ (F := F)) 𝒱₀ (thr d i) none) Set.univ (fills tabV m h k) Q) := by
  induction m generalizing tab with
  | zero =>
    iintro H Hk
    unfold fills
    iapply Hk $$ [] H
    ipureintro; exact ht
  | succ m ih =>
    set n := 256 - (m + 1) with hn
    have hnl : n < 256 := by omega
    have hn1 : 16 * (256 - m) = 16 * n + 16 := by omega
    rw [hn1] at ih
    iintro Ht Hk
    unfold fills fill
    iapply (wp_load 𝒱₀ (thr d i) none Set.univ (m := tabV) (S := Finset.univ) (Finset.subset_univ _)) $$ Ht
    iintro Ht
    iapply (wp_store 𝒱₀ (thr d i) none Set.univ (m := tabV) (r := lanes n hnl) (Mk := Finset.univ) (S := Finset.univ) (f := tab) (Finset.subset_univ _)) $$ Ht
    iintro Ht
    iapply (ih _ ?_) $$ [Ht] Hk
    rotate_left
    · iexact Ht
    · intro r c hlt
      by_cases hin : 16 * n ≤ 128 * r.val + c.val ∧ 128 * r.val + c.val < 16 * n + 16
      · obtain ⟨k', hk'⟩ : ∃ k' : Fin 16, 128 * r.val + c.val = 16 * n + k'.val := ⟨⟨128 * r.val + c.val - 16 * n, by omega⟩, by show _ = 16 * n + (128 * r.val + c.val - 16 * n); omega⟩
        have e : (ix2 r c : S32x128.Idx) = (lanes n hnl).emb (ix2 0 k') := by
          rw [lanes_emb]; congr 1 <;> exact Fin.ext (by first | (show r.val = n / 8; omega) | (show c.val = 16 * (n % 8) + k'.val; omega))
        rw [e, hk']
        refine (write_hit cc1_scratch2 (lanes n hnl) tab _ (ix2 0 k')).trans ?_
        refine (shapeCast_a_1a_apply _ _ _ k').trans ?_
        have hlane : lane (L k') = BitVec.ofNat 32 k'.val := by
          show BitVec.ofNat 32 (0 * 16 + k'.val) = _; rw [Nat.zero_mul, Nat.zero_add]
        rw [BitVec.ofNat_add, ← hlane]; rfl
      · refine (write_miss cc1_scratch2 (lanes n hnl) tab _ (mt (lanes_mem n hnl r c).1 hin)).trans (ht r c (by omega))

/-! ## The positions -/

theorem wp_chunks {b : Memref sig .scVector .vmem S32x128 .i32} {P : ℕ → BitVec 32} {B : ℕ} (hB : B + 4096 ≤ 65536) {lo hi : BitVec 32} (hhi : hi = BitVec.ofNat 32 B)
    {fb : Buf (Elt F) (b.view.loc (thr d i))}
    (hb : ∀ (n : ℕ) (h : n < 256) (k : Fin 16), (b.view.readAt (Elt F) (lanes n h).toLoadRect fb : Vec F S1x16 .i32) (ix2 0 k) = P (B + 16 * n + k.val))
    {tab : Vec F S32x128 .i32} (ht : Filled (F := F) 4096 tab) {k : PT (F := F) i β} (m : ℕ) (h : m ≤ 256) {g : Vec F S2048 .i32} (hg : Placed (F := F) P lo (B + 16 * (256 - m)) g) :
    iprop((b.view.loc (thr d i) ↦{fullShare} fb) ∗ ((thr d i).loc cc1_scratch2 ↦{fullShare} tab) ∗ ((thr d i).loc cc1_scratch4 ↦{fullShare} g))
      ⊢ iprop((∀ g', ⌜Placed (F := F) P lo (B + 4096) g'⌝
            -∗ ((b.view.loc (thr d i) ↦{fullShare} fb) ∗ ((thr d i).loc cc1_scratch2 ↦{fullShare} tab) ∗ ((thr d i).loc cc1_scratch4 ↦{fullShare} g'))
            -∗ wp frame (wpE (defs₀ (F := F)) 𝒱₀ (thr d i) none) Set.univ k Q)
          -∗ wp frame (wpE (defs₀ (F := F)) 𝒱₀ (thr d i) none) Set.univ (chunks b tabV idxV lo hi m h k) Q) := by
  induction m generalizing g with
  | zero =>
    iintro H Hk
    unfold chunks
    iapply Hk $$ [] H
    ipureintro; exact hg
  | succ m ih =>
    set n := 256 - (m + 1) with hn
    have hnl : n < 256 := by omega
    have hn1 : B + 16 * (256 - m) = B + 16 * n + 16 := by omega
    rw [hn1] at ih
    iintro ⟨Hb, Ht, Hg⟩ Hk
    unfold chunks chunk
    iapply (wp_load 𝒱₀ (thr d i) none Set.univ (m := b) (S := Finset.univ) (Finset.subset_univ _)) $$ Hb
    iintro Hb
    rw [wp_assume_of _ _ _ _ (place_lt lo _)]
    iapply (wp_load 𝒱₀ (thr d i) none Set.univ (m := tabV) (S := Finset.univ) (Finset.subset_univ _)) $$ Ht
    iintro Ht
    have hread : (idxV.access (.whole S2048)).read (Elt F) g = g := Memref.read_access_whole (Elt F) cc1_scratch4 g
    have hset : (idxV.access (.whole S2048)).set = Finset.univ := View.set_slice_whole _ _ |>.trans (Rect.set_whole _)
    iapply (SparseCore.wp_vectorStoreIdx 𝒱₀ (thr d i) none Set.univ (base := idxV) (f := g)) $$ [Hg]
    · rw [hset]; iexact Hg
    rw [hset, hread]
    iintro Hg
    iapply (ih _ ?_) $$ [Hb Ht Hg] Hk
    rotate_left
    · isplitl [Hb]; · iexact Hb
      isplitl [Ht]; · iexact Ht
      iexact Hg
    · refine Eq.mpr (congrArg (Placed (F := F) P lo (B + 16 * n + 16)) (Memref.write_access_whole_univ (Elt F) cc1_scratch4 g _)) ?_
      refine Placed.step hg (by omega) (hb n hnl) (fun k => ?_) _
      show (tab ((lanes n hnl).emb (ix2 0 k)) : BitVec 32) + hi = _
      rw [lanes_emb, ht _ _ (by show 128 * (n / 8) + (16 * (n % 8) + k.val) < 4096; omega), hhi, ← BitVec.ofNat_add]
      congr 1
      show 128 * (n / 8) + (16 * (n % 8) + k.val) + B = _; omega

/-! ## The search -/

theorem wp_probe {B : IVec S64 32} {s : ℕ} (hs : 0 < s) {p e : IVec S16 32} {E : Fin 16 → ℕ} (he : ∀ k, e (L k) = BitVec.ofNat 32 (E k)) (hE : ∀ k, E k + s ≤ 64)
    {k : IVec S16 32 → PT (F := F) i β} :
    iprop((thr d i).loc cc1_scratch3 ↦{fullShare} (B : Buf (Elt F) ((thr d i).loc cc1_scratch3)))
      ⊢ iprop((∀ e', ⌜∀ k, e' (L k) = BitVec.ofNat 32 (seek (bnds B) (p (L k)) s (E k))⌝ -∗ ((thr d i).loc cc1_scratch3 ↦{fullShare} (B : Buf (Elt F) ((thr d i).loc cc1_scratch3)))
            -∗ wp frame (wpE (defs₀ (F := F)) 𝒱₀ (thr d i) none) Set.univ (k e') Q)
          -∗ wp frame (wpE (defs₀ (F := F)) 𝒱₀ (thr d i) none) Set.univ (probe binV (BitVec.ofNat 32 s) p e k) Q) := by
  have hw : ∀ k : Fin 16, (subi (addi e (broadcast S16 (BitVec.ofNat 32 s))) (broadcast S16 1#32)) (L k) = BitVec.ofNat 32 (E k + s - 1) := fun k => by
    show e (L k) + BitVec.ofNat 32 s - 1#32 = _
    rw [he, ← BitVec.ofNat_add]
    have : E k + s = (E k + s - 1) + 1 := by omega
    conv_lhs => rw [this]
    rw [BitVec.ofNat_add, BitVec.add_sub_cancel]
  have hlt : ∀ k : Fin 16, ((subi (addi e (broadcast S16 (BitVec.ofNat 32 s))) (broadcast S16 1#32)) (L k)).toNat = E k + s - 1 := fun k => by
    rw [hw]; have := hE k
    rw [BitVec.toNat_ofNat, Nat.mod_eq_of_lt (by omega)]
  have hchk : k1_chk513 (subi (addi e (broadcast S16 (BitVec.ofNat 32 s))) (broadcast S16 1#32)) := by
    intro a x
    match a with
    | ⟨0, _⟩ =>
      obtain ⟨k', rfl⟩ : ∃ k' : Fin 16, x = L k' := ⟨x 0, eq_ix1 x⟩
      exact lt_of_eq_of_lt (hlt k') (by have := hE k'; show _ < 64; omega)
  have hread : (binV.access (.whole S64)).read (Elt F) B = B := Memref.read_access_whole (Elt F) cc1_scratch3 B
  iintro Hb Hk
  unfold probe
  rw [wp_assume_of _ _ _ _ hchk]
  iapply (SparseCore.wp_vectorLoadIdx 𝒱₀ (thr d i) none Set.univ (base := binV) (S := Finset.univ) (f := B) (Finset.subset_univ _)) $$ Hb
  rw [hread]
  iintro Hb
  iapply Hk $$ [] Hb
  ipureintro
  intro k
  have h64 : E k + s - 1 < 64 := by have := hE k; omega
  have hl : (loadIdx (F := F) (e := .i32) B ![subi (addi e (broadcast S16 (BitVec.ofNat 32 s))) (broadcast S16 1#32)] (k1_idx513_inb _ hchk) : IVec S16 32) (L k) = bnds B (E k + s - 1) := by
    unfold bnds; rw [dif_pos h64]
    refine congrArg B ?_
    funext a
    match a with
    | ⟨0, _⟩ => exact Fin.ext (hlt k)
  unfold seek
  show (if IntOp.cmpi .sle ((loadIdx (F := F) (e := .i32) B ![subi (addi e (broadcast S16 (BitVec.ofNat 32 s))) (broadcast S16 1#32)] (k1_idx513_inb _ hchk) : IVec S16 32) (L k)) (p (L k)) = 1#1
    then e (L k) + BitVec.ofNat 32 s else e (L k)) = _
  rw [hl, he, ← BitVec.ofNat_add]
  split <;> rfl

/-- One trip of the search: the experts of sixteen places. -/
def Searched (B : IVec S64 32) (w N : ℕ) (g : Vec F S2048 .i32) : Prop := ∀ q : Fin 2048, q.val < N → (g (ix1 q) : BitVec 32) = BitVec.ofNat 32 (seeks (bnds B) (BitVec.ofNat 32 (2048 * w + q.val)))

/-- The task's number. -/
def num (i : grid1.Coords) : ℕ := 2 * (i 1).val + (i 0).val

omit [FloatOps F] in
theorem num_lt : num i < 32 := by
  have h1 : (i 1).val < 16 := (i 1).isLt
  have h0 : (i 0).val < 2 := (i 0).isLt
  unfold num; omega

omit [FloatOps F] in
theorem lo_eq : lo i = BitVec.ofNat 32 (2048 * num i) := by
  have h1 : (i 1).val < 16 := (i 1).isLt
  have h0 : (i 0).val < 2 := (i 0).isLt
  revert h0 h1; unfold lo num
  generalize (i 1).val = a; generalize (i 0).val = b
  intro h1 h0
  interval_cases b <;> interval_cases a <;> rfl

omit [FloatOps F] in
theorem places_lane (t : Fin k1_t2_loop.trips) (k : Fin 16) : places i t (L k) = BitVec.ofNat 32 (2048 * num i + (16 * t.val + k.val)) := by
  have hlane : lane (L k) = BitVec.ofNat 32 k.val := by
    show BitVec.ofNat 32 (0 * 16 + k.val) = _; rw [Nat.zero_mul, Nat.zero_add]
  have ht : Scalar.muli (Scf.iv 0#32 1#32 t) 16#32 = BitVec.ofNat 32 (16 * t.val) := by revert t; decide +kernel
  show lo i + Scalar.muli (Scf.iv 0#32 1#32 t) 16#32 + lane (L k) = _
  rw [lo_eq, ht, hlane, ← BitVec.ofNat_add, ← BitVec.ofNat_add, Nat.add_assoc]

omit [FloatOps F] in
theorem trips2 (t : Fin k1_t2_loop.trips) : t.val < 128 := lt_of_lt_of_eq t.isLt (by decide +kernel)

omit [FloatOps F] in
theorem exp_emb (t : Fin k1_t2_loop.trips) (k : Fin 16) : (Rect.unit (s := S2048) (k1_off3 t) S16.size (k1_off3_inb t)).emb (L k) = ix1 ⟨16 * t.val + k.val, by have := trips2 t; omega⟩ := by
  have ho := k1_off3_eq t
  funext a
  match a with
  | ⟨0, _⟩ => exact Fin.ext (by show k1_off3 t 0 + 1 * k.val = _; rw [ho]; show 16 * t.val + 1 * k.val = 16 * t.val + k.val; omega)

omit [FloatOps F] in
theorem exp_mem (t : Fin k1_t2_loop.trips) (q : Fin 2048) : (ix1 q : S2048.Idx) ∈ (Rect.unit (s := S2048) (k1_off3 t) S16.size (k1_off3_inb t)).set ↔ 16 * t.val ≤ q.val ∧ q.val < 16 * t.val + 16 := by
  have ho := k1_off3_eq t
  rw [Rect.mem_set_unit]
  constructor
  · intro hh
    have h0 := hh 0
    rw [ho] at h0
    exact h0
  · intro hh a
    match a with
    | ⟨0, _⟩ => show k1_off3 t 0 ≤ q.val ∧ q.val < k1_off3 t 0 + 16; rw [ho]; exact hh

theorem wp_find {B : IVec S64 32} (t : Fin k1_t2_loop.trips) {g : Vec F S2048 .i32} (hg : Searched (F := F) B (num i) (16 * t.val) g) {Q : BitVec 32 → sProp (MT nD τ sig (HIx 2) (Elt F) ℕ UU ℕ)} :
    iprop(((thr d i).loc cc1_scratch3 ↦{fullShare} (B : Buf (Elt F) ((thr d i).loc cc1_scratch3))) ∗ ((thr d i).loc cc1_scratch5 ↦{fullShare} g))
      ⊢ iprop((∀ g' v, ⌜Searched (F := F) B (num i) (16 * (t.val + 1)) g'⌝
            -∗ (((thr d i).loc cc1_scratch3 ↦{fullShare} (B : Buf (Elt F) ((thr d i).loc cc1_scratch3))) ∗ ((thr d i).loc cc1_scratch5 ↦{fullShare} g'))
            -∗ Q v)
          -∗ wp frame (wpE (defs₀ (F := F)) 𝒱₀ (thr d i) none) Set.univ (find i binV expV t) Q) := by
  iintro ⟨Hb, Hg⟩ Hk
  unfold find
  iapply (wp_probe d i (s := 32) (by decide) (E := fun _ => 0) (fun _ => rfl) (fun _ => by decide)) $$ Hb
  iintro %e1 %h1 Hb
  have b1 : ∀ k, seek (bnds B) (places i t (L k)) 32 0 ≤ 32 := fun k => seek_le (m := 0) (Nat.le_refl _)
  iapply (wp_probe d i (s := 16) (by decide) h1 (fun k => by have := b1 k; omega)) $$ Hb
  iintro %e2 %h2 Hb
  have b2 := fun k => seek_le (b := bnds B) (p := places i t (L k)) (s := 16) (b1 k)
  iapply (wp_probe d i (s := 8) (by decide) h2 (fun k => by have := b2 k; omega)) $$ Hb
  iintro %e3 %h3 Hb
  have b3 := fun k => seek_le (b := bnds B) (p := places i t (L k)) (s := 8) (b2 k)
  iapply (wp_probe d i (s := 4) (by decide) h3 (fun k => by have := b3 k; omega)) $$ Hb
  iintro %e4 %h4 Hb
  have b4 := fun k => seek_le (b := bnds B) (p := places i t (L k)) (s := 4) (b3 k)
  iapply (wp_probe d i (s := 2) (by decide) h4 (fun k => by have := b4 k; omega)) $$ Hb
  iintro %e5 %h5 Hb
  have b5 := fun k => seek_le (b := bnds B) (p := places i t (L k)) (s := 2) (b4 k)
  iapply (wp_probe d i (s := 1) (by decide) h5 (fun k => by have := b5 k; omega)) $$ Hb
  iintro %e6 %h6 Hb
  iapply (wp_load 𝒱₀ (thr d i) none Set.univ (m := expV) (S := Finset.univ) (Finset.subset_univ _)) $$ Hg
  iintro Hg
  iapply (wp_store 𝒱₀ (thr d i) none Set.univ (m := expV) (r := Rect.unit (s := S2048) (k1_off3 t) S16.size (k1_off3_inb t)) (Mk := Finset.univ) (S := Finset.univ) (f := g) (Finset.subset_univ _)) $$ Hg
  iintro Hg
  rw [wp_ret]
  imodintro
  iapply Hk $$ [] [Hb Hg]
  rotate_left
  · isplitl [Hb]; · iexact Hb
    iexact Hg
  · ipureintro
    intro q hq
    by_cases hin : 16 * t.val ≤ q.val
    · obtain ⟨k', hk'⟩ : ∃ k' : Fin 16, q.val = 16 * t.val + k'.val := ⟨⟨q.val - 16 * t.val, by omega⟩, by show _ = 16 * t.val + (q.val - 16 * t.val); omega⟩
      have e : (ix1 q : S2048.Idx) = (Rect.unit (s := S2048) (k1_off3 t) S16.size (k1_off3_inb t)).emb (L k') := by
        rw [exp_emb]; exact congrArg ix1 (Fin.ext hk')
      rw [e, hk']
      refine (write_hit cc1_scratch5 (Rect.unit (s := S2048) (k1_off3 t) S16.size (k1_off3_inb t)) g _ (L k')).trans ?_
      refine (h6 k').trans ?_
      rw [places_lane]; rfl
    · refine (write_miss cc1_scratch5 _ g _ (mt (exp_mem t q).1 (fun h => hin h.1))).trans (hg q (by omega))

/-! ## The blocks -/

abbrev posA : Memref sig .scVector .hbm S512x128 .i32 := Memref.whole main_v0_0_scv
abbrev bndA : Memref sig .scVector .hbm S64 .i32 := Memref.whole main_v0_1_scv
abbrev idxA : Memref sig .scVector .hbm S65536 .i32 := Memref.whole main_v1_0_scv
abbrev expA : Memref sig .scVector .hbm S65536 .i32 := Memref.whole main_v1_1_scv

omit [FloatOps F] in
/-- A copy of thirty-two rows from row `32 a` is block `a`. -/
theorem read_rows (A : IVec S512x128 32) {o : Fin 2 → ℕ} (ho : ∀ a, o a + S32x128.size a ≤ S512x128.size a) {a : ℕ} (h : o = ![32 * a, 0]) :
    ((posA.slice (Rect.unit (s := S512x128) o S32x128.size ho) (fun _ => rfl)).view.read (Elt F) A : IVec S32x128 32) = blk A a := by
  subst h
  have h0 := ho 0
  have h0' : 32 * a + 32 ≤ 512 := h0
  funext x
  have hx0 : (x 0).val < 32 := (x 0).isLt
  have hx1 : (x 1).val < 128 := (x 1).isLt
  unfold blk flat
  rw [dif_pos (by omega)]
  show A ((Rect.unit (s := S512x128) ![32 * a, 0] S32x128.size ho).emb x) = _
  congr 1
  funext b
  match b with
  | ⟨0, _⟩ => exact Fin.ext (by show 32 * a + 1 * (x 0).val = (4096 * a + (128 * (x 0).val + (x 1).val)) / 128; omega)
  | ⟨1, _⟩ => exact Fin.ext (by show 0 + 1 * (x 1).val = (4096 * a + (128 * (x 0).val + (x 1).val)) % 128; omega)

omit [FloatOps F] in
theorem blk_lanes (A : IVec S512x128 32) (a n : ℕ) (h : n < 256) (k : Fin 16) : blk A a ((lanes n h).emb (ix2 0 k)) = flat A (4096 * a + 16 * n + k.val) := by
  rw [lanes_emb]
  show flat A (4096 * a + (128 * (n / 8) + (16 * (n % 8) + k.val))) = _
  congr 1; omega

omit [FloatOps F] in
theorem trips1 (t : Fin k1_t1_loop.trips) : t.val < 8 := lt_of_lt_of_eq t.isLt (by decide +kernel)
omit [FloatOps F] in
theorem hi1_eq (t : Fin k1_t1_loop.trips) : hi1 t = BitVec.ofNat 32 (4096 * (2 * t.val)) := by revert t; decide +kernel
omit [FloatOps F] in
theorem hi2_eq (t : Fin k1_t1_loop.trips) : hi2 t = BitVec.ofNat 32 (4096 * (2 * t.val + 1)) := by revert t; decide +kernel
omit [FloatOps F] in
theorem cond1_iff : ∀ t : Fin k1_t1_loop.trips, k1_cond1 t = 1#1 ↔ t.val + 1 < 8 := by decide +kernel

/-- Block `a`'s array in the one buffer, with the share it is read from. -/
abbrev got0 (d : Dev nD) (i : grid1.Coords) (q : PosShare TreeShare) (A : IVec S512x128 32) (a : ℕ) : sProp (MT nD τ sig (HIx 2) (Elt F) ℕ UU ℕ) :=
  iprop((pb0V.view.loc (thr d i) ↦[Finset.univ]{fullShare} (blk A a : Buf (Elt F) (pb0V.view.loc (thr d i)))) ∗ (posA.view.loc (thr d i) ↦{q} (A : Buf (Elt F) (posA.view.loc (thr d i)))))

/-- Before trip `t`: block `2 t` on its way, where there is one. -/
def coming (d : Dev nD) (i : grid1.Coords) (q : PosShare TreeShare) (A : IVec S512x128 32) (t : ℕ) : sProp (MT nD τ sig (HIx 2) (Elt F) ℕ UU ℕ) :=
  if t < 8 then Flight (countersEmb : UEmb Counters 𝕄) (thr d i) (.dma cc1_scratch6.sem) (none : HIx 2) pb0V.view.dmaCredit (got0 (F := F) d i q A (2 * t))
  else iprop(semVal ((thr d i, .dma cc1_scratch6.sem) : GSem nD τ sig) 0 ∗ (∃ f, (thr d i).loc cc1_scratch0 ↦{fullShare} f) ∗ (posA.view.loc (thr d i) ↦{q} (A : Buf (Elt F) (posA.view.loc (thr d i)))))

/-- Before trip `t` of the positions. -/
def inv1 (d : Dev nD) (i : grid1.Coords) (q q' : PosShare TreeShare) (A : IVec S512x128 32) (tab : IVec S32x128 32) (O : CellTallies nD τ sig (HIx 2)) (W : Waits sig (HIx 2)) (t : ℕ) (_ : BitVec 32) :
    sProp (MT nD τ sig (HIx 2) (Elt F) ℕ UU ℕ) :=
  iprop(coming d i q A t ∗ (posA.view.loc (thr d i) ↦{q'} (A : Buf (Elt F) (posA.view.loc (thr d i))))
    ∗ (∃ f, (thr d i).loc cc1_scratch1 ↦{fullShare} f) ∗ semVal ((thr d i, .dma cc1_scratch7.sem) : GSem nD τ sig) 0
    ∗ ((thr d i).loc cc1_scratch2 ↦{fullShare} (tab : Buf (Elt F) ((thr d i).loc cc1_scratch2)))
    ∗ (∃ g, ⌜Placed (F := F) (flat A) (lo i) (4096 * (2 * t)) g⌝ ∗ ((thr d i).loc cc1_scratch4 ↦{fullShare} (g : Buf (Elt F) ((thr d i).loc cc1_scratch4))))
    ∗ ∃ W', ⌜∀ p ∈ W', p ∈ W ∨ p.2 = none⌝ ∗ owes (thr d i) O W')

theorem wp_mid {q : PosShare TreeShare} {A : IVec S512x128 32} (t : Fin k1_t1_loop.trips) {O : CellTallies nD τ sig (HIx 2)} {W : Waits sig (HIx 2)} {D : sProp (MT nD τ sig (HIx 2) (Elt F) ℕ UU ℕ)}
    {f : Buf (Elt F) (pb0V.view.loc (thr d i))} {k : PT (F := F) i β} :
    iprop(MayWaits (thr d i) (none : HIx 2) O ∗ Flight (countersEmb : UEmb Counters 𝕄) (thr d i) (.dma cc1_scratch7.sem) (none : HIx 2) pb1V.view.dmaCredit D ∗ owes (thr d i) O W
        ∗ (posA.view.loc (thr d i) ↦{q} (A : Buf (Elt F) (posA.view.loc (thr d i)))) ∗ (pb0V.view.loc (thr d i) ↦{fullShare} f) ∗ semVal ((thr d i, .dma cc1_scratch6.sem) : GSem nD τ sig) 0)
      ⊢ iprop(((D ∗ semVal ((thr d i, .dma cc1_scratch7.sem) : GSem nD τ sig) 0 ∗ owes (thr d i) O (insert (SemLoc.dma cc1_scratch7.sem, none) W) ∗ coming d i q A (t.val + 1))
            -∗ wp frame (wpE (defs₀ (F := F)) 𝒱₀ (thr d i) none) Set.univ k Q)
          -∗ wp frame (wpE (defs₀ (F := F)) 𝒱₀ (thr d i) none) Set.univ
            (mid i posA pb0V (Memref.isWhole_whole _) pb1V (Memref.isWhole_whole _) cc1_scratch6 cc1_scratch7 t k) Q) := by
  iintro ⟨Hm, HF, HO, Hp, Hb, Hs⟩ Hk
  unfold mid
  iapply (wp_await (thr d i)) $$ [Hm HF HO]
  · isplitl [Hm]; · iexact Hm
    isplitl [HF] <;> iassumption
  iintro ⟨HD, Hs7, HO⟩
  unfold coming
  by_cases hc : k1_cond1 t = 1#1
  · rw [dif_pos hc, if_pos ((cond1_iff t).1 hc)]
    iapply (wp_ask (thr d i) (src := src2 posA t hc) (dst := pb0V) (sem := cc1_scratch6.sem) (fs := A) (Sd := Finset.univ) (fd := f) (fd' := blk A (2 * (t.val + 1))) (View.dmaCredit_pos _ (by decide)) (Finset.subset_univ _)
      (fun x _ => (congrFun (View.write_whole_univ _ _ _) x).trans (congrFun (read_rows A _ ((k1_off2_eq t).trans (by congr 1; omega))) x))) $$ [Hp Hb Hs]
    · isplitl [Hp]; · iexact Hp
      isplitl [Hb] <;> iassumption
    iintro HF
    iapply Hk
    isplitl [HD]; · iexact HD
    isplitl [Hs7]; · iexact Hs7
    isplitl [HO] <;> iassumption
  · rw [dif_neg hc, if_neg (mt (cond1_iff t).2 hc)]
    iapply Hk
    isplitl [HD]; · iexact HD
    isplitl [Hs7]; · iexact Hs7
    isplitl [HO]; · iexact HO
    isplitl [Hs]; · iexact Hs
    isplitl [Hb]; · iexists _; iexact Hb
    iexact Hp

theorem wp_trip {q q' : PosShare TreeShare} {A : IVec S512x128 32} {tab : IVec S32x128 32} (ht : Filled (F := F) 4096 tab) (t : Fin k1_t1_loop.trips) (v v' : BitVec 32)
    {O : CellTallies nD τ sig (HIx 2)} {W : Waits sig (HIx 2)} :
    iprop(MayWaits (thr d i) (none : HIx 2) O ∗ inv1 (F := F) d i q q' A tab O W t.val v)
      ⊢ wp frame (wpE (defs₀ (F := F)) 𝒱₀ (thr d i) none) Set.univ
            (trip i posA pb0V (Memref.isWhole_whole _) pb1V (Memref.isWhole_whole _) tabV idxV cc1_scratch6 cc1_scratch7 t)
          fun v' => iprop(MayWaits (thr d i) (none : HIx 2) O ∗ inv1 (F := F) d i q q' A tab O W (t.val + 1) v') := by
  have ht8 := trips1 t
  unfold inv1
  iintro ⟨#Hm, Hc, Hp, ⟨%f1, Hb1⟩, Hs7, Htab, ⟨%g, %hg, Hg⟩, %W1, %hW1, HO⟩
  unfold trip head
  ihave Hc := (Entails.of_eq (show coming (F := F) d i q A t.val = Flight (countersEmb : UEmb Counters 𝕄) (thr d i) (.dma cc1_scratch6.sem) (none : HIx 2) pb0V.view.dmaCredit (got0 (F := F) d i q A (2 * t.val))
    from if_pos ht8)) $$ Hc
  iapply (wp_await (thr d i)) $$ [Hc HO]
  · isplitl []; · iexact Hm
    isplitl [Hc] <;> iassumption
  iintro ⟨⟨Hb0, Hq⟩, Hs6, HO⟩
  iapply (wp_ask (thr d i) (src := src1 posA t) (dst := pb1V) (sem := cc1_scratch7.sem) (fs := A) (Sd := Finset.univ) (fd := f1) (fd' := blk A (2 * t.val + 1)) (View.dmaCredit_pos _ (by decide)) (Finset.subset_univ _)
    (fun x _ => (congrFun (View.write_whole_univ _ _ _) x).trans (congrFun (read_rows A _ ((k1_off1_eq t).trans (by congr 1; omega))) x))) $$ [Hp Hb1 Hs7]
  · isplitl [Hp]; · iexact Hp
    isplitl [Hb1] <;> iassumption
  iintro HF
  iapply (wp_chunks (F := F) d i (b := pb0V) (P := flat A) (B := 4096 * (2 * t.val)) (fb := blk A (2 * t.val)) (by omega) (hi1_eq t) (fun n h k => blk_lanes A _ n h k) ht 256 (Nat.le_refl _) hg) $$ [Hb0 Htab Hg]
  · isplitl [Hb0]; · iexact Hb0
    isplitl [Htab] <;> iassumption
  iintro %g1 %hg1 ⟨Hb0, Htab, Hg⟩
  iapply (wp_mid d i t (q := q) (A := A)) $$ [HF HO Hq Hb0 Hs6]
  · isplitl []; · iexact Hm
    isplitl [HF]; · iexact HF
    isplitl [HO]; · iexact HO
    isplitl [Hq]; · iexact Hq
    isplitl [Hb0] <;> iassumption
  iintro ⟨⟨Hb1, Hp⟩, Hs7, HO, Hc⟩
  iapply (wp_chunks (F := F) d i (b := pb1V) (P := flat A) (B := 4096 * (2 * t.val + 1)) (fb := blk A (2 * t.val + 1)) (by omega) (hi2_eq t) (fun n h k => blk_lanes A _ n h k) ht 256 (Nat.le_refl _) hg1) $$ [Hb1 Htab Hg]
  · isplitl [Hb1]; · iexact Hb1
    isplitl [Htab] <;> iassumption
  iintro %g2 %hg2 ⟨Hb1, Htab, Hg⟩
  rw [wp_ret]
  imodintro
  isplitl []; · iexact Hm
  isplitl [Hc]; · iexact Hc
  isplitl [Hp]; · iexact Hp
  isplitl [Hb1]; · iexists _; iexact Hb1
  isplitl [Hs7]; · iexact Hs7
  isplitl [Htab]; · iexact Htab
  isplitl [Hg]
  · iexists g2
    isplitr
    · ipureintro; exact hg2
    · iexact Hg
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    exact hW1 p hp

/-! ## The task -/

theorem wp_Loop (𝓛 : Scf.Loop 32) {n : ℕ} (hn : 𝓛.trips = n) (ok : 𝓛.OK) (v : BitVec 32) (f : Fin 𝓛.trips → BitVec 32 → PT (F := F) i (BitVec 32)) (I : ℕ → BitVec 32 → sProp (MT nD τ sig (HIx 2) (Elt F) ℕ UU ℕ))
    (hf : ∀ (t : Fin 𝓛.trips) v, I t.val v ⊢ wp frame (wpE (defs₀ (F := F)) 𝒱₀ (thr d i) none) Set.univ (f t v) (I (t.val + 1))) {k : BitVec 32 → PT (F := F) i β} :
    I 0 v ⊢ iprop((∀ v, I n v -∗ wp frame (wpE (defs₀ (F := F)) 𝒱₀ (thr d i) none) Set.univ (k v) Q)
      -∗ wp frame (wpE (defs₀ (F := F)) 𝒱₀ (thr d i) none) Set.univ (.bind (Scf.Loop.for 𝓛 ok v f) k) Q) := by
  subst hn
  exact Scf.wp_for_bind _ _ _ _ _ _ _ _ _ I hf

theorem wp_trips {q q' : PosShare TreeShare} {A : IVec S512x128 32} {tab : IVec S32x128 32} (ht : Filled (F := F) 4096 tab) {O : CellTallies nD τ sig (HIx 2)} {W : Waits sig (HIx 2)}
    {k : BitVec 32 → PT (F := F) i β} :
    iprop(MayWaits (thr d i) (none : HIx 2) O ∗ inv1 (F := F) d i q q' A tab O W 0 0#32)
      ⊢ iprop((∀ v, inv1 (F := F) d i q q' A tab O W 8 v -∗ wp frame (wpE (defs₀ (F := F)) 𝒱₀ (thr d i) none) Set.univ (k v) Q)
          -∗ wp frame (wpE (defs₀ (F := F)) 𝒱₀ (thr d i) none) Set.univ
            (.bind (Scf.Loop.for k1_t1_loop k1_t1_ok (0#32) fun t _ => trip i posA pb0V (Memref.isWhole_whole _) pb1V (Memref.isWhole_whole _) tabV idxV cc1_scratch6 cc1_scratch7 t) k) Q) := by
  iintro ⟨#Hm, HI⟩ Hk
  have h := wp_Loop (F := F) (Q := Q) d i k1_t1_loop (n := 8) (by decide +kernel) k1_t1_ok 0#32 (fun t _ => trip i posA pb0V (Memref.isWhole_whole _) pb1V (Memref.isWhole_whole _) tabV idxV cc1_scratch6 cc1_scratch7 t) (fun t v => iprop(MayWaits (thr d i) (none : HIx 2) O ∗ inv1 (F := F) d i q q' A tab O W t v)) (fun t v => by
      have h := wp_trip (F := F) d i (q := q) (q' := q') (A := A) (tab := tab) ht t v v (O := O) (W := W)
      with_reducible exact h) (k := k)
  iapply h $$ [HI]
  · isplitl []; · iexact Hm
    iexact HI
  iintro %v ⟨-, HI⟩
  iapply Hk
  iexact HI

/-- Before trip `t` of the search. -/
def inv2 (d : Dev nD) (i : grid1.Coords) (B : IVec S64 32) (t : ℕ) (_ : BitVec 32) : sProp (MT nD τ sig (HIx 2) (Elt F) ℕ UU ℕ) :=
  iprop(((thr d i).loc cc1_scratch3 ↦{fullShare} (B : Buf (Elt F) ((thr d i).loc cc1_scratch3)))
    ∗ ∃ g, ⌜Searched (F := F) B (num i) (16 * t) g⌝ ∗ ((thr d i).loc cc1_scratch5 ↦{fullShare} (g : Buf (Elt F) ((thr d i).loc cc1_scratch5))))

theorem wp_finds {B : IVec S64 32} {g : Vec F S2048 .i32} {k : BitVec 32 → PT (F := F) i β} :
    iprop(((thr d i).loc cc1_scratch3 ↦{fullShare} (B : Buf (Elt F) ((thr d i).loc cc1_scratch3))) ∗ ((thr d i).loc cc1_scratch5 ↦{fullShare} g))
      ⊢ iprop((∀ g' v, ⌜Searched (F := F) B (num i) 2048 g'⌝
            -∗ (((thr d i).loc cc1_scratch3 ↦{fullShare} (B : Buf (Elt F) ((thr d i).loc cc1_scratch3))) ∗ ((thr d i).loc cc1_scratch5 ↦{fullShare} g'))
            -∗ wp frame (wpE (defs₀ (F := F)) 𝒱₀ (thr d i) none) Set.univ (k v) Q)
          -∗ wp frame (wpE (defs₀ (F := F)) 𝒱₀ (thr d i) none) Set.univ (.bind (Scf.Loop.for k1_t2_loop k1_t2_ok (0#32) fun t _ => find i binV expV t) k) Q) := by
  iintro ⟨Hb, Hg⟩ Hk
  iapply (Scf.wp_for_bind _ _ _ _ _ _ _ _ _ (inv2 (F := F) d i B) (fun t v => by
    unfold inv2
    iintro ⟨Hb, %g, %hg, Hg⟩
    iapply (wp_find d i t hg) $$ [Hb Hg]
    · isplitl [Hb] <;> iassumption
    iintro %g' %v' %hg' ⟨Hb, Hg⟩
    isplitl [Hb]; · iexact Hb
    iexists g'
    isplitr
    · ipureintro; exact hg'
    · iexact Hg)) $$ [Hb Hg]
  · unfold inv2
    isplitl [Hb]; · iexact Hb
    iexists g
    isplitr
    · ipureintro; exact fun q h => absurd h (by omega)
    · iexact Hg
  iintro %v HI
  unfold inv2
  icases HI with ⟨Hb, %g', %hg', Hg⟩
  iapply Hk $$ [] [Hb Hg]
  · ipureintro; exact hg'
  · isplitl [Hb] <;> iassumption

/-- Window `w` of a result. -/
def winOf (w : ℕ) : Finset S65536.Idx := Finset.univ.filter fun x => (x 0).val / 2048 = w

omit [FloatOps F] in
theorem win_rect_mem (x : S65536.Idx) : x ∈ (Rect.unit (s := S65536) (k1_off4 i) S2048.size (k1_off4_inb i)).set ↔ (x 0).val / 2048 = num i := by
  have ho := k1_off4_eq i
  rw [Rect.mem_set_unit]
  unfold num
  constructor
  · intro h
    have h0 := h 0
    rw [ho] at h0
    have h0' : 4096 * (i 1).val + 2048 * (i 0).val ≤ (x 0).val ∧ (x 0).val < 4096 * (i 1).val + 2048 * (i 0).val + 2048 := h0
    omega
  · intro h a
    match a with
    | ⟨0, _⟩ =>
      rw [ho]
      show 4096 * (i 1).val + 2048 * (i 0).val ≤ (x 0).val ∧ (x 0).val < 4096 * (i 1).val + 2048 * (i 0).val + 2048
      omega

omit [FloatOps F] in
theorem win_emb (q : Fin 2048) : (Rect.unit (s := S65536) (k1_off4 i) S2048.size (k1_off4_inb i)).emb (ix1 q) = ix1 ⟨2048 * num i + q.val, by have := num_lt i; omega⟩ := by
  have ho := k1_off4_eq i
  funext a
  match a with
  | ⟨0, _⟩ => exact Fin.ext (by
      show k1_off4 i 0 + 1 * q.val = 2048 * (2 * (i 1).val + (i 0).val) + q.val; rw [ho]
      show 4096 * (i 1).val + 2048 * (i 0).val + 1 * q.val = _; omega)

omit [FloatOps F] in
theorem idx_set : (win i idxA).view.set = winOf (num i) := by
  refine (View.set_slice_whole main_v1_0_scv _).trans ?_
  ext x
  refine (win_rect_mem i x).trans ?_
  unfold winOf; rw [Finset.mem_filter]
  exact ⟨fun h => ⟨Finset.mem_univ _, h⟩, And.right⟩

omit [FloatOps F] in
theorem exp_set : (win i expA).view.set = winOf (num i) := by
  refine (View.set_slice_whole main_v1_1_scv _).trans ?_
  ext x
  refine (win_rect_mem i x).trans ?_
  unfold winOf; rw [Finset.mem_filter]
  exact ⟨fun h => ⟨Finset.mem_univ _, h⟩, And.right⟩

omit [FloatOps F] in
theorem idx_write (f : IVec S65536 32) (g : IVec S2048 32) (q : Fin 2048) :
    ((win i idxA).view.write (Elt F) f (idxV.view.read (Elt F) g) Finset.univ : IVec S65536 32) (ix1 ⟨2048 * num i + q.val, by have := num_lt i; omega⟩) = g (ix1 q) := by
  rw [← win_emb]
  exact View.write_emb_of_mem (v := (win i idxA).view) (Val := Elt F) f _ (Finset.mem_univ (ix1 q))

omit [FloatOps F] in
theorem exp_write (f : IVec S65536 32) (g : IVec S2048 32) (q : Fin 2048) :
    ((win i expA).view.write (Elt F) f (expV.view.read (Elt F) g) Finset.univ : IVec S65536 32) (ix1 ⟨2048 * num i + q.val, by have := num_lt i; omega⟩) = g (ix1 q) := by
  rw [← win_emb]
  exact View.write_emb_of_mem (v := (win i expA).view) (Val := Elt F) f _ (Finset.mem_univ (ix1 q))

omit [FloatOps F] in
theorem exp_writes {B : IVec S64 32} {f : IVec S65536 32} {g : IVec S2048 32} (hg : Searched (F := F) B (num i) 2048 g) :
    ∀ x ∈ winOf (num i), (win i expA).view.write (Elt F) f (expV.view.read (Elt F) g) Finset.univ x = binOf B x := by
  intro x hx
  have hx' : (x 0).val / 2048 = num i := (Finset.mem_filter.1 hx).2
  have hn := num_lt i
  have e : x = ix1 ⟨2048 * num i + ((x 0).val - 2048 * num i), by have : (x 0).val < 65536 := (x 0).isLt; omega⟩ := by
    refine (eq_ix1 x).trans (congrArg ix1 (Fin.ext ?_)); show (x 0).val = 2048 * num i + ((x 0).val - 2048 * num i); omega
  rw [e]
  exact (exp_write i f g ⟨(x 0).val - 2048 * num i, by omega⟩).trans (hg _ (by show (x 0).val - 2048 * num i < 2048; omega))

omit [FloatOps F] in
theorem idx_named {P : ℕ → BitVec 32} {f : IVec S65536 32} {g : IVec S2048 32} (hg : Placed (F := F) P (lo i) 65536 g) :
    Named P (num i) ((win i idxA).view.write (Elt F) f (idxV.view.read (Elt F) g) Finset.univ) := by
  intro j hj hu x hx hw
  have hn := num_lt i
  have e : (ix1 x : S65536.Idx) = ix1 ⟨2048 * num i + (x.val - 2048 * num i), by have := x.isLt; omega⟩ := congrArg ix1 (Fin.ext (by show x.val = 2048 * num i + (x.val - 2048 * num i); omega))
  rw [e]
  refine (idx_write i f g ⟨x.val - 2048 * num i, by omega⟩).trans (hg j hj _ ?_ hu)
  show (P j - lo i).toNat = x.val - 2048 * num i
  have hle : lo i ≤ P j := by
    rw [BitVec.le_def, lo_eq, BitVec.toNat_ofNat, Nat.mod_eq_of_lt (by omega)]; omega
  rw [BitVec.toNat_sub_of_le hle, lo_eq, BitVec.toNat_ofNat, Nat.mod_eq_of_lt (by omega), hx]

/-- What a task is given, and gives back. -/
def given (d : Dev nD) (w : ℕ) (q : PosShare TreeShare) (A : IVec S512x128 32) (B : IVec S64 32) (f g : IVec S65536 32) : sProp (MT nD τ sig (HIx 2) (Elt F) ℕ UU ℕ) :=
  iprop(((SparseCore.T d).loc main_v0_0 ↦{q} (A : Buf (Elt F) ((SparseCore.T d).loc main_v0_0))) ∗ ((SparseCore.T d).loc main_v0_1 ↦{q} (B : Buf (Elt F) ((SparseCore.T d).loc main_v0_1)))
    ∗ ((SparseCore.T d).loc main_v1_0 ↦[winOf w]{fullShare} (f : Buf (Elt F) ((SparseCore.T d).loc main_v1_0)))
    ∗ ((SparseCore.T d).loc main_v1_1 ↦[winOf w]{fullShare} (g : Buf (Elt F) ((SparseCore.T d).loc main_v1_1))))
def taken (d : Dev nD) (w : ℕ) (q : PosShare TreeShare) (A : IVec S512x128 32) (B : IVec S64 32) : sProp (MT nD τ sig (HIx 2) (Elt F) ℕ UU ℕ) :=
  iprop(∃ f, ⌜Named (flat A) w f⌝ ∗ given d w q A B f (binOf B))

theorem wp_body {q : PosShare TreeShare} {A : IVec S512x128 32} {B : IVec S64 32} {f g : IVec S65536 32} {O : CellTallies nD τ sig (HIx 2)} {W : Waits sig (HIx 2)} (hO : ∀ g, O g none = 0) :
    iprop(levAts (K (F := F)).L (K (F := F)).lev ∗ emp ∗ given d (num i) q A B f g ∗ scopedBufs (thr d i) ∗ scopedSems0 (thr d i) ∗ owes (thr d i) O W)
      ⊢ wp frame (wpE (defs₀ (F := F)) 𝒱₀ (thr d i) none) Set.univ
          (cc1__permute_body i posA (Memref.isWhole_whole _) bndA (Memref.isWhole_whole _) idxA (Memref.isWhole_whole _) expA (Memref.isWhole_whole _)
            pb0V (Memref.isWhole_whole _) pb1V (Memref.isWhole_whole _) tabV (Memref.isWhole_whole _) binV (Memref.isWhole_whole _)
            idxV (Memref.isWhole_whole _) expV (Memref.isWhole_whole _) cc1_scratch6 cc1_scratch7 cc1_scoped0 cc1_scoped1 cc1_scoped2)
          fun _ => iprop(taken d (num i) q A B ∗ scopedBufs (thr d i) ∗ scopedSems0 (thr d i)
            ∗ ∃ W', ⌜∀ p ∈ W', p ∈ W ∨ p.2 = none⌝ ∗ owes (thr d i) O W') := by
  rw [cc1_eq, (K (F := F)).scopedBufs_V facts d (cV i) (jV i), SparseCore.Cfg.scopedSems0_V (Val := Elt F) d (cV i) (jV i),
    ownSems0_take d (cV i) (jV i) [cc1_scratch6.sem, cc1_scratch7.sem, cc1_scoped0.sem, cc1_scoped1.sem, cc1_scoped2.sem] (by decide) (by decide),
    ownBufs_take d (cV i) (jV i) [cc1_scratch0, cc1_scratch1, cc1_scratch2, cc1_scratch3, cc1_scratch4, cc1_scratch5] (by decide) (by
      intro x hx; simp only [List.mem_cons, List.not_mem_nil, or_false] at hx
      rcases hx with rfl | rfl | rfl | rfl | rfl | rfl <;> rfl)]
  simp only [List.map_cons, List.map_nil, List.foldr_cons, List.foldr_nil, List.foldl_cons, List.foldl_nil]
  iintro ⟨#Hlv, -, Hown, ⟨⟨%f0, B0⟩, ⟨%f1, B1⟩, ⟨%f2, B2⟩, ⟨%f3, B3⟩, ⟨%f4, B4⟩, ⟨%f5, B5⟩, Bs⟩, ⟨S6, S7, S0, S1, S2, Ss⟩, HO⟩
  ihave #Hmw := ((K (F := F)).mayWaits_none (thr := thr d i) hO) $$ Hlv
  unfold given
  icases Hown with ⟨H0, H1, H2, H3⟩
  unfold body start
  iapply (wp_copy (thr d i) (src := bndA) (dst := binV) (sem := cc1_scoped0.sem) (fs := B) (Sd := Finset.univ) (fd := f3) (fd' := B) (View.dmaCredit_pos _ (by decide)) (Finset.subset_univ _)
    (fun x _ => congrFun (View.write_whole_univ _ _ _) x)) $$ [H1 B3 S0 HO]
  · isplitl []; · iexact Hmw
    isplitl [H1]; · iexact H1
    isplitl [B3]; · iexact B3
    isplitl [S0] <;> iassumption
  iintro ⟨H1, B3, S0, HO⟩
  iapply (wp_fills d i 256 (Nat.le_refl _) (tab := f2) (fun r c h => absurd h (by omega))) $$ B2
  iintro %tab %htab B2
  ihave H0 := (pointsTo_share (PosShare.mem_left_op_right q)).1 $$ H0
  icases H0 with ⟨Hl, Hr⟩
  unfold ask
  iapply (wp_ask (thr d i) (src := src0 posA) (dst := pb0V) (sem := cc1_scratch6.sem) (fs := A) (Sd := Finset.univ) (fd := f0) (fd' := blk A (2 * 0)) (View.dmaCredit_pos _ (by decide)) (Finset.subset_univ _)
    (fun x _ => (congrFun (View.write_whole_univ _ _ _) x).trans (congrFun (read_rows A _ rfl) x))) $$ [Hl B0 S6]
  · isplitl [Hl]; · iexact Hl
    isplitl [B0] <;> iassumption
  iintro HF
  iapply (wp_trips d i htab (q := q.left) (q' := q.right) (A := A) (O := O) (W := insert (SemLoc.dma cc1_scoped0.sem, none) W)) $$ [HF Hr B1 S7 B2 B4 HO]
  · isplitl []; · iexact Hmw
    unfold inv1 coming
    rw [if_pos (by decide)]
    isplitl [HF]; · iexact HF
    isplitl [Hr]; · iexact Hr
    isplitl [B1]; · iexists _; iexact B1
    isplitl [S7]; · iexact S7
    isplitl [B2]; · iexact B2
    isplitl [B4]
    · iexists f4
      isplitr
      · ipureintro; exact fun j h => absurd h (by omega)
      · iexact B4
    iexists _; isplitr
    rotate_left
    · iexact HO
    · ipureintro; exact fun p hp => .inl hp
  iintro %v1 HI
  unfold inv1 coming
  rw [if_neg (by decide)]
  icases HI with ⟨⟨S6, B0, Hl⟩, Hr, B1, S7, B2, ⟨%g1, %hg1, B4⟩, %W1, %hW1, HO⟩
  iapply (wp_finds d i (B := B) (g := f5)) $$ [B3 B5]
  · isplitl [B3] <;> iassumption
  iintro %g2 %v2 %hg2 ⟨B3, B5⟩
  unfold finish
  iapply (wp_copy (thr d i) (src := idxV) (dst := win i idxA) (sem := cc1_scoped1.sem) (fs := g1) (Sd := winOf (num i)) (fd := f) (View.dmaCredit_pos _ (by decide)) (idx_set i).le
    (fun x _ => rfl)) $$ [H2 B4 S1 HO]
  · isplitl []; · iexact Hmw
    isplitl [B4]; · iexact B4
    isplitl [H2]; · iexact H2
    isplitl [S1] <;> iassumption
  iintro ⟨B4, H2, S1, HO⟩
  iapply (wp_copy (thr d i) (src := expV) (dst := win i expA) (sem := cc1_scoped2.sem) (fs := g2) (Sd := winOf (num i)) (fd := g) (fd' := binOf B) (View.dmaCredit_pos _ (by decide)) (exp_set i).le
    (exp_writes i hg2)) $$ [H3 B5 S2 HO]
  · isplitl []; · iexact Hmw
    isplitl [B5]; · iexact B5
    isplitl [H3]; · iexact H3
    isplitl [S2] <;> iassumption
  iintro ⟨B5, H3, S2, HO⟩
  rw [wp_ret]
  imodintro
  isplitl [Hl Hr H1 H2 H3]
  · unfold taken given
    iexists _
    isplitr
    rotate_left
    · isplitl [Hl Hr]
      · iapply (pointsTo_share (PosShare.mem_left_op_right q)).2
        isplitl [Hl] <;> iassumption
      isplitl [H1]; · iexact H1
      isplitl [H2]; · iexact H2
      iexact H3
    · ipureintro; exact idx_named i hg1
  isplitl [B0 B1 B2 B3 B4 B5 Bs]
  · isplitl [B0]; · iexact B0
    isplitl [B1]; · iexact B1
    isplitl [B2]; · iexists _; iexact B2
    isplitl [B3]; · iexists _; iexact B3
    isplitl [B4]; · iexists _; iexact B4
    isplitl [B5]; · iexists _; iexact B5
    iexact Bs
  isplitl [S0 S1 S2 S6 S7 Ss]
  · isplitl [S6]; · iexact S6
    isplitl [S7]; · iexact S7
    isplitl [S0]; · iexact S0
    isplitl [S1]; · iexact S1
    isplitl [S2] <;> iassumption
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases hW1 p hp with hp | hp
    · rcases Finset.mem_insert.mp hp with hp | hp
      · exact .inr (hp ▸ rfl)
      exact .inl hp
    · exact .inr hp

end
end Perm
end Cert.Proof
end
-- ==== Proof.Launch.lean ====
/-
  The launch: what each call's tasks are given and give back, the arrays dealt to the thirty-two tasks and put together
  again, and the run of the whole program.
-/
module

public import proofs.«01_k».proof.Proof.PermTile

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 2) (Elt F) ℕ UU ℕ

/-! ## Thirty-two parts of an array -/

/-- Task `w`'s share of what all tasks read. -/
def tok (w : ℕ) : PosShare TreeShare := dealOf fullShare (Finset.univ : Finset (Fin 32)) (Fin.ofNat 32 w)

theorem ofNat_val (w : Fin 32) : Fin.ofNat 32 w.val = w := Fin.ext (Nat.mod_eq_of_lt w.isLt)

theorem pts_toks (ℓ : Loc nD τ sig) (f : Buf (Elt F) ℓ) : (ℓ ↦{fullShare} f : sProp 𝕄) = bigSep Finset.univ fun w : Fin 32 => (ℓ ↦{tok w.val} f : sProp 𝕄) := by
  rw [pointsTo_deal (Finset.univ : Finset (Fin 32)) ⟨0, Finset.mem_univ _⟩ fullShare]
  exact bigSep_congr fun w _ => by unfold tok; rw [ofNat_val]

theorem rows_disjoint : ∀ w ∈ (Finset.univ : Finset (Fin 32)), ∀ w' ∈ (Finset.univ : Finset (Fin 32)), w ≠ w' → Disjoint (Rank.rowsOf w.val) (Rank.rowsOf w'.val) := by
  intro w _ w' _ h
  rw [Finset.disjoint_left]
  intro x hx hx'
  exact h (Fin.ext ((Finset.mem_filter.1 hx).2.symm.trans (Finset.mem_filter.1 hx').2))

theorem rows_univ : (Finset.univ : Finset (Fin 32)).biUnion (fun w => Rank.rowsOf w.val) = Finset.univ := by
  ext x
  have : (x 0).val < 512 := (x 0).isLt
  simp only [Finset.mem_univ, Finset.mem_biUnion, true_and, iff_true]
  exact ⟨⟨(x 0).val / 16, by omega⟩, Finset.mem_filter.2 ⟨Finset.mem_univ _, rfl⟩⟩

theorem wins_disjoint : ∀ w ∈ (Finset.univ : Finset (Fin 32)), ∀ w' ∈ (Finset.univ : Finset (Fin 32)), w ≠ w' → Disjoint (Perm.winOf w.val) (Perm.winOf w'.val) := by
  intro w _ w' _ h
  rw [Finset.disjoint_left]
  intro x hx hx'
  exact h (Fin.ext ((Finset.mem_filter.1 hx).2.symm.trans (Finset.mem_filter.1 hx').2))

theorem wins_univ : (Finset.univ : Finset (Fin 32)).biUnion (fun w => Perm.winOf w.val) = Finset.univ := by
  ext x
  have : (x 0).val < 65536 := (x 0).isLt
  simp only [Finset.mem_univ, Finset.mem_biUnion, true_and, iff_true]
  exact ⟨⟨(x 0).val / 2048, by omega⟩, Finset.mem_filter.2 ⟨Finset.mem_univ _, rfl⟩⟩

/-- Over the tasks by their cores and subcores, and by their numbers. -/
theorem tasks_eq (Φ : ℕ → sProp (MT nD τ sig (HIx 2) (Elt F) ℕ UU ℕ)) :
    (bigSep Finset.univ fun c : Fin 2 => bigSep Finset.univ fun j : Fin 16 => Φ (2 * j.val + c.val)) = bigSep Finset.univ fun w : Fin 32 => Φ w.val := by
  rw [bigSep_univ_comm, ← BI.bigSep_univ_prod (fun x : Fin 16 × Fin 2 => Φ (2 * x.1.val + x.2.val)),
    BI.bigSep_univ_equiv (finProdFinEquiv : Fin 16 × Fin 2 ≃ Fin 32) (fun w : Fin 32 => Φ w.val)]
  refine bigSep_congr fun x _ => congrArg Φ ?_
  show 2 * x.1.val + x.2.val = x.2.val + 2 * x.1.val
  omega

theorem bnds_eq (d : Dev nD) (g : IVec S64 32) :
    (bigSep Finset.univ fun w : Fin 32 => (Rank.bndPts d w.val g : sProp 𝕄)) = ((SparseCore.T d).loc main_v0_1 ↦{fullShare} (g : Buf (Elt F) ((SparseCore.T d).loc main_v0_1))) := by
  have h : (bigSep (Finset.univ.erase (0 : Fin 32)) fun w => (Rank.bndPts d w.val g : sProp 𝕄)) = iprop(emp) :=
    (bigSep_congr (Ψ := fun _ => iprop(emp)) fun w hw => by
      unfold Rank.bndPts; exact if_neg fun h => (Finset.mem_erase.1 hw).1 (Fin.ext h)).trans (bigSep_emp_const _)
  rw [bigSep_univ_at _ (0 : Fin 32), h]
  unfold Rank.bndPts
  rw [if_pos (show (0 : Fin 32).val = 0 from rfl)]
  exact equiv_iff.mp sep_emp

/-! ## The calls' payloads -/

section
variable (m : (ℓ : Loc nD τ sig) → Buf (Elt F) ℓ)

abbrev te (d : Dev nD) : IVec S512x128 32 := m ((SparseCore.T d).loc main_arg0)
abbrev totals (d : Dev nD) : IVec S1x64 32 := m ((SparseCore.T d).loc main_arg1)
abbrev before (d : Dev nD) : IVec S32x1x64 32 := m ((SparseCore.T d).loc main_arg2)
/-- The places and the bounds the first call leaves. -/
abbrev poss (d : Dev nD) : IVec S512x128 32 := posOf (te m d) (totals m d) (before m d)
abbrev bounds (d : Dev nD) : IVec S64 32 := bndOf (totals m d)

/-- What task `w` of a call is given, and gives back. -/
def gs (q : Fin 2) (d : Dev nD) (w : ℕ) : sProp (MT nD τ sig (HIx 2) (Elt F) ℕ UU ℕ) := match q with
  | 0 => Rank.own d w (tok w) (te m d) (totals m d) (before m d) (m ((SparseCore.T d).loc main_v0_0)) (m ((SparseCore.T d).loc main_v0_1))
  | 1 => Perm.given d w (tok w) (poss m d) (bounds m d) (m ((SparseCore.T d).loc main_v1_0)) (m ((SparseCore.T d).loc main_v1_1))
def ts (q : Fin 2) (d : Dev nD) (w : ℕ) : sProp (MT nD τ sig (HIx 2) (Elt F) ℕ UU ℕ) := match q with
  | 0 => Rank.own d w (tok w) (te m d) (totals m d) (before m d) (poss m d) (bounds m d)
  | 1 => Perm.taken d w (tok w) (poss m d) (bounds m d)

def P : (K (F := F)).Pay (nD := nD) (Val := Elt F) (Name := ℕ) (U := UU) where
  st := fun q d c => bigSep Finset.univ fun j : Fin ((K (F := F)).nSub q) => gs m q d (2 * j.val + c.val)
  dn := fun q d c => bigSep Finset.univ fun j : Fin ((K (F := F)).nSub q) => ts m q d (2 * j.val + c.val)
  go := fun q d c j => gs m q d (2 * j.val + c.val)
  td := fun q d c j => ts m q d (2 * j.val + c.val)
  x := fun _ _ => iprop(emp)

instance bndPts_storable (d : Dev nD) (w : ℕ) (g : IVec S64 32) : BI.Storable (upEmb : UEmb _ 𝕄) (Rank.bndPts d w g) := by
  unfold Rank.bndPts; split <;> infer_instance
instance gs_storable (q : Fin 2) (d : Dev nD) (w : ℕ) : BI.Storable (upEmb : UEmb _ 𝕄) (gs m q d w) := by
  match q with
  | 0 => unfold gs; dsimp only; unfold Rank.own; infer_instance
  | 1 => unfold gs; dsimp only; unfold Perm.given; infer_instance
instance ts_storable (q : Fin 2) (d : Dev nD) (w : ℕ) : BI.Storable (upEmb : UEmb _ 𝕄) (ts m q d w) := by
  match q with
  | 0 => unfold ts; dsimp only; unfold Rank.own; infer_instance
  | 1 => unfold ts; dsimp only; unfold Perm.taken Perm.given; infer_instance

instance P_storable : (P (F := F) m).IsStorable where
  st q d c := by unfold P; dsimp only; infer_instance
  dn q d c := by unfold P; dsimp only; infer_instance
  go q d c j := by unfold P; dsimp only; infer_instance
  td q d c j := by unfold P; dsimp only; infer_instance

/-! ## The tasks -/

def coords0 (c : Fin (grid0.bound 0)) (s : Fin (grid0.bound 1)) : grid0.Coords := fun | 0 => c | 1 => s | ⟨_ + 2, h⟩ => absurd h (Nat.not_lt.2 (Nat.le_add_left _ _))
def coords1 (c : Fin (grid1.bound 0)) (s : Fin (grid1.bound 1)) : grid1.Coords := fun | 0 => c | 1 => s | ⟨_ + 2, h⟩ => absurd h (Nat.not_lt.2 (Nat.le_add_left _ _))

variable [FloatOps F]

abbrev D : Defs nD τ sig (Elt F) (ΛP (F := F)) := Pipeline.defs pcfgs defs₀

omit [FloatOps F] in
theorem obl_post {thr : Thread nD τ} {A B C : sProp (MT nD τ sig (HIx 2) (Elt F) ℕ UU ℕ)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_rank (c : Fin τ.nSC) (s : Fin τ.nSub) : defs₀ (F := F) (.scVector c s) (0 : Fin 2) ()
    = SparseCore.onTile hcore0 hsub0 (fun c s => cc0__rank_body (coords0 c s) Rank.teA (Memref.isWhole_whole _) Rank.totA (Memref.isWhole_whole _) Rank.befA (Memref.isWhole_whole _)
        Rank.posA (Memref.isWhole_whole _) Rank.bndA (Memref.isWhole_whole _) Rank.teV (Memref.isWhole_whole _) Rank.posV (Memref.isWhole_whole _) Rank.cntV (Memref.isWhole_whole _)
        Rank.totV (Memref.isWhole_whole _) Rank.bndV (Memref.isWhole_whole _) cc0_scoped0 cc0_scoped1 cc0_scoped2 cc0_scoped3 cc0_scoped4) ⟨⟩ c s := rfl

theorem defs₀_perm (c : Fin τ.nSC) (s : Fin τ.nSub) : defs₀ (F := F) (.scVector c s) (1 : Fin 2) ()
    = SparseCore.onTile hcore1 hsub1 (fun c s => cc1__permute_body (coords1 c s) Perm.posA (Memref.isWhole_whole _) Perm.bndA (Memref.isWhole_whole _) Perm.idxA (Memref.isWhole_whole _) Perm.expA (Memref.isWhole_whole _)
        Perm.pb0V (Memref.isWhole_whole _) Perm.pb1V (Memref.isWhole_whole _) Perm.tabV (Memref.isWhole_whole _) Perm.binV (Memref.isWhole_whole _)
        Perm.idxV (Memref.isWhole_whole _) Perm.expV (Memref.isWhole_whole _) cc1_scratch6 cc1_scratch7 cc1_scoped0 cc1_scoped1 cc1_scoped2) ⟨⟩ c s := rfl

/-- The experts named are experts. -/
def Named64 : Prop := ∀ d x, (te m d x).toNat < 64

theorem tileObl0 (hte : Named64 m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_rank]; simp only [SparseCore.onTile, hc, and_self, ↓reduceDIte]
  exact (Rank.wp_body d (coords0 ⟨_, hc.1⟩ ⟨_, hc.2⟩) (hte d) hO).trans (wp_mono frame _ _ fun _ => obl_post)

theorem tileObl1 : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_perm]; simp only [SparseCore.onTile, hc, and_self, ↓reduceDIte]
  have h := Perm.wp_body (F := F) d (coords1 ⟨_, hc.1⟩ ⟨_, hc.2⟩) (q := tok (2 * i.val + c.val)) (A := poss m d) (B := bounds m d)
    (f := m ((SparseCore.T d).loc main_v1_0)) (g := m ((SparseCore.T d).loc main_v1_1)) (O := O) (W := W) hO
  generalize cc1__permute_body (F := F) (coords1 ⟨_, hc.1⟩ ⟨_, hc.2⟩) Perm.posA (Memref.isWhole_whole _) Perm.bndA (Memref.isWhole_whole _) Perm.idxA (Memref.isWhole_whole _) Perm.expA (Memref.isWhole_whole _)
    Perm.pb0V (Memref.isWhole_whole _) Perm.pb1V (Memref.isWhole_whole _) Perm.tabV (Memref.isWhole_whole _) Perm.binV (Memref.isWhole_whole _)
    Perm.idxV (Memref.isWhole_whole _) Perm.expV (Memref.isWhole_whole _) cc1_scratch6 cc1_scratch7 cc1_scoped0 cc1_scoped1 cc1_scoped2 = p at h ⊢
  exact h.trans (wp_mono frame _ _ fun _ => obl_post)

omit [FloatOps F] in
theorem vecSplit (q : Fin 2) : (K (F := F)).VecSplit' (P m) q := by
  intro d c
  show (bigSep Finset.univ fun j : Fin ((K (F := F)).nSub q) => gs m q d (2 * j.val + c.val)) ⊢ |={Set.univ}=> iprop((bigSep Finset.univ fun j : Fin ((K (F := F)).nSub q) => gs m q d (2 * j.val + c.val))
    ∗ ((bigSep Finset.univ fun j : Fin ((K (F := F)).nSub q) => ts m q d (2 * j.val + c.val)) -∗ bigSep Finset.univ fun j : Fin ((K (F := F)).nSub q) => ts m q d (2 * j.val + c.val)))
  iintro H; imodintro
  isplitl [H]; · iexact H
  iintro H; iexact H

/-! ## The arrays dealt, and put together -/

omit [FloatOps F] in
theorem rows_eq (d : Dev nD) (f : IVec S512x128 32) :
    (bigSep Finset.univ fun w : Fin 32 => ((SparseCore.T d).loc main_v0_0 ↦[Rank.rowsOf w.val]{fullShare} (f : Buf (Elt F) ((SparseCore.T d).loc main_v0_0)) : sProp 𝕄))
      = ((SparseCore.T d).loc main_v0_0 ↦{fullShare} (f : Buf (Elt F) ((SparseCore.T d).loc main_v0_0))) := by
  conv_rhs => rw [← rows_univ]
  exact (pointsTo_biUnion _ _ rows_disjoint).symm

omit [FloatOps F] in
/-- The first call's arrays are its tasks'. -/
theorem own_eq (d : Dev nD) (A0 : IVec S512x128 32) (A1 : IVec S1x64 32) (A2 : IVec S32x1x64 32) (f : IVec S512x128 32) (g : IVec S64 32) :
    (bigSep Finset.univ fun w : Fin 32 => (Rank.own d w.val (tok w.val) A0 A1 A2 f g : sProp 𝕄))
      = iprop(((SparseCore.T d).loc main_arg0 ↦{fullShare} (A0 : Buf (Elt F) ((SparseCore.T d).loc main_arg0))) ∗ ((SparseCore.T d).loc main_arg1 ↦{fullShare} (A1 : Buf (Elt F) ((SparseCore.T d).loc main_arg1)))
        ∗ ((SparseCore.T d).loc main_arg2 ↦{fullShare} (A2 : Buf (Elt F) ((SparseCore.T d).loc main_arg2)))
        ∗ ((SparseCore.T d).loc main_v0_0 ↦{fullShare} (f : Buf (Elt F) ((SparseCore.T d).loc main_v0_0)))
        ∗ ((SparseCore.T d).loc main_v0_1 ↦{fullShare} (g : Buf (Elt F) ((SparseCore.T d).loc main_v0_1)))) := by
  unfold Rank.own
  rw [bigSep_sep', bigSep_sep', bigSep_sep', bigSep_sep', ← pts_toks, ← pts_toks, ← pts_toks, bnds_eq]
  rw [← rows_eq]

omit [FloatOps F] in
theorem given_eq (d : Dev nD) (A : IVec S512x128 32) (B : IVec S64 32) (f : Fin 32 → IVec S65536 32) (g : IVec S65536 32) :
    (bigSep Finset.univ fun w : Fin 32 => (Perm.given d w.val (tok w.val) A B (f w) g : sProp 𝕄))
      = iprop(((SparseCore.T d).loc main_v0_0 ↦{fullShare} (A : Buf (Elt F) ((SparseCore.T d).loc main_v0_0))) ∗ ((SparseCore.T d).loc main_v0_1 ↦{fullShare} (B : Buf (Elt F) ((SparseCore.T d).loc main_v0_1)))
        ∗ (bigSep Finset.univ fun w : Fin 32 => ((SparseCore.T d).loc main_v1_0 ↦[Perm.winOf w.val]{fullShare} (f w : Buf (Elt F) ((SparseCore.T d).loc main_v1_0)) : sProp 𝕄))
        ∗ ((SparseCore.T d).loc main_v1_1 ↦{fullShare} (g : Buf (Elt F) ((SparseCore.T d).loc main_v1_1)))) := by
  unfold Perm.given
  rw [bigSep_sep', bigSep_sep', bigSep_sep', ← pts_toks, ← pts_toks]
  congr 3
  rw [← wins_univ]
  exact (pointsTo_biUnion _ _ wins_disjoint).symm

omit [FloatOps F] in
theorem wins_eq (d : Dev nD) (f : IVec S65536 32) :
    (bigSep Finset.univ fun w : Fin 32 => ((SparseCore.T d).loc main_v1_0 ↦[Perm.winOf w.val]{fullShare} (f : Buf (Elt F) ((SparseCore.T d).loc main_v1_0)) : sProp 𝕄))
      = ((SparseCore.T d).loc main_v1_0 ↦{fullShare} (f : Buf (Elt F) ((SparseCore.T d).loc main_v1_0))) := by
  conv_rhs => rw [← wins_univ]
  exact (pointsTo_biUnion _ _ wins_disjoint).symm

/-- What a program's run leaves of the second call's result: the number of each position that is alone at its place. -/
def NamedAll (P : ℕ → BitVec 32) (f : IVec S65536 32) : Prop :=
  ∀ i < 65536, (∀ i' < 65536, P i' = P i → i' = i) → ∀ x : Fin 65536, x.val = (P i).toNat → f (ix1 x) = BitVec.ofNat 32 i

omit [FloatOps F] in
theorem taken_join (d : Dev nD) (A : IVec S512x128 32) (B : IVec S64 32) :
    (bigSep Finset.univ fun w : Fin 32 => (Perm.taken d w.val (tok w.val) A B : sProp 𝕄))
      ⊢ iprop(((SparseCore.T d).loc main_v0_1 ↦{fullShare} (B : Buf (Elt F) ((SparseCore.T d).loc main_v0_1)))
        ∗ (∃ f, ⌜NamedAll (flat A) f⌝ ∗ ((SparseCore.T d).loc main_v1_0 ↦{fullShare} (f : Buf (Elt F) ((SparseCore.T d).loc main_v1_0))))
        ∗ ((SparseCore.T d).loc main_v1_1 ↦{fullShare} (binOf B : Buf (Elt F) ((SparseCore.T d).loc main_v1_1)))) := by
  unfold Perm.taken
  refine (bigSep_exists_pi (Y := fun _ => IVec S65536 32) Finset.univ _).trans ?_
  iintro ⟨%f, H⟩
  ihave H := (bigSep_pure_sep Finset.univ _ _) $$ H
  icases H with ⟨%hf, H⟩
  ihave H := (Entails.of_eq (given_eq d A B f (binOf B))) $$ H
  icases H with ⟨-, HB, HF, HG⟩
  ihave HF := (pointsTo_biUnion_join (ℓ := (SparseCore.T d).loc main_v1_0) (q := fullShare) (Val := Elt F) Finset.univ (fun w : Fin 32 => (Perm.winOf w.val : Finset (Idx ((SparseCore.T d).loc main_v1_0)))) f (f 0) wins_disjoint) $$ HF
  icases HF with ⟨%g, %hg, HF⟩
  isplitl [HB]; · iexact HB
  isplitl [HF]
  · iexists g
    isplitr
    · ipureintro
      intro i hi hu x hx
      have hw : x.val / 2048 < 32 := by have := x.isLt; omega
      exact (hg ⟨x.val / 2048, hw⟩ (Finset.mem_univ _) (ix1 x) (Finset.mem_filter.2 ⟨Finset.mem_univ _, rfl⟩)).trans (hf ⟨x.val / 2048, hw⟩ (Finset.mem_univ _) i hi hu x hx rfl)
    · iapply (Entails.of_eq (show _ = _ from by rw [wins_univ])) $$ HF
  iexact HG

/-! ## The program -/

omit [FloatOps F] in
theorem bigSep_emp' {I : Type} (s : Finset I) : (bigSep s fun _ => iprop(emp)) = (iprop(emp) : sProp 𝕄) := bigSep_emp_const s

def u₀ : UU := (initOf (K (F := F)).hsCells (K (F := F)).hsToks, 1)

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2)
      ∗ ((SparseCore.T d).loc main_v0_0 ↦{fullShare} W main_v0_0) ∗ ((SparseCore.T d).loc main_v0_1 ↦{fullShare} W main_v0_1)
      ∗ ((SparseCore.T d).loc main_v1_0 ↦{fullShare} W main_v1_0) ∗ ((SparseCore.T d).loc main_v1_1 ↦{fullShare} W main_v1_1)) := by
  unfold unscopedBufs
  rw [show (Finset.univ.filter fun b : Ref sig .tc => ¬ b.isScoped) = {main_arg0, main_arg1, main_arg2, main_v0_0, main_v0_1, main_v1_0, main_v1_1} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem st_eq (q : Fin 2) (d : Dev nD) : (bigSep Finset.univ fun c : Fin ((K (F := F)).nCore q) => (P m).st q d c) = bigSep Finset.univ fun w : Fin 32 => gs m q d w.val := by
  rw [← tasks_eq (gs m q d)]
  match q with
  | 0 => rfl
  | 1 => rfl
omit [FloatOps F] in
theorem dn_eq (q : Fin 2) (d : Dev nD) : (bigSep Finset.univ fun c : Fin ((K (F := F)).nCore q) => (P m).dn q d c) = bigSep Finset.univ fun w : Fin 32 => ts m q d w.val := by
  rw [← tasks_eq (ts m q d)]
  match q with
  | 0 => rfl
  | 1 => rfl

/-- What the program leaves. -/
def FIN (d : Dev nD) : sProp (MT nD τ sig (HIx 2) (Elt F) ℕ UU ℕ) :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_v0_1 ↦{fullShare} (bounds m d : Buf (Elt F) ((SparseCore.T d).loc main_v0_1)))
    ∗ (∃ f, ⌜NamedAll (flat (poss m d)) f⌝ ∗ ((SparseCore.T d).loc main_v1_0 ↦{fullShare} (f : Buf (Elt F) ((SparseCore.T d).loc main_v1_0))))
    ∗ ((SparseCore.T d).loc main_v1_1 ↦{fullShare} (binOf (bounds m d) : Buf (Elt F) ((SparseCore.T d).loc main_v1_1))))

variable (ρ : Dev nD → PrngReg)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, H4, H5, H6⟩, Hts, -⟩, -⟩
  iapply ((K (F := F)).wp_run (D (F := F)) 𝒱 (EH := EH) (P := P m) κ d 0) $$ [Hst H0 H1 H2 H3 H4 H5 H6 Hb Hts]
  isplitr; · iexact Hctx
  isplitl [Hst]; · iexact Hst
  isplitl [H0 H1 H2 H3 H4]
  · rw [st_eq]
    iapply (Entails.of_eq (own_eq d _ _ _ _ _).symm)
    isplitl [H0]; · iexact H0
    isplitl [H1]; · iexact H1
    isplitl [H2]; · iexact H2
    isplitl [H3] <;> iassumption
  iintro ⟨Hst, Hdn⟩
  ihave Hdn := (Entails.of_eq ((dn_eq m 0 d).trans (own_eq d _ _ _ _ _))) $$ Hdn
  icases Hdn with ⟨H0, H1, H2, H3, H4⟩
  iapply ((K (F := F)).wp_run (D (F := F)) 𝒱 (EH := EH) (P := P m) κ d 1) $$ [Hst H0 H1 H2 H3 H4 H5 H6 Hb Hts]
  isplitr; · iexact Hctx
  isplitl [Hst]; · iexact Hst
  isplitl [H3 H4 H5 H6]
  · rw [st_eq]
    iapply (Entails.of_eq (given_eq d _ _ (fun _ => m ((SparseCore.T d).loc main_v1_0)) _).symm)
    isplitl [H3]; · iexact H3
    isplitl [H4]; · iexact H4
    isplitl [H5]
    · iapply (Entails.of_eq (wins_eq d _).symm) $$ H5
    · iexact H6
  iintro ⟨Hst, Hdn⟩
  ihave Hdn := ((Entails.of_eq (dn_eq m 1 d)).trans (taken_join d _ _)) $$ Hdn
  icases Hdn with ⟨H4, H5, H6⟩
  imodintro
  isplitl [Hst]; · iexact Hst
  isplitr [Hb Hts]
  · unfold FIN
    isplitl [H0]; · iexact H0
    isplitl [H1]; · iexact H1
    isplitl [H2]; · iexact H2
    isplitl [H4]; · iexact H4
    isplitl [H5] <;> iassumption
  isplitl [Hb] <;> iassumption

/-- A final memory: the arguments as they were, the results as computed. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_v0_1) = bounds m d
    ∧ NamedAll (flat (poss m d)) (s'.mem.mem ((SparseCore.T d).loc main_v1_0)) ∧ s'.mem.mem ((SparseCore.T d).loc main_v1_1) = binOf (bounds m d)

omit [FloatOps F] in
theorem agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  · iexact HSI

omit [FloatOps F] in
theorem hfin (d : Dev nD) (s' : Phys nD τ sig (Elt F)) : iprop(FIN m d ∗ SI s') ⊢ (⌜fq m d s'⌝ : sProp 𝕄) := by
  unfold FIN
  iintro ⟨⟨H0, H1, H2, H4, ⟨%f, %hf, H5⟩, H6⟩, HSI⟩
  ihave H := (agree _ s') $$ [H0 HSI]
  · isplitl [H0] <;> iassumption
  icases H with ⟨%h0, HSI⟩
  ihave H := (agree _ s') $$ [H1 HSI]
  · isplitl [H1] <;> iassumption
  icases H with ⟨%h1, HSI⟩
  ihave H := (agree _ s') $$ [H2 HSI]
  · isplitl [H2] <;> iassumption
  icases H with ⟨%h2, HSI⟩
  ihave H := (agree _ s') $$ [H4 HSI]
  · isplitl [H4] <;> iassumption
  icases H with ⟨%h4, HSI⟩
  ihave H := (agree _ s') $$ [H5 HSI]
  · isplitl [H5] <;> iassumption
  icases H with ⟨%h5, HSI⟩
  ihave H := (agree _ s') $$ [H6 HSI]
  · isplitl [H6] <;> iassumption
  icases H with ⟨%h6, -⟩
  ipureintro; exact ⟨h0, h1, h2, h4, h5 ▸ hf, h6⟩

def QC : PUnit × MemSt nD τ sig (Elt F) → Prop := fun r =>
  (∀ c : Dev nD, r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_v0_1) = bounds m c
    ∧ NamedAll (flat (poss m c)) (r.2.mem ((SparseCore.T c).loc main_v1_0)) ∧ r.2.mem ((SparseCore.T c).loc main_v1_1) = binOf (bounds m c)) ∧ r.2.sem = fun _ => 0

theorem run_main [∀ e, Nonempty (Elt F e)] (hte : Named64 m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hte | 1 => tileObl1 m)
    (fun q _ => SparseCore.Cfg.VecSplit.of_plain (vecSplit m q))
    m ρ main (fun _ => iprop(emp)) (FIN m) (u₀ (F := F)) (sep_elim_left.trans (hu₀ m)) (hmain m ρ) (fq m) (hfin m) (QC m) (fun _ h hz => ⟨h, hz⟩)

end
end Cert.Proof
end
-- ==== Proof.Frames.lean ====
/-
  The preconditions' facts, the expert numbers they bound, and the frames of the four programs.
-/
module

public import proofs.«01_k».proof.Defs
public import proofs.«01_k».proof.Proof.Launch
public import proofs.«01_k».proof.Proof.Gen.Kernel
public import proofs.«01_k».proof.Proof.Gen.Reference.Run
public import proofs.«01_k».proof.Proof.Gen.ReferenceIdeal.Run

@[expose] public section

noncomputable section

namespace Cert.Proof

open Idealize.ShloMosaic Idealize.SL.Sem

instance factsNamed : Cert.Pre_experts_named.Facts where
  bcast_S_S512x128 := by decide

instance factsGiven : Cert.Pre_histograms_given.Facts where
  shapeCasts_S512x128_S32x2048x1 := by decide
  bcast_S64_S1x1x64_2 := by decide
  bcast_S32x2048x1_S32x2048x64_0_1_2 := by decide
  bcast_S1x1x64_S32x2048x64_0_1_2 := by decide
  natLt_1_32 := by decide
  reducesTo_S32x2048x64_S32x64_d1 := by decide
  h_S_ := by decide
  shapeCasts_S32x1x64_S32x64 := by decide
  bcast_S_S512x128 := by decide
  slices_S32x64_S1x64_0_0 := by decide
  bcast_S_S1x64 := by decide
  slices_S32x64_S31x64_1_0 := by decide
  concatenates_S31x64_S1x64_S32x64_d0 := by decide

/-- A word between zero and 64, read as a signed number, is below 64. -/
theorem lt_of_range (v : BitVec 32) (e : IntOp.andi (IntOp.cmpi .sge v 0#32) (IntOp.cmpi .slt v 64#32) = 1#1) : v.toNat < 64 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem lt_of_named {F : FTy → Type} [FloatOps F] {A0 : IVec ⟨2, ![512, 128]⟩ 32} {A1 : IVec ⟨2, ![1, 64]⟩ 32} {A2 : IVec ⟨3, ![32, 1, 64]⟩ 32}
    (h : Cert.Pre_experts_named.fn (F := F) A0 A1 A2 = fun _ => 1#1) (x) : (A0 x).toNat < 64 := lt_of_range _ (congrFun h x)

theorem lt_of_given {F : FTy → Type} [FloatOps F] {A0 : IVec ⟨2, ![512, 128]⟩ 32} {A1 : IVec ⟨2, ![1, 64]⟩ 32} {A2 : IVec ⟨3, ![32, 1, 64]⟩ 32}
    (h : (Cert.Pre_histograms_given.fn (F := F) A0 A1 A2).1 = fun _ => 1#1) (x) : (A0 x).toNat < 64 := lt_of_range _ (congrFun h x)

/-! ## The kernel's frames -/

theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩) (run_main (F := Ideal) m ρ fun d x => lt_of_named (hpre d) x)

theorem frame_ideal_given : Cert.quiescent_KernelIdeal_pre_histograms_given := fun m ρ hpre =>
  (θ_run Cert.KernelIdeal.defs _ _).mono (fun _ h => ⟨fun c => ⟨(h.1 c).1, (h.1 c).2.1, (h.1 c).2.2.1⟩, h.2⟩) (run_main (F := Ideal) m ρ fun d x => lt_of_given (hpre d).1 x)

theorem frame_kernel : Cert.quiescent_Kernel := fun m ρ hpre =>
  (θ_run Cert.KernelIdeal.defs _ _).mono (fun _ h => ⟨fun c => ⟨(h.1 c).1, (h.1 c).2.1, (h.1 c).2.2.1⟩, h.2⟩) (run_main (F := Bits) m ρ fun d x => lt_of_named (hpre d) x)

theorem frame_kernel_given : Cert.quiescent_Kernel_pre_histograms_given := fun m ρ hpre =>
  (θ_run Cert.KernelIdeal.defs _ _).mono (fun _ h => ⟨fun c => ⟨(h.1 c).1, (h.1 c).2.1, (h.1 c).2.2.1⟩, h.2⟩) (run_main (F := Bits) m ρ fun d x => lt_of_given (hpre d).1 x)

/-! ## The reference's frames -/

theorem noSems : IsEmpty (SemLoc Cert.ReferenceIdeal.sig) := by
  rw [← Fintype.card_eq_zero_iff]; decide

theorem frame_reference_ideal : Cert.quiescent_ReferenceIdeal := fun m ρ _ =>
  (θ_run Cert.ReferenceIdeal.defs _ _).mono (fun _ h => ⟨fun c => ⟨(h c).2.2.2.1, (h c).2.2.2.2.1, (h c).2.2.2.2.2⟩, funext fun s => (noSems.false s.2).elim⟩)
    (Cert.ReferenceIdeal.Value.run (F := Ideal) m ρ)

theorem frame_reference_ideal_given : Cert.quiescent_ReferenceIdeal_pre_histograms_given := fun m ρ _ =>
  (θ_run Cert.ReferenceIdeal.defs _ _).mono (fun _ h => ⟨fun c => ⟨(h c).2.2.2.1, (h c).2.2.2.2.1, (h c).2.2.2.2.2⟩, funext fun s => (noSems.false s.2).elim⟩)
    (Cert.ReferenceIdeal.Value.run (F := Ideal) m ρ)

theorem frame_reference : Cert.quiescent_Reference := fun m ρ _ =>
  (θ_run Cert.Reference.defs _ _).mono (fun _ h => ⟨fun c => ⟨(h c).2.2.2.1, (h c).2.2.2.2.1, (h c).2.2.2.2.2⟩, funext fun s => (noSems.false s.2).elim⟩)
    (Cert.Reference.Value.run (F := Bits) m ρ)

end Cert.Proof

end
-- ==== Proof.Order.lean ====
/-
  The order a stable sort by small keys leaves: of each position, the number of positions before it, by counting.
-/
module

public import Mathlib.Data.Nat.Count
public import Mathlib.Order.Interval.Finset.Fin
public import Mathlib.Algebra.BigOperators.Group.Finset.Basic
public import Mathlib.Algebra.Order.BigOperators.Group.Finset

@[expose] public section

namespace Cert.Proof.Order

open scoped BigOperators

variable (key : ℕ → ℕ)

/-- How many of the first `n` positions have key `e`. -/
def cnt (e n : ℕ) : ℕ := Nat.count (fun j => key j = e) n
/-- How many of the first `n` positions have a key below `e`. -/
def cum (n e : ℕ) : ℕ := ∑ e' ∈ Finset.range e, cnt key e' n
/-- The place of position `p` of `n`, stably sorted. -/
def place (n p : ℕ) : ℕ := cum key n (key p) + cnt key (key p) p
/-- Position `q` is to stand before position `p`. -/
def Before (q p : ℕ) : Prop := key q < key p ∨ key q = key p ∧ q < p

instance (q p : ℕ) : Decidable (Before key q p) := by unfold Before; infer_instance

theorem cnt_eq_card (e n : ℕ) : cnt key e n = ((Finset.range n).filter fun q => key q = e).card := Nat.count_eq_card_filter_range _ _

theorem cum_succ (n e : ℕ) : cum key n (e + 1) = cum key n e + cnt key e n := Finset.sum_range_succ _ _

theorem cum_mono (n : ℕ) {e e' : ℕ} (h : e ≤ e') : cum key n e ≤ cum key n e' :=
  Finset.sum_le_sum_of_subset (Finset.range_mono h)

theorem cum_eq_card (n e : ℕ) : cum key n e = ((Finset.range n).filter fun q => key q < e).card := by
  induction e with
  | zero => simp [cum]
  | succ e ih =>
    rw [cum_succ, ih, cnt_eq_card, ← Finset.card_union_of_disjoint]
    · congr 1
      ext q
      simp only [Finset.mem_union, Finset.mem_filter, Finset.mem_range]
      omega
    · rw [Finset.disjoint_left]
      intro q hq hq'
      simp only [Finset.mem_filter] at hq hq'
      omega

theorem cum_all {n E : ℕ} (h : ∀ p < n, key p < E) : cum key n E = n := by
  rw [cum_eq_card, Finset.filter_true_of_mem fun q hq => h q (Finset.mem_range.1 hq), Finset.card_range]

theorem place_eq_card {n p : ℕ} (hp : p < n) : place key n p = ((Finset.range n).filter fun q => Before key q p).card := by
  have h : (Finset.range n).filter (fun q => Before key q p)
      = ((Finset.range n).filter fun q => key q < key p) ∪ ((Finset.range p).filter fun q => key q = key p) := by
    ext q
    simp only [Finset.mem_union, Finset.mem_filter, Finset.mem_range]
    unfold Before
    constructor
    · rintro ⟨h1, h | h⟩
      · exact .inl ⟨h1, h⟩
      · exact .inr ⟨h.2, h.1⟩
    · rintro (h | h)
      · exact ⟨h.1, .inl h.2⟩
      · exact ⟨h.1.trans hp, .inr ⟨h.2, h.1⟩⟩
  rw [h, Finset.card_union_of_disjoint, ← cum_eq_card, ← cnt_eq_card]
  · rfl
  · rw [Finset.disjoint_left]
    intro q hq hq'
    simp only [Finset.mem_filter] at hq hq'
    omega

theorem cnt_lt {n p : ℕ} (hp : p < n) : cnt key (key p) p < cnt key (key p) n := by
  have h : cnt key (key p) (p + 1) ≤ cnt key (key p) n := Nat.count_monotone _ hp
  have h' : cnt key (key p) (p + 1) = cnt key (key p) p + 1 := by
    unfold cnt; rw [Nat.count_succ, if_pos rfl]
  omega

theorem place_ge (n p : ℕ) : cum key n (key p) ≤ place key n p := Nat.le_add_right _ _
theorem place_lt_next {n p : ℕ} (hp : p < n) : place key n p < cum key n (key p + 1) := by
  rw [cum_succ]; exact Nat.add_lt_add_left (cnt_lt key hp) _

variable {n : ℕ} {σ : Fin n → Fin n} (hb : Function.Bijective σ) (hs : ∀ i j, i < j → Before key (σ i).val (σ j).val)
include hb hs

/-- Of positions listed in order, the one listed at `j` has place `j`. -/
theorem place_sorted (j : Fin n) : place key n (σ j).val = j.val := by
  rw [place_eq_card key (σ j).isLt, ← Fin.card_Iio j]
  symm
  refine Finset.card_bij (fun i _ => (σ i).val) (fun i hi => ?_) (fun i _ i' _ h => hb.1 (Fin.ext h)) (fun q hq => ?_)
  · exact Finset.mem_filter.2 ⟨Finset.mem_range.2 (σ i).isLt, hs i j (Finset.mem_Iio.1 hi)⟩
  · obtain ⟨hq, hqj⟩ := Finset.mem_filter.1 hq
    obtain ⟨i, hi⟩ := hb.2 ⟨q, Finset.mem_range.1 hq⟩
    have e : (σ i).val = q := congrArg Fin.val hi
    refine ⟨i, Finset.mem_Iio.2 ?_, e⟩
    by_contra hlt
    rcases Nat.lt_or_eq_of_le (Nat.le_of_not_lt hlt) with h | h
    · have := hs j i h
      rw [e] at this
      unfold Before at this hqj
      omega
    · have : i = j := (Fin.ext h).symm
      subst this
      rw [e] at hqj
      unfold Before at hqj
      omega

theorem place_inj {p p' : ℕ} (hp : p < n) (hp' : p' < n) (h : place key n p = place key n p') : p = p' := by
  obtain ⟨i, hi⟩ := hb.2 ⟨p, hp⟩
  obtain ⟨i', hi'⟩ := hb.2 ⟨p', hp'⟩
  have e : (σ i).val = p := congrArg Fin.val hi
  have e' : (σ i').val = p' := congrArg Fin.val hi'
  rw [← e, ← e', place_sorted key hb hs, place_sorted key hb hs] at h
  rw [← e, ← e', Fin.ext h]

theorem place_lt {p : ℕ} (hp : p < n) : place key n p < n := by
  obtain ⟨i, hi⟩ := hb.2 ⟨p, hp⟩
  have e : (σ i).val = p := congrArg Fin.val hi
  rw [← e, place_sorted key hb hs]
  exact i.isLt

end Cert.Proof.Order
-- ==== Proof.Sorted.lean ====
/-
  The reference's operations read at an index: the stable sort of the slots by expert, and the histogram.
-/
module

public import proofs.«01_k».proof.Proof.Order
public import Idealize.ShloMosaic.Lib.SortFacts
public import Idealize.ShloMosaic.Lib.PlanTiles.StableSort
public import Idealize.ShloMosaic.Lib.Routing.Ops
public import Idealize.ShloMosaic.Lib.Routing.OpsPair

@[expose] public section

noncomputable section

namespace Cert.Proof

open Order
open Idealize.ShloMosaic Idealize.ShloMosaic.ValueIdx Idealize.ShloMosaic.Routing

/-! ## The sort -/

/-- Two words below 64, compared as signed numbers, compare as the naturals they hold. -/
theorem slt_small {a b : BitVec 32} (ha : a.toNat < 64) (hb : b.toNat < 64) : (IntOp.cmpi .slt a b == 1#1) = decide (a.toNat < b.toNat) := by
  have e : a.slt b = decide (a.toNat < b.toNat) := by
    rw [BitVec.slt_eq_decide]
    refine decide_eq_decide.2 ?_
    simp only [BitVec.toInt_eq_toNat_cond]
    omega
  show (BitVec.ofBool (a.slt b) == 1#1) = _
  rw [e]
  by_cases h : a.toNat < b.toNat <;> simp [h]

/-- The slots in the order of a stable sort by expert. -/
def slots (key : ℕ → ℕ) (n : ℕ) : Fin n → Fin n := sortedFrom fun a b => decide (key a.val < key b.val)

theorem slots_bijective (key : ℕ → ℕ) (n : ℕ) : Function.Bijective (slots key n) := ⟨sortedFrom_injective _, sortedFrom_surjective _⟩

theorem slots_before (key : ℕ → ℕ) (n : ℕ) (hk : ∀ p, key p < 64) (i j : Fin n) (h : i < j) : Before key (slots key n i).val (slots key n j).val := by
  have hR : (fun a b : Fin n => decide (key a.val < key b.val)) = fun a b : Fin n => decide (64 - key b.val < 64 - key a.val) := by
    funext a b
    refine decide_eq_decide.2 ?_
    have := hk a.val; have := hk b.val
    omega
  have hp := List.pairwise_iff_get.1 (PlanTiles.pairwise_stableSort_lex (fun a : Fin n => 64 - key a.val) (· < ·) (List.finRange n) (List.pairwise_lt_finRange n))
  rw [← hR] at hp
  have h' := hp (i.cast (length_sortPositions n _).symm) (j.cast (length_sortPositions n _).symm) h
  have conv : ∀ a b : Fin n, PlanTiles.Lex (fun a : Fin n => 64 - key a.val) (· < ·) a b → Before key a.val b.val := by
    intro a b hab
    have := hk a.val; have := hk b.val
    unfold Before
    rcases hab with h1 | ⟨h1, h2⟩
    · left; change 64 - key b.val < 64 - key a.val at h1; omega
    · change 64 - key a.val = 64 - key b.val at h1
      exact Or.inr ⟨by omega, h2⟩
  exact conv _ _ h'

variable {n : ℕ} {key : ℕ → ℕ} (x : IVec (shape1 n) 32) (hx : ∀ a : Fin n, (x (ix1 a)).toNat = key a.val) (hk : ∀ p, key p < 64)
include hx hk

theorem rel_eq : (fun k k' : Fin n => IntOp.cmpi .slt (x (ix1 k)) (x (ix1 k')) == 1#1) = fun a b => decide (key a.val < key b.val) := by
  funext a b
  rw [slt_small (by rw [hx]; exact hk _) (by rw [hx]; exact hk _), hx, hx]

theorem sort_at (j : Fin n) : Host.sort (shape1 n) 0 (fun l r => IntOp.cmpi .slt l r) x (ix1 j) = x (ix1 (slots key n j)) := by
  have e := Host.sort_rank1 (n := n) (fun l r : BitVec 32 => IntOp.cmpi .slt l r) x (ix1 j)
  rw [ofFin_eq_ix1] at e
  refine e.trans (congrArg (fun z => x (ix1 z)) ?_)
  unfold slots
  refine congrArg (fun R => sortedFrom R j) ?_
  rw [← rel_eq x hx hk]
  funext k k'
  rw [ofFin_eq_ix1, ofFin_eq_ix1]

theorem sort2_at (y : IVec (shape1 n) 32) (j : Fin n) :
    (Host.sort2 (shape1 n) 0 (fun l r : BitVec 32 × BitVec 32 => IntOp.cmpi .slt l.1 r.1) x y).2 (ix1 j) = y (ix1 (slots key n j)) := by
  rw [Host.sort2_eq_sortBy]
  have hd : 0 < (shape1 n).rank := Nat.zero_lt_one
  have e : ∀ c : Fin n, (ix1 j : (shape1 n).Idx).along (⟨0, hd⟩ : Fin (shape1 n).rank) c = ix1 c := fun c =>
    (Shape.Idx.along_rank1 _ c).trans (ofFin_eq_ix1 c)
  show Host.sortBy (shape1 n) 0 _ _ y (ix1 j) = _
  unfold Host.sortBy
  rw [dif_pos hd]
  show y ((ix1 j : (shape1 n).Idx).along (⟨0, hd⟩ : Fin (shape1 n).rank) _) = _
  refine (congrArg y (e _)).trans (congrArg (fun z => y (ix1 z)) ?_)
  unfold slots
  refine congrArg (fun R => sortedFrom R j) ?_
  rw [← rel_eq x hx hk]
  funext k k'
  exact congrArg₂ (fun p q => IntOp.cmpi .slt (x p) (x q) == 1#1) (e k) (e k')

end Cert.Proof

end
-- ==== Proof.Hist.lean ====
/-
  Counting, as the reference and the precondition print it: a scatter of ones into the bins, and a sum of equalities over a block.
-/
module

public import proofs.«01_k».proof.Proof.Sorted

@[expose] public section

noncomputable section

namespace Cert.Proof

open Order (cnt cum place Before cum_succ)
open Idealize.ShloMosaic Idealize.ShloMosaic.ValueIdx Idealize.ShloMosaic.Routing

/-- A clip at zero and a wrap of negative indices leave a word below 64 alone. -/
theorem wrap_small (t : BitVec 32) (ht : t.toNat < 64) :
    Scalar.select (IntOp.cmpi .slt (IntOp.maxsi 0#32 t) 0#32) (IntOp.addi (IntOp.maxsi 0#32 t) 64#32) (IntOp.maxsi 0#32 t) = t := by
  have h0 : t.slt 0#32 = false := by
    rw [BitVec.slt_eq_decide, decide_eq_false_iff_not]
    simp only [BitVec.toInt_eq_toNat_cond, BitVec.toNat_ofNat]
    omega
  have hm : IntOp.maxsi 0#32 t = t := by
    unfold IntOp.maxsi
    rw [h0]
    rfl
  have hc : IntOp.cmpi .slt t 0#32 = 0#1 := by
    show BitVec.ofBool (t.slt 0#32) = 0#1
    rw [h0]
    rfl
  rw [hm, hc]
  rfl

/-! ## The histogram -/

theorem foldl_ones {ι : Type} (P : ι → Prop) [DecidablePred P] (l : List ι) (z : ℕ) :
    l.foldl (fun (a : BitVec 32) n => if P n then IntOp.addi a 1#32 else a) (BitVec.ofNat 32 z) = BitVec.ofNat 32 (z + l.countP fun n => decide (P n)) := by
  induction l generalizing z with
  | nil => rfl
  | cons n l ih =>
    rw [List.foldl_cons, List.countP_cons]
    by_cases h : P n
    · rw [if_pos h, if_pos (decide_eq_true h)]
      have e : IntOp.addi (BitVec.ofNat 32 z) 1#32 = BitVec.ofNat 32 (z + 1) := (BitVec.ofNat_add (n := 32) z 1).symm
      rw [e, ih]
      congr 1
      omega
    · rw [if_neg h, if_neg (by simpa using h), ih]
      rfl

variable {N M : ℕ} (d : ScatterDims (shape1 M) (shape2 N 1) (shape1 N)) (hiw : d.insertedWindowDims = [0])
    (hsd : d.scatterDimsToOperandDims = [0]) (hivd : d.indexVectorDim = 1)
include hiw hsd hivd

/-- Where update `i` of a scatter of `N` words into `M` bins lands. -/
theorem lands_at (idx : IVec (shape2 N 1) 32) (i : Fin N) (e : Fin M) :
    d.resultIdx? (ix1 i) idx = some (ix1 e) ↔ (idx (ix2 i (0 : Fin 1))).toInt = (e.val : Int) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hsi : d.siIdx (ix1 i) ⟨d.scatterDimsToOperandDims.idxOf 0, List.idxOf_lt_length_iff.2 hm⟩ = ix2 i (0 : Fin 1) := by
    funext b
    refine Fin.ext ?_
    match b with
    | ⟨0, _⟩ =>
      unfold ScatterDims.siIdx
      rw [dif_neg (by rw [hivd]; exact Nat.zero_ne_one)]
      unfold ScatterDims.siCoord
      simp only [Fin.val_cast]
      have e : ∀ X : Fin 1, (ix1 i X).val = i.val := fun X => by rw [Subsingleton.elim X 0]
      exact e _
    | ⟨1, _⟩ => exact congrArg Fin.val (Subsingleton.elim (α := Fin 1) _ 0)
  have hstart : d.start (ix1 i) idx 0 = (idx (ix2 i (0 : Fin 1))).toInt := by
    unfold ScatterDims.start
    rw [dif_pos hm, hsi]
  rw [resultIdx?_ix1, hstart, hwin, Int.natCast_zero, Int.add_zero]

/-- One added at every update's bin: each bin counts its updates. -/
theorem hist_at (x0 : IVec (shape1 M) 32) (hx0 : ∀ i, x0 i = 0#32) (idx : IVec (shape2 N 1) 32) (upd : IVec (shape1 N) 32) (hupd : ∀ i, upd i = 1#32)
    (key : ℕ → ℕ) (hi : ∀ i : Fin N, (idx (ix2 i (0 : Fin 1))).toInt = (key i.val : Int)) (e : Fin M) :
    Host.scatter d IntOp.addi x0 idx upd (ix1 e) = BitVec.ofNat 32 (cnt key e.val N) := by
  rw [scatter_at, hx0]
  simp only [hupd]
  rw [show (0#32 : BitVec 32) = BitVec.ofNat 32 0 from rfl, foldl_ones, Nat.zero_add]
  have hP : (fun n : Fin (shape1 N).numel => decide (d.resultIdx? ((shape1 N).rowMajor.symm n) idx = some (ix1 e)))
      = fun n => decide (key n.val = e.val) := by
    funext n
    refine decide_eq_decide.2 ?_
    rw [symm1, lands_at d hiw hsd hivd, hi]
    exact Int.natCast_inj
  rw [hP, countP_finRange _ (fun i => key i = e.val), numel1]
  rfl

omit hiw hsd hivd

/-! ## The sum of equalities over a block -/

/-- The sum over the middle axis of a widened `[a, N, b]` mask counts, at `(p, q)`, the set bits. -/
theorem block_count {N a b : ℕ} (hN : N < 2 ^ 32) (msk : IVec (shape3 a N b) 1) (hw : 1 < 32) (h : (shape3 a N b).ReducesTo [1] (shape2 a b))
    (hu : 0 < shape0.numel) (p : Fin a) (q : Fin b) (Q : ℕ → Prop) [DecidablePred Q] (hQ : ∀ j : Fin N, msk (ix3 p j q) = 1#1 ↔ Q j.val) :
    Host.reduce IntOp.addi (extui 32 msk hw) (constantI shape0 32 0#32) h hu (ix2 p q) = BitVec.ofNat 32 (Nat.count Q N) := by
  classical
  have hto : ∀ i : (shape3 a N b).Idx, h.drop i = ix2 p q ↔ i = ix3 p (i 1) q := by
    intro i
    constructor
    · intro e
      have e0 : (i 0).val = p.val := (Shape.ReducesTo.drop_apply_val h i 0).symm.trans (congrArg (fun z => (z 0).val) e)
      have e2 : (i 2).val = q.val := (Shape.ReducesTo.drop_apply_val h i 1).symm.trans (congrArg (fun z => (z 1).val) e)
      funext c
      match c with
      | ⟨0, _⟩ => exact Fin.ext e0
      | ⟨1, _⟩ => rfl
      | ⟨2, _⟩ => exact Fin.ext e2
    · intro e
      funext c
      match c with
      | ⟨0, _⟩ => exact Fin.ext ((Shape.ReducesTo.drop_apply_val h i 0).trans (congrArg (fun z => (z 0).val) e))
      | ⟨1, _⟩ => exact Fin.ext ((Shape.ReducesTo.drop_apply_val h i 1).trans (congrArg (fun z => (z 2).val) e))
  -- the sum over the entries that drop to `(p, q)` is the count over the block
  have hcard : ∑ i ∈ Finset.univ.filter (fun i : (shape3 a N b).Idx => h.drop i = ix2 p q), (extui 32 msk hw i).toNat = Nat.count Q N := by
    have hone : ∀ i, (extui 32 msk hw i).toNat = if msk i = 1#1 then 1 else 0 := fun i => StableHlo.Predicate.toNat_setWidth_bit (msk i)
    simp only [hone]
    rw [← Finset.card_filter, ← card_filter_fin N Q]
    refine Finset.card_nbij' (fun i => i 1) (fun j => ix3 p j q) ?_ ?_ ?_ ?_
    · intro i hi
      obtain ⟨h1, h2⟩ := Finset.mem_filter.1 (Finset.mem_coe.1 hi)
      rw [(hto i).1 (Finset.mem_filter.1 h1).2] at h2
      exact Finset.mem_coe.2 (Finset.mem_filter.2 ⟨Finset.mem_univ _, (hQ _).1 h2⟩)
    · intro j hj
      have hj' := (Finset.mem_filter.1 (Finset.mem_coe.1 hj)).2
      exact Finset.mem_coe.2 (Finset.mem_filter.2 ⟨Finset.mem_filter.2 ⟨Finset.mem_univ _, (hto _).2 rfl⟩, (hQ j).2 hj'⟩)
    · intro i hi
      exact ((hto i).1 (Finset.mem_filter.1 (Finset.mem_filter.1 (Finset.mem_coe.1 hi)).1).2).symm
    · intro j _
      rfl
  have hlt : Nat.count Q N < 2 ^ 32 := lt_of_le_of_lt (Nat.count_le _) hN
  rw [Host.reduce_eq_fold]
  refine BitVec.eq_of_toNat_eq ?_
  rw [BitVec.toNat_ofNat, Nat.mod_eq_of_lt hlt]
  exact (StableHlo.Predicate.toNat_fold_addi _ _ (by rw [hcard]; exact hlt)).trans hcard

end Cert.Proof

end
-- ==== Proof.Given.lean ====
/-
  What the histograms hold where the precondition holds, and the place of a slot: its rank in the stable sort by expert.
-/
module

public import proofs.«01_k».proof.Proof.Frames
public import proofs.«01_k».proof.Proof.Hist

@[expose] public section

noncomputable section

namespace Cert.Proof

open Order (cnt cum place Before cum_succ)
open Idealize.ShloMosaic Idealize.ShloMosaic.ValueIdx Idealize.ShloMosaic.Routing

theorem eq_of_cmpi {a b : BitVec 32} (h : IntOp.cmpi .eq a b = 1#1) : a = b := by
  by_contra hne
  have e : IntOp.cmpi .eq a b = 0#1 := by
    show BitVec.ofBool (a == b) = 0#1
    rw [beq_eq_false_iff_ne.2 hne]
    rfl
  rw [e] at h
  exact absurd h (by decide)

theorem cmpi_eq_iff {a b : BitVec 32} : IntOp.cmpi .eq a b = 1#1 ↔ a = b := by
  refine ⟨eq_of_cmpi, fun h => ?_⟩
  subst h
  show BitVec.ofBool (a == a) = 1#1
  rw [beq_self_eq_true]
  rfl

/-- Slot `p`'s expert. -/
def kv (A : IVec ⟨2, ![512, 128]⟩ 32) (p : ℕ) : ℕ := (flat A p).toNat

variable {F : FTy → Type} [FloatOps F] {A0 : IVec ⟨2, ![512, 128]⟩ 32} {A1 : IVec ⟨2, ![1, 64]⟩ 32} {A2 : IVec ⟨3, ![32, 1, 64]⟩ 32}

/-- The equality mask of the precondition at block `w`, slot `j`, expert `e`. -/
def mask (A0 : IVec ⟨2, ![512, 128]⟩ 32) : IVec (shape3 32 2048 64) 1 :=
  cmpi .eq (broadcastInDim (shape3 32 2048 64) ![0, 1, 2] Cert.Pre_histograms_given.Facts.bcast_S32x2048x1_S32x2048x64_0_1_2
      (shapeCast (shape3 32 2048 1) A0 Cert.Pre_histograms_given.Facts.shapeCasts_S512x128_S32x2048x1))
    (broadcastInDim (shape3 32 2048 64) ![0, 1, 2] Cert.Pre_histograms_given.Facts.bcast_S1x1x64_S32x2048x64_0_1_2
      (broadcastInDim (shape3 1 1 64) ![2] Cert.Pre_histograms_given.Facts.bcast_S64_S1x1x64_2 (iotaInDim (shape1 64) 32 0)))

theorem mask_at (w : Fin 32) (j : Fin 2048) (e : Fin 64) : mask A0 (ix3 w j e) = 1#1 ↔ kv A0 (2048 * w.val + j.val) = e.val := by
  have hw := w.isLt
  have hj := j.isLt
  have he := e.isLt
  have h1 : broadcastInDim (shape3 32 2048 64) ![0, 1, 2] Cert.Pre_histograms_given.Facts.bcast_S32x2048x1_S32x2048x64_0_1_2
      (shapeCast (shape3 32 2048 1) A0 Cert.Pre_histograms_given.Facts.shapeCasts_S512x128_S32x2048x1) (ix3 w j e) = flat A0 (2048 * w.val + j.val) := by
    rw [broadcastInDim_apply _ _ _ _ (ix3 w j (0 : Fin 1)) (fun a => by
      match a with
      | ⟨0, _⟩ => rfl
      | ⟨1, _⟩ => rfl
      | ⟨2, _⟩ => rfl)]
    unfold flat
    rw [dif_pos (show 2048 * w.val + j.val < 65536 by omega)]
    refine shapeCast_apply _ _ _ _ ?_
    rw [Shape.rowMajor_val_two, Shape.rowMajor_val_three]
    show (2048 * w.val + j.val) / 128 * 128 + (2048 * w.val + j.val) % 128 = (w.val * 2048 + j.val) * 1 + 0
    omega
  have h2 : broadcastInDim (shape3 32 2048 64) ![0, 1, 2] Cert.Pre_histograms_given.Facts.bcast_S1x1x64_S32x2048x64_0_1_2
      (broadcastInDim (shape3 1 1 64) ![2] Cert.Pre_histograms_given.Facts.bcast_S64_S1x1x64_2 (iotaInDim (shape1 64) 32 0)) (ix3 w j e) = BitVec.ofNat 32 e.val := by
    rw [broadcastInDim_apply _ _ _ _ (ix3 (0 : Fin 1) (0 : Fin 1) e) (fun a => by
      match a with
      | ⟨0, _⟩ => rfl
      | ⟨1, _⟩ => rfl
      | ⟨2, _⟩ => rfl)]
    rw [broadcastInDim_apply _ _ _ _ (ix1 e) (fun a => by
      match a with
      | ⟨0, _⟩ => rfl)]
    rfl
  have hm : mask A0 (ix3 w j e) = IntOp.cmpi .eq (flat A0 (2048 * w.val + j.val)) (BitVec.ofNat 32 e.val) := congrArg₂ (IntOp.cmpi .eq) h1 h2
  rw [hm, cmpi_eq_iff]
  unfold kv
  constructor
  · intro h
    rw [h, BitVec.toNat_ofNat, Nat.mod_eq_of_lt (by omega)]
  · intro h
    rw [← h]
    refine BitVec.eq_of_toNat_eq ?_
    rw [BitVec.toNat_ofNat, Nat.mod_eq_of_lt (BitVec.isLt _)]

/-- The blocks' histograms, the rows given, and the rows given after the first with the totals last. -/
def counts (A0 : IVec ⟨2, ![512, 128]⟩ 32) : IVec (shape2 32 64) 32 :=
  Host.reduce IntOp.addi (extui 32 (mask A0) Cert.Pre_histograms_given.Facts.natLt_1_32) (constantI shape0 32 0#32)
    Cert.Pre_histograms_given.Facts.reducesTo_S32x2048x64_S32x64_d1 Cert.Pre_histograms_given.Facts.h_S_
def rows (A2 : IVec ⟨3, ![32, 1, 64]⟩ 32) : IVec (shape2 32 64) 32 := shapeCast (shape2 32 64) A2 Cert.Pre_histograms_given.Facts.shapeCasts_S32x1x64_S32x64
def joined (A1 : IVec ⟨2, ![1, 64]⟩ 32) (A2 : IVec ⟨3, ![32, 1, 64]⟩ 32) : IVec (shape2 32 64) 32 :=
  concatenate (shape2 32 64) 0 [⟨shape2 31 64, extractStridedSlice (shape2 31 64) ![1, 0] (rows A2) Cert.Pre_histograms_given.Facts.slices_S32x64_S31x64_1_0⟩, ⟨shape2 1 64, A1⟩]
    Cert.Pre_histograms_given.Facts.concatenates_S31x64_S1x64_S32x64_d0

theorem counts_at (w e : ℕ) (hw : w < 32) (he : e < 64) :
    counts A0 (ix2 ⟨w, hw⟩ ⟨e, he⟩) = BitVec.ofNat 32 (Nat.count (fun j => kv A0 (2048 * w + j) = e) 2048) :=
  block_count (by decide) (mask A0) _ _ _ ⟨w, hw⟩ ⟨e, he⟩ _ fun j => mask_at ⟨w, hw⟩ j ⟨e, he⟩

theorem rows_at (w e : ℕ) (hw : w < 32) (he : e < 64) : rows A2 (ix2 ⟨w, hw⟩ ⟨e, he⟩) = befs A2 w e := by
  unfold befs
  rw [dif_pos ⟨hw, he⟩]
  refine shapeCast_apply _ _ _ _ ?_
  rw [Shape.rowMajor_val_three, Shape.rowMajor_val_two]
  show (w * 1 + 0) * 64 + e = w * 64 + e
  omega

theorem joined_lt (w e : ℕ) (hw : w < 31) (he : e < 64) : joined A1 A2 (ix2 ⟨w, by omega⟩ ⟨e, he⟩) = rows A2 (ix2 ⟨w + 1, by omega⟩ ⟨e, he⟩) := by
  refine (concatenate_pair_apply_left (t := shape2 32 64) (s₁ := shape2 31 64) (s₂ := shape2 1 64) 0 _ _ _ _ rfl (ix2 ⟨w, hw⟩ ⟨e, he⟩) fun b => ?_).trans ?_
  · match b with
    | ⟨0, _⟩ => rfl
    | ⟨1, _⟩ => rfl
  · unfold extractStridedSlice
    refine congrArg (rows A2) (funext fun a => Fin.ext ?_)
    match a with
    | ⟨0, _⟩ => show 1 + w = w + 1; omega
    | ⟨1, _⟩ => show 0 + e = e; omega

theorem joined_last (e : ℕ) (he : e < 64) : joined A1 A2 (ix2 ⟨31, by omega⟩ ⟨e, he⟩) = tots A1 e := by
  unfold tots
  rw [dif_pos he]
  refine concatenate_pair_apply_right (t := shape2 32 64) (s₁ := shape2 31 64) (s₂ := shape2 1 64) 0 _ _ _ _ rfl rfl (ix2 0 ⟨e, he⟩) (fun b hb => ?_) rfl
  match b with
  | ⟨0, _⟩ => exact absurd rfl hb
  | ⟨1, _⟩ => rfl

theorem fn_first : (Cert.Pre_histograms_given.fn (F := F) A0 A1 A2).2.1
    = cmpi .eq (extractStridedSlice (shape2 1 64) ![0, 0] (rows A2) Cert.Pre_histograms_given.Facts.slices_S32x64_S1x64_0_0)
      (broadcastInDim (shape2 1 64) ![] Cert.Pre_histograms_given.Facts.bcast_S_S1x64 (constantI shape0 32 0#32)) := rfl

theorem fn_step : (Cert.Pre_histograms_given.fn (F := F) A0 A1 A2).2.2 = cmpi .eq (joined A1 A2) (addi (rows A2) (counts A0)) := rfl

theorem befs_zero (h : (Cert.Pre_histograms_given.fn (F := F) A0 A1 A2).2.1 = fun _ => 1#1) (e : ℕ) (he : e < 64) : befs A2 0 e = 0#32 := by
  have h' := eq_of_cmpi (congrFun (fn_first.symm.trans h) (ix2 0 ⟨e, he⟩))
  rw [← rows_at (A2 := A2) 0 e (by omega) he]
  refine Eq.trans (congrArg (rows A2) (funext fun a => ?_)) h'
  match a with
  | ⟨0, _⟩ => rfl
  | ⟨1, _⟩ => exact Fin.ext (Nat.zero_add _).symm

theorem step_at (h : (Cert.Pre_histograms_given.fn (F := F) A0 A1 A2).2.2 = fun _ => 1#1) (w e : ℕ) (hw : w < 32) (he : e < 64) :
    joined A1 A2 (ix2 ⟨w, hw⟩ ⟨e, he⟩) = befs A2 w e + BitVec.ofNat 32 (Nat.count (fun j => kv A0 (2048 * w + j) = e) 2048) := by
  have h' := eq_of_cmpi (congrFun (fn_step.symm.trans h) (ix2 ⟨w, hw⟩ ⟨e, he⟩))
  rw [← rows_at (A2 := A2) w e hw he, ← counts_at (A0 := A0) w e hw he]
  exact h'

theorem befs_step (h : (Cert.Pre_histograms_given.fn (F := F) A0 A1 A2).2.2 = fun _ => 1#1) (w e : ℕ) (hw : w < 31) (he : e < 64) :
    befs A2 (w + 1) e = befs A2 w e + BitVec.ofNat 32 (Nat.count (fun j => kv A0 (2048 * w + j) = e) 2048) := by
  rw [← step_at h w e (by omega) he, joined_lt w e hw he, rows_at]

theorem tots_step (h : (Cert.Pre_histograms_given.fn (F := F) A0 A1 A2).2.2 = fun _ => 1#1) (e : ℕ) (he : e < 64) :
    tots A1 e = befs A2 31 e + BitVec.ofNat 32 (Nat.count (fun j => kv A0 (2048 * 31 + j) = e) 2048) := by
  rw [← step_at h 31 e (by omega) he, joined_last e he]

variable (h : (Cert.Pre_histograms_given.fn (F := F) A0 A1 A2).1 = (fun _ => 1#1) ∧ (Cert.Pre_histograms_given.fn (F := F) A0 A1 A2).2.1 = (fun _ => 1#1)
  ∧ (Cert.Pre_histograms_given.fn (F := F) A0 A1 A2).2.2 = fun _ => 1#1)
include h

theorem kv_lt (p : ℕ) : kv A0 p < 64 := by
  unfold kv flat
  split
  · exact lt_of_given h.1 _
  · decide

/-- The slots of an expert in the blocks before `w`. -/
theorem befs_eq (w e : ℕ) (hw : w < 32) (he : e < 64) : befs A2 w e = BitVec.ofNat 32 (cnt (kv A0) e (2048 * w)) := by
  induction w with
  | zero => exact befs_zero h.2.1 e he
  | succ w ih =>
    rw [befs_step h.2.2 w e (by omega) he, ih (by omega), ← BitVec.ofNat_add, Nat.mul_succ]
    exact congrArg (BitVec.ofNat 32) (Nat.count_add _ _ _).symm

/-- The slots of an expert. -/
theorem tots_eq (e : ℕ) (he : e < 64) : tots A1 e = BitVec.ofNat 32 (cnt (kv A0) e 65536) := by
  rw [tots_step h.2.2 e he, befs_eq h 31 e (by omega) he, ← BitVec.ofNat_add]
  exact congrArg (BitVec.ofNat 32) (Nat.count_add _ _ _).symm

/-- The slots of the experts before `e`. -/
theorem psum_eq (e : ℕ) (he : e ≤ 64) : psum (tots A1) e = BitVec.ofNat 32 (cum (kv A0) 65536 e) := by
  induction e with
  | zero => rfl
  | succ e ih =>
    show psum (tots A1) e + tots A1 e = _
    rw [ih (by omega), tots_eq h e (by omega), ← BitVec.ofNat_add, cum_succ]

/-- A slot's place. -/
theorem placeOf_eq (p : ℕ) (hp : p < 65536) : placeOf A0 A1 A2 p = BitVec.ofNat 32 (place (kv A0) 65536 p) := by
  have hk := kv_lt h p
  have hsplit : 2048 * (p / 2048) + p % 2048 = p := Nat.div_add_mod p 2048
  unfold placeOf rank
  dsimp only
  rw [hsplit]
  change befs A2 (p / 2048) (kv A0 p) + psum (tots A1) (kv A0 p) + BitVec.ofNat 32 (occ (fun j => flat A0 (2048 * (p / 2048) + j)) (kv A0 p) (p % 2048)) = _
  rw [befs_eq h _ _ (by omega) hk, psum_eq h _ (by omega), ← BitVec.ofNat_add, ← BitVec.ofNat_add]
  refine congrArg (BitVec.ofNat 32) ?_
  have e : cnt (kv A0) (kv A0 p) p = cnt (kv A0) (kv A0 p) (2048 * (p / 2048)) + occ (fun j => flat A0 (2048 * (p / 2048) + j)) (kv A0 p) (p % 2048) :=
    (congrArg (cnt (kv A0) (kv A0 p)) hsplit.symm).trans (Nat.count_add _ _ _)
  unfold place
  omega

end Cert.Proof

end
-- ==== Proof.Value.lean ====
/-
  The kernel's three results are the reference's.
-/
module

public import proofs.«01_k».proof.Proof.Given

@[expose] public section

noncomputable section

namespace Cert.Proof

open Order (cnt cum place Before cum_succ cum_mono place_ge place_lt_next place_sorted place_inj)
open Idealize.ShloMosaic Idealize.ShloMosaic.ValueIdx Idealize.ShloMosaic.Routing Idealize.SL.Sem

/-! ## The binary search -/

theorem sle_small {a b : ℕ} (ha : a < 2 ^ 31) (hb : b < 2 ^ 31) : IntOp.cmpi .sle (BitVec.ofNat 32 a) (BitVec.ofNat 32 b) = 1#1 ↔ a ≤ b := by
  have e : (BitVec.ofNat 32 a).sle (BitVec.ofNat 32 b) = decide (a ≤ b) := by
    rw [BitVec.sle_eq_decide]
    refine decide_eq_decide.2 ?_
    rw [StableHlo.Predicate.toInt_ofNat_small _ ha, StableHlo.Predicate.toInt_ofNat_small _ hb]
    exact Int.ofNat_le
  show BitVec.ofBool ((BitVec.ofNat 32 a).sle (BitVec.ofNat 32 b)) = 1#1 ↔ _
  rw [e]
  by_cases h : a ≤ b <;> simp [h]

/-- One step, and six, where the bounds pass the position exactly from bound `k` on. -/
def stepTo (k s n : ℕ) : ℕ := if n + s ≤ k then n + s else n

theorem stepTo_all : ∀ k : Fin 64, stepTo k.val 1 (stepTo k.val 2 (stepTo k.val 4 (stepTo k.val 8 (stepTo k.val 16 (stepTo k.val 32 0))))) = k.val := by decide

theorem stepTo_le {k s n m : ℕ} (h : n ≤ m) : stepTo k s n ≤ m + s := by unfold stepTo; split <;> omega

theorem seek_eq {b : ℕ → BitVec 32} {p : BitVec 32} {k : ℕ} (hb : ∀ e < 64, IntOp.cmpi .sle (b e) p = 1#1 ↔ e < k) (s n : ℕ) (hs : 0 < s) (hn : n + s ≤ 64) :
    seek b p s n = stepTo k s n := by
  unfold seek stepTo
  have := hb (n + s - 1) (by omega)
  by_cases h : n + s ≤ k
  · rw [if_pos h, if_pos (this.2 (by omega))]
  · rw [if_neg h, if_neg fun h' => h (by have := this.1 h'; omega)]

theorem seeks_eq {b : ℕ → BitVec 32} {p : BitVec 32} {k : ℕ} (hk : k < 64) (hb : ∀ e < 64, IntOp.cmpi .sle (b e) p = 1#1 ↔ e < k) : seeks b p = k := by
  have h0 := stepTo_le (k := k) (s := 32) (Nat.le_refl 0)
  have h1 := stepTo_le (k := k) (s := 16) h0
  have h2 := stepTo_le (k := k) (s := 8) h1
  have h3 := stepTo_le (k := k) (s := 4) h2
  have h4 := stepTo_le (k := k) (s := 2) h3
  unfold seeks
  rw [seek_eq hb 32 0 (by omega) (by omega), seek_eq hb 16 _ (by omega) (by omega), seek_eq hb 8 _ (by omega) (by omega), seek_eq hb 4 _ (by omega) (by omega),
    seek_eq hb 2 _ (by omega) (by omega), seek_eq hb 1 _ (by omega) (by omega)]
  exact stepTo_all ⟨k, hk⟩

/-! ## The reference's results -/

section
open Cert.ReferenceIdeal Cert.ReferenceIdeal.Facts₀

/-- The order of the slots, the experts in that order, and the running sum of the histogram, as the reference computes them. -/
def refIndices [Cert.ReferenceIdeal.Facts₀] (A0 : IVec ⟨2, ![512, 128]⟩ 32) : IVec S65536 32 :=
  (Host.sort2 S65536 0 comparator_i32_i32_d0 (shapeCast S65536 A0 shapeCasts_S512x128_S65536) (iotaInDim S65536 32 0)).2
def refIds [Cert.ReferenceIdeal.Facts₀] (A0 : IVec ⟨2, ![512, 128]⟩ 32) : IVec S65536 32 :=
  Host.sort S65536 0 comparator_i32_d0 (shapeCast S65536 A0 shapeCasts_S512x128_S65536)
def refBins [Cert.ReferenceIdeal.Facts₀] (A0 : IVec ⟨2, ![512, 128]⟩ 32) : IVec S64 32 :=
  Host.reduceWindow IntOp.addi ![64] ![1] ![63] ![0] (Host.scatter scatter_S64_S65536x1_S65536_n_0_0_1 IntOp.addi (broadcastInDim S64 ![] bcast_S_S64 (constantI S_ 32 0#32)) (broadcastInDim S65536x1 ![0] bcast_S65536_S65536x1_0 (select (cmpi .slt (maxsi (broadcastInDim S65536 ![] bcast_S_S65536 (id (constantI S_ 32 0#32))) (shapeCast S65536 A0 shapeCasts_S512x128_S65536)) (broadcastInDim S65536 ![] bcast_S_S65536 (constantI S_ 32 0#32))) (addi (maxsi (broadcastInDim S65536 ![] bcast_S_S65536 (id (constantI S_ 32 0#32))) (shapeCast S65536 A0 shapeCasts_S512x128_S65536)) (broadcastInDim S65536 ![] bcast_S_S65536 (constantI S_ 32 64#32))) (maxsi (broadcastInDim S65536 ![] bcast_S_S65536 (id (constantI S_ 32 0#32))) (shapeCast S65536 A0 shapeCasts_S512x128_S65536)))) (broadcastInDim S65536 ![] bcast_S_S65536 (constantI S_ 32 1#32))) (broadcastInDim S_ ![] bcast_S_S_ (constantI S_ 32 0#32)) reduceWindows_S64_S64_w64s1p63_0 h_S_
end

theorem flat_at [Cert.ReferenceIdeal.Facts₀] (A0 : IVec ⟨2, ![512, 128]⟩ 32) (p : Fin 65536) :
    shapeCast (shape1 65536) A0 Cert.ReferenceIdeal.Facts₀.shapeCasts_S512x128_S65536 (ix1 p) = flat A0 p.val := by
  unfold flat
  rw [dif_pos p.isLt]
  exact cast21 A0 _ _ _ p (by show p.val = p.val / 128 * 128 + p.val % 128; omega)

section
variable {F : FTy → Type} [FloatOps F] {A0 : IVec ⟨2, ![512, 128]⟩ 32} {A1 : IVec ⟨2, ![1, 64]⟩ 32} {A2 : IVec ⟨3, ![32, 1, 64]⟩ 32}
variable [Cert.ReferenceIdeal.Facts₀]
variable (h : (Cert.Pre_histograms_given.fn (F := F) A0 A1 A2).1 = (fun _ => 1#1) ∧ (Cert.Pre_histograms_given.fn (F := F) A0 A1 A2).2.1 = (fun _ => 1#1)
  ∧ (Cert.Pre_histograms_given.fn (F := F) A0 A1 A2).2.2 = fun _ => 1#1)
include h

theorem refIndices_at (p : Fin 65536) : refIndices A0 (ix1 p) = BitVec.ofNat 32 (slots (kv A0) 65536 p).val :=
  (sort2_at (key := kv A0) _ (fun a => congrArg BitVec.toNat (flat_at A0 a)) (kv_lt h) (iotaInDim (shape1 65536) 32 0) p).trans rfl

theorem refIds_at (p : Fin 65536) : refIds A0 (ix1 p) = flat A0 (slots (kv A0) 65536 p).val :=
  (sort_at (key := kv A0) _ (fun a => congrArg BitVec.toNat (flat_at A0 a)) (kv_lt h) p).trans (flat_at A0 _)

theorem refBins_at (e : Fin 64) : refBins A0 (ix1 e) = BitVec.ofNat 32 (cum (kv A0) 65536 (e.val + 1)) := by
  unfold refBins
  refine (cumsum1 (N := 64) (Nm1 := 63) rfl _ (fun e => cnt (kv A0) e 65536) (fun i => ?_) _ rfl _ _ e).trans ?_
  · refine hist_at _ rfl rfl rfl _ (fun _ => rfl) _ _ (fun _ => rfl) (kv A0) (fun j => ?_) i
    have hk := kv_lt h j.val
    rw [broadcastInDim_apply _ _ _ _ (ix1 j) (fun a => by
      match a with
      | ⟨0, _⟩ => rfl)]
    have hs := wrap_small (flat A0 j.val) hk
    rw [← flat_at A0 j] at hs
    refine (congrArg BitVec.toInt hs).trans ?_
    rw [flat_at, BitVec.toInt_eq_toNat_cond, if_pos (by change 2 * kv A0 j.val < _; omega)]
    rfl
  · refine congrArg (BitVec.ofNat 32) ?_
    unfold cum
    generalize e.val + 1 = n
    induction n with
    | zero => rfl
    | succ n ih => rw [List.range_succ, List.map_append, List.sum_append, Finset.sum_range_succ, ih]; simp

/-! ## The kernel's results -/

theorem place_word (p : ℕ) (hp : p < 65536) : flat (posOf A0 A1 A2) p = BitVec.ofNat 32 (place (kv A0) 65536 p) := by
  rw [← placeOf_eq h p hp]
  unfold flat posOf
  rw [dif_pos hp]
  exact congrArg (placeOf A0 A1 A2) (Nat.div_add_mod p 128)

theorem placed_lt (p : ℕ) (hp : p < 65536) : place (kv A0) 65536 p < 65536 :=
  Order.place_lt (kv A0) (slots_bijective (kv A0) 65536) (slots_before (kv A0) 65536 (kv_lt h)) hp

theorem placed_inj (p p' : ℕ) (hp : p < 65536) (hp' : p' < 65536) (e : place (kv A0) 65536 p = place (kv A0) 65536 p') : p = p' :=
  place_inj (kv A0) (slots_bijective (kv A0) 65536) (slots_before (kv A0) 65536 (kv_lt h)) hp hp' e

theorem placed_slots (x : Fin 65536) : place (kv A0) 65536 (slots (kv A0) 65536 x).val = x.val :=
  place_sorted (kv A0) (slots_bijective (kv A0) 65536) (slots_before (kv A0) 65536 (kv_lt h)) x

theorem ofNat_small {a b : ℕ} (ha : a < 2 ^ 32) (hb : b < 2 ^ 32) (e : BitVec.ofNat 32 a = BitVec.ofNat 32 b) : a = b := by
  have := congrArg BitVec.toNat e
  rwa [BitVec.toNat_ofNat, BitVec.toNat_ofNat, Nat.mod_eq_of_lt ha, Nat.mod_eq_of_lt hb] at this

theorem indices_eq (f : IVec (shape1 65536) 32) (hf : NamedAll (flat (posOf A0 A1 A2)) f) : f = refIndices A0 := by
  funext y
  obtain ⟨x, rfl⟩ : ∃ x : Fin 65536, y = ix1 x := ⟨y 0, funext fun a => by match a with | ⟨0, _⟩ => rfl⟩
  have hs := (slots (kv A0) 65536 x).isLt
  refine (hf (slots (kv A0) 65536 x).val hs (fun i' hi' e => ?_) x ?_).trans (refIndices_at h x).symm
  · rw [place_word h i' hi', place_word h _ hs] at e
    have l1 := placed_lt h i' hi'
    have l2 := placed_lt h _ hs
    exact placed_inj h _ _ hi' hs (ofNat_small h (by omega) (by omega) e)
  · have hx := x.isLt
    rw [place_word h _ hs, placed_slots h x, BitVec.toNat_ofNat, Nat.mod_eq_of_lt (by omega)]

theorem bins_at (e : ℕ) (he : e < 64) : bndOf A1 (ix1 ⟨e, he⟩) = BitVec.ofNat 32 (cum (kv A0) 65536 (e + 1)) := psum_eq h (e + 1) (by omega)

theorem bins_eq : bndOf A1 = refBins A0 := by
  funext y
  obtain ⟨e, rfl⟩ : ∃ e : Fin 64, y = ix1 e := ⟨y 0, funext fun a => by match a with | ⟨0, _⟩ => rfl⟩
  exact (bins_at h e.val e.isLt).trans (refBins_at h e).symm

theorem ids_eq : binOf (bndOf A1) = refIds A0 := by
  funext y
  obtain ⟨x, rfl⟩ : ∃ x : Fin 65536, y = ix1 x := ⟨y 0, funext fun a => by match a with | ⟨0, _⟩ => rfl⟩
  have hx := x.isLt
  set p := (slots (kv A0) 65536 x).val with hp
  have hpl : p < 65536 := (slots (kv A0) 65536 x).isLt
  have hk := kv_lt h p
  have hpx : place (kv A0) 65536 p = x.val := placed_slots h x
  have hge := place_ge (kv A0) 65536 p
  have hlt := place_lt_next (kv A0) hpl
  rw [hpx] at hge hlt
  have htop : ∀ e ≤ 64, cum (kv A0) 65536 e ≤ 65536 := fun e he => (cum_mono (kv A0) 65536 he).trans (Order.cum_all (kv A0) fun p _ => kv_lt h p).le
  have hse : seeks (bnds (bndOf A1)) (BitVec.ofNat 32 x.val) = kv A0 p := by
    refine seeks_eq hk fun e he => ?_
    have ht := htop (e + 1) (by omega)
    unfold bnds
    rw [dif_pos he, bins_at h e he, sle_small (by omega) (by omega)]
    constructor
    · intro hle
      by_contra hne
      have := cum_mono (kv A0) 65536 (show kv A0 p + 1 ≤ e + 1 by omega)
      omega
    · intro hlt'
      have := cum_mono (kv A0) 65536 (show e + 1 ≤ kv A0 p by omega)
      omega
  refine Eq.trans (congrArg (BitVec.ofNat 32) hse) (Eq.trans ?_ (refIds_at h x).symm)
  refine BitVec.eq_of_toNat_eq ?_
  rw [BitVec.toNat_ofNat, Nat.mod_eq_of_lt (by omega)]
  rfl

end

/-! ## The two claims -/

theorem algebraic [Cert.KernelIdeal.Facts] [Cert.ReferenceIdeal.Facts] : Cert.algebraic_KernelIdeal_ReferenceIdeal_pre_histograms_given := by
  intro m g m' g' hpre harg
  refine ⟨fun c => refIndices (te m c), fun c => refIds (te m c), fun c => refBins (te m c), ?_, ?_⟩
  · refine (θ_run Cert.KernelIdeal.defs _ _).mono (fun r hr c => ?_) (run_main (F := Ideal) m g fun d x => lt_of_given (hpre d).1 x)
    obtain ⟨h0, h1, h2, hb, hi, hd⟩ := hr.1 c
    exact ⟨indices_eq (hpre c) _ hi, hd.trans (ids_eq (hpre c)), hb.trans (bins_eq (hpre c)), h0, h1, h2⟩
  · refine (θ_run Cert.ReferenceIdeal.defs _ _).mono (fun r hr c => ?_) (Cert.ReferenceIdeal.Value.run (F := Ideal) m' g')
    obtain ⟨h2, h1, h13, ha⟩ := hr c
    have e := (harg c).1
    rw [e] at h2 h1 h13
    exact ⟨h2, h1, h13, ha⟩

theorem bitexact [Cert.Kernel.Facts] [Cert.Reference.Facts] : Cert.bitexact_Kernel_Reference_pre_histograms_given := by
  intro m g m' g' hpre harg
  refine ⟨fun c => refIndices (te (F := Bits) m c), fun c => refIds (te (F := Bits) m c), fun c => refBins (te (F := Bits) m c), ?_, ?_⟩
  · refine (θ_run (Cert.KernelIdeal.defs (F := Bits)) _ _).mono (fun r hr c => ?_) (run_main (F := Bits) m g fun d x => lt_of_given (hpre d).1 x)
    obtain ⟨h0, h1, h2, hb, hi, hd⟩ := hr.1 c
    exact ⟨indices_eq (hpre c) _ hi, hd.trans (ids_eq (hpre c)), hb.trans (bins_eq (hpre c)), h0, h1, h2⟩
  · refine (θ_run Cert.Reference.defs _ _).mono (fun r hr c => ?_) (Cert.Reference.Value.run (F := Bits) m' g')
    obtain ⟨h2, h1, h13, ha⟩ := hr c
    have e := (harg c).1
    rw [e] at h2 h1 h13
    exact ⟨h2, h1, h13, ha⟩

end Cert.Proof

end
-- ==== Proof.GateBlock.lean ====
/-
  What one grid point of the gate computes, in words of its own: the eight rounds of the top-8 selection as one step
  iterated, the softmax of the row block, and what the body leaves in each output and in each accumulator.
-/
module

public import proofs.«01_k».proof.Proof.Gen.GateIdeal.Value
public import Idealize.ShloMosaic.Lib.Pipeline.Value

@[expose] public section

noncomputable section

namespace Cert.GateIdeal.Block

open Cert.GateIdeal Cert.GateIdeal.Gen Cert.GateIdeal.Value Idealize.ShloMosaic Idealize.ShloMosaic.TcCoe Idealize.SL.Sem
open Idealize.ShloMosaic.Pipeline (Dat)

variable {F : FTy → Type} [FloatOps F]

/-- The expert numbers along each row, as floats. -/
def numbers : FVec F S256x64 .f32 := sitofp .f32 (iota .tc S256x64 32 [1] iota_S256x64_d1_w32)

/-- The greatest element of each row. -/
def best (cur : FVec F S256x64 .f32) : FVec F S256x1 .f32 :=
  shapeCast S256x1 (multiReduction .maximumf [1] S256 cur 0xFF800000#32 reduces_S256x64_S256 (.inl rfl) rfl)
    shapeCasts_S256_S256x1

/-- The first place of each row that holds its greatest element. -/
def place (cur : FVec F S256x64 .f32) : FVec F S256x1 .f32 :=
  shapeCast S256x1
    (multiReduction .minimumf [1] S256
      (select (cmpf .oeq cur (broadcastTo S256x64 (best cur) broadcasts_S256x1_S256x64)) numbers
        (broadcast S256x64 (Scalar.ofBits .f32 0x42800000#32)))
      0x7F800000#32 reduces_S256x64_S256 (.inl rfl) rfl)
    shapeCasts_S256_S256x1

/-- One round: that place is struck out. -/
def strike (cur : FVec F S256x64 .f32) : FVec F S256x64 .f32 :=
  select (cmpf .oeq numbers (broadcastTo S256x64 (place cur) broadcasts_S256x1_S256x64))
    (broadcast S256x64 (Scalar.ofBits .f32 0xFF800000#32)) cur

/-- The row block before round `j`. -/
def left (logits : FVec F S256x64 .f32) : ℕ → FVec F S256x64 .f32
  | 0 => logits
  | j + 1 => strike (left logits j)

/-- The block's logits. -/
def logits (x : Vec F S256x4096 .f32) (w : Vec F S64x4096 .f32) : FVec F S256x64 .f32 :=
  matmul dot_S256x4096_S64x4096_S256x64_1_1_0_0_n_n none x w (constant S256x64 .f32 0x00000000#32)

/-- The eight greatest of each row, greatest first. -/
def weights (l : FVec F S256x64 .f32) : FVec F S256x8 .f32 :=
  concatenate S256x8 1
    [⟨S256x1, best (left l 0)⟩, ⟨S256x1, best (left l 1)⟩, ⟨S256x1, best (left l 2)⟩, ⟨S256x1, best (left l 3)⟩,
      ⟨S256x1, best (left l 4)⟩, ⟨S256x1, best (left l 5)⟩, ⟨S256x1, best (left l 6)⟩, ⟨S256x1, best (left l 7)⟩]
    concatenates_S256x1_S256x1_S256x1_S256x1_S256x1_S256x1_S256x1_S256x1_S256x8_d1

/-- Their places. -/
def experts (l : FVec F S256x64 .f32) : IVec S256x8 32 :=
  fptosi 32 (concatenate S256x8 1
    [⟨S256x1, place (left l 0)⟩, ⟨S256x1, place (left l 1)⟩, ⟨S256x1, place (left l 2)⟩, ⟨S256x1, place (left l 3)⟩,
      ⟨S256x1, place (left l 4)⟩, ⟨S256x1, place (left l 5)⟩, ⟨S256x1, place (left l 6)⟩, ⟨S256x1, place (left l 7)⟩]
    concatenates_S256x1_S256x1_S256x1_S256x1_S256x1_S256x1_S256x1_S256x1_S256x8_d1)

/-- The rows' exponentials, the greatest of each row taken away first. -/
def powers (l : FVec F S256x64 .f32) : FVec F S256x64 .f32 :=
  exp (subf l (broadcastTo S256x64 (best l) broadcasts_S256x1_S256x64))

/-- The rows' softmax. -/
def scores (l : FVec F S256x64 .f32) : FVec F S256x64 .f32 :=
  divf (powers l)
    (broadcastTo S256x64
      (shapeCast S256x1 (multiReduction .add [1] S256 (powers l) 0x00000000#32 reduces_S256x64_S256 (.inl rfl) rfl)
        shapeCasts_S256_S256x1)
      broadcasts_S256x1_S256x64)

/-- One at the places struck out, zero at the others. -/
def struck (l : FVec F S256x64 .f32) : FVec F S256x64 .f32 :=
  sitofp .f32 (extui 32 (cmpf .oeq (left l 8) (broadcast S256x64 (Scalar.ofBits .f32 0xFF800000#32))) natLt_1_32)

/-- An accumulator after a block is added: what it held, and the block's column sums. -/
def added (acc : Vec F S1x64 .f32) (block : FVec F S256x64 .f32) : FVec F S1x64 .f32 :=
  shapeCast S1x64
    (addf (shapeCast S64 acc shapeCasts_S1x64_S64)
      (multiReduction .add [0] S64 block 0x00000000#32 reduces_S256x64_S64 (.inl rfl) rfl))
    shapeCasts_S64_S1x64

/-! ## What each case of the body leaves -/

theorem hz2 : (![0, 0] : Fin 2 → ℕ) = fun _ => 0 := by funext a; fin_cases a <;> rfl
theorem hz3 : (![0, 0, 0] : Fin 3 → ℕ) = fun _ => 0 := by funext a; fin_cases a <;> rfl

section Cases

variable (c : Dev nD) (i : grid0.Coords) (arg1 : Memref sig .tc .vmem S256x4096 .f32) (harg1 : arg1.IsWhole)
  (arg2 : Memref sig .tc .vmem S64x4096 .f32) (harg2 : arg2.IsWhole) (arg3 : Memref sig .tc .vmem S256x8 .f32)
  (harg3 : arg3.IsWhole) (arg4 : Memref sig .tc .vmem S256x8 .i32) (harg4 : arg4.IsWhole)
  (arg5 : Memref sig .tc .vmem S1x1x64 .i32) (harg5 : arg5.IsWhole) (arg6 : Memref sig .tc .vmem S1x64 .i32)
  (harg6 : arg6.IsWhole) (arg7 : Memref sig .tc .vmem S1x1 .f32) (harg7 : arg7.IsWhole)
  (arg8 : Memref sig .tc .vmem S1x64 .f32) (harg8 : arg8.IsWhole) (arg9 : Memref sig .tc .vmem S1x64 .f32)
  (harg9 : arg9.IsWhole) (x : Vec F S256x4096 .f32) (w : Vec F S64x4096 .f32) (s0 s1 : Vec F S1x64 .f32)

theorem out_A_2 (hc0 : cond0_0 i) (hc1 : ¬cond0_1 i) :
    out0_A_2 c i arg1 harg1 arg2 harg2 arg3 harg3 arg4 harg4 arg5 harg5 arg6 harg6 arg7 harg7 arg8 harg8
      arg9 harg9 hc0 hc1 x w
      = weights (logits x w) := by
  unfold out0_A_2
  rw [View.read_writes_eq_canon _ _ _ (cover0_A_2 c i arg1 harg1 arg2 harg2 arg3 harg3 arg4 harg4 arg5 harg5 arg6 harg6 arg7 harg7 arg8 harg8
      arg9 harg9 hc0 hc1 x w)]
  unfold kernelRun0_A
  dsimp only
  sl_unfold_words
  simp only [View.canon_unit_zero (S := S256x8) hz2, View.canon_cons_unit_zero (S := S256x8) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem out_A_3 (hc0 : cond0_0 i) (hc1 : ¬cond0_1 i) :
    out0_A_3 c i arg1 harg1 arg2 harg2 arg3 harg3 arg4 harg4 arg5 harg5 arg6 harg6 arg7 harg7 arg8 harg8
      arg9 harg9 hc0 hc1 x w
      = experts (logits x w) := by
  unfold out0_A_3
  rw [View.read_writes_eq_canon _ _ _ (cover0_A_3 c i arg1 harg1 arg2 harg2 arg3 harg3 arg4 harg4 arg5 harg5 arg6 harg6 arg7 harg7 arg8 harg8
      arg9 harg9 hc0 hc1 x w)]
  unfold kernelRun0_A
  dsimp only
  sl_unfold_words
  simp only [View.canon_unit_zero (S := S256x8) hz2, View.canon_cons_unit_zero (S := S256x8) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem out_A_4 (hc0 : cond0_0 i) (hc1 : ¬cond0_1 i) :
    out0_A_4 c i arg1 harg1 arg2 harg2 arg3 harg3 arg4 harg4 arg5 harg5 arg6 harg6 arg7 harg7 arg8 harg8
      arg9 harg9 hc0 hc1 x w
      = k0_pay8 (k0_pay7 (F := F)) := by
  unfold out0_A_4
  rw [View.read_writes_eq_canon _ _ _ (cover0_A_4 c i arg1 harg1 arg2 harg2 arg3 harg3 arg4 harg4 arg5 harg5 arg6 harg6 arg7 harg7 arg8 harg8
      arg9 harg9 hc0 hc1 x w)]
  unfold kernelRun0_A
  dsimp only
  sl_unfold_words
  simp only [View.canon_unit_zero (S := S1x1x64) hz3, View.canon_cons_unit_zero (S := S1x1x64) hz3, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]

theorem sum_A_0 (hc0 : cond0_0 i) (hc1 : ¬cond0_1 i) :
    sout0_A_0 c i arg1 harg1 arg2 harg2 arg3 harg3 arg4 harg4 arg5 harg5 arg6 harg6 arg7 harg7 arg8 harg8
      arg9 harg9 hc0 hc1 x w
      = added k0_pay6 (scores (logits x w)) := by
  unfold sout0_A_0
  rw [View.read_writes_eq_canon _ _ _ (scover0_A_0 c i arg1 harg1 arg2 harg2 arg3 harg3 arg4 harg4 arg5 harg5 arg6 harg6 arg7 harg7 arg8 harg8
      arg9 harg9 hc0 hc1 x w)]
  unfold kernelRun0_A
  dsimp only
  sl_unfold_words
  simp only [View.canon_unit_zero (S := S1x64) hz2, View.canon_cons_unit_zero (S := S1x64) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem sum_A_1 (hc0 : cond0_0 i) (hc1 : ¬cond0_1 i) :
    sout0_A_1 c i arg1 harg1 arg2 harg2 arg3 harg3 arg4 harg4 arg5 harg5 arg6 harg6 arg7 harg7 arg8 harg8
      arg9 harg9 hc0 hc1 x w
      = added k0_pay7 (struck (logits x w)) := by
  unfold sout0_A_1
  rw [View.read_writes_eq_canon _ _ _ (scover0_A_1 c i arg1 harg1 arg2 harg2 arg3 harg3 arg4 harg4 arg5 harg5 arg6 harg6 arg7 harg7 arg8 harg8
      arg9 harg9 hc0 hc1 x w)]
  unfold kernelRun0_A
  dsimp only
  sl_unfold_words
  simp only [View.canon_unit_zero (S := S1x64) hz2, View.canon_cons_unit_zero (S := S1x64) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem out_B_2 (hc0 : ¬cond0_0 i) (hc1 : ¬cond0_1 i) :
    out0_B_2 c i arg1 harg1 arg2 harg2 arg3 harg3 arg4 harg4 arg5 harg5 arg6 harg6 arg7 harg7 arg8 harg8
      arg9 harg9 hc0 hc1 x w s0 s1
      = weights (logits x w) := by
  unfold out0_B_2
  rw [View.read_writes_eq_canon _ _ _ (cover0_B_2 c i arg1 harg1 arg2 harg2 arg3 harg3 arg4 harg4 arg5 harg5 arg6 harg6 arg7 harg7 arg8 harg8
      arg9 harg9 hc0 hc1 x w s0 s1)]
  unfold kernelRun0_B
  dsimp only
  sl_unfold_words
  simp only [View.canon_unit_zero (S := S256x8) hz2, View.canon_cons_unit_zero (S := S256x8) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem out_B_3 (hc0 : ¬cond0_0 i) (hc1 : ¬cond0_1 i) :
    out0_B_3 c i arg1 harg1 arg2 harg2 arg3 harg3 arg4 harg4 arg5 harg5 arg6 harg6 arg7 harg7 arg8 harg8
      arg9 harg9 hc0 hc1 x w s0 s1
      = experts (logits x w) := by
  unfold out0_B_3
  rw [View.read_writes_eq_canon _ _ _ (cover0_B_3 c i arg1 harg1 arg2 harg2 arg3 harg3 arg4 harg4 arg5 harg5 arg6 harg6 arg7 harg7 arg8 harg8
      arg9 harg9 hc0 hc1 x w s0 s1)]
  unfold kernelRun0_B
  dsimp only
  sl_unfold_words
  simp only [View.canon_unit_zero (S := S256x8) hz2, View.canon_cons_unit_zero (S := S256x8) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem out_B_4 (hc0 : ¬cond0_0 i) (hc1 : ¬cond0_1 i) :
    out0_B_4 c i arg1 harg1 arg2 harg2 arg3 harg3 arg4 harg4 arg5 harg5 arg6 harg6 arg7 harg7 arg8 harg8
      arg9 harg9 hc0 hc1 x w s0 s1
      = k0_pay8 s1 := by
  unfold out0_B_4
  rw [View.read_writes_eq_canon _ _ _ (cover0_B_4 c i arg1 harg1 arg2 harg2 arg3 harg3 arg4 harg4 arg5 harg5 arg6 harg6 arg7 harg7 arg8 harg8
      arg9 harg9 hc0 hc1 x w s0 s1)]
  unfold kernelRun0_B
  dsimp only
  sl_unfold_words
  simp only [View.canon_unit_zero (S := S1x1x64) hz3, View.canon_cons_unit_zero (S := S1x1x64) hz3, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]

theorem sum_B_0 (hc0 : ¬cond0_0 i) (hc1 : ¬cond0_1 i) :
    sout0_B_0 c i arg1 harg1 arg2 harg2 arg3 harg3 arg4 harg4 arg5 harg5 arg6 harg6 arg7 harg7 arg8 harg8
      arg9 harg9 hc0 hc1 x w s0 s1
      = added s0 (scores (logits x w)) := by
  unfold sout0_B_0
  rw [View.read_writes_eq_canon _ _ _ (scover0_B_0 c i arg1 harg1 arg2 harg2 arg3 harg3 arg4 harg4 arg5 harg5 arg6 harg6 arg7 harg7 arg8 harg8
      arg9 harg9 hc0 hc1 x w s0 s1)]
  unfold kernelRun0_B
  dsimp only
  sl_unfold_words
  simp only [View.canon_unit_zero (S := S1x64) hz2, View.canon_cons_unit_zero (S := S1x64) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem sum_B_1 (hc0 : ¬cond0_0 i) (hc1 : ¬cond0_1 i) :
    sout0_B_1 c i arg1 harg1 arg2 harg2 arg3 harg3 arg4 harg4 arg5 harg5 arg6 harg6 arg7 harg7 arg8 harg8
      arg9 harg9 hc0 hc1 x w s0 s1
      = added s1 (struck (logits x w)) := by
  unfold sout0_B_1
  rw [View.read_writes_eq_canon _ _ _ (scover0_B_1 c i arg1 harg1 arg2 harg2 arg3 harg3 arg4 harg4 arg5 harg5 arg6 harg6 arg7 harg7 arg8 harg8
      arg9 harg9 hc0 hc1 x w s0 s1)]
  unfold kernelRun0_B
  dsimp only
  sl_unfold_words
  simp only [View.canon_unit_zero (S := S1x64) hz2, View.canon_cons_unit_zero (S := S1x64) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem out_C_2 (hc0 : ¬cond0_0 i) (hc1 : cond0_1 i) :
    out0_C_2 c i arg1 harg1 arg2 harg2 arg3 harg3 arg4 harg4 arg5 harg5 arg6 harg6 arg7 harg7 arg8 harg8
      arg9 harg9 hc0 hc1 x w s0 s1
      = weights (logits x w) := by
  unfold out0_C_2
  rw [View.read_writes_eq_canon _ _ _ (cover0_C_2 c i arg1 harg1 arg2 harg2 arg3 harg3 arg4 harg4 arg5 harg5 arg6 harg6 arg7 harg7 arg8 harg8
      arg9 harg9 hc0 hc1 x w s0 s1)]
  unfold kernelRun0_C
  dsimp only
  sl_unfold_words
  simp only [View.canon_unit_zero (S := S256x8) hz2, View.canon_cons_unit_zero (S := S256x8) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem out_C_3 (hc0 : ¬cond0_0 i) (hc1 : cond0_1 i) :
    out0_C_3 c i arg1 harg1 arg2 harg2 arg3 harg3 arg4 harg4 arg5 harg5 arg6 harg6 arg7 harg7 arg8 harg8
      arg9 harg9 hc0 hc1 x w s0 s1
      = experts (logits x w) := by
  unfold out0_C_3
  rw [View.read_writes_eq_canon _ _ _ (cover0_C_3 c i arg1 harg1 arg2 harg2 arg3 harg3 arg4 harg4 arg5 harg5 arg6 harg6 arg7 harg7 arg8 harg8
      arg9 harg9 hc0 hc1 x w s0 s1)]
  unfold kernelRun0_C
  dsimp only
  sl_unfold_words
  simp only [View.canon_unit_zero (S := S256x8) hz2, View.canon_cons_unit_zero (S := S256x8) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem out_C_4 (hc0 : ¬cond0_0 i) (hc1 : cond0_1 i) :
    out0_C_4 c i arg1 harg1 arg2 harg2 arg3 harg3 arg4 harg4 arg5 harg5 arg6 harg6 arg7 harg7 arg8 harg8
      arg9 harg9 hc0 hc1 x w s0 s1
      = k0_pay8 s1 := by
  unfold out0_C_4
  rw [View.read_writes_eq_canon _ _ _ (cover0_C_4 c i arg1 harg1 arg2 harg2 arg3 harg3 arg4 harg4 arg5 harg5 arg6 harg6 arg7 harg7 arg8 harg8
      arg9 harg9 hc0 hc1 x w s0 s1)]
  unfold kernelRun0_C
  dsimp only
  sl_unfold_words
  simp only [View.canon_unit_zero (S := S1x1x64) hz3, View.canon_cons_unit_zero (S := S1x1x64) hz3, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]

theorem out_C_5 (hc0 : ¬cond0_0 i) (hc1 : cond0_1 i) :
    out0_C_5 c i arg1 harg1 arg2 harg2 arg3 harg3 arg4 harg4 arg5 harg5 arg6 harg6 arg7 harg7 arg8 harg8
      arg9 harg9 hc0 hc1 x w s0 s1
      = k0_pay4 (added s1 (struck (logits x w))) := by
  unfold out0_C_5
  rw [View.read_writes_eq_canon _ _ _ (cover0_C_5 c i arg1 harg1 arg2 harg2 arg3 harg3 arg4 harg4 arg5 harg5 arg6 harg6 arg7 harg7 arg8 harg8
      arg9 harg9 hc0 hc1 x w s0 s1)]
  unfold kernelRun0_C
  dsimp only
  sl_unfold_words
  simp only [View.canon_unit_zero (S := S1x64) hz2, View.canon_cons_unit_zero (S := S1x64) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem out_C_6 (hc0 : ¬cond0_0 i) (hc1 : cond0_1 i) :
    out0_C_6 c i arg1 harg1 arg2 harg2 arg3 harg3 arg4 harg4 arg5 harg5 arg6 harg6 arg7 harg7 arg8 harg8
      arg9 harg9 hc0 hc1 x w s0 s1
      = k0_pay5 (added s1 (struck (logits x w))) (added s0 (scores (logits x w))) := by
  unfold out0_C_6
  rw [View.read_writes_eq_canon _ _ _ (cover0_C_6 c i arg1 harg1 arg2 harg2 arg3 harg3 arg4 harg4 arg5 harg5 arg6 harg6 arg7 harg7 arg8 harg8
      arg9 harg9 hc0 hc1 x w s0 s1)]
  unfold kernelRun0_C
  dsimp only
  sl_unfold_words
  simp only [View.canon_unit_zero (S := S1x1) hz2, View.canon_cons_unit_zero (S := S1x1) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem sum_C_0 (hc0 : ¬cond0_0 i) (hc1 : cond0_1 i) :
    sout0_C_0 c i arg1 harg1 arg2 harg2 arg3 harg3 arg4 harg4 arg5 harg5 arg6 harg6 arg7 harg7 arg8 harg8
      arg9 harg9 hc0 hc1 x w s0 s1
      = added s0 (scores (logits x w)) := by
  unfold sout0_C_0
  rw [View.read_writes_eq_canon _ _ _ (scover0_C_0 c i arg1 harg1 arg2 harg2 arg3 harg3 arg4 harg4 arg5 harg5 arg6 harg6 arg7 harg7 arg8 harg8
      arg9 harg9 hc0 hc1 x w s0 s1)]
  unfold kernelRun0_C
  dsimp only
  sl_unfold_words
  simp only [View.canon_unit_zero (S := S1x64) hz2, View.canon_cons_unit_zero (S := S1x64) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

theorem sum_C_1 (hc0 : ¬cond0_0 i) (hc1 : cond0_1 i) :
    sout0_C_1 c i arg1 harg1 arg2 harg2 arg3 harg3 arg4 harg4 arg5 harg5 arg6 harg6 arg7 harg7 arg8 harg8
      arg9 harg9 hc0 hc1 x w s0 s1
      = added s1 (struck (logits x w)) := by
  unfold sout0_C_1
  rw [View.read_writes_eq_canon _ _ _ (scover0_C_1 c i arg1 harg1 arg2 harg2 arg3 harg3 arg4 harg4 arg5 harg5 arg6 harg6 arg7 harg7 arg8 harg8
      arg9 harg9 hc0 hc1 x w s0 s1)]
  unfold kernelRun0_C
  dsimp only
  sl_unfold_words
  simp only [View.canon_unit_zero (S := S1x64) hz2, View.canon_cons_unit_zero (S := S1x64) hz2, View.readCov_unit_zero (S := S1x64) _ hz2,
    View.readAt_eq_ld, harg1.read_unread, harg2.read_unread, harg8.read_unread, harg9.read_unread,
    View.ld_unit_zero (S := S256x4096) hz2, View.ld_unit_zero (S := S64x4096) hz2, View.ld_unit_zero (S := S1x64) hz2]
  rfl

end Cases

/-! ## The points, one after another -/

variable (m : (ℓ : Loc nD τ sig) → Buf (Elt F) ℓ)

/-- The logits of point `t`'s block. -/
def blockLogits (c : Dev nD) (t : Fin cfg0.N) : FVec F S256x64 .f32 := logits (iblk m c 0 t) (iblk m c 1 t)

/-- An accumulator before point `n`: zero, and each earlier block's column sums added in turn. -/
def total (f : ℕ → FVec F S256x64 .f32) : ℕ → Vec F S1x64 .f32
  | 0 => k0_pay6
  | n + 1 => added (total f n) (f n)

/-- Point `n`'s logits, `n` any number. -/
def logitsAt (c : Dev nD) (n : ℕ) : FVec F S256x64 .f32 :=
  if h : n < cfg0.N then blockLogits m c ⟨n, h⟩ else constant S256x64 .f32 0x00000000#32

theorem logitsAt_lt (c : Dev nD) (t : Fin cfg0.N) : logitsAt m c t.val = blockLogits m c t := dif_pos t.isLt

/-- The softmax sums, and the counts, before point `n`. -/
def scoreTotal (c : Dev nD) (n : ℕ) : Vec F S1x64 .f32 := total (fun t => scores (logitsAt m c t)) n
def struckTotal (c : Dev nD) (n : ℕ) : Vec F S1x64 .f32 := total (fun t => struck (logitsAt m c t)) n

theorem scoreTotal_succ (c : Dev nD) (t : Fin cfg0.N) :
    scoreTotal m c (t.val + 1) = added (scoreTotal m c t.val) (scores (blockLogits m c t)) := by
  rw [← logitsAt_lt]; rfl

theorem struckTotal_succ (c : Dev nD) (t : Fin cfg0.N) :
    struckTotal m c (t.val + 1) = added (struckTotal m c t.val) (struck (blockLogits m c t)) := by
  rw [← logitsAt_lt]; rfl

/-- What the outputs and the accumulators hold after point `n`, but for the two outputs only the last point stores. -/
theorem outs_eq (c : Dev nD) : ∀ (n : ℕ) (h : n < cfg0.N),
    (outsAt0 m c n h).1 = weights (logitsAt m c n) ∧ (outsAt0 m c n h).2.1 = experts (logitsAt m c n)
      ∧ (outsAt0 m c n h).2.2.1 = k0_pay8 (struckTotal m c n)
      ∧ (outsAt0 m c n h).2.2.2.2.2.1 = scoreTotal m c (n + 1)
      ∧ (outsAt0 m c n h).2.2.2.2.2.2 = struckTotal m c (n + 1) := by
  intro n
  induction n with
  | zero =>
    intro h
    have e := (outsAt0_zero m c h).trans
      (stAt0_A m c ⟨0, h⟩ junk0 (Nat.zero_mod _) (fun h' => by (try dsimp only at h'); omega))
    have hl : logitsAt m c 0 = blockLogits m c ⟨0, h⟩ := logitsAt_lt m c ⟨0, h⟩
    rw [e, scoreTotal_succ m c ⟨0, h⟩, struckTotal_succ m c ⟨0, h⟩, hl]
    dsimp only
    rw [show scoreTotal m c 0 = k0_pay6 from rfl, show struckTotal m c 0 = k0_pay7 from rfl]
    exact ⟨out_A_2 .., out_A_3 .., out_A_4 .., sum_A_0 .., sum_A_1 ..⟩
  | succ n ih =>
    intro h
    obtain ⟨-, -, -, h0, h1⟩ := ih (Nat.lt_of_succ_lt h)
    have hl : logitsAt m c (n + 1) = blockLogits m c ⟨n + 1, h⟩ := logitsAt_lt m c ⟨n + 1, h⟩
    have hN := lt_of_lt_of_eq h (show cfg0.N = 32 from N_0)
    rw [scoreTotal_succ m c ⟨n + 1, h⟩, struckTotal_succ m c ⟨n + 1, h⟩, hl]
    dsimp only
    rw [← h0, ← h1]
    by_cases hc : (n + 1) % 32 = 31
    · rw [(outsAt0_succ m c n h).trans (stAt0_C m c ⟨n + 1, h⟩ _ (by dsimp only; omega) hc)]
      dsimp only
      exact ⟨out_C_2 .., out_C_3 .., out_C_4 .., sum_C_0 .., sum_C_1 ..⟩
    · rw [(outsAt0_succ m c n h).trans (stAt0_B m c ⟨n + 1, h⟩ _ (by dsimp only; omega) hc)]
      dsimp only
      exact ⟨out_B_2 .., out_B_3 .., out_B_4 .., sum_B_0 .., sum_B_1 ..⟩

/-- What the last point leaves in the two outputs it alone stores. -/
theorem outs_last (c : Dev nD) (h : 31 < cfg0.N) :
    (outsAt0 m c 31 h).2.2.2.1 = k0_pay4 (struckTotal m c 32)
      ∧ (outsAt0 m c 31 h).2.2.2.2.1 = k0_pay5 (struckTotal m c 32) (scoreTotal m c 32) := by
  obtain ⟨-, -, -, h0, h1⟩ := outs_eq m c 30 (Nat.lt_of_succ_lt h)
  rw [(outsAt0_succ m c 30 h).trans (stAt0_C m c ⟨31, h⟩ _ (by dsimp only; omega) (by dsimp only)),
    scoreTotal_succ m c ⟨31, h⟩, struckTotal_succ m c ⟨31, h⟩]
  dsimp only
  rw [← h0, ← h1]
  exact ⟨out_C_5 .., out_C_6 ..⟩

end Cert.GateIdeal.Block

end
-- ==== Proof.GateTop.lean ====
/-
  The places of a row from the greatest down, ties by the lower place, and how rounds of "take the first greatest, strike
  it out" walk along them.
-/
module

public import Mathlib.Data.EReal.Basic
public import Idealize.ShloMosaic.Lib.SortFacts
public import Idealize.ShloMosaic.Lib.PlanTiles.StableSort

@[expose] public section

noncomputable section

namespace Cert.Proof.Top

open Idealize.ShloMosaic

variable {n : ℕ} (row : Fin n → EReal)

/-- The places from the greatest entry down, ties by the lower place. -/
def top : Fin n → Fin n := sortedFrom fun a b => decide (row b < row a)

theorem top_injective : Function.Injective (top row) := sortedFrom_injective _
theorem top_surjective : Function.Surjective (top row) := sortedFrom_surjective _

/-- How many entries lie below the entry at a place. -/
def below (a : Fin n) : ℕ := (Finset.univ.filter fun b => row b < row a).card

theorem below_lt {a b : Fin n} : below row b < below row a ↔ row b < row a := by
  have key : ∀ x y : Fin n, row x ≤ row y → below row x ≤ below row y := fun x y h =>
    Finset.card_le_card fun z hz => by
      simp only [Finset.mem_filter, Finset.mem_univ, true_and] at hz ⊢
      exact lt_of_lt_of_le hz h
  constructor
  · intro h
    by_contra hn
    exact absurd (key a b (not_lt.1 hn)) (not_le.2 h)
  · intro h
    refine Finset.card_lt_card ⟨fun z hz => ?_, fun hs => ?_⟩
    · simp only [Finset.mem_filter, Finset.mem_univ, true_and] at hz ⊢
      exact hz.trans h
    · have := hs (Finset.mem_filter.2 ⟨Finset.mem_univ b, h⟩)
      simp only [Finset.mem_filter, Finset.mem_univ, true_and] at this
      exact lt_irrefl _ this

theorem top_before (i j : Fin n) (h : i < j) :
    row (top row j) < row (top row i) ∨ row (top row i) = row (top row j) ∧ top row i < top row j := by
  have hR : (fun a b : Fin n => decide (row b < row a)) = fun a b : Fin n => decide (below row b < below row a) := by
    funext a b
    exact decide_eq_decide.2 (below_lt row).symm
  have hp := List.pairwise_iff_get.1 (PlanTiles.pairwise_stableSort_lex (below row) (· < ·) (List.finRange n) (List.pairwise_lt_finRange n))
  rw [← hR] at hp
  have h' := hp (i.cast (length_sortPositions n _).symm) (j.cast (length_sortPositions n _).symm) h
  have conv : ∀ a b : Fin n, PlanTiles.Lex (below row) (· < ·) a b → row b < row a ∨ row a = row b ∧ a < b := by
    rintro a b (h1 | ⟨h1, h2⟩)
    · exact .inl ((below_lt row).1 h1)
    · refine .inr ⟨le_antisymm (not_lt.1 fun hh => ?_) (not_lt.1 fun hh => ?_), h2⟩
      · have := (below_lt row).2 hh; omega
      · have := (below_lt row).2 hh; omega
  exact conv _ _ h'

/-- The first `j` of these places. -/
def Taken (j : ℕ) (e : Fin n) : Prop := ∃ i : Fin n, i.val < j ∧ top row i = e

theorem taken_succ (j : Fin n) (e : Fin n) : Taken row (j.val + 1) e ↔ Taken row j.val e ∨ e = top row j := by
  constructor
  · rintro ⟨i, hi, rfl⟩
    rcases Nat.lt_succ_iff_lt_or_eq.1 hi with h | h
    · exact .inl ⟨i, h, rfl⟩
    · exact .inr (congrArg _ (Fin.ext h))
  · rintro (⟨i, hi, rfl⟩ | rfl)
    · exact ⟨i, by omega, rfl⟩
    · exact ⟨j, by omega, rfl⟩

theorem not_taken (j : Fin n) : ¬Taken row j.val (top row j) := by
  rintro ⟨i, hi, h⟩
  rw [top_injective row h] at hi
  exact lt_irrefl _ hi

/-- A place not among the first `j` comes no earlier than number `j`. -/
theorem later {j : Fin n} {e : Fin n} (h : ¬Taken row j.val e) : e = top row j ∨ row e < row (top row j) ∨ row (top row j) = row e ∧ top row j < e := by
  obtain ⟨i, rfl⟩ := top_surjective row e
  rcases lt_trichotomy i j with hl | rfl | hl
  · exact absurd ⟨i, hl, rfl⟩ h
  · exact .inl rfl
  · exact .inr (top_before row j i hl)

open Classical in
/-- The row with the first `j` of these places struck out. -/
def rest (j : ℕ) (e : Fin n) : EReal := if Taken row j e then ⊥ else row e

theorem rest_zero : rest row 0 = row := by
  funext e
  exact if_neg fun ⟨_, h, _⟩ => Nat.not_lt_zero _ h

theorem rest_succ (j : Fin n) (e : Fin n) : rest row (j.val + 1) e = if e = top row j then ⊥ else rest row j.val e := by
  unfold rest
  by_cases h : e = top row j
  · rw [if_pos h, if_pos ((taken_succ row j e).2 (.inr h))]
  · rw [if_neg h]
    by_cases h' : Taken row j.val e
    · rw [if_pos h', if_pos ((taken_succ row j e).2 (.inl h'))]
    · rw [if_neg h', if_neg fun hh => ((taken_succ row j e).1 hh).elim h' h]

theorem rest_top (j : Fin n) : rest row j.val (top row j) = row (top row j) := if_neg (not_taken row j)

theorem rest_le (j : Fin n) (e : Fin n) : rest row j.val e ≤ row (top row j) := by
  unfold rest
  by_cases h : Taken row j.val e
  · rw [if_pos h]; exact bot_le
  · rw [if_neg h]
    rcases later row h with h | h | h
    · rw [h]
    · exact h.le
    · exact h.1.ge

/-- The greatest of what is left before round `j` is entry number `j`. -/
theorem fold_max (j : Fin n) : Finset.univ.fold max ⊥ (rest row j.val) = row (top row j) :=
  le_antisymm (Finset.fold_max_le _ |>.2 ⟨bot_le, fun e _ => rest_le row j e⟩)
    (Finset.le_fold_max _ |>.2 (.inr ⟨top row j, Finset.mem_univ _, (rest_top row j).ge⟩))

/-- The first place that holds it is place number `j`. -/
theorem fold_min (hf : ∀ e, row e ≠ ⊥) (j : Fin n) (z : EReal) (hz : ∀ e : Fin n, ((e.val : ℝ) : EReal) ≤ z) :
    Finset.univ.fold min ⊤ (fun e => if rest row j.val e = row (top row j) then ((e.val : ℝ) : EReal) else z)
      = (((top row j).val : ℝ) : EReal) := by
  refine le_antisymm ?_ ?_
  · refine Finset.fold_min_le _ |>.2 (.inr ⟨top row j, Finset.mem_univ _, ?_⟩)
    rw [if_pos (rest_top row j)]
  · refine Finset.le_fold_min _ |>.2 ⟨le_top, fun e _ => ?_⟩
    by_cases h : rest row j.val e = row (top row j)
    · rw [if_pos h]
      have hn : ¬Taken row j.val e := fun ht => hf (top row j) (by rw [← h]; exact if_pos ht)
      have hr : rest row j.val e = row e := if_neg hn
      have hle : (top row j).val ≤ e.val := by
        rcases later row hn with h' | h' | h'
        · rw [h']
        · rw [← hr, h] at h'; exact absurd h' (lt_irrefl _)
        · exact h'.2.le
      exact EReal.coe_le_coe_iff.2 (by exact_mod_cast hle)
    · rw [if_neg h]; exact hz _

/-- With the row's entries above the least value, what is struck out is what holds the least value. -/
theorem rest_bot (hf : ∀ e, row e ≠ ⊥) (j : ℕ) (e : Fin n) : rest row j e = ⊥ ↔ Taken row j e := by
  unfold rest
  by_cases h : Taken row j e
  · simp [h]
  · simp [h, hf e]

end Cert.Proof.Top

end
-- ==== Proof.GateRow.lean ====
/-
  The gate's rounds at the ideal values, read at an index: before round `j` a row holds its entries with the first `j`
  places of its descending order struck out, so that round takes entry number `j` and its place.
-/
module

public import proofs.«01_k».proof.Proof.GateBlock
public import proofs.«01_k».proof.Proof.GateTop
public import Idealize.ShloMosaic.Lib.ValueLayout
public import Idealize.ShloMosaic.PureOps.Ideal.Laws

@[expose] public section

noncomputable section

namespace Cert.GateIdeal.Block

open Cert.GateIdeal Cert.GateIdeal.Gen Idealize.ShloMosaic Idealize.ShloMosaic.ValueIdx
open Cert.Proof.Top

/-- Row `r` of a block. -/
def rowOf {m : ℕ} (l : FVec Ideal ⟨2, ![m, 64]⟩ .f32) (r : Fin m) : Fin 64 → EReal := fun e => l (ix2 r e)

theorem ninf : (FloatOps.ofBits .f32 0xFF800000#32 : Ideal .f32) = (⊥ : EReal) := by
  show Ideal.ofBits .f32 0xFF800000#32 = ⊥
  simp [Ideal.ofBits, Ideal.ieee]
theorem pinf : (FloatOps.ofBits .f32 0x7F800000#32 : Ideal .f32) = (⊤ : EReal) := by
  show Ideal.ofBits .f32 0x7F800000#32 = ⊤
  simp [Ideal.ofBits, Ideal.ieee]
theorem sixtyfour : (FloatOps.ofBits .f32 0x42800000#32 : Ideal .f32) = ((64 : ℝ) : EReal) := by
  show Ideal.ofBits .f32 0x42800000#32 = _
  simp [Ideal.ofBits, Ideal.ieee, -EReal.coe_mul]; norm_num

/-- A small natural number, as a float, is its word. -/
theorem word_of_nat (n : ℕ) (h : n < 2 ^ 31) : Ideal.fptosi 32 ((n : ℝ) : EReal) = BitVec.ofNat 32 n := by
  rw [Ideal.fptosi, Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by omega
  rw [e, BitVec.ofInt_natCast]

theorem lift_256 (r : Fin 256) (e : Fin 64) : reduces_S256x64_S256.lift (ix1 r) e = ix2 r e := by
  funext a; match a with | ⟨0, _⟩ => rfl | ⟨1, _⟩ => rfl

theorem column {α : Type} (v : S256.Idx → α) (r : Fin 256) : shapeCast S256x1 v shapeCasts_S256_S256x1 (ix2 r (0 : Fin 1)) = v (ix1 r) :=
  shapeCast_apply v _ _ _ (by rw [Shape.rowMajor_val_one, Shape.rowMajor_val_two]; show r.val = r.val * 1 + 0; omega)

theorem across {α : Type} (v : S256x1.Idx → α) (r : Fin 256) (e : Fin 64) :
    broadcastTo S256x64 v broadcasts_S256x1_S256x64 (ix2 r e) = v (ix2 r (0 : Fin 1)) :=
  broadcastTo_apply v _ _ _ fun a => by match a with | ⟨0, _⟩ => rfl | ⟨1, _⟩ => rfl

theorem numbers_at (r : Fin 256) (e : Fin 64) : numbers (F := Ideal) (ix2 r e) = ((e.val : ℝ) : EReal) := by
  show (((BitVec.ofNat 32 (0 * 64 + e.val)).toInt : ℝ) : EReal) = _
  have : (BitVec.ofNat 32 (0 * 64 + e.val)).toInt = (e.val : ℤ) := by
    have := e.isLt
    rw [Nat.zero_mul, Nat.zero_add, BitVec.toInt_eq_toNat_of_lt (by rw [BitVec.toNat_ofNat]; omega), BitVec.toNat_ofNat]
    omega
  rw [this]; simp

theorem best_at (l : FVec Ideal S256x64 .f32) (r : Fin 256) :
    best l (ix2 r (0 : Fin 1)) = Finset.univ.fold max ⊥ (rowOf l r) := by
  unfold best
  rw [column]
  refine (Ideal.multiReduction_maximumf_single _ _ _ _ _ _).trans ?_
  rw [ninf]
  refine congrArg (fun f => Finset.fold max ⊥ f Finset.univ) (funext fun (e : Fin 64) => ?_)
  exact congrArg l (lift_256 r e)

theorem cmp_oeq (a b : Ideal .f32) : (FloatOps.cmpf .oeq a b = 1#1) ↔ a = b := by
  show (Ideal.cmp .oeq a b = 1#1) ↔ _
  simp only [Ideal.cmp]
  by_cases h : a = b <;> simp [h]

theorem place_at (l : FVec Ideal S256x64 .f32) (r : Fin 256) :
    place l (ix2 r (0 : Fin 1)) = Finset.univ.fold min ⊤ fun e : Fin 64 =>
      if rowOf l r e = Finset.univ.fold max ⊥ (rowOf l r) then ((e.val : ℝ) : EReal) else ((64 : ℝ) : EReal) := by
  unfold place
  rw [column]
  refine (multiReduction_minimumf_eq_fold _ _ _ _ _ _).trans ?_
  refine (reduces_S256x64_S256.fold_filter_drop_single _ _ _ _).trans ?_
  rw [pinf]
  refine congrArg (fun f => Finset.fold min ⊤ f Finset.univ) (funext fun (e : Fin 64) => ?_)
  refine (congrArg (select _ _ _) (lift_256 r e)).trans ?_
  show Scalar.select (FloatOps.cmpf .oeq (l (ix2 r e)) (broadcastTo S256x64 (best l) broadcasts_S256x1_S256x64 (ix2 r e)))
    (numbers (F := Ideal) (ix2 r e)) (FloatOps.ofBits .f32 0x42800000#32) = _
  rw [across, best_at, numbers_at, sixtyfour]
  exact if_congr (cmp_oeq _ _) rfl rfl

theorem strike_at (l : FVec Ideal S256x64 .f32) (r : Fin 256) (e : Fin 64) :
    strike l (ix2 r e) = if ((e.val : ℝ) : EReal) = place l (ix2 r (0 : Fin 1)) then ⊥ else l (ix2 r e) := by
  unfold strike
  show Scalar.select (FloatOps.cmpf .oeq (numbers (F := Ideal) (ix2 r e)) (broadcastTo S256x64 (place l) broadcasts_S256x1_S256x64 (ix2 r e)))
    (FloatOps.ofBits .f32 0xFF800000#32) (l (ix2 r e)) = _
  rw [across, numbers_at, ninf]
  exact if_congr (cmp_oeq _ _) rfl rfl

section Rounds

variable (l : FVec Ideal S256x64 .f32) (r : Fin 256) (hl : ∀ e, rowOf l r e ≠ ⊥)
include hl

theorem place_of_rest {cur : FVec Ideal S256x64 .f32} (j : Fin 64) (hc : rowOf cur r = rest (rowOf l r) j.val) :
    place cur (ix2 r (0 : Fin 1)) = (((top (rowOf l r) j).val : ℝ) : EReal) := by
  rw [place_at, hc, fold_max]
  refine fold_min _ hl j _ fun e => EReal.coe_le_coe_iff.2 ?_
  have := e.isLt
  have : (e.val : ℝ) ≤ ((64 : ℕ) : ℝ) := by exact_mod_cast this.le
  exact_mod_cast this

/-- Before round `j` the row has its first `j` places struck out. -/
theorem left_row (j : ℕ) (hj : j ≤ 64) : rowOf (left l j) r = rest (rowOf l r) j := by
  induction j with
  | zero => exact (rest_zero _).symm
  | succ j ih =>
    have ih := ih (by omega)
    funext e
    show strike (left l j) (ix2 r e) = _
    rw [strike_at, place_of_rest l r hl ⟨j, by omega⟩ ih, rest_succ _ ⟨j, by omega⟩ e]
    refine if_congr ?_ rfl (congrFun ih e)
    rw [EReal.coe_eq_coe_iff, Nat.cast_inj, Fin.ext_iff]

theorem best_left (j : Fin 64) : best (left l j.val) (ix2 r (0 : Fin 1)) = rowOf l r (top (rowOf l r) j) := by
  rw [best_at, left_row l r hl j.val j.isLt.le, fold_max]

theorem place_left (j : Fin 64) : place (left l j.val) (ix2 r (0 : Fin 1)) = (((top (rowOf l r) j).val : ℝ) : EReal) :=
  place_of_rest l r hl j (left_row l r hl j.val j.isLt.le)

/-- The eight picks of a row: an entry … -/
theorem weights_at (k : Fin 8) : weights l (ix2 r k) = rowOf l r (top (rowOf l r) ⟨k.val, by omega⟩) := by
  refine (concatenate_ofFn_unit_apply (t := S256x8) (s₁ := S256x1) 1 (fun n : Fin 8 => best (left l n.val)) _ rfl rfl (ix2 r k) k rfl
    (ix2 r (0 : Fin 1)) fun b hb => ?_).trans (best_left l r hl ⟨k.val, by omega⟩)
  match b with
  | ⟨0, _⟩ => rfl
  | ⟨1, _⟩ => exact absurd rfl hb

/-- … and its place. -/
theorem experts_at (k : Fin 8) : experts l (ix2 r k) = BitVec.ofNat 32 (top (rowOf l r) ⟨k.val, by omega⟩).val := by
  have h : concatenate S256x8 1 (List.ofFn fun n : Fin 8 => (⟨S256x1, place (left l n.val)⟩ : (s : Shape) × (s.Idx → Ideal .f32)))
      concatenates_S256x1_S256x1_S256x1_S256x1_S256x1_S256x1_S256x1_S256x1_S256x8_d1 (ix2 r k) = _ :=
    (concatenate_ofFn_unit_apply (t := S256x8) (s₁ := S256x1) 1 (fun n : Fin 8 => place (left l n.val)) _ rfl rfl (ix2 r k) k rfl
    (ix2 r (0 : Fin 1)) fun b hb => by
      match b with
      | ⟨0, _⟩ => rfl
      | ⟨1, _⟩ => exact absurd rfl hb).trans (place_left l r hl ⟨k.val, by omega⟩)
  show FloatOps.fptosi 32 (concatenate S256x8 1 _ _ (ix2 r k)) = _
  refine (congrArg _ h).trans ?_
  exact word_of_nat _ (by omega)

/-- The mask of a row: one at the eight places, zero elsewhere. -/
theorem struck_at (e : Fin 64) [dec : Decidable (Taken (rowOf l r) 8 e)] : struck l (ix2 r e) = if Taken (rowOf l r) 8 e then (1 : EReal) else 0 := by
  unfold struck
  have h2 : left l 8 (ix2 r e) = rest (rowOf l r) 8 e := congrFun (left_row l r hl 8 (by omega)) e
  generalize left l 8 = cur at h2 ⊢
  show ((((Ideal.cmp .oeq (cur (ix2 r e)) (FloatOps.ofBits .f32 0xFF800000#32 : Ideal .f32)).setWidth 32).toInt : ℝ) : EReal) = _
  rw [ninf, h2]
  have h := rest_bot (rowOf l r) hl 8 e
  by_cases ht : Taken (rowOf l r) 8 e
  · rw [if_pos ht, h.2 ht]; simp [Ideal.cmp]
  · rw [if_neg ht]
    have := h.not.2 ht
    simp [Ideal.cmp, this]

end Rounds

end Cert.GateIdeal.Block

end
-- ==== Proof.GateSpec.lean ====
/-
  The gate in plain words: the logits of a token, the eight experts picked of it, its softmax, and how often each expert
  is picked among the first tokens.
-/
module

public import proofs.«01_k».proof.Proof.GateTop
public import proofs.«01_k».proof.Proof.Order
public import Idealize.ShloMosaic.Lib.ValueIdxCore
public import Idealize.ShloMosaic.PureOps.Ideal.Laws

@[expose] public section

noncomputable section

namespace Cert.Proof.GateSpec

open Idealize.ShloMosaic Idealize.ShloMosaic.ValueIdx
open Cert.Proof.Top Cert.Proof.Order

variable (X : FVec Ideal ⟨2, ![8192, 4096]⟩ .f32) (W : FVec Ideal ⟨2, ![64, 4096]⟩ .f32)

/-- A token's logits. -/
def logit (r : Fin 8192) (e : Fin 64) : EReal := ∑ k : Fin 4096, X (ix2 r k) * W (ix2 e k)

/-- The same, of any number. -/
def row (r : ℕ) : Fin 64 → EReal := logit X W ⟨r % 8192, Nat.mod_lt _ (by norm_num)⟩

theorem row_val (r : Fin 8192) : row X W r.val = logit X W r := by
  unfold row
  exact congrArg _ (Fin.ext (Nat.mod_eq_of_lt r.isLt))

/-- The expert picked `k`-th of a token. -/
def pick (r : ℕ) (k : Fin 8) : Fin 64 := top (row X W r) ⟨k.val, by omega⟩

/-- The expert of a slot, eight slots to a token. -/
def key (p : ℕ) : ℕ := (pick X W (p / 8) ⟨p % 8, Nat.mod_lt _ (by norm_num)⟩).val

theorem key_lt (p : ℕ) : key X W p < 64 := Fin.isLt _

theorem key_at (r : ℕ) (k : Fin 8) : key X W (8 * r + k.val) = (pick X W r k).val := by
  unfold key
  have h1 : (8 * r + k.val) / 8 = r := by omega
  have h2 : (⟨(8 * r + k.val) % 8, Nat.mod_lt _ (by norm_num)⟩ : Fin 8) = k := Fin.ext (by dsimp only; omega)
  rw [h2]
  exact congrArg (fun z => (pick X W z k).val) h1

/-- Expert `e` is among the eight of a token. -/
def Picked (e : Fin 64) (r : ℕ) : Prop := Taken (row X W r) 8 e

theorem picked_iff (e : Fin 64) (r : ℕ) : Picked X W e r ↔ ∃ k : Fin 8, pick X W r k = e := by
  constructor
  · rintro ⟨i, hi, h⟩
    exact ⟨⟨i.val, hi⟩, h⟩
  · rintro ⟨k, h⟩
    exact ⟨⟨k.val, by omega⟩, k.isLt, h⟩

instance (e : Fin 64) : DecidablePred (Picked X W e) := Classical.decPred _

/-- How many of the first `n` tokens pick expert `e`. -/
def picks (e : Fin 64) (n : ℕ) : ℕ := Nat.count (Picked X W e) n

theorem picks_le (e : Fin 64) (n : ℕ) : picks X W e n ≤ n := Nat.count_le _

theorem picks_succ (e : Fin 64) (n : ℕ) : picks X W e (n + 1) = picks X W e n + if Picked X W e n then 1 else 0 := Nat.count_succ _ _

/-- A token fills one slot with an expert it picks. -/
theorem cnt_slots (e : Fin 64) (n : ℕ) : cnt (key X W) e.val (8 * n) = picks X W e n := by
  induction n with
  | zero => simp [cnt, picks]
  | succ n ih =>
    rw [picks_succ, ← ih]
    have h : Nat.count (fun k => key X W (8 * n + k) = e.val) 8 = if Picked X W e n then 1 else 0 := by
      rw [Nat.count_eq_card_filter_range]
      by_cases hp : Picked X W e n
      · rw [if_pos hp]
        obtain ⟨k, hk⟩ := (picked_iff X W e n).1 hp
        refine Finset.card_eq_one.2 ⟨k.val, ?_⟩
        ext j
        simp only [Finset.mem_filter, Finset.mem_range, Finset.mem_singleton]
        constructor
        · rintro ⟨hj, hke⟩
          have h1 := key_at X W n ⟨j, hj⟩
          have h2 : pick X W n ⟨j, hj⟩ = pick X W n k := Fin.ext (by rw [← h1, hk]; exact hke)
          have h3 := top_injective _ h2
          exact congrArg Fin.val h3
        · rintro rfl
          exact ⟨k.isLt, by rw [key_at, hk]⟩
      · rw [if_neg hp, Finset.card_eq_zero, Finset.filter_eq_empty_iff]
        intro j hj hke
        have hj := Finset.mem_range.1 hj
        exact hp ((picked_iff X W e n).2 ⟨⟨j, hj⟩, Fin.ext (by rw [← key_at X W n ⟨j, hj⟩]; exact hke)⟩)
    rw [← h]
    exact Nat.count_add _ _ _

/-- The softmax of a row. -/
def softmax (l : Fin 64 → EReal) (e : Fin 64) : EReal :=
  Ideal.div (Ideal.exp (l e - Finset.univ.fold max ⊥ l)) (∑ e' : Fin 64, Ideal.exp (l e' - Finset.univ.fold max ⊥ l))

/-- An expert's softmax, summed over the tokens. -/
def mass (e : Fin 64) (n : ℕ) : EReal := ∑ r ∈ Finset.range n, softmax (row X W r) e

/-- The balance term: over the experts, the mean softmax times the share of tokens that pick it. -/
def balance : EReal :=
  ∑ e : Fin 64, (mass X W e 8192 * ((1 / 8192 : ℝ) : EReal)) * (((picks X W e 8192 : ℝ) : EReal) * ((1 / 8192 : ℝ) : EReal))

/-- A sum over the tokens, block by block. -/
theorem sum_blocks (g : ℕ → EReal) (n : ℕ) :
    ∑ r ∈ Finset.range (256 * (n + 1)), g r = ∑ r ∈ Finset.range (256 * n), g r + ∑ i : Fin 256, g (256 * n + i.val) := by
  rw [Nat.mul_succ, Finset.sum_range_add, Finset.sum_range (fun x => g (256 * n + x))]

theorem sum_picks (e : Fin 64) (n : ℕ) :
    (∑ r ∈ Finset.range n, if Picked X W e r then (1 : EReal) else 0) = ((picks X W e n : ℝ) : EReal) := by
  induction n with
  | zero => simp [picks]
  | succ n ih =>
    rw [Finset.sum_range_succ, ih, picks_succ]
    by_cases h : Picked X W e n
    · rw [if_pos h, if_pos h]; push_cast; rfl
    · rw [if_neg h, if_neg h]; simp

/-! ## Finite inputs give logits with a value -/

theorem row_real (hX : ∀ i, X i ≠ ⊥ ∧ X i ≠ ⊤) (hW : ∀ i, W i ≠ ⊥ ∧ W i ≠ ⊤) (r : ℕ) (e : Fin 64) : row X W r e ≠ ⊥ := by
  have hs : ∀ s : Finset (Fin 4096), ∃ y : ℝ, ∑ k ∈ s, X (ix2 ⟨r % 8192, Nat.mod_lt _ (by norm_num)⟩ k) * W (ix2 e k) = (y : EReal) := by
    classical
    intro s
    induction s using Finset.induction_on with
    | empty => exact ⟨0, by simp⟩
    | insert a s ha ih =>
      obtain ⟨y, hy⟩ := ih
      have h1 := hX (ix2 ⟨r % 8192, Nat.mod_lt _ (by norm_num)⟩ a)
      have h2 := hW (ix2 e a)
      refine ⟨(X (ix2 ⟨r % 8192, Nat.mod_lt _ (by norm_num)⟩ a) : EReal).toReal * (W (ix2 e a) : EReal).toReal + y, ?_⟩
      rw [Finset.sum_insert ha, hy, EReal.coe_add, EReal.coe_mul]
      refine congrArg (· + (y : EReal)) (congrArg₂ (fun p q : EReal => p * q) ?_ ?_)
      · exact (EReal.coe_toReal h1.2 h1.1).symm
      · exact (EReal.coe_toReal h2.2 h2.1).symm
  obtain ⟨y, hy⟩ := hs Finset.univ
  show logit X W _ e ≠ ⊥
  unfold logit
  rw [hy]
  exact EReal.coe_ne_bot y

end Cert.Proof.GateSpec

end
-- ==== Proof.GateKernel.lean ====
/-
  What the gate call leaves in its five outputs, at the ideal values.
-/
module

public import proofs.«01_k».proof.Proof.GateRow
public import proofs.«01_k».proof.Proof.GateSpec
public import Idealize.ShloMosaic.Lib.MatmulPlain

@[expose] public section

noncomputable section

namespace Cert.GateIdeal.Block

open Cert.GateIdeal Cert.GateIdeal.Gen Cert.GateIdeal.Value Idealize.ShloMosaic Idealize.ShloMosaic.TcCoe Idealize.ShloMosaic.ValueIdx
open Idealize.SL.Sem
open Cert.Proof.Top Cert.Proof.GateSpec

/-! ## The softmax and the column sums of a block -/

theorem scores_at (l : FVec Ideal S256x64 .f32) (r : Fin 256) (e : Fin 64) : scores l (ix2 r e) = softmax (rowOf l r) e := by
  have hp : ∀ e' : Fin 64, powers l (ix2 r e') = Ideal.exp (rowOf l r e' - Finset.univ.fold max ⊥ (rowOf l r)) := by
    intro e'
    unfold powers
    show Ideal.exp (l (ix2 r e') - broadcastTo S256x64 (best l) broadcasts_S256x1_S256x64 (ix2 r e')) = _
    rw [across, best_at]
    rfl
  unfold scores
  show Ideal.div (powers l (ix2 r e)) (broadcastTo S256x64 _ broadcasts_S256x1_S256x64 (ix2 r e)) = _
  rw [across, column]
  unfold softmax
  rw [hp]
  refine congrArg _ ((Ideal.multiReduction_add_single _ _ _ _ _ _).trans (Finset.sum_congr rfl fun (e' : Fin 64) _ => ?_))
  exact (congrArg _ (lift_256 r e')).trans (hp e')

theorem flat {α : Type} (v : S1x64.Idx → α) (e : Fin 64) : shapeCast S64 v shapeCasts_S1x64_S64 (ix1 e) = v (ix2 (0 : Fin 1) e) :=
  shapeCast_1a_a_apply v _ e

theorem lying {α : Type} (v : S64.Idx → α) (e : Fin 64) : shapeCast S1x64 v shapeCasts_S64_S1x64 (ix2 (0 : Fin 1) e) = v (ix1 e) :=
  shapeCast_apply v _ _ _ (by rw [Shape.rowMajor_val_one, Shape.rowMajor_val_two]; show e.val = 0 * 64 + e.val; omega)

theorem added_at (acc : Vec Ideal S1x64 .f32) (block : FVec Ideal S256x64 .f32) (e : Fin 64) :
    added acc block (ix2 (0 : Fin 1) e) = acc (ix2 (0 : Fin 1) e) + ∑ i : Fin 256, block (ix2 i e) := by
  unfold added
  rw [lying]
  show shapeCast S64 acc shapeCasts_S1x64_S64 (ix1 e) + multiReduction .add [0] S64 block 0x00000000#32 reduces_S256x64_S64 _ _ (ix1 e) = _
  rw [flat]
  refine congrArg _ ((Ideal.multiReduction_add_single _ _ _ _ _ _).trans (Finset.sum_congr rfl fun (i : Fin 256) _ => congrArg block ?_))
  funext a; match a with | ⟨0, _⟩ => rfl | ⟨1, _⟩ => rfl

theorem total_at (f : ℕ → FVec Ideal S256x64 .f32) (g : ℕ → EReal) (e : Fin 64) (N : ℕ)
    (h : ∀ n < N, ∀ i : Fin 256, f n (ix2 i e) = g (256 * n + i.val)) :
    ∀ n ≤ N, total f n (ix2 (0 : Fin 1) e) = ∑ r ∈ Finset.range (256 * n), g r := by
  intro n
  induction n with
  | zero =>
    intro _
    show k0_pay6 (F := Ideal) (ix2 (0 : Fin 1) e) = _
    unfold k0_pay6
    rw [shapeCast_self]
    show Ideal.ofBits .f32 0x00000000#32 = _
    simp [Ideal.ofBits, Ideal.ieee]
  | succ n ih =>
    intro hn
    rw [sum_blocks, ← ih (by omega)]
    refine (added_at _ _ e).trans (congrArg _ (Finset.sum_congr rfl fun i _ => h n (by omega) i))

/-! ## The blocks -/

variable (m : (ℓ : Loc nD τ sig) → Buf (Elt Ideal) ℓ) (c : Dev nD)

theorem idx0 : ∀ t : Fin cfg0.N, win0_0.index t (0 : Fin 2) = t.val ∧ win0_0.index t (1 : Fin 2) = 0 := by decide +kernel
theorem idx1 : ∀ t : Fin cfg0.N, win0_1.index t (0 : Fin 2) = 0 ∧ win0_1.index t (1 : Fin 2) = 0 := by decide +kernel

theorem input_at (t : Fin cfg0.N) (i : Fin 256) (k : Fin 4096) (r : Fin 8192) (hr : r.val = 256 * t.val + i.val) :
    (iblk m c 0 t : Vec Ideal S256x4096 .f32) (ix2 i k) = (m ((c : Thread nD τ).loc main_arg0) : FVec Ideal S8192x4096 .f32) (ix2 r k) := by
  obtain ⟨e0, e1⟩ := idx0 t
  show V m c main_arg0 (((cfg0.win 0).blk t).view.emb (ix2 i k)) = _
  refine congrArg (m ((c : Thread nD τ).loc main_arg0)) (funext fun a => Fin.ext ?_)
  match a with
  | ⟨0, _⟩ => show win0_0.index t (0 : Fin 2) * 256 + 1 * i.val = r.val; omega
  | ⟨1, _⟩ => show win0_0.index t (1 : Fin 2) * 4096 + 1 * k.val = k.val; omega

theorem weight_at (t : Fin cfg0.N) (e : Fin 64) (k : Fin 4096) :
    (iblk m c 1 t : Vec Ideal S64x4096 .f32) (ix2 e k) = (m ((c : Thread nD τ).loc main_arg1) : FVec Ideal S64x4096 .f32) (ix2 e k) := by
  obtain ⟨e0, e1⟩ := idx1 t
  show V m c main_arg1 (((cfg0.win 1).blk t).view.emb (ix2 e k)) = _
  refine congrArg (m ((c : Thread nD τ).loc main_arg1)) (funext fun a => Fin.ext ?_)
  match a with
  | ⟨0, _⟩ => show win0_1.index t (0 : Fin 2) * 64 + 1 * e.val = e.val; omega
  | ⟨1, _⟩ => show win0_1.index t (1 : Fin 2) * 4096 + 1 * k.val = k.val; omega

theorem logits_at (x : Vec Ideal S256x4096 .f32) (w : Vec Ideal S64x4096 .f32) (i : Fin 256) (e : Fin 64) :
    logits x w (ix2 i e) = ∑ k : Fin 4096, x (ix2 i k) * w (ix2 e k) := by
  refine (Ideal.matmul_transposedRhs_apply none x w (constant S256x64 .f32 0x00000000#32) i e).trans ?_
  have h0 : (constant S256x64 .f32 0x00000000#32 : FVec Ideal S256x64 .f32) (ix2 i e) = (0 : EReal) := by
    show Ideal.ofBits .f32 0x00000000#32 = _
    simp [Ideal.ofBits, Ideal.ieee]
  rw [h0, zero_add]

/-- The arguments of the call. -/
def argX : FVec Ideal ⟨2, ![8192, 4096]⟩ .f32 := m ((c : Thread nD τ).loc main_arg0)
def argW : FVec Ideal ⟨2, ![64, 4096]⟩ .f32 := m ((c : Thread nD τ).loc main_arg1)

/-- Row `i` of point `n`'s block is token `256 n + i`'s. -/
theorem row_at (n : ℕ) (hn : n < 32) (i : Fin 256) : rowOf (logitsAt m c n) i = row (argX m c) (argW m c) (256 * n + i.val) := by
  have hN : n < cfg0.N := lt_of_lt_of_eq hn N_0.symm
  have hr : 256 * n + i.val < 8192 := by omega
  have hv : row (argX m c) (argW m c) (256 * n + i.val) = logit (argX m c) (argW m c) ⟨256 * n + i.val, hr⟩ := row_val _ _ ⟨256 * n + i.val, hr⟩
  rw [hv]
  funext e
  unfold rowOf
  rw [logitsAt_lt m c ⟨n, hN⟩]
  unfold blockLogits
  refine (logits_at _ _ i e).trans ?_
  unfold logit
  refine Finset.sum_congr rfl fun k _ => congrArg₂ (fun p q : EReal => p * q) ?_ ?_
  · exact input_at m c ⟨n, hN⟩ i k ⟨256 * n + i.val, hr⟩ rfl
  · exact weight_at m c ⟨n, hN⟩ e k

/-! ## The accumulators -/

theorem scoreTotal_at (n : ℕ) (hn : n ≤ 32) (e : Fin 64) :
    scoreTotal m c n (ix2 (0 : Fin 1) e) = mass (argX m c) (argW m c) e (256 * n) :=
  total_at _ (fun r => softmax (row (argX m c) (argW m c) r) e) e 32
    (fun n hn i => (scores_at _ i e).trans (by rw [row_at m c n hn i])) n hn

theorem sweep (n : ℕ) (h : n < cfg0.N) (hh) :
    Pipeline.accAt (fun n h => stAt0 m c n h junk0) (stAt0 m c) 0 n hh = outsAt0 m c n h := (outsAt0_sweep m c n h).symm

theorem share : (Ideal.ofBits .f32 0x39000000#32) = ((1 / 8192 : ℝ) : EReal) := by
  simp [Ideal.ofBits, Ideal.ieee, -EReal.coe_mul]; norm_num
theorem eight : (Ideal.ofBits .f32 0x41000000#32) = ((8 : ℝ) : EReal) := by
  simp [Ideal.ofBits, Ideal.ieee, -EReal.coe_mul]; norm_num

section Finite

variable (hf : ∀ r e, row (argX m c) (argW m c) r e ≠ ⊥)
include hf

theorem struckTotal_at (n : ℕ) (hn : n ≤ 32) (e : Fin 64) :
    struckTotal m c n (ix2 (0 : Fin 1) e) = ((picks (argX m c) (argW m c) e (256 * n) : ℝ) : EReal) := by
  rw [← sum_picks]
  refine total_at _ (fun r => if Picked (argX m c) (argW m c) e r then (1 : EReal) else 0) e 32 (fun n hn i => ?_) n hn
  have hrow := row_at m c n hn i
  letI : Decidable (Taken (rowOf (logitsAt m c n) i) 8 e) := Classical.dec _
  have hs := struck_at (logitsAt m c n) i (fun e' => by rw [hrow]; exact hf _ e') e
  refine hs.trans (if_congr ?_ rfl rfl)
  rw [hrow]
  rfl

theorem count_word (n : ℕ) (hn : n ≤ 32) (e : Fin 64) :
    FloatOps.fptosi (F := Ideal) (φ := .f32) 32 (struckTotal m c n (ix2 (0 : Fin 1) e)) = BitVec.ofNat 32 (picks (argX m c) (argW m c) e (256 * n)) := by
  rw [struckTotal_at m c hf n hn e]
  refine word_of_nat _ ?_
  have := picks_le (argX m c) (argW m c) e (256 * n)
  omega

/-! ## The five outputs -/

theorem G2_at (r : Fin 8192) (k : Fin 8) :
    (G2 m c : FVec Ideal S8192x8 .f32) (ix2 r k) = row (argX m c) (argW m c) r.val (pick (argX m c) (argW m c) r.val k) := by
  have hp : pt2Of (ix2 r k : S8192x8.Idx) = r.val / 256 := by
    show 1 * (r.val / 256 - 0) + 1 * (k.val / 8 - 0) = _
    omega
  have hl : loc2Of (ix2 r k : S8192x8.Idx) = ix2 (⟨r.val % 256, Nat.mod_lt _ (by norm_num)⟩ : Fin 256) k := by
    funext a; apply Fin.ext
    match a with
    | ⟨0, _⟩ => rfl
    | ⟨1, _⟩ => exact Nat.mod_eq_of_lt k.isLt
  have hn : r.val / 256 < 32 := by omega
  have hN : r.val / 256 < cfg0.N := lt_of_lt_of_eq hn N_0.symm
  have hrow := row_at m c (r.val / 256) hn ⟨r.val % 256, Nat.mod_lt _ (by norm_num)⟩
  rw [show 256 * (r.val / 256) + r.val % 256 = r.val from Nat.div_add_mod _ _] at hrow
  unfold G2
  rw [dif_pos (by rw [hp]; exact hN), hl]
  simp only [hp]
  rw [sweep m c _ hN, (outs_eq m c _ hN).1]
  refine (weights_at _ _ (fun e => by rw [hrow]; exact hf _ e) k).trans ?_
  rw [hrow]
  rfl

theorem G3_at (r : Fin 8192) (k : Fin 8) :
    (G3 m c : IVec S8192x8 32) (ix2 r k) = BitVec.ofNat 32 (pick (argX m c) (argW m c) r.val k).val := by
  have hp : pt3Of (ix2 r k : S8192x8.Idx) = r.val / 256 := by
    show 1 * (r.val / 256 - 0) + 1 * (k.val / 8 - 0) = _
    omega
  have hl : loc3Of (ix2 r k : S8192x8.Idx) = ix2 (⟨r.val % 256, Nat.mod_lt _ (by norm_num)⟩ : Fin 256) k := by
    funext a; apply Fin.ext
    match a with
    | ⟨0, _⟩ => rfl
    | ⟨1, _⟩ => exact Nat.mod_eq_of_lt k.isLt
  have hn : r.val / 256 < 32 := by omega
  have hN : r.val / 256 < cfg0.N := lt_of_lt_of_eq hn N_0.symm
  have hrow := row_at m c (r.val / 256) hn ⟨r.val % 256, Nat.mod_lt _ (by norm_num)⟩
  rw [show 256 * (r.val / 256) + r.val % 256 = r.val from Nat.div_add_mod _ _] at hrow
  unfold G3
  rw [dif_pos (by rw [hp]; exact hN), hl]
  simp only [hp]
  rw [sweep m c _ hN, (outs_eq m c _ hN).2.1]
  refine (experts_at _ _ (fun e => by rw [hrow]; exact hf _ e) k).trans ?_
  rw [hrow]
  rfl

theorem G4_at (w : Fin 32) (e : Fin 64) :
    (G4 m c : IVec S32x1x64 32) (ix3 w (0 : Fin 1) e) = BitVec.ofNat 32 (picks (argX m c) (argW m c) e (256 * w.val)) := by
  have hp : pt4Of (ix3 w (0 : Fin 1) e : S32x1x64.Idx) = w.val := by
    show 1 * (w.val / 1 - 0) + 1 * (0 / 1 - 0) + 1 * (e.val / 64 - 0) = _
    omega
  have hl : loc4Of (ix3 w (0 : Fin 1) e : S32x1x64.Idx) = ix3 (0 : Fin 1) (0 : Fin 1) e := by
    funext a; apply Fin.ext
    match a with
    | ⟨0, _⟩ => exact Nat.mod_one _
    | ⟨1, _⟩ => rfl
    | ⟨2, _⟩ => exact Nat.mod_eq_of_lt e.isLt
  have hN : w.val < cfg0.N := lt_of_lt_of_eq w.isLt N_0.symm
  unfold G4
  rw [dif_pos (by rw [hp]; exact hN), hl]
  simp only [hp]
  rw [sweep m c _ hN, (outs_eq m c _ hN).2.2.1]
  unfold k0_pay8
  refine (shapeCast_apply _ _ _ (ix1 e) (by
    rw [Shape.rowMajor_val_one, Shape.rowMajor_val_three]; show e.val = (0 * 1 + 0) * 64 + e.val; omega)).trans ?_
  show FloatOps.fptosi (F := Ideal) (φ := .f32) 32 (shapeCast S64 (struckTotal m c w.val) shapeCasts_S1x64_S64 (ix1 e)) = _
  rw [flat]
  exact count_word m c hf w.val w.isLt.le e

theorem G5_at (e : Fin 64) :
    (G5 m c : IVec S1x64 32) (ix2 (0 : Fin 1) e) = BitVec.ofNat 32 (picks (argX m c) (argW m c) e 8192) := by
  have hN : 31 < cfg0.N := lt_of_lt_of_eq (by norm_num) N_0.symm
  rw [G5_last, sweep m c 31 hN, (outs_last m c hN).1]
  unfold k0_pay4
  refine (lying _ e).trans ?_
  show FloatOps.fptosi (F := Ideal) (φ := .f32) 32 (shapeCast S64 (struckTotal m c 32) shapeCasts_S1x64_S64 (ix1 e)) = _
  rw [flat]
  exact count_word m c hf 32 le_rfl e

theorem G6_at (i : S1x1.Idx) : (G6 m c : FVec Ideal S1x1 .f32) i = balance (argX m c) (argW m c) * ((8 : ℝ) : EReal) := by
  have hN : 31 < cfg0.N := lt_of_lt_of_eq (by norm_num) N_0.symm
  rw [G6_last, sweep m c 31 hN, (outs_last m c hN).2]
  unfold k0_pay5
  show (extractAt (s := S1x1) ![0, 0] _ inpos_S1x1_p0_0 : EReal) * Ideal.ofBits .f32 0x41000000#32 = _
  rw [eight]
  refine congrArg (· * ((8 : ℝ) : EReal)) ?_
  unfold extractAt
  refine (shapeCast_apply _ _ _ (ix1 (0 : Fin 1)) (by rw [Shape.rowMajor_val_one, Shape.rowMajor_val_two]; rfl)).trans ?_
  refine (Ideal.multiReduction_add_single _ _ _ _ _ _).trans ?_
  unfold balance
  refine Finset.sum_congr rfl fun (e : Fin 64) _ => ?_
  have hlift : reduces_S1x64_S1.lift (ix1 (0 : Fin 1)) e = ix2 (0 : Fin 1) e := by
    funext a; match a with | ⟨0, _⟩ => rfl | ⟨1, _⟩ => rfl
  refine (congrArg _ hlift).trans ((lying _ e).trans ?_)
  show (shapeCast S64 (scoreTotal m c 32) shapeCasts_S1x64_S64 (ix1 e) * Ideal.ofBits .f32 0x39000000#32 : EReal)
    * (shapeCast S64 (struckTotal m c 32) shapeCasts_S1x64_S64 (ix1 e) * Ideal.ofBits .f32 0x39000000#32) = _
  rw [flat, flat, share, scoreTotal_at m c 32 le_rfl e, struckTotal_at m c hf 32 le_rfl e]

end Finite

end Cert.GateIdeal.Block

end
-- ==== Proof.GateRef.lean ====
/-
  What the gate's reference computes: the eight greatest logits of a token and their places, how often each expert is
  among them, and the counts before each block of tokens.
-/
module

public import proofs.«01_k».proof.Proof.GateSpec
public import proofs.«01_k».proof.Proof.Hist
public import proofs.«01_k».proof.Proof.Gen.GateReferenceIdeal.Read
public import Idealize.ShloMosaic.Lib.Routing.OpsOne

@[expose] public section

noncomputable section

namespace Cert.Proof.GateRef

open Idealize.ShloMosaic Idealize.ShloMosaic.ValueIdx Idealize.ShloMosaic.Routing
open Cert.Proof.Top Cert.Proof.GateSpec Cert.Proof.Order

/-! ## The greatest entries of a row -/

section Rows

variable {m n : ℕ} (x : FVec Ideal ⟨2, ![m, n]⟩ .f32)

theorem along_row (r : Fin m) (j c : Fin n) (hd : 1 < (⟨2, ![m, n]⟩ : Shape).rank) :
    (ix2 r j : (⟨2, ![m, n]⟩ : Shape).Idx).along ⟨1, hd⟩ c = ix2 r c := by
  unfold Shape.Idx.along
  funext a
  match a with
  | ⟨0, _⟩ => exact Function.update_of_ne (by intro h; exact absurd (congrArg Fin.val h) Nat.zero_ne_one) _ _
  | ⟨1, _⟩ => exact Function.update_self ..

theorem sort_row {α : Type} (idx : IVec ⟨2, ![m, n]⟩ 32) (y : (⟨2, ![m, n]⟩ : Shape).Idx → α) (r : Fin m) (j : Fin n) :
    Host.sortBy ⟨2, ![m, n]⟩ 1 (fun l r : EReal × BitVec 32 => FloatOps.cmpfTotal (F := Ideal) (φ := .f32) .gt l.1 r.1) (fun i => (x i, idx i)) y (ix2 r j)
      = y (ix2 r (top (fun e => x (ix2 r e)) j)) := by
  have hd : 1 < (⟨2, ![m, n]⟩ : Shape).rank := Nat.one_lt_two
  unfold Host.sortBy
  rw [dif_pos hd]
  show y ((ix2 r j : (⟨2, ![m, n]⟩ : Shape).Idx).along ⟨1, hd⟩ _) = _
  refine (congrArg y (along_row r j _ hd)).trans (congrArg (fun z => y (ix2 r z)) ?_)
  unfold top
  refine congrArg (fun R => sortedFrom R j) ?_
  funext k k'
  refine (congrArg₂ (fun p q => FloatOps.cmpfTotal (F := Ideal) (φ := .f32) .gt (x p) (x q) == 1#1) (along_row r j k hd) (along_row r j k' hd)).trans ?_
  show (BitVec.ofBool (decide (x (ix2 r k') < x (ix2 r k))) == 1#1) = _
  by_cases h : x (ix2 r k') < x (ix2 r k) <;> simp [h]

variable {t : ℕ} (ht : t ≤ n) (h : (⟨2, ![m, n]⟩ : Shape).Slices (fun _ => 0) ⟨2, ![m, t]⟩)

theorem topK_at (r : Fin m) (k : Fin t) :
    (Host.topK ⟨2, ![m, t]⟩ 1 (FloatOps.cmpfTotal (F := Ideal) (φ := .f32) .gt) x h).1 (ix2 r k) = x (ix2 r (top (fun e => x (ix2 r e)) ⟨k.val, by omega⟩)) := by
  unfold Host.topK
  simp only [Host.sort2_eq_sortBy]
  refine (extractStridedSlice_apply _ _ h (ix2 r k) (ix2 r (⟨k.val, by omega⟩ : Fin n)) (fun a => by match a with | ⟨0, _⟩ => exact (Nat.zero_add _).symm | ⟨1, _⟩ => exact (Nat.zero_add _).symm)).trans ?_
  exact sort_row x _ x r _

theorem topK_place (r : Fin m) (k : Fin t) :
    (Host.topK ⟨2, ![m, t]⟩ 1 (FloatOps.cmpfTotal (F := Ideal) (φ := .f32) .gt) x h).2 (ix2 r k) = BitVec.ofNat 32 (top (fun e => x (ix2 r e)) ⟨k.val, by omega⟩).val := by
  unfold Host.topK
  simp only [Host.sort2_eq_sortBy]
  refine (extractStridedSlice_apply _ _ h (ix2 r k) (ix2 r (⟨k.val, by omega⟩ : Fin n)) (fun a => by match a with | ⟨0, _⟩ => exact (Nat.zero_add _).symm | ⟨1, _⟩ => exact (Nat.zero_add _).symm)).trans ?_
  refine (sort_row x _ _ r _).trans ?_
  rw [dif_pos Nat.one_lt_two]
  rfl

end Rows

/-! ## The reference -/

open Cert.GateReferenceIdeal Cert.GateReferenceIdeal.Gen Cert.GateReferenceIdeal.Read

variable (X : FVec Ideal S8192x4096 .f32) (W : FVec Ideal S64x4096 .f32)

theorem logits_at (r : Fin 8192) (e : Fin 64) : val_main_v1 (F := Ideal) X W (ix2 r e) = row X W r.val e := by
  rw [row_val, val_main_v1_apply]
  unfold logit
  refine Finset.sum_congr rfl fun k _ => ?_
  rw [val_main_v0_apply]
  refine congrArg₂ (fun p q => X p * W q) ?_ ?_
  · funext a; match a with | ⟨0, _⟩ => rfl | ⟨1, _⟩ => rfl
  · funext a; match a with | ⟨0, _⟩ => rfl | ⟨1, _⟩ => rfl

theorem logits_row (r : Fin 8192) : (fun e : Fin 64 => val_main_v1 (F := Ideal) X W (ix2 r e)) = row X W r.val :=
  funext fun e => logits_at X W r e

theorem values_at (r : Fin 8192) (k : Fin 8) : val_main_values (F := Ideal) X W (ix2 r k) = row X W r.val (pick X W r.val k) := by
  unfold val_main_values
  refine (topK_at _ (by norm_num) _ r k).trans ?_
  rw [logits_at, logits_row]
  rfl

theorem indices_at (r : Fin 8192) (k : Fin 8) : val_main_indices (F := Ideal) X W (ix2 r k) = BitVec.ofNat 32 (pick X W r.val k).val := by
  unfold val_main_indices
  refine (topK_place _ (by norm_num) _ r k).trans ?_
  rw [logits_row]
  rfl

theorem slot_at (p : Fin 65536) : val_main_v45 (F := Ideal) X W (ix1 p) = BitVec.ofNat 32 (key X W p.val) := by
  rw [val_main_v45_apply]
  have hi : idx_main_v45 (ix1 p) = ix2 (⟨p.val / 8, by omega⟩ : Fin 8192) (⟨p.val % 8, Nat.mod_lt _ (by norm_num)⟩ : Fin 8) := by
    funext a; match a with | ⟨0, _⟩ => rfl | ⟨1, _⟩ => rfl
  rw [hi, indices_at]
  rfl

theorem counts_at (e : Fin 64) : val_main_v55 (F := Ideal) X W (ix1 e) = BitVec.ofNat 32 (picks X W e 8192) := by
  unfold val_main_v55
  refine (hist_at _ rfl rfl rfl _ (fun i => ?_) _ _ (fun i => ?_) (key X W) (fun j => ?_) e).trans ?_
  · rw [val_main_v46_apply]; rfl
  · rw [val_main_v54_apply]; rfl
  · have hk := key_lt X W j.val
    have hi : idx_main_v53 (ix2 j (0 : Fin 1)) = ix1 j := by funext a; match a with | ⟨0, _⟩ => rfl
    have hw : (BitVec.ofNat 32 (key X W j.val)).toNat = key X W j.val := by rw [BitVec.toNat_ofNat]; omega
    have hs := wrap_small (BitVec.ofNat 32 (key X W j.val)) (by omega)
    have h52 : val_main_v52 (F := Ideal) X W (ix1 j) = BitVec.ofNat 32 (key X W j.val) := by
      refine Eq.trans ?_ hs
      rw [← slot_at X W j]
      rfl
    rw [val_main_v53_apply, hi, h52, BitVec.toInt_eq_toNat_cond, hw, if_pos (by omega)]
  · exact congrArg (BitVec.ofNat 32) (cnt_slots X W e 8192)

theorem tpe_at (e : Fin 64) : val_main_v67 (F := Ideal) X W (ix2 (0 : Fin 1) e) = BitVec.ofNat 32 (picks X W e 8192) := by
  have hi : idx_main_v67 (ix2 (0 : Fin 1) e) = ix1 e := by
    funext a; match a with | ⟨0, _⟩ => exact Fin.ext (by show 0 * 64 + e.val = e.val; omega)
  rw [val_main_v67_apply, hi, counts_at]

/-- How often expert `e` is picked in block `w` of 256 tokens. -/
def inBlock (w e : ℕ) : ℕ := Nat.count (fun j => key X W (2048 * w + j) = e) 2048

theorem block_at (w : Fin 32) (e : Fin 64) : val_main_v63 (F := Ideal) X W (ix2 w e) = BitVec.ofNat 32 (inBlock X W w.val e.val) := by
  unfold val_main_v63 val_main_v62
  refine block_count (by norm_num) _ _ _ _ w e (fun j => key X W (2048 * w.val + j) = e.val) (fun j => ?_)
  have hj := j.isLt
  have hk := key_lt X W (2048 * w.val + j.val)
  have h59 : idx_main_v56 (idx_main_v59 (ix3 w j e)) = ix1 (⟨2048 * w.val + j.val, by omega⟩ : Fin 65536) := by
    funext a; match a with | ⟨0, _⟩ => exact Fin.ext (by show (w.val * 2048 + j.val) * 1 + 0 = _; show _ = 2048 * w.val + j.val; omega)
  have hl : val_main_v59 (F := Ideal) X W (ix3 w j e) = BitVec.ofNat 32 (key X W (2048 * w.val + j.val)) := by
    rw [val_main_v59_apply, val_main_v56_apply, h59, slot_at]
  have hr : val_main_v60 (F := Ideal) (ix3 w j e) = BitVec.ofNat 32 e.val := by
    rw [val_main_v60_apply, val_main_v58_apply]
    rfl
  rw [val_main_v61_apply, hl, hr]
  show BitVec.ofBool (BitVec.ofNat 32 _ == BitVec.ofNat 32 _) = 1#1 ↔ _
  have he := e.isLt
  constructor
  · intro hh
    by_contra hne
    have : (BitVec.ofNat 32 (key X W (2048 * w.val + j.val)) == BitVec.ofNat 32 e.val) = false := by
      rw [beq_eq_false_iff_ne]
      intro q
      have q' := congrArg BitVec.toNat q
      rw [BitVec.toNat_ofNat, BitVec.toNat_ofNat, Nat.mod_eq_of_lt (by omega), Nat.mod_eq_of_lt (by omega)] at q'
      exact hne q'
    rw [this] at hh
    exact absurd hh (by decide)
  · intro hh
    rw [hh, beq_self_eq_true]
    rfl

theorem before_at (w : Fin 32) (e : Fin 64) : val_main_v68 (F := Ideal) X W (ix3 w (0 : Fin 1) e) = BitVec.ofNat 32 (picks X W e (256 * w.val)) := by
  have hw := w.isLt
  have he := e.isLt
  have hi : idx_main_v68 (ix3 w (0 : Fin 1) e) = ix2 w e := by
    funext a
    match a with
    | ⟨0, _⟩ => exact Fin.ext (by show ((w.val * 1 + 0) * 64 + e.val) / 64 = w.val; omega)
    | ⟨1, _⟩ => exact Fin.ext (by show ((w.val * 1 + 0) * 64 + e.val) % 64 = e.val; omega)
  have hcum : val_main_v64 (F := Ideal) X W (ix2 w e) = BitVec.ofNat 32 ((List.range (w.val + 1)).map fun i => inBlock X W i e.val).sum := by
    unfold val_main_v64
    exact cumsum_rows (R := 32) (Rm1 := 31) rfl _ (inBlock X W) (block_at X W) _ rfl _ _ w e
  have hsum : ∀ n, ((List.range n).map fun i => inBlock X W i e.val).sum = cnt (key X W) e.val (2048 * n) := by
    intro n
    induction n with
    | zero => simp [cnt]
    | succ n ih =>
      rw [List.range_succ, List.map_append, List.sum_append, ih]
      unfold cnt inBlock
      rw [Nat.mul_succ, Nat.count_add]
      simp
  have hlast : ((List.range (w.val + 1)).map fun i => inBlock X W i e.val).sum = picks X W e (256 * w.val) + inBlock X W w.val e.val := by
    rw [List.range_succ, List.map_append, List.sum_append, hsum, ← cnt_slots, show 8 * (256 * w.val) = 2048 * w.val by omega]
    simp
  rw [val_main_v68_apply, hi, val_main_v65_apply, hcum, block_at, hlast]
  show BitVec.ofNat 32 _ - BitVec.ofNat 32 _ = _
  rw [BitVec.ofNat_add]
  exact BitVec.add_sub_cancel _ _

end Cert.Proof.GateRef

end
-- ==== Proof.GateLoss.lean ====
/-
  The balance loss as the reference computes it: softmax shares, the mask of the picked experts, and the mean of their
  products.
-/
module

public import proofs.«01_k».proof.Proof.GateRef
public import Idealize.ShloMosaic.Lib.Routing.OpsPair
public import Idealize.ShloMosaic.Lib.KernelVsHost

@[expose] public section

noncomputable section

namespace Cert.Proof.GateRef

open Idealize.ShloMosaic Idealize.ShloMosaic.ValueIdx Idealize.ShloMosaic.Routing
open Cert.Proof.Top Cert.Proof.GateSpec Cert.Proof.Order
open Cert.GateReferenceIdeal Cert.GateReferenceIdeal.Gen Cert.GateReferenceIdeal.Read

theorem least : (Ideal.ofBits .f32 0xFF800000#32) = ⊥ := by
  simp [Ideal.ofBits, Ideal.ieee]
theorem zero : (Ideal.ofBits .f32 0x00000000#32) = 0 := by
  simp [Ideal.ofBits, Ideal.ieee]
theorem tokens : (Ideal.ofBits .f32 0x46000000#32) = ((8192 : ℝ) : EReal) := by
  simp [Ideal.ofBits, Ideal.ieee, -EReal.coe_mul]; norm_num
theorem experts : (Ideal.ofBits .f32 0x42800000#32) = ((64 : ℝ) : EReal) := by
  simp [Ideal.ofBits, Ideal.ieee, -EReal.coe_mul]; norm_num
theorem chosen : (Ideal.ofBits .f32 0x41000000#32) = ((8 : ℝ) : EReal) := by
  simp [Ideal.ofBits, Ideal.ieee, -EReal.coe_mul]; norm_num

variable (X : FVec Ideal S8192x4096 .f32) (W : FVec Ideal S64x4096 .f32)

/-! ## The softmax -/

theorem row_max (x : FVec Ideal S8192x64 .f32) (r : Fin 8192) :
    Host.reduce FloatOps.maximumf x (constant (F := Ideal) S_ .f32 0xFF800000#32) reducesTo_S8192x64_S8192_d1 h_S_ (ix1 r)
      = Finset.univ.fold max ⊥ fun e : Fin 64 => x (ix2 r e) := by
  have hr : S8192x64.Reduces [1] S8192 := by decide
  rw [hostReduce_maximumf_eq_multiReduction x 0xFF800000#32 _ _ hr (.inl rfl) rfl]
  refine (Ideal.multiReduction_maximumf_single _ _ _ _ _ _).trans ?_
  have hb : (FloatOps.ofBits .f32 0xFF800000#32 : Ideal .f32) = (⊥ : EReal) := least
  rw [hb]
  refine congrArg (fun f => Finset.fold max ⊥ f Finset.univ) (funext fun (e : Fin 64) => ?_)
  refine congrArg x ?_
  funext a; match a with | ⟨0, _⟩ => rfl | ⟨1, _⟩ => rfl

theorem best_at (r : Fin 8192) : val_main_v4 (F := Ideal) X W (ix1 r) = Finset.univ.fold max ⊥ (row X W r.val) := by
  have h3 : val_main_v3 (F := Ideal) (ix1 r) = (⊥ : EReal) := by
    rw [val_main_v3_apply]
    exact least
  have h2 : val_main_v2 (F := Ideal) X W (ix1 r) = Finset.univ.fold max ⊥ (row X W r.val) := by
    unfold val_main_v2 val_main_cst
    rw [row_max, logits_row]
  rw [val_main_v4_apply, h3, h2]
  exact max_bot_left _

theorem power_at (r : Fin 8192) (e : Fin 64) :
    val_main_v8 (F := Ideal) X W (ix2 r e) = Ideal.exp (row X W r.val e - Finset.univ.fold max ⊥ (row X W r.val)) := by
  rw [val_main_v8_apply, val_main_v7_apply, val_main_v6_apply, val_main_v5_apply, logits_at]
  have hi : idx_main_v5 (idx_main_v6 (ix2 r e)) = ix1 r := by funext a; match a with | ⟨0, _⟩ => rfl
  rw [hi, best_at]
  rfl

theorem score_at (r : Fin 8192) (e : Fin 64) : val_main_v12 (F := Ideal) X W (ix2 r e) = softmax (row X W r.val) e := by
  rw [val_main_v12_apply, val_main_v11_apply, val_main_v10_apply, power_at]
  have hi : idx_main_v10 (idx_main_v11 (ix2 r e)) = ix1 r := by funext a; match a with | ⟨0, _⟩ => rfl
  rw [hi, val_main_v9_apply]
  have hz : val_main_cst_1 (F := Ideal) (Shape.Idx.first h_S_) = (0 : EReal) := zero
  rw [hz, zero_add]
  unfold softmax
  refine congrArg (Ideal.div _) (Finset.sum_congr rfl fun (e' : Fin 64) _ => ?_)
  refine Eq.trans (congrArg _ ?_) (power_at X W r e')
  funext a; match a with | ⟨0, _⟩ => rfl | ⟨1, _⟩ => rfl

theorem mass_at (e : Fin 64) : val_main_v34 (F := Ideal) X W (ix1 e) = mass X W e 8192 * ((1 / 8192 : ℝ) : EReal) := by
  have h32 : val_main_v32 (F := Ideal) X W (ix1 e) = mass X W e 8192 := by
    rw [val_main_v32_apply]
    have hz : val_main_cst_7 (F := Ideal) (Shape.Idx.first h_S_) = (0 : EReal) := zero
    rw [hz, zero_add]
    unfold mass
    rw [Finset.sum_range]
    refine Finset.sum_congr rfl fun (r : Fin 8192) _ => ?_
    refine Eq.trans (congrArg _ ?_) (score_at X W r e)
    funext a; match a with | ⟨0, _⟩ => rfl | ⟨1, _⟩ => rfl
  rw [val_main_v34_apply, h32, val_main_v33_apply]
  show Ideal.div _ (Ideal.ofBits .f32 0x46000000#32) = _
  rw [tokens, Ideal.div_coe (by norm_num)]

/-! ## The mask of the picked experts -/

theorem foldl_set {ι : Type} (P : ι → Prop) [DecidablePred P] (l : List ι) (z : BitVec 1) :
    l.foldl (fun (a : BitVec 1) n => if P n then 1#1 else a) z = 1#1 ↔ z = 1#1 ∨ ∃ n ∈ l, P n := by
  induction l generalizing z with
  | nil => simp
  | cons n l ih =>
    rw [List.foldl_cons, ih]
    by_cases h : P n
    · simp [h]
    · simp [h]

theorem token_word (r : Fin 8192) (k : Fin 8) : val_main_v29 (F := Ideal) X W (ix3 r k (0 : Fin 2)) = BitVec.ofNat 32 r.val := by
  have hr := r.isLt
  unfold val_main_v29
  refine (concatenate_pair_apply_left (t := S8192x8x2) (s₁ := S8192x8x1) (s₂ := S8192x8x1) 2 _ _ _ (ix3 r k (0 : Fin 2)) rfl (ix3 r k (0 : Fin 1)) (fun b => by
    match b with | ⟨0, _⟩ => rfl | ⟨1, _⟩ => rfl | ⟨2, _⟩ => rfl)).trans ?_
  rw [val_main_v27_apply, val_main_v26_apply, val_main_v20_apply, val_main_v17_apply, val_main_v14_apply, val_main_v13_apply]
  exact wrap_of_lt (BitVec.ofNat 32 r.val) _ (by rw [BitVec.toNat_ofNat]; omega)

theorem expert_word (r : Fin 8192) (k : Fin 8) : val_main_v29 (F := Ideal) X W (ix3 r k (1 : Fin 2)) = BitVec.ofNat 32 (pick X W r.val k).val := by
  have hp := (pick X W r.val k).isLt
  unfold val_main_v29
  refine (concatenate_pair_apply_right (t := S8192x8x2) (s₁ := S8192x8x1) (s₂ := S8192x8x1) 2 _ _ _ (ix3 r k (1 : Fin 2)) rfl rfl (ix3 r k (0 : Fin 1)) (fun b hb => by
    match b with | ⟨0, _⟩ => rfl | ⟨1, _⟩ => rfl | ⟨2, _⟩ => exact absurd rfl hb) rfl).trans ?_
  have hi : idx_main_v28 (ix3 r k (0 : Fin 1)) = ix2 r k := by funext a; match a with | ⟨0, _⟩ => rfl | ⟨1, _⟩ => rfl
  rw [val_main_v28_apply, hi, val_main_v25_apply, val_main_v22_apply, indices_at]
  exact wrap_of_lt (BitVec.ofNat 32 (pick X W r.val k).val) _ (by rw [BitVec.toNat_ofNat]; omega)

theorem small_int (n : ℕ) (h : n < 8192) : (BitVec.ofNat 32 n).toInt = (n : Int) := by
  rw [BitVec.toInt_eq_toNat_cond, BitVec.toNat_ofNat, Nat.mod_eq_of_lt (by omega), if_pos (by omega)]

theorem mask_at (r : Fin 8192) (e : Fin 64) : val_main_v31 (F := Ideal) X W (ix2 r e) = 1#1 ↔ Picked X W e r.val := by
  have hlands : ∀ (a : Fin 8192) (k : Fin 8), scatter_S8192x64_S8192x8x2_S8192x8_n_01_01_2.resultIdx? (ix2 a k) (val_main_v29 (F := Ideal) X W) = some (ix2 r e)
      ↔ a = r ∧ pick X W a.val k = e := by
    intro a k
    rw [scatter_lands2 _ rfl rfl rfl, token_word, expert_word, small_int _ a.isLt, small_int _ (lt_trans (pick X W a.val k).isLt (by norm_num)),
      Int.natCast_inj, Int.natCast_inj, Fin.ext_iff, Fin.ext_iff]
  unfold val_main_v31
  rw [scatter_at]
  have hone : ∀ i, val_main_v30 (F := Ideal) i = 1#1 := fun i => by rw [val_main_v30_apply]; rfl
  simp only [hone]
  rw [foldl_set, val_main_v15_apply, picked_iff]
  constructor
  · rintro (h | ⟨n, _, h⟩)
    · exact absurd (show (0#1 : BitVec 1) = 1#1 from h) (by decide)
    · have hn : n.val < 65536 := lt_of_lt_of_eq n.isLt (by decide)
      rw [symm22 n (by omega) (Nat.mod_lt _ (by norm_num)), hlands] at h
      obtain ⟨h1, h2⟩ := h
      rw [h1] at h2
      exact ⟨_, h2⟩
  · rintro ⟨k, hk⟩
    refine .inr ⟨S8192x8.rowMajor (ix2 r k), List.mem_finRange _, ?_⟩
    rw [Equiv.symm_apply_apply, hlands]
    exact ⟨rfl, hk⟩

theorem share_at (e : Fin 64) : val_main_v38 (F := Ideal) X W (ix1 e) = ((picks X W e 8192 : ℝ) : EReal) * ((1 / 8192 : ℝ) : EReal) := by
  have h36 : val_main_v36 (F := Ideal) X W (ix1 e) = ((picks X W e 8192 : ℝ) : EReal) := by
    rw [val_main_v36_apply]
    have hz : val_main_cst_9 (F := Ideal) (Shape.Idx.first h_S_) = (0 : EReal) := zero
    rw [hz, zero_add, ← sum_picks, Finset.sum_range]
    refine Finset.sum_congr rfl fun (r : Fin 8192) _ => ?_
    have hi : idx_main_v36 (ix1 e) r = ix2 r e := by funext a; match a with | ⟨0, _⟩ => rfl | ⟨1, _⟩ => rfl
    rw [hi, val_main_v35_apply]
    show (((val_main_v31 (F := Ideal) X W (ix2 r e)).toNat : ℝ) : EReal) = _
    by_cases h : Picked X W e r.val
    · rw [if_pos h, (mask_at X W r e).2 h]
      simp
    · have h0 : val_main_v31 (F := Ideal) X W (ix2 r e) = 0#1 := by
        rcases BitVec.eq_zero_or_eq_one (val_main_v31 (F := Ideal) X W (ix2 r e)) with h' | h'
        · exact h'
        · exact absurd ((mask_at X W r e).1 h') h
      rw [if_neg h, h0]
      simp
  rw [val_main_v38_apply, h36, val_main_v37_apply]
  show Ideal.div _ (Ideal.ofBits .f32 0x46000000#32) = _
  rw [tokens, Ideal.div_coe (by norm_num)]

/-! ## The loss -/

theorem balance_at (i : S_.Idx) : val_main_v40 (F := Ideal) X W i = balance X W := by
  rw [val_main_v40_apply]
  have hz : val_main_cst_11 (F := Ideal) (Shape.Idx.first h_S_) = (0 : EReal) := zero
  rw [hz, zero_add]
  unfold balance
  let E : Fin 64 ≃ S64.Idx := ⟨fun e => ix1 e, fun i => i 0, fun _ => rfl, fun i => funext fun a => by match a with | ⟨0, _⟩ => rfl⟩
  rw [← Equiv.sum_comp E]
  refine Finset.sum_congr rfl fun (e : Fin 64) _ => ?_
  show val_main_v39 (F := Ideal) X W (ix1 e) = _
  rw [val_main_v39_apply, mass_at, share_at]
  rfl

theorem loss_at (i : S1x1.Idx) : val_main_v66 (F := Ideal) X W i = balance X W * ((8 : ℝ) : EReal) := by
  unfold val_main_v66
  show val_main_v44 (F := Ideal) X W _ = _
  generalize S_.rowMajor.symm _ = z
  rw [val_main_v44_apply, val_main_v43_apply, val_main_v42_apply, val_main_v41_apply, balance_at]
  show Ideal.div (Ideal.div (balance X W) (Ideal.ofBits .f32 0x42800000#32) * Ideal.ofBits .f32 0x42800000#32 * Ideal.ofBits .f32 0x42800000#32) (Ideal.ofBits .f32 0x41000000#32) = _
  rw [experts, chosen, Ideal.div_coe (by norm_num), Ideal.div_coe (by norm_num), mul_assoc, mul_assoc, mul_assoc, ← EReal.coe_mul, ← EReal.coe_mul, ← EReal.coe_mul]
  norm_num

end Cert.Proof.GateRef

end
-- ==== Proof.GateClaims.lean ====
/-
  The claims of the gate call: it runs and leaves its arguments alone, and of finite tokens and weights it computes what
  its reference computes.
-/
module

public import proofs.«01_k».proof.Defs
public import proofs.«01_k».proof.Proof.GateKernel
public import proofs.«01_k».proof.Proof.GateLoss
public import proofs.«01_k».proof.Proof.Gen.Gate
public import proofs.«01_k».proof.Proof.Gen.Gate.Frame

@[expose] public section

noncomputable section

namespace Cert.Proof

open Idealize.ShloMosaic Idealize.ShloMosaic.TcCoe Idealize.ShloMosaic.ValueIdx Idealize.SL.Sem
open Cert.Proof.GateSpec

instance factsFinite : Cert.Pre_finite_inputs.Facts where
  bcast_S_S8192x4096 := by decide
  bcast_S_S64x4096 := by decide

/-! ## The frames -/

theorem frame_gate : Cert.quiescent_Gate (hGate := Cert.Gate.Gen.facts) := fun m ρ _ => Cert.Gate.Gen.frame m ρ

theorem frame_gate_ideal : Cert.quiescent_GateIdeal (hGateIdeal := Cert.GateIdeal.Gen.facts) := fun m ρ _ => Cert.GateIdeal.Gen.frame m ρ

theorem frame_gate_ideal_finite : Cert.quiescent_GateIdeal_pre_finite_inputs (hGateIdeal := Cert.GateIdeal.Gen.facts) := fun m ρ _ =>
  Cert.GateIdeal.Gen.frame m ρ

theorem noSemsGate : IsEmpty (SemLoc Cert.GateReferenceIdeal.sig) := by
  rw [← Fintype.card_eq_zero_iff]; decide

theorem frame_gate_reference : Cert.quiescent_GateReferenceIdeal (hGateReferenceIdeal := Cert.GateReferenceIdeal.Gen.facts) := fun m ρ _ =>
  (θ_run Cert.GateReferenceIdeal.defs _ _).mono (fun _ h => ⟨fun c => (h c).2.2.2.2.2, funext fun s => (noSemsGate.false s.2).elim⟩)
    (Cert.GateReferenceIdeal.Value.run (F := Ideal) m ρ)

theorem frame_gate_reference_finite : Cert.quiescent_GateReferenceIdeal_pre_finite_inputs (hGateReferenceIdeal := Cert.GateReferenceIdeal.Gen.facts) :=
  fun m ρ _ => frame_gate_reference m ρ trivial

/-! ## The values -/

theorem real_of_bit (x : EReal) (h : FloatOps.cmpf (F := Ideal) (φ := .f32) .olt (FloatOps.hostAbsf (F := Ideal) (φ := .f32) x) (Ideal.ofBits .f32 0x7F800000#32) = 1#1) :
    x ≠ ⊥ ∧ x ≠ ⊤ := by
  have ht : (Ideal.ofBits .f32 0x7F800000#32) = ⊤ := by simp [Ideal.ofBits, Ideal.ieee]
  rw [ht] at h
  change BitVec.ofBool (decide (max x (-x) < ⊤)) = 1#1 at h
  constructor
  · rintro rfl
    simp at h
  · rintro rfl
    simp at h

theorem finite_left {X : FVec Ideal ⟨2, ![8192, 4096]⟩ .f32} {W : FVec Ideal ⟨2, ![64, 4096]⟩ .f32}
    (h : (Cert.Pre_finite_inputs.fn (F := Ideal) X W).1 = fun _ => 1#1) (i) : X i ≠ ⊥ ∧ X i ≠ ⊤ := real_of_bit _ (congrFun h i)

theorem finite_right {X : FVec Ideal ⟨2, ![8192, 4096]⟩ .f32} {W : FVec Ideal ⟨2, ![64, 4096]⟩ .f32}
    (h : (Cert.Pre_finite_inputs.fn (F := Ideal) X W).2 = fun _ => 1#1) (i) : W i ≠ ⊥ ∧ W i ≠ ⊤ := real_of_bit _ (congrFun h i)

section
variable (m : (ℓ : Loc Cert.GateIdeal.nD Cert.GateIdeal.τ Cert.GateIdeal.sig) → Buf (Elt Ideal) ℓ) (c : Dev Cert.GateIdeal.nD)
variable (hf : ∀ r e, row (Cert.GateIdeal.Block.argX m c) (Cert.GateIdeal.Block.argW m c) r e ≠ ⊥)
include hf

open Cert.GateIdeal.Block Cert.GateIdeal.Value Cert.GateReferenceIdeal.Read

theorem laux_eq : (G6 m c : FVec Ideal ⟨2, ![1, 1]⟩ .f32) = val_main_v66 (F := Ideal) (argX m c) (argW m c) :=
  funext fun i => (G6_at m c hf i).trans (GateRef.loss_at _ _ i).symm

theorem gates_eq : (G2 m c : FVec Ideal ⟨2, ![8192, 8]⟩ .f32) = val_main_values (F := Ideal) (argX m c) (argW m c) := by
  funext i
  obtain ⟨r, k, rfl⟩ : ∃ (r : Fin 8192) (k : Fin 8), i = ix2 r k := ⟨i 0, i 1, funext fun a => by match a with | ⟨0, _⟩ => rfl | ⟨1, _⟩ => rfl⟩
  exact (G2_at m c hf r k).trans (GateRef.values_at _ _ r k).symm

theorem picked_eq : (G3 m c : IVec ⟨2, ![8192, 8]⟩ 32) = val_main_indices (F := Ideal) (argX m c) (argW m c) := by
  funext i
  obtain ⟨r, k, rfl⟩ : ∃ (r : Fin 8192) (k : Fin 8), i = ix2 r k := ⟨i 0, i 1, funext fun a => by match a with | ⟨0, _⟩ => rfl | ⟨1, _⟩ => rfl⟩
  exact (G3_at m c hf r k).trans (GateRef.indices_at _ _ r k).symm

theorem before_eq : (G4 m c : IVec ⟨3, ![32, 1, 64]⟩ 32) = val_main_v68 (F := Ideal) (argX m c) (argW m c) := by
  funext i
  obtain ⟨w, e, rfl⟩ : ∃ (w : Fin 32) (e : Fin 64), i = ix3 w (0 : Fin 1) e := ⟨i 0, i 2, funext fun a => by
    match a with | ⟨0, _⟩ => rfl | ⟨1, _⟩ => exact Subsingleton.elim (α := Fin 1) _ _ | ⟨2, _⟩ => rfl⟩
  exact (G4_at m c hf w e).trans (GateRef.before_at _ _ w e).symm

theorem tpe_eq : (G5 m c : IVec ⟨2, ![1, 64]⟩ 32) = val_main_v67 (F := Ideal) (argX m c) (argW m c) := by
  funext i
  obtain ⟨e, rfl⟩ : ∃ e : Fin 64, i = ix2 (0 : Fin 1) e := ⟨i 1, funext fun a => by
    match a with | ⟨0, _⟩ => exact Subsingleton.elim (α := Fin 1) _ _ | ⟨1, _⟩ => rfl⟩
  exact (G5_at m c hf e).trans (GateRef.tpe_at _ _ e).symm

end

open Cert.GateIdeal.Block Cert.GateReferenceIdeal.Read in
theorem algebraic_gate : Cert.algebraic_GateIdeal_GateReferenceIdeal_pre_finite_inputs
    (hGateIdeal := Cert.GateIdeal.Gen.facts) (hGateReferenceIdeal := Cert.GateReferenceIdeal.Gen.facts) := by
  intro m g m' g' hpre harg
  have hf : ∀ c r e, row (argX m c) (argW m c) r e ≠ ⊥ := fun c r e =>
    row_real _ _ (finite_left (hpre c).1) (finite_right (hpre c).2) r e
  refine ⟨fun c => val_main_v66 (F := Ideal) (argX m c) (argW m c), fun c => val_main_values (F := Ideal) (argX m c) (argW m c),
    fun c => val_main_v67 (F := Ideal) (argX m c) (argW m c), fun c => val_main_indices (F := Ideal) (argX m c) (argW m c),
    fun c => val_main_v68 (F := Ideal) (argX m c) (argW m c), ?_, ?_⟩
  · refine (θ_run Cert.GateIdeal.defs _ _).mono (fun r hr c => ?_) (Cert.GateIdeal.Value.run m g)
    obtain ⟨h2, h3, h4, h5, h6, ha⟩ := hr c
    exact ⟨h6.trans (laux_eq m c (hf c)), h2.trans (gates_eq m c (hf c)), h5.trans (tpe_eq m c (hf c)), h3.trans (picked_eq m c (hf c)),
      h4.trans (before_eq m c (hf c)), ha⟩
  · refine (θ_run Cert.GateReferenceIdeal.defs _ _).mono (fun r hr c => ?_) (Cert.GateReferenceIdeal.Value.run (F := Ideal) m' g')
    obtain ⟨h66, hv, h67, hi, h68, ha⟩ := hr c
    obtain ⟨e0, e1⟩ := harg c
    have hX : m' ((c.tc : Thread Cert.GateReferenceIdeal.nD Cert.GateReferenceIdeal.τ).loc Cert.GateReferenceIdeal.main_arg0) = argX m c := e0
    have hW : m' ((c.tc : Thread Cert.GateReferenceIdeal.nD Cert.GateReferenceIdeal.τ).loc Cert.GateReferenceIdeal.main_arg1) = argW m c := e1
    exact ⟨h66.trans ((val_main_v66_eq m' c).trans (congrArg₂ (val_main_v66 (F := Ideal)) hX hW)),
      hv.trans ((val_main_values_eq _ _).trans (congrArg₂ (val_main_values (F := Ideal)) hX hW)),
      h67.trans ((val_main_v67_eq _ _).trans (congrArg₂ (val_main_v67 (F := Ideal)) hX hW)),
      hi.trans ((val_main_indices_eq _ _).trans (congrArg₂ (val_main_indices (F := Ideal)) hX hW)),
      h68.trans ((val_main_v68_eq _ _).trans (congrArg₂ (val_main_v68 (F := Ideal)) hX hW)), ha⟩

end Cert.Proof

end
-- ==== Proof.lean ====
/-
  The proof of `Cert.Claim`: the programs' facts and the preconditions', the frames, and the value claims of the sort and
  of the gate.
-/
module

public import proofs.«01_k».proof.Defs
public import proofs.«01_k».proof.Proof.Value
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.GateClaims
public import proofs.«01_k».proof.Proof.Gen.Gate
public import proofs.«01_k».proof.Proof.Gen.Gate.Frame
public import proofs.«01_k».proof.Proof.Gen.GateIdeal
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read

@[expose] public section

noncomputable section

namespace Cert.Proof

theorem claim : Cert.Claim :=
  ⟨Cert.Kernel.Gen.facts, Cert.KernelIdeal.Gen.facts, Cert.ReferenceIdeal.Gen.facts, Cert.Reference.Gen.facts,
    Cert.Gate.Gen.facts, Cert.GateIdeal.Gen.facts, Cert.GateReferenceIdeal.Gen.facts, factsNamed, factsGiven, factsFinite,
    frame_kernel, frame_kernel_given, frame_ideal, frame_ideal_given, frame_reference_ideal, frame_reference_ideal_given, frame_reference,
    frame_gate, frame_gate_ideal, frame_gate_ideal_finite, frame_gate_reference, frame_gate_reference_finite,
    trivial, bitexact, algebraic, trivial, algebraic_gate⟩

end Cert.Proof

end
